-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_RefInEvenIdeal (m : (ℓ : Loc Cert.RefInEvenIdeal.nD Cert.RefInEvenIdeal.τ Cert.RefInEvenIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_RefInOddIdeal (m : (ℓ : Loc Cert.RefInOddIdeal.nD Cert.RefInOddIdeal.τ Cert.RefInOddIdeal.sig) → Buf (Elt Ideal) ℓ) : Prop :=
  True

def Pre_OutEven (m : (ℓ : Loc Cert.OutEven.nD Cert.OutEven.τ Cert.OutEven.sig) → Buf (Elt Bits) ℓ) : Prop :=
  True

def Pre_OutEvenIdeal (m : (ℓ : Loc Cert.OutEvenIdeal.nD Cert.OutEvenIdeal.τ Cert.OutEvenIdeal.sig) → Buf (Elt Ideal) ℓ) : Prop :=
  True

def Pre_RefOutEvenIdeal (m : (ℓ : Loc Cert.RefOutEvenIdeal.nD Cert.RefOutEvenIdeal.τ Cert.RefOutEvenIdeal.sig) → Buf (Elt Ideal) ℓ) : Prop :=
  True

def Pre_OutOdd (m : (ℓ : Loc Cert.OutOdd.nD Cert.OutOdd.τ Cert.OutOdd.sig) → Buf (Elt Bits) ℓ) : Prop :=
  True

def Pre_OutOddIdeal (m : (ℓ : Loc Cert.OutOddIdeal.nD Cert.OutOddIdeal.τ Cert.OutOddIdeal.sig) → Buf (Elt Ideal) ℓ) : Prop :=
  True

def Pre_RefOutOddIdeal (m : (ℓ : Loc Cert.RefOutOddIdeal.nD Cert.RefOutOddIdeal.τ Cert.RefOutOddIdeal.sig) → Buf (Elt Ideal) ℓ) : Prop :=
  True

def Pre_OutLast (m : (ℓ : Loc Cert.OutLast.nD Cert.OutLast.τ Cert.OutLast.sig) → Buf (Elt Bits) ℓ) : Prop :=
  True

def Pre_OutLastIdeal (m : (ℓ : Loc Cert.OutLastIdeal.nD Cert.OutLastIdeal.τ Cert.OutLastIdeal.sig) → Buf (Elt Ideal) ℓ) : Prop :=
  True

def Pre_RefOutLastIdeal (m : (ℓ : Loc Cert.RefOutLastIdeal.nD Cert.RefOutLastIdeal.τ Cert.RefOutLastIdeal.sig) → Buf (Elt Ideal) ℓ) : Prop :=
  True

def Pre_Na (m : (ℓ : Loc Cert.Na.nD Cert.Na.τ Cert.Na.sig) → Buf (Elt Bits) ℓ) : Prop :=
  True

def Pre_NaIdeal (m : (ℓ : Loc Cert.NaIdeal.nD Cert.NaIdeal.τ Cert.NaIdeal.sig) → Buf (Elt Ideal) ℓ) : Prop :=
  True

def Pre_NaIdeal_na_scores_finite [hPre_na_scores_finite : Cert.Pre_na_scores_finite.Facts] (m : (ℓ : Loc Cert.NaIdeal.nD Cert.NaIdeal.τ Cert.NaIdeal.sig) → Buf (Elt Ideal) ℓ) : Prop :=
  ∀ c : Dev Cert.NaIdeal.nD,
    (Cert.Pre_na_scores_finite.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1)) (m ((c.tc : Thread Cert.NaIdeal.nD Cert.NaIdeal.τ).loc Cert.NaIdeal.main_arg2))).1 = (fun _ => 1#1)
    ∧ (Cert.Pre_na_scores_finite.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1)) (m ((c.tc : Thread Cert.NaIdeal.nD Cert.NaIdeal.τ).loc Cert.NaIdeal.main_arg2))).2.1 = (fun _ => 1#1)
    ∧ (Cert.Pre_na_scores_finite.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1)) (m ((c.tc : Thread Cert.NaIdeal.nD Cert.NaIdeal.τ).loc Cert.NaIdeal.main_arg2))).2.2 = (fun _ => 1#1)

def Pre_RefNaIdeal (m : (ℓ : Loc Cert.RefNaIdeal.nD Cert.RefNaIdeal.τ Cert.RefNaIdeal.sig) → Buf (Elt Ideal) ℓ) : Prop :=
  True

def Pre_RefNaIdeal_na_scores_finite [hPre_na_scores_finite : Cert.Pre_na_scores_finite.Facts] (m : (ℓ : Loc Cert.RefNaIdeal.nD Cert.RefNaIdeal.τ Cert.RefNaIdeal.sig) → Buf (Elt Ideal) ℓ) : Prop :=
  ∀ c : Dev Cert.RefNaIdeal.nD,
    (Cert.Pre_na_scores_finite.fn (F := Ideal) (m ((c.tc : Thread Cert.RefNaIdeal.nD Cert.RefNaIdeal.τ).loc Cert.RefNaIdeal.main_arg0)) (m ((c.tc : Thread Cert.RefNaIdeal.nD Cert.RefNaIdeal.τ).loc Cert.RefNaIdeal.main_arg1)) (m ((c.tc : Thread Cert.RefNaIdeal.nD Cert.RefNaIdeal.τ).loc Cert.RefNaIdeal.main_arg2))).1 = (fun _ => 1#1)
    ∧ (Cert.Pre_na_scores_finite.fn (F := Ideal) (m ((c.tc : Thread Cert.RefNaIdeal.nD Cert.RefNaIdeal.τ).loc Cert.RefNaIdeal.main_arg0)) (m ((c.tc : Thread Cert.RefNaIdeal.nD Cert.RefNaIdeal.τ).loc Cert.RefNaIdeal.main_arg1)) (m ((c.tc : Thread Cert.RefNaIdeal.nD Cert.RefNaIdeal.τ).loc Cert.RefNaIdeal.main_arg2))).2.1 = (fun _ => 1#1)
    ∧ (Cert.Pre_na_scores_finite.fn (F := Ideal) (m ((c.tc : Thread Cert.RefNaIdeal.nD Cert.RefNaIdeal.τ).loc Cert.RefNaIdeal.main_arg0)) (m ((c.tc : Thread Cert.RefNaIdeal.nD Cert.RefNaIdeal.τ).loc Cert.RefNaIdeal.main_arg1)) (m ((c.tc : Thread Cert.RefNaIdeal.nD Cert.RefNaIdeal.τ).loc Cert.RefNaIdeal.main_arg2))).2.2 = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_RefAdaIdeal (m : (ℓ : Loc Cert.RefAdaIdeal.nD Cert.RefAdaIdeal.τ Cert.RefAdaIdeal.sig) → Buf (Elt Ideal) ℓ) : Prop :=
  True

def Pre_Rpb (m : (ℓ : Loc Cert.Rpb.nD Cert.Rpb.τ Cert.Rpb.sig) → Buf (Elt Bits) ℓ) : Prop :=
  True

def Pre_RpbIdeal (m : (ℓ : Loc Cert.RpbIdeal.nD Cert.RpbIdeal.τ Cert.RpbIdeal.sig) → Buf (Elt Ideal) ℓ) : Prop :=
  True

def Pre_RefRpbIdeal (m : (ℓ : Loc Cert.RefRpbIdeal.nD Cert.RefRpbIdeal.τ Cert.RefRpbIdeal.sig) → Buf (Elt Ideal) ℓ) : Prop :=
  True

def Pre_T5 (m : (ℓ : Loc Cert.T5.nD Cert.T5.τ Cert.T5.sig) → Buf (Elt Bits) ℓ) : Prop :=
  True

def Pre_T5Ideal (m : (ℓ : Loc Cert.T5Ideal.nD Cert.T5Ideal.τ Cert.T5Ideal.sig) → Buf (Elt Ideal) ℓ) : Prop :=
  True

def Pre_T5Ideal_buckets_in_range [hPre_buckets_in_range : Cert.Pre_buckets_in_range.Facts] (m : (ℓ : Loc Cert.T5Ideal.nD Cert.T5Ideal.τ Cert.T5Ideal.sig) → Buf (Elt Ideal) ℓ) : Prop :=
  ∀ c : Dev Cert.T5Ideal.nD,
    (Cert.Pre_buckets_in_range.fn (F := Ideal) (m ((c.tc : Thread Cert.T5Ideal.nD Cert.T5Ideal.τ).loc Cert.T5Ideal.main_arg0)) (m ((c.tc : Thread Cert.T5Ideal.nD Cert.T5Ideal.τ).loc Cert.T5Ideal.main_arg1))).1 = (fun _ => 1#1)
    ∧ (Cert.Pre_buckets_in_range.fn (F := Ideal) (m ((c.tc : Thread Cert.T5Ideal.nD Cert.T5Ideal.τ).loc Cert.T5Ideal.main_arg0)) (m ((c.tc : Thread Cert.T5Ideal.nD Cert.T5Ideal.τ).loc Cert.T5Ideal.main_arg1))).2 = (fun _ => 1#1)

def Pre_RefT5Ideal (m : (ℓ : Loc Cert.RefT5Ideal.nD Cert.RefT5Ideal.τ Cert.RefT5Ideal.sig) → Buf (Elt Ideal) ℓ) : Prop :=
  True

def Pre_RefT5Ideal_buckets_in_range [hPre_buckets_in_range : Cert.Pre_buckets_in_range.Facts] (m : (ℓ : Loc Cert.RefT5Ideal.nD Cert.RefT5Ideal.τ Cert.RefT5Ideal.sig) → Buf (Elt Ideal) ℓ) : Prop :=
  ∀ c : Dev Cert.RefT5Ideal.nD,
    (Cert.Pre_buckets_in_range.fn (F := Ideal) (m ((c.tc : Thread Cert.RefT5Ideal.nD Cert.RefT5Ideal.τ).loc Cert.RefT5Ideal.main_arg0)) (m ((c.tc : Thread Cert.RefT5Ideal.nD Cert.RefT5Ideal.τ).loc Cert.RefT5Ideal.main_arg1))).1 = (fun _ => 1#1)
    ∧ (Cert.Pre_buckets_in_range.fn (F := Ideal) (m ((c.tc : Thread Cert.RefT5Ideal.nD Cert.RefT5Ideal.τ).loc Cert.RefT5Ideal.main_arg0)) (m ((c.tc : Thread Cert.RefT5Ideal.nD Cert.RefT5Ideal.τ).loc Cert.RefT5Ideal.main_arg1))).2 = (fun _ => 1#1)

def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_RefLruIdeal (m : (ℓ : Loc Cert.RefLruIdeal.nD Cert.RefLruIdeal.τ Cert.RefLruIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1)
      ∧ r.2.mem ((c.tc : Thread Cert.InEven.nD Cert.InEven.τ).loc Cert.InEven.main_arg2) = m ((c.tc : Thread Cert.InEven.nD Cert.InEven.τ).loc Cert.InEven.main_arg2)
      ∧ r.2.mem ((c.tc : Thread Cert.InEven.nD Cert.InEven.τ).loc Cert.InEven.main_arg3) = m ((c.tc : Thread Cert.InEven.nD Cert.InEven.τ).loc Cert.InEven.main_arg3))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
      ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
      ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3))
      ∧ r.2.sem = fun _ => 0)

def quiescent_RefInEvenIdeal [hRefInEvenIdeal : Cert.RefInEvenIdeal.Facts] : Prop :=
  ∀ (m : (ℓ : Loc Cert.RefInEvenIdeal.nD Cert.RefInEvenIdeal.τ Cert.RefInEvenIdeal.sig) → Buf (Elt Ideal) ℓ) (g : Dev Cert.RefInEvenIdeal.nD → PrngReg), Pre_RefInEvenIdeal m →
    θ_run (Cert.RefInEvenIdeal.defs (F := Ideal)) (onTc (τ := Cert.RefInEvenIdeal.τ) (Cert.RefInEvenIdeal.main (F := Ideal))) ⟨m, fun _ => 0, g⟩ (fun r => (∀ c : Dev Cert.RefInEvenIdeal.nD,
      r.2.mem ((c.tc : Thread Cert.RefInEvenIdeal.nD Cert.RefInEvenIdeal.τ).loc Cert.RefInEvenIdeal.main_arg0) = m ((c.tc : Thread Cert.RefInEvenIdeal.nD Cert.RefInEvenIdeal.τ).loc Cert.RefInEvenIdeal.main_arg0)
      ∧ r.2.mem ((c.tc : Thread Cert.RefInEvenIdeal.nD Cert.RefInEvenIdeal.τ).loc Cert.RefInEvenIdeal.main_arg1) = m ((c.tc : Thread Cert.RefInEvenIdeal.nD Cert.RefInEvenIdeal.τ).loc Cert.RefInEvenIdeal.main_arg1)
      ∧ r.2.mem ((c.tc : Thread Cert.RefInEvenIdeal.nD Cert.RefInEvenIdeal.τ).loc Cert.RefInEvenIdeal.main_arg2) = m ((c.tc : Thread Cert.RefInEvenIdeal.nD Cert.RefInEvenIdeal.τ).loc Cert.RefInEvenIdeal.main_arg2)
      ∧ r.2.mem ((c.tc : Thread Cert.RefInEvenIdeal.nD Cert.RefInEvenIdeal.τ).loc Cert.RefInEvenIdeal.main_arg3) = m ((c.tc : Thread Cert.RefInEvenIdeal.nD Cert.RefInEvenIdeal.τ).loc Cert.RefInEvenIdeal.main_arg3))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1)
      ∧ r.2.mem ((c.tc : Thread Cert.InOdd.nD Cert.InOdd.τ).loc Cert.InOdd.main_arg2) = m ((c.tc : Thread Cert.InOdd.nD Cert.InOdd.τ).loc Cert.InOdd.main_arg2)
      ∧ r.2.mem ((c.tc : Thread Cert.InOdd.nD Cert.InOdd.τ).loc Cert.InOdd.main_arg3) = m ((c.tc : Thread Cert.InOdd.nD Cert.InOdd.τ).loc Cert.InOdd.main_arg3))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
      ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3))
      ∧ r.2.sem = fun _ => 0)

def quiescent_RefInOddIdeal [hRefInOddIdeal : Cert.RefInOddIdeal.Facts] : Prop :=
  ∀ (m : (ℓ : Loc Cert.RefInOddIdeal.nD Cert.RefInOddIdeal.τ Cert.RefInOddIdeal.sig) → Buf (Elt Ideal) ℓ) (g : Dev Cert.RefInOddIdeal.nD → PrngReg), Pre_RefInOddIdeal m →
    θ_run (Cert.RefInOddIdeal.defs (F := Ideal)) (onTc (τ := Cert.RefInOddIdeal.τ) (Cert.RefInOddIdeal.main (F := Ideal))) ⟨m, fun _ => 0, g⟩ (fun r => (∀ c : Dev Cert.RefInOddIdeal.nD,
      r.2.mem ((c.tc : Thread Cert.RefInOddIdeal.nD Cert.RefInOddIdeal.τ).loc Cert.RefInOddIdeal.main_arg0) = m ((c.tc : Thread Cert.RefInOddIdeal.nD Cert.RefInOddIdeal.τ).loc Cert.RefInOddIdeal.main_arg0)
      ∧ r.2.mem ((c.tc : Thread Cert.RefInOddIdeal.nD Cert.RefInOddIdeal.τ).loc Cert.RefInOddIdeal.main_arg1) = m ((c.tc : Thread Cert.RefInOddIdeal.nD Cert.RefInOddIdeal.τ).loc Cert.RefInOddIdeal.main_arg1)
      ∧ r.2.mem ((c.tc : Thread Cert.RefInOddIdeal.nD Cert.RefInOddIdeal.τ).loc Cert.RefInOddIdeal.main_arg2) = m ((c.tc : Thread Cert.RefInOddIdeal.nD Cert.RefInOddIdeal.τ).loc Cert.RefInOddIdeal.main_arg2)
      ∧ r.2.mem ((c.tc : Thread Cert.RefInOddIdeal.nD Cert.RefInOddIdeal.τ).loc Cert.RefInOddIdeal.main_arg3) = m ((c.tc : Thread Cert.RefInOddIdeal.nD Cert.RefInOddIdeal.τ).loc Cert.RefInOddIdeal.main_arg3))
      ∧ r.2.sem = fun _ => 0)

def quiescent_OutEven [hOutEven : Cert.OutEven.Facts] : Prop :=
  ∀ (m : (ℓ : Loc Cert.OutEven.nD Cert.OutEven.τ Cert.OutEven.sig) → Buf (Elt Bits) ℓ) (g : Dev Cert.OutEven.nD → PrngReg), Pre_OutEven m →
    θ_run (Cert.OutEven.defs (F := Bits)) (onTc (τ := Cert.OutEven.τ) (Cert.OutEven.main (F := Bits))) ⟨m, fun _ => 0, g⟩ (fun r => (∀ c : Dev Cert.OutEven.nD,
      r.2.mem ((c.tc : Thread Cert.OutEven.nD Cert.OutEven.τ).loc Cert.OutEven.main_arg0) = m ((c.tc : Thread Cert.OutEven.nD Cert.OutEven.τ).loc Cert.OutEven.main_arg0)
      ∧ r.2.mem ((c.tc : Thread Cert.OutEven.nD Cert.OutEven.τ).loc Cert.OutEven.main_arg1) = m ((c.tc : Thread Cert.OutEven.nD Cert.OutEven.τ).loc Cert.OutEven.main_arg1)
      ∧ r.2.mem ((c.tc : Thread Cert.OutEven.nD Cert.OutEven.τ).loc Cert.OutEven.main_arg2) = m ((c.tc : Thread Cert.OutEven.nD Cert.OutEven.τ).loc Cert.OutEven.main_arg2)
      ∧ r.2.mem ((c.tc : Thread Cert.OutEven.nD Cert.OutEven.τ).loc Cert.OutEven.main_arg3) = m ((c.tc : Thread Cert.OutEven.nD Cert.OutEven.τ).loc Cert.OutEven.main_arg3)
      ∧ r.2.mem ((c.tc : Thread Cert.OutEven.nD Cert.OutEven.τ).loc Cert.OutEven.main_arg4) = m ((c.tc : Thread Cert.OutEven.nD Cert.OutEven.τ).loc Cert.OutEven.main_arg4))
      ∧ r.2.sem = fun _ => 0)

def quiescent_OutEvenIdeal [hOutEvenIdeal : Cert.OutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
      ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4))
      ∧ r.2.sem = fun _ => 0)

def quiescent_RefOutEvenIdeal [hRefOutEvenIdeal : Cert.RefOutEvenIdeal.Facts] : Prop :=
  ∀ (m : (ℓ : Loc Cert.RefOutEvenIdeal.nD Cert.RefOutEvenIdeal.τ Cert.RefOutEvenIdeal.sig) → Buf (Elt Ideal) ℓ) (g : Dev Cert.RefOutEvenIdeal.nD → PrngReg), Pre_RefOutEvenIdeal m →
    θ_run (Cert.RefOutEvenIdeal.defs (F := Ideal)) (onTc (τ := Cert.RefOutEvenIdeal.τ) (Cert.RefOutEvenIdeal.main (F := Ideal))) ⟨m, fun _ => 0, g⟩ (fun r => (∀ c : Dev Cert.RefOutEvenIdeal.nD,
      r.2.mem ((c.tc : Thread Cert.RefOutEvenIdeal.nD Cert.RefOutEvenIdeal.τ).loc Cert.RefOutEvenIdeal.main_arg0) = m ((c.tc : Thread Cert.RefOutEvenIdeal.nD Cert.RefOutEvenIdeal.τ).loc Cert.RefOutEvenIdeal.main_arg0)
      ∧ r.2.mem ((c.tc : Thread Cert.RefOutEvenIdeal.nD Cert.RefOutEvenIdeal.τ).loc Cert.RefOutEvenIdeal.main_arg1) = m ((c.tc : Thread Cert.RefOutEvenIdeal.nD Cert.RefOutEvenIdeal.τ).loc Cert.RefOutEvenIdeal.main_arg1)
      ∧ r.2.mem ((c.tc : Thread Cert.RefOutEvenIdeal.nD Cert.RefOutEvenIdeal.τ).loc Cert.RefOutEvenIdeal.main_arg2) = m ((c.tc : Thread Cert.RefOutEvenIdeal.nD Cert.RefOutEvenIdeal.τ).loc Cert.RefOutEvenIdeal.main_arg2)
      ∧ r.2.mem ((c.tc : Thread Cert.RefOutEvenIdeal.nD Cert.RefOutEvenIdeal.τ).loc Cert.RefOutEvenIdeal.main_arg3) = m ((c.tc : Thread Cert.RefOutEvenIdeal.nD Cert.RefOutEvenIdeal.τ).loc Cert.RefOutEvenIdeal.main_arg3)
      ∧ r.2.mem ((c.tc : Thread Cert.RefOutEvenIdeal.nD Cert.RefOutEvenIdeal.τ).loc Cert.RefOutEvenIdeal.main_arg4) = m ((c.tc : Thread Cert.RefOutEvenIdeal.nD Cert.RefOutEvenIdeal.τ).loc Cert.RefOutEvenIdeal.main_arg4))
      ∧ r.2.sem = fun _ => 0)

def quiescent_OutOdd [hOutOdd : Cert.OutOdd.Facts] : Prop :=
  ∀ (m : (ℓ : Loc Cert.OutOdd.nD Cert.OutOdd.τ Cert.OutOdd.sig) → Buf (Elt Bits) ℓ) (g : Dev Cert.OutOdd.nD → PrngReg), Pre_OutOdd m →
    θ_run (Cert.OutOdd.defs (F := Bits)) (onTc (τ := Cert.OutOdd.τ) (Cert.OutOdd.main (F := Bits))) ⟨m, fun _ => 0, g⟩ (fun r => (∀ c : Dev Cert.OutOdd.nD,
      r.2.mem ((c.tc : Thread Cert.OutOdd.nD Cert.OutOdd.τ).loc Cert.OutOdd.main_arg0) = m ((c.tc : Thread Cert.OutOdd.nD Cert.OutOdd.τ).loc Cert.OutOdd.main_arg0)
      ∧ r.2.mem ((c.tc : Thread Cert.OutOdd.nD Cert.OutOdd.τ).loc Cert.OutOdd.main_arg1) = m ((c.tc : Thread Cert.OutOdd.nD Cert.OutOdd.τ).loc Cert.OutOdd.main_arg1)
      ∧ r.2.mem ((c.tc : Thread Cert.OutOdd.nD Cert.OutOdd.τ).loc Cert.OutOdd.main_arg2) = m ((c.tc : Thread Cert.OutOdd.nD Cert.OutOdd.τ).loc Cert.OutOdd.main_arg2)
      ∧ r.2.mem ((c.tc : Thread Cert.OutOdd.nD Cert.OutOdd.τ).loc Cert.OutOdd.main_arg3) = m ((c.tc : Thread Cert.OutOdd.nD Cert.OutOdd.τ).loc Cert.OutOdd.main_arg3))
      ∧ r.2.sem = fun _ => 0)

def quiescent_OutOddIdeal [hOutOddIdeal : Cert.OutOddIdeal.Facts] : Prop :=
  ∀ (m : (ℓ : Loc Cert.OutOddIdeal.nD Cert.OutOddIdeal.τ Cert.OutOddIdeal.sig) → Buf (Elt Ideal) ℓ) (g : Dev Cert.OutOddIdeal.nD → PrngReg), Pre_OutOddIdeal m →
    θ_run (Cert.OutOddIdeal.defs (F := Ideal)) (onTc (τ := Cert.OutOddIdeal.τ) (Cert.OutOddIdeal.main (F := Ideal))) ⟨m, fun _ => 0, g⟩ (fun r => (∀ c : Dev Cert.OutOddIdeal.nD,
      r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
      ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
      ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
      ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3))
      ∧ r.2.sem = fun _ => 0)

def quiescent_RefOutOddIdeal [hRefOutOddIdeal : Cert.RefOutOddIdeal.Facts] : Prop :=
  ∀ (m : (ℓ : Loc Cert.RefOutOddIdeal.nD Cert.RefOutOddIdeal.τ Cert.RefOutOddIdeal.sig) → Buf (Elt Ideal) ℓ) (g : Dev Cert.RefOutOddIdeal.nD → PrngReg), Pre_RefOutOddIdeal m →
    θ_run (Cert.RefOutOddIdeal.defs (F := Ideal)) (onTc (τ := Cert.RefOutOddIdeal.τ) (Cert.RefOutOddIdeal.main (F := Ideal))) ⟨m, fun _ => 0, g⟩ (fun r => (∀ c : Dev Cert.RefOutOddIdeal.nD,
      r.2.mem ((c.tc : Thread Cert.RefOutOddIdeal.nD Cert.RefOutOddIdeal.τ).loc Cert.RefOutOddIdeal.main_arg0) = m ((c.tc : Thread Cert.RefOutOddIdeal.nD Cert.RefOutOddIdeal.τ).loc Cert.RefOutOddIdeal.main_arg0)
      ∧ r.2.mem ((c.tc : Thread Cert.RefOutOddIdeal.nD Cert.RefOutOddIdeal.τ).loc Cert.RefOutOddIdeal.main_arg1) = m ((c.tc : Thread Cert.RefOutOddIdeal.nD Cert.RefOutOddIdeal.τ).loc Cert.RefOutOddIdeal.main_arg1)
      ∧ r.2.mem ((c.tc : Thread Cert.RefOutOddIdeal.nD Cert.RefOutOddIdeal.τ).loc Cert.RefOutOddIdeal.main_arg2) = m ((c.tc : Thread Cert.RefOutOddIdeal.nD Cert.RefOutOddIdeal.τ).loc Cert.RefOutOddIdeal.main_arg2)
      ∧ r.2.mem ((c.tc : Thread Cert.RefOutOddIdeal.nD Cert.RefOutOddIdeal.τ).loc Cert.RefOutOddIdeal.main_arg3) = m ((c.tc : Thread Cert.RefOutOddIdeal.nD Cert.RefOutOddIdeal.τ).loc Cert.RefOutOddIdeal.main_arg3))
      ∧ r.2.sem = fun _ => 0)

def quiescent_OutLast [hOutLast : Cert.OutLast.Facts] : Prop :=
  ∀ (m : (ℓ : Loc Cert.OutLast.nD Cert.OutLast.τ Cert.OutLast.sig) → Buf (Elt Bits) ℓ) (g : Dev Cert.OutLast.nD → PrngReg), Pre_OutLast m →
    θ_run (Cert.OutLast.defs (F := Bits)) (onTc (τ := Cert.OutLast.τ) (Cert.OutLast.main (F := Bits))) ⟨m, fun _ => 0, g⟩ (fun r => (∀ c : Dev Cert.OutLast.nD,
      r.2.mem ((c.tc : Thread Cert.OutLast.nD Cert.OutLast.τ).loc Cert.OutLast.main_arg0) = m ((c.tc : Thread Cert.OutLast.nD Cert.OutLast.τ).loc Cert.OutLast.main_arg0)
      ∧ r.2.mem ((c.tc : Thread Cert.OutLast.nD Cert.OutLast.τ).loc Cert.OutLast.main_arg1) = m ((c.tc : Thread Cert.OutLast.nD Cert.OutLast.τ).loc Cert.OutLast.main_arg1)
      ∧ r.2.mem ((c.tc : Thread Cert.OutLast.nD Cert.OutLast.τ).loc Cert.OutLast.main_arg2) = m ((c.tc : Thread Cert.OutLast.nD Cert.OutLast.τ).loc Cert.OutLast.main_arg2)
      ∧ r.2.mem ((c.tc : Thread Cert.OutLast.nD Cert.OutLast.τ).loc Cert.OutLast.main_arg3) = m ((c.tc : Thread Cert.OutLast.nD Cert.OutLast.τ).loc Cert.OutLast.main_arg3)
      ∧ r.2.mem ((c.tc : Thread Cert.OutLast.nD Cert.OutLast.τ).loc Cert.OutLast.main_arg4) = m ((c.tc : Thread Cert.OutLast.nD Cert.OutLast.τ).loc Cert.OutLast.main_arg4))
      ∧ r.2.sem = fun _ => 0)

def quiescent_OutLastIdeal [hOutLastIdeal : Cert.OutLastIdeal.Facts] : Prop :=
  ∀ (m : (ℓ : Loc Cert.OutLastIdeal.nD Cert.OutLastIdeal.τ Cert.OutLastIdeal.sig) → Buf (Elt Ideal) ℓ) (g : Dev Cert.OutLastIdeal.nD → PrngReg), Pre_OutLastIdeal m →
    θ_run (Cert.OutLastIdeal.defs (F := Ideal)) (onTc (τ := Cert.OutLastIdeal.τ) (Cert.OutLastIdeal.main (F := Ideal))) ⟨m, fun _ => 0, g⟩ (fun r => (∀ c : Dev Cert.OutLastIdeal.nD,
      r.2.mem ((c.tc : Thread Cert.OutLastIdeal.nD Cert.OutLastIdeal.τ).loc Cert.OutLastIdeal.main_arg0) = m ((c.tc : Thread Cert.OutLastIdeal.nD Cert.OutLastIdeal.τ).loc Cert.OutLastIdeal.main_arg0)
      ∧ r.2.mem ((c.tc : Thread Cert.OutLastIdeal.nD Cert.OutLastIdeal.τ).loc Cert.OutLastIdeal.main_arg1) = m ((c.tc : Thread Cert.OutLastIdeal.nD Cert.OutLastIdeal.τ).loc Cert.OutLastIdeal.main_arg1)
      ∧ r.2.mem ((c.tc : Thread Cert.OutLastIdeal.nD Cert.OutLastIdeal.τ).loc Cert.OutLastIdeal.main_arg2) = m ((c.tc : Thread Cert.OutLastIdeal.nD Cert.OutLastIdeal.τ).loc Cert.OutLastIdeal.main_arg2)
      ∧ r.2.mem ((c.tc : Thread Cert.OutLastIdeal.nD Cert.OutLastIdeal.τ).loc Cert.OutLastIdeal.main_arg3) = m ((c.tc : Thread Cert.OutLastIdeal.nD Cert.OutLastIdeal.τ).loc Cert.OutLastIdeal.main_arg3)
      ∧ r.2.mem ((c.tc : Thread Cert.OutLastIdeal.nD Cert.OutLastIdeal.τ).loc Cert.OutLastIdeal.main_arg4) = m ((c.tc : Thread Cert.OutLastIdeal.nD Cert.OutLastIdeal.τ).loc Cert.OutLastIdeal.main_arg4))
      ∧ r.2.sem = fun _ => 0)

def quiescent_RefOutLastIdeal [hRefOutLastIdeal : Cert.RefOutLastIdeal.Facts] : Prop :=
  ∀ (m : (ℓ : Loc Cert.RefOutLastIdeal.nD Cert.RefOutLastIdeal.τ Cert.RefOutLastIdeal.sig) → Buf (Elt Ideal) ℓ) (g : Dev Cert.RefOutLastIdeal.nD → PrngReg), Pre_RefOutLastIdeal m →
    θ_run (Cert.RefOutLastIdeal.defs (F := Ideal)) (onTc (τ := Cert.RefOutLastIdeal.τ) (Cert.RefOutLastIdeal.main (F := Ideal))) ⟨m, fun _ => 0, g⟩ (fun r => (∀ c : Dev Cert.RefOutLastIdeal.nD,
      r.2.mem ((c.tc : Thread Cert.RefOutLastIdeal.nD Cert.RefOutLastIdeal.τ).loc Cert.RefOutLastIdeal.main_arg0) = m ((c.tc : Thread Cert.RefOutLastIdeal.nD Cert.RefOutLastIdeal.τ).loc Cert.RefOutLastIdeal.main_arg0)
      ∧ r.2.mem ((c.tc : Thread Cert.RefOutLastIdeal.nD Cert.RefOutLastIdeal.τ).loc Cert.RefOutLastIdeal.main_arg1) = m ((c.tc : Thread Cert.RefOutLastIdeal.nD Cert.RefOutLastIdeal.τ).loc Cert.RefOutLastIdeal.main_arg1)
      ∧ r.2.mem ((c.tc : Thread Cert.RefOutLastIdeal.nD Cert.RefOutLastIdeal.τ).loc Cert.RefOutLastIdeal.main_arg2) = m ((c.tc : Thread Cert.RefOutLastIdeal.nD Cert.RefOutLastIdeal.τ).loc Cert.RefOutLastIdeal.main_arg2)
      ∧ r.2.mem ((c.tc : Thread Cert.RefOutLastIdeal.nD Cert.RefOutLastIdeal.τ).loc Cert.RefOutLastIdeal.main_arg3) = m ((c.tc : Thread Cert.RefOutLastIdeal.nD Cert.RefOutLastIdeal.τ).loc Cert.RefOutLastIdeal.main_arg3)
      ∧ r.2.mem ((c.tc : Thread Cert.RefOutLastIdeal.nD Cert.RefOutLastIdeal.τ).loc Cert.RefOutLastIdeal.main_arg4) = m ((c.tc : Thread Cert.RefOutLastIdeal.nD Cert.RefOutLastIdeal.τ).loc Cert.RefOutLastIdeal.main_arg4))
      ∧ r.2.sem = fun _ => 0)

def quiescent_Na [hNa : Cert.Na.Facts] : Prop :=
  ∀ (m : (ℓ : Loc Cert.Na.nD Cert.Na.τ Cert.Na.sig) → Buf (Elt Bits) ℓ) (g : Dev Cert.Na.nD → PrngReg), Pre_Na m →
    θ_run (Cert.Na.defs (F := Bits)) (onTc (τ := Cert.Na.τ) (Cert.Na.main (F := Bits))) ⟨m, fun _ => 0, g⟩ (fun r => (∀ c : Dev Cert.Na.nD,
      r.2.mem ((c.tc : Thread Cert.Na.nD Cert.Na.τ).loc Cert.Na.main_arg0) = m ((c.tc : Thread Cert.Na.nD Cert.Na.τ).loc Cert.Na.main_arg0)
      ∧ r.2.mem ((c.tc : Thread Cert.Na.nD Cert.Na.τ).loc Cert.Na.main_arg1) = m ((c.tc : Thread Cert.Na.nD Cert.Na.τ).loc Cert.Na.main_arg1)
      ∧ r.2.mem ((c.tc : Thread Cert.Na.nD Cert.Na.τ).loc Cert.Na.main_arg2) = m ((c.tc : Thread Cert.Na.nD Cert.Na.τ).loc Cert.Na.main_arg2))
      ∧ r.2.sem = fun _ => 0)

def quiescent_NaIdeal [hNaIdeal : Cert.NaIdeal.Facts] : Prop :=
  ∀ (m : (ℓ : Loc Cert.NaIdeal.nD Cert.NaIdeal.τ Cert.NaIdeal.sig) → Buf (Elt Ideal) ℓ) (g : Dev Cert.NaIdeal.nD → PrngReg), Pre_NaIdeal m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
      ∧ r.2.mem ((c.tc : Thread Cert.NaIdeal.nD Cert.NaIdeal.τ).loc Cert.NaIdeal.main_arg2) = m ((c.tc : Thread Cert.NaIdeal.nD Cert.NaIdeal.τ).loc Cert.NaIdeal.main_arg2))
      ∧ r.2.sem = fun _ => 0)

def quiescent_NaIdeal_pre_na_scores_finite [hNaIdeal : Cert.NaIdeal.Facts] [hPre_na_scores_finite : Cert.Pre_na_scores_finite.Facts] : Prop :=
  ∀ (m : (ℓ : Loc Cert.NaIdeal.nD Cert.NaIdeal.τ Cert.NaIdeal.sig) → Buf (Elt Ideal) ℓ) (g : Dev Cert.NaIdeal.nD → PrngReg), Pre_NaIdeal_na_scores_finite m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
      ∧ r.2.mem ((c.tc : Thread Cert.NaIdeal.nD Cert.NaIdeal.τ).loc Cert.NaIdeal.main_arg2) = m ((c.tc : Thread Cert.NaIdeal.nD Cert.NaIdeal.τ).loc Cert.NaIdeal.main_arg2))
      ∧ r.2.sem = fun _ => 0)

def quiescent_RefNaIdeal [hRefNaIdeal : Cert.RefNaIdeal.Facts] : Prop :=
  ∀ (m : (ℓ : Loc Cert.RefNaIdeal.nD Cert.RefNaIdeal.τ Cert.RefNaIdeal.sig) → Buf (Elt Ideal) ℓ) (g : Dev Cert.RefNaIdeal.nD → PrngReg), Pre_RefNaIdeal m →
    θ_run (Cert.RefNaIdeal.defs (F := Ideal)) (onTc (τ := Cert.RefNaIdeal.τ) (Cert.RefNaIdeal.main (F := Ideal))) ⟨m, fun _ => 0, g⟩ (fun r => (∀ c : Dev Cert.RefNaIdeal.nD,
      r.2.mem ((c.tc : Thread Cert.RefNaIdeal.nD Cert.RefNaIdeal.τ).loc Cert.RefNaIdeal.main_arg0) = m ((c.tc : Thread Cert.RefNaIdeal.nD Cert.RefNaIdeal.τ).loc Cert.RefNaIdeal.main_arg0)
      ∧ r.2.mem ((c.tc : Thread Cert.RefNaIdeal.nD Cert.RefNaIdeal.τ).loc Cert.RefNaIdeal.main_arg1) = m ((c.tc : Thread Cert.RefNaIdeal.nD Cert.RefNaIdeal.τ).loc Cert.RefNaIdeal.main_arg1)
      ∧ r.2.mem ((c.tc : Thread Cert.RefNaIdeal.nD Cert.RefNaIdeal.τ).loc Cert.RefNaIdeal.main_arg2) = m ((c.tc : Thread Cert.RefNaIdeal.nD Cert.RefNaIdeal.τ).loc Cert.RefNaIdeal.main_arg2))
      ∧ r.2.sem = fun _ => 0)

def quiescent_RefNaIdeal_pre_na_scores_finite [hRefNaIdeal : Cert.RefNaIdeal.Facts] [hPre_na_scores_finite : Cert.Pre_na_scores_finite.Facts] : Prop :=
  ∀ (m : (ℓ : Loc Cert.RefNaIdeal.nD Cert.RefNaIdeal.τ Cert.RefNaIdeal.sig) → Buf (Elt Ideal) ℓ) (g : Dev Cert.RefNaIdeal.nD → PrngReg), Pre_RefNaIdeal_na_scores_finite m →
    θ_run (Cert.RefNaIdeal.defs (F := Ideal)) (onTc (τ := Cert.RefNaIdeal.τ) (Cert.RefNaIdeal.main (F := Ideal))) ⟨m, fun _ => 0, g⟩ (fun r => (∀ c : Dev Cert.RefNaIdeal.nD,
      r.2.mem ((c.tc : Thread Cert.RefNaIdeal.nD Cert.RefNaIdeal.τ).loc Cert.RefNaIdeal.main_arg0) = m ((c.tc : Thread Cert.RefNaIdeal.nD Cert.RefNaIdeal.τ).loc Cert.RefNaIdeal.main_arg0)
      ∧ r.2.mem ((c.tc : Thread Cert.RefNaIdeal.nD Cert.RefNaIdeal.τ).loc Cert.RefNaIdeal.main_arg1) = m ((c.tc : Thread Cert.RefNaIdeal.nD Cert.RefNaIdeal.τ).loc Cert.RefNaIdeal.main_arg1)
      ∧ r.2.mem ((c.tc : Thread Cert.RefNaIdeal.nD Cert.RefNaIdeal.τ).loc Cert.RefNaIdeal.main_arg2) = m ((c.tc : Thread Cert.RefNaIdeal.nD Cert.RefNaIdeal.τ).loc Cert.RefNaIdeal.main_arg2))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_RefAdaIdeal [hRefAdaIdeal : Cert.RefAdaIdeal.Facts] : Prop :=
  ∀ (m : (ℓ : Loc Cert.RefAdaIdeal.nD Cert.RefAdaIdeal.τ Cert.RefAdaIdeal.sig) → Buf (Elt Ideal) ℓ) (g : Dev Cert.RefAdaIdeal.nD → PrngReg), Pre_RefAdaIdeal m →
    θ_run (Cert.RefAdaIdeal.defs (F := Ideal)) (onTc (τ := Cert.RefAdaIdeal.τ) (Cert.RefAdaIdeal.main (F := Ideal))) ⟨m, fun _ => 0, g⟩ (fun r => (∀ c : Dev Cert.RefAdaIdeal.nD,
      r.2.mem ((c.tc : Thread Cert.RefAdaIdeal.nD Cert.RefAdaIdeal.τ).loc Cert.RefAdaIdeal.main_arg0) = m ((c.tc : Thread Cert.RefAdaIdeal.nD Cert.RefAdaIdeal.τ).loc Cert.RefAdaIdeal.main_arg0)
      ∧ r.2.mem ((c.tc : Thread Cert.RefAdaIdeal.nD Cert.RefAdaIdeal.τ).loc Cert.RefAdaIdeal.main_arg1) = m ((c.tc : Thread Cert.RefAdaIdeal.nD Cert.RefAdaIdeal.τ).loc Cert.RefAdaIdeal.main_arg1)
      ∧ r.2.mem ((c.tc : Thread Cert.RefAdaIdeal.nD Cert.RefAdaIdeal.τ).loc Cert.RefAdaIdeal.main_arg2) = m ((c.tc : Thread Cert.RefAdaIdeal.nD Cert.RefAdaIdeal.τ).loc Cert.RefAdaIdeal.main_arg2))
      ∧ r.2.sem = fun _ => 0)

def quiescent_Rpb [hRpb : Cert.Rpb.Facts] : Prop :=
  ∀ (m : (ℓ : Loc Cert.Rpb.nD Cert.Rpb.τ Cert.Rpb.sig) → Buf (Elt Bits) ℓ) (g : Dev Cert.Rpb.nD → PrngReg), Pre_Rpb m →
    θ_run (Cert.Rpb.defs (F := Bits)) (onTc (τ := Cert.Rpb.τ) (Cert.Rpb.main (F := Bits))) ⟨m, fun _ => 0, g⟩ (fun r => (∀ c : Dev Cert.Rpb.nD,
      r.2.mem ((c.tc : Thread Cert.Rpb.nD Cert.Rpb.τ).loc Cert.Rpb.main_arg0) = m ((c.tc : Thread Cert.Rpb.nD Cert.Rpb.τ).loc Cert.Rpb.main_arg0))
      ∧ r.2.sem = fun _ => 0)

def quiescent_RpbIdeal [hRpbIdeal : Cert.RpbIdeal.Facts] : Prop :=
  ∀ (m : (ℓ : Loc Cert.RpbIdeal.nD Cert.RpbIdeal.τ Cert.RpbIdeal.sig) → Buf (Elt Ideal) ℓ) (g : Dev Cert.RpbIdeal.nD → PrngReg), Pre_RpbIdeal m →
    θ_run (Cert.RpbIdeal.defs (F := Ideal)) (onTc (τ := Cert.RpbIdeal.τ) (Cert.RpbIdeal.main (F := Ideal))) ⟨m, fun _ => 0, g⟩ (fun r => (∀ c : Dev Cert.RpbIdeal.nD,
      r.2.mem ((c.tc : Thread Cert.RpbIdeal.nD Cert.RpbIdeal.τ).loc Cert.RpbIdeal.main_arg0) = m ((c.tc : Thread Cert.RpbIdeal.nD Cert.RpbIdeal.τ).loc Cert.RpbIdeal.main_arg0))
      ∧ r.2.sem = fun _ => 0)

def quiescent_RefRpbIdeal [hRefRpbIdeal : Cert.RefRpbIdeal.Facts] : Prop :=
  ∀ (m : (ℓ : Loc Cert.RefRpbIdeal.nD Cert.RefRpbIdeal.τ Cert.RefRpbIdeal.sig) → Buf (Elt Ideal) ℓ) (g : Dev Cert.RefRpbIdeal.nD → PrngReg), Pre_RefRpbIdeal m →
    θ_run (Cert.RefRpbIdeal.defs (F := Ideal)) (onTc (τ := Cert.RefRpbIdeal.τ) (Cert.RefRpbIdeal.main (F := Ideal))) ⟨m, fun _ => 0, g⟩ (fun r => (∀ c : Dev Cert.RefRpbIdeal.nD,
      r.2.mem ((c.tc : Thread Cert.RefRpbIdeal.nD Cert.RefRpbIdeal.τ).loc Cert.RefRpbIdeal.main_arg0) = m ((c.tc : Thread Cert.RefRpbIdeal.nD Cert.RefRpbIdeal.τ).loc Cert.RefRpbIdeal.main_arg0))
      ∧ r.2.sem = fun _ => 0)

def quiescent_T5 [hT5 : Cert.T5.Facts] : Prop :=
  ∀ (m : (ℓ : Loc Cert.T5.nD Cert.T5.τ Cert.T5.sig) → Buf (Elt Bits) ℓ) (g : Dev Cert.T5.nD → PrngReg), Pre_T5 m →
    θ_run (Cert.T5.defs (F := Bits)) (onTc (τ := Cert.T5.τ) (Cert.T5.main (F := Bits))) ⟨m, fun _ => 0, g⟩ (fun r => (∀ c : Dev Cert.T5.nD,
      r.2.mem ((c.tc : Thread Cert.T5.nD Cert.T5.τ).loc Cert.T5.main_arg0) = m ((c.tc : Thread Cert.T5.nD Cert.T5.τ).loc Cert.T5.main_arg0)
      ∧ r.2.mem ((c.tc : Thread Cert.T5.nD Cert.T5.τ).loc Cert.T5.main_arg1) = m ((c.tc : Thread Cert.T5.nD Cert.T5.τ).loc Cert.T5.main_arg1))
      ∧ r.2.sem = fun _ => 0)

def quiescent_T5Ideal [hT5Ideal : Cert.T5Ideal.Facts] : Prop :=
  ∀ (m : (ℓ : Loc Cert.T5Ideal.nD Cert.T5Ideal.τ Cert.T5Ideal.sig) → Buf (Elt Ideal) ℓ) (g : Dev Cert.T5Ideal.nD → PrngReg), Pre_T5Ideal m →
    θ_run (Cert.T5Ideal.defs (F := Ideal)) (onTc (τ := Cert.T5Ideal.τ) (Cert.T5Ideal.main (F := Ideal))) ⟨m, fun _ => 0, g⟩ (fun r => (∀ c : Dev Cert.T5Ideal.nD,
      r.2.mem ((c.tc : Thread Cert.T5Ideal.nD Cert.T5Ideal.τ).loc Cert.T5Ideal.main_arg0) = m ((c.tc : Thread Cert.T5Ideal.nD Cert.T5Ideal.τ).loc Cert.T5Ideal.main_arg0)
      ∧ r.2.mem ((c.tc : Thread Cert.T5Ideal.nD Cert.T5Ideal.τ).loc Cert.T5Ideal.main_arg1) = m ((c.tc : Thread Cert.T5Ideal.nD Cert.T5Ideal.τ).loc Cert.T5Ideal.main_arg1))
      ∧ r.2.sem = fun _ => 0)

def quiescent_T5Ideal_pre_buckets_in_range [hT5Ideal : Cert.T5Ideal.Facts] [hPre_buckets_in_range : Cert.Pre_buckets_in_range.Facts] : Prop :=
  ∀ (m : (ℓ : Loc Cert.T5Ideal.nD Cert.T5Ideal.τ Cert.T5Ideal.sig) → Buf (Elt Ideal) ℓ) (g : Dev Cert.T5Ideal.nD → PrngReg), Pre_T5Ideal_buckets_in_range m →
    θ_run (Cert.T5Ideal.defs (F := Ideal)) (onTc (τ := Cert.T5Ideal.τ) (Cert.T5Ideal.main (F := Ideal))) ⟨m, fun _ => 0, g⟩ (fun r => (∀ c : Dev Cert.T5Ideal.nD,
      r.2.mem ((c.tc : Thread Cert.T5Ideal.nD Cert.T5Ideal.τ).loc Cert.T5Ideal.main_arg0) = m ((c.tc : Thread Cert.T5Ideal.nD Cert.T5Ideal.τ).loc Cert.T5Ideal.main_arg0)
      ∧ r.2.mem ((c.tc : Thread Cert.T5Ideal.nD Cert.T5Ideal.τ).loc Cert.T5Ideal.main_arg1) = m ((c.tc : Thread Cert.T5Ideal.nD Cert.T5Ideal.τ).loc Cert.T5Ideal.main_arg1))
      ∧ r.2.sem = fun _ => 0)

def quiescent_RefT5Ideal [hRefT5Ideal : Cert.RefT5Ideal.Facts] : Prop :=
  ∀ (m : (ℓ : Loc Cert.RefT5Ideal.nD Cert.RefT5Ideal.τ Cert.RefT5Ideal.sig) → Buf (Elt Ideal) ℓ) (g : Dev Cert.RefT5Ideal.nD → PrngReg), Pre_RefT5Ideal m →
    θ_run (Cert.RefT5Ideal.defs (F := Ideal)) (onTc (τ := Cert.RefT5Ideal.τ) (Cert.RefT5Ideal.main (F := Ideal))) ⟨m, fun _ => 0, g⟩ (fun r => (∀ c : Dev Cert.RefT5Ideal.nD,
      r.2.mem ((c.tc : Thread Cert.RefT5Ideal.nD Cert.RefT5Ideal.τ).loc Cert.RefT5Ideal.main_arg0) = m ((c.tc : Thread Cert.RefT5Ideal.nD Cert.RefT5Ideal.τ).loc Cert.RefT5Ideal.main_arg0)
      ∧ r.2.mem ((c.tc : Thread Cert.RefT5Ideal.nD Cert.RefT5Ideal.τ).loc Cert.RefT5Ideal.main_arg1) = m ((c.tc : Thread Cert.RefT5Ideal.nD Cert.RefT5Ideal.τ).loc Cert.RefT5Ideal.main_arg1))
      ∧ r.2.sem = fun _ => 0)

def quiescent_RefT5Ideal_pre_buckets_in_range [hRefT5Ideal : Cert.RefT5Ideal.Facts] [hPre_buckets_in_range : Cert.Pre_buckets_in_range.Facts] : Prop :=
  ∀ (m : (ℓ : Loc Cert.RefT5Ideal.nD Cert.RefT5Ideal.τ Cert.RefT5Ideal.sig) → Buf (Elt Ideal) ℓ) (g : Dev Cert.RefT5Ideal.nD → PrngReg), Pre_RefT5Ideal_buckets_in_range m →
    θ_run (Cert.RefT5Ideal.defs (F := Ideal)) (onTc (τ := Cert.RefT5Ideal.τ) (Cert.RefT5Ideal.main (F := Ideal))) ⟨m, fun _ => 0, g⟩ (fun r => (∀ c : Dev Cert.RefT5Ideal.nD,
      r.2.mem ((c.tc : Thread Cert.RefT5Ideal.nD Cert.RefT5Ideal.τ).loc Cert.RefT5Ideal.main_arg0) = m ((c.tc : Thread Cert.RefT5Ideal.nD Cert.RefT5Ideal.τ).loc Cert.RefT5Ideal.main_arg0)
      ∧ r.2.mem ((c.tc : Thread Cert.RefT5Ideal.nD Cert.RefT5Ideal.τ).loc Cert.RefT5Ideal.main_arg1) = m ((c.tc : Thread Cert.RefT5Ideal.nD Cert.RefT5Ideal.τ).loc Cert.RefT5Ideal.main_arg1))
      ∧ r.2.sem = fun _ => 0)

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7))
      ∧ r.2.sem = fun _ => 0)

def quiescent_RefLruIdeal [hRefLruIdeal : Cert.RefLruIdeal.Facts] : Prop :=
  ∀ (m : (ℓ : Loc Cert.RefLruIdeal.nD Cert.RefLruIdeal.τ Cert.RefLruIdeal.sig) → Buf (Elt Ideal) ℓ) (g : Dev Cert.RefLruIdeal.nD → PrngReg), Pre_RefLruIdeal m →
    θ_run (Cert.RefLruIdeal.defs (F := Ideal)) (onTc (τ := Cert.RefLruIdeal.τ) (Cert.RefLruIdeal.main (F := Ideal))) ⟨m, fun _ => 0, g⟩ (fun r => (∀ c : Dev Cert.RefLruIdeal.nD,
      r.2.mem ((c.tc : Thread Cert.RefLruIdeal.nD Cert.RefLruIdeal.τ).loc Cert.RefLruIdeal.main_arg0) = m ((c.tc : Thread Cert.RefLruIdeal.nD Cert.RefLruIdeal.τ).loc Cert.RefLruIdeal.main_arg0)
      ∧ r.2.mem ((c.tc : Thread Cert.RefLruIdeal.nD Cert.RefLruIdeal.τ).loc Cert.RefLruIdeal.main_arg1) = m ((c.tc : Thread Cert.RefLruIdeal.nD Cert.RefLruIdeal.τ).loc Cert.RefLruIdeal.main_arg1)
      ∧ r.2.mem ((c.tc : Thread Cert.RefLruIdeal.nD Cert.RefLruIdeal.τ).loc Cert.RefLruIdeal.main_arg2) = m ((c.tc : Thread Cert.RefLruIdeal.nD Cert.RefLruIdeal.τ).loc Cert.RefLruIdeal.main_arg2)
      ∧ r.2.mem ((c.tc : Thread Cert.RefLruIdeal.nD Cert.RefLruIdeal.τ).loc Cert.RefLruIdeal.main_arg3) = m ((c.tc : Thread Cert.RefLruIdeal.nD Cert.RefLruIdeal.τ).loc Cert.RefLruIdeal.main_arg3)
      ∧ r.2.mem ((c.tc : Thread Cert.RefLruIdeal.nD Cert.RefLruIdeal.τ).loc Cert.RefLruIdeal.main_arg4) = m ((c.tc : Thread Cert.RefLruIdeal.nD Cert.RefLruIdeal.τ).loc Cert.RefLruIdeal.main_arg4)
      ∧ r.2.mem ((c.tc : Thread Cert.RefLruIdeal.nD Cert.RefLruIdeal.τ).loc Cert.RefLruIdeal.main_arg5) = m ((c.tc : Thread Cert.RefLruIdeal.nD Cert.RefLruIdeal.τ).loc Cert.RefLruIdeal.main_arg5)
      ∧ r.2.mem ((c.tc : Thread Cert.RefLruIdeal.nD Cert.RefLruIdeal.τ).loc Cert.RefLruIdeal.main_arg6) = m ((c.tc : Thread Cert.RefLruIdeal.nD Cert.RefLruIdeal.τ).loc Cert.RefLruIdeal.main_arg6)
      ∧ r.2.mem ((c.tc : Thread Cert.RefLruIdeal.nD Cert.RefLruIdeal.τ).loc Cert.RefLruIdeal.main_arg7) = m ((c.tc : Thread Cert.RefLruIdeal.nD Cert.RefLruIdeal.τ).loc Cert.RefLruIdeal.main_arg7))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_InEven_InEvenIdeal : Prop :=
  True

def algebraic_InEvenIdeal_RefInEvenIdeal [hInEvenIdeal : Cert.InEvenIdeal.Facts] [hRefInEvenIdeal : Cert.RefInEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.RefInEvenIdeal.nD Cert.RefInEvenIdeal.τ Cert.RefInEvenIdeal.sig) → Buf (Elt Ideal) ℓ) (g' : Dev Cert.RefInEvenIdeal.nD → PrngReg), Pre_InEvenIdeal m →
    (∀ c : Dev Cert.InEvenIdeal.nD,
      m' ((c.tc : Thread Cert.RefInEvenIdeal.nD Cert.RefInEvenIdeal.τ).loc Cert.RefInEvenIdeal.main_arg0) = m ((c.tc : Thread Cert.InEvenIdeal.nD Cert.InEvenIdeal.τ).loc Cert.InEvenIdeal.main_arg0)
      ∧ m' ((c.tc : Thread Cert.RefInEvenIdeal.nD Cert.RefInEvenIdeal.τ).loc Cert.RefInEvenIdeal.main_arg1) = m ((c.tc : Thread Cert.InEvenIdeal.nD Cert.InEvenIdeal.τ).loc Cert.InEvenIdeal.main_arg1)
      ∧ m' ((c.tc : Thread Cert.RefInEvenIdeal.nD Cert.RefInEvenIdeal.τ).loc Cert.RefInEvenIdeal.main_arg2) = m ((c.tc : Thread Cert.InEvenIdeal.nD Cert.InEvenIdeal.τ).loc Cert.InEvenIdeal.main_arg2)
      ∧ m' ((c.tc : Thread Cert.RefInEvenIdeal.nD Cert.RefInEvenIdeal.τ).loc Cert.RefInEvenIdeal.main_arg3) = m ((c.tc : Thread Cert.InEvenIdeal.nD Cert.InEvenIdeal.τ).loc Cert.InEvenIdeal.main_arg3)) →
    ∃ (v0 : (c : Dev Cert.InEvenIdeal.nD) → Buf (Elt Ideal) ((c.tc : Thread Cert.InEvenIdeal.nD Cert.InEvenIdeal.τ).loc Cert.InEvenIdeal.main_v2_0)) (v1 : (c : Dev Cert.InEvenIdeal.nD) → Buf (Elt Ideal) ((c.tc : Thread Cert.InEvenIdeal.nD Cert.InEvenIdeal.τ).loc Cert.InEvenIdeal.main_v2_1)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v2_0) = v0 c
          ∧ r.2.mem ((c.tc : Thread Cert.InEvenIdeal.nD Cert.InEvenIdeal.τ).loc Cert.InEvenIdeal.main_v2_1) = v1 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
          ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
          ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3))
      ∧ θ_run (Cert.RefInEvenIdeal.defs (F := Ideal)) (onTc (τ := Cert.RefInEvenIdeal.τ) (Cert.RefInEvenIdeal.main (F := Ideal))) ⟨m', fun _ => 0, g'⟩ (fun r => ∀ c : Dev Cert.RefInEvenIdeal.nD,
          r.2.mem ((c.tc : Thread Cert.RefInEvenIdeal.nD Cert.RefInEvenIdeal.τ).loc Cert.RefInEvenIdeal.main_v27) = v0 c
          ∧ r.2.mem ((c.tc : Thread Cert.RefInEvenIdeal.nD Cert.RefInEvenIdeal.τ).loc Cert.RefInEvenIdeal.main_v28) = v1 c
          ∧ r.2.mem ((c.tc : Thread Cert.RefInEvenIdeal.nD Cert.RefInEvenIdeal.τ).loc Cert.RefInEvenIdeal.main_arg0) = m' ((c.tc : Thread Cert.RefInEvenIdeal.nD Cert.RefInEvenIdeal.τ).loc Cert.RefInEvenIdeal.main_arg0)
          ∧ r.2.mem ((c.tc : Thread Cert.RefInEvenIdeal.nD Cert.RefInEvenIdeal.τ).loc Cert.RefInEvenIdeal.main_arg1) = m' ((c.tc : Thread Cert.RefInEvenIdeal.nD Cert.RefInEvenIdeal.τ).loc Cert.RefInEvenIdeal.main_arg1)
          ∧ r.2.mem ((c.tc : Thread Cert.RefInEvenIdeal.nD Cert.RefInEvenIdeal.τ).loc Cert.RefInEvenIdeal.main_arg2) = m' ((c.tc : Thread Cert.RefInEvenIdeal.nD Cert.RefInEvenIdeal.τ).loc Cert.RefInEvenIdeal.main_arg2)
          ∧ r.2.mem ((c.tc : Thread Cert.RefInEvenIdeal.nD Cert.RefInEvenIdeal.τ).loc Cert.RefInEvenIdeal.main_arg3) = m' ((c.tc : Thread Cert.RefInEvenIdeal.nD Cert.RefInEvenIdeal.τ).loc Cert.RefInEvenIdeal.main_arg3))

def preserves_InOdd_InOddIdeal : Prop :=
  True

def algebraic_InOddIdeal_RefInOddIdeal [hInOddIdeal : Cert.InOddIdeal.Facts] [hRefInOddIdeal : Cert.RefInOddIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.RefInOddIdeal.nD Cert.RefInOddIdeal.τ Cert.RefInOddIdeal.sig) → Buf (Elt Ideal) ℓ) (g' : Dev Cert.RefInOddIdeal.nD → PrngReg), Pre_InOddIdeal m →
    (∀ c : Dev Cert.InOddIdeal.nD,
      m' ((c.tc : Thread Cert.RefInOddIdeal.nD Cert.RefInOddIdeal.τ).loc Cert.RefInOddIdeal.main_arg0) = m ((c.tc : Thread Cert.InOddIdeal.nD Cert.InOddIdeal.τ).loc Cert.InOddIdeal.main_arg0)
      ∧ m' ((c.tc : Thread Cert.RefInOddIdeal.nD Cert.RefInOddIdeal.τ).loc Cert.RefInOddIdeal.main_arg1) = m ((c.tc : Thread Cert.InOddIdeal.nD Cert.InOddIdeal.τ).loc Cert.InOddIdeal.main_arg1)
      ∧ m' ((c.tc : Thread Cert.RefInOddIdeal.nD Cert.RefInOddIdeal.τ).loc Cert.RefInOddIdeal.main_arg2) = m ((c.tc : Thread Cert.InOddIdeal.nD Cert.InOddIdeal.τ).loc Cert.InOddIdeal.main_arg2)
      ∧ m' ((c.tc : Thread Cert.RefInOddIdeal.nD Cert.RefInOddIdeal.τ).loc Cert.RefInOddIdeal.main_arg3) = m ((c.tc : Thread Cert.InOddIdeal.nD Cert.InOddIdeal.τ).loc Cert.InOddIdeal.main_arg3)) →
    ∃ (v0 : (c : Dev Cert.InOddIdeal.nD) → Buf (Elt Ideal) ((c.tc : Thread Cert.InOddIdeal.nD Cert.InOddIdeal.τ).loc Cert.InOddIdeal.main_v2_0)) (v1 : (c : Dev Cert.InOddIdeal.nD) → Buf (Elt Ideal) ((c.tc : Thread Cert.InOddIdeal.nD Cert.InOddIdeal.τ).loc Cert.InOddIdeal.main_v2_1)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v2_0) = v0 c
          ∧ r.2.mem ((c.tc : Thread Cert.InOddIdeal.nD Cert.InOddIdeal.τ).loc Cert.InOddIdeal.main_v2_1) = v1 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
          ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
          ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3))
      ∧ θ_run (Cert.RefInOddIdeal.defs (F := Ideal)) (onTc (τ := Cert.RefInOddIdeal.τ) (Cert.RefInOddIdeal.main (F := Ideal))) ⟨m', fun _ => 0, g'⟩ (fun r => ∀ c : Dev Cert.RefInOddIdeal.nD,
          r.2.mem ((c.tc : Thread Cert.RefInOddIdeal.nD Cert.RefInOddIdeal.τ).loc Cert.RefInOddIdeal.main_v27) = v0 c
          ∧ r.2.mem ((c.tc : Thread Cert.RefInOddIdeal.nD Cert.RefInOddIdeal.τ).loc Cert.RefInOddIdeal.main_v28) = v1 c
          ∧ r.2.mem ((c.tc : Thread Cert.RefInOddIdeal.nD Cert.RefInOddIdeal.τ).loc Cert.RefInOddIdeal.main_arg0) = m' ((c.tc : Thread Cert.RefInOddIdeal.nD Cert.RefInOddIdeal.τ).loc Cert.RefInOddIdeal.main_arg0)
          ∧ r.2.mem ((c.tc : Thread Cert.RefInOddIdeal.nD Cert.RefInOddIdeal.τ).loc Cert.RefInOddIdeal.main_arg1) = m' ((c.tc : Thread Cert.RefInOddIdeal.nD Cert.RefInOddIdeal.τ).loc Cert.RefInOddIdeal.main_arg1)
          ∧ r.2.mem ((c.tc : Thread Cert.RefInOddIdeal.nD Cert.RefInOddIdeal.τ).loc Cert.RefInOddIdeal.main_arg2) = m' ((c.tc : Thread Cert.RefInOddIdeal.nD Cert.RefInOddIdeal.τ).loc Cert.RefInOddIdeal.main_arg2)
          ∧ r.2.mem ((c.tc : Thread Cert.RefInOddIdeal.nD Cert.RefInOddIdeal.τ).loc Cert.RefInOddIdeal.main_arg3) = m' ((c.tc : Thread Cert.RefInOddIdeal.nD Cert.RefInOddIdeal.τ).loc Cert.RefInOddIdeal.main_arg3))

def preserves_OutEven_OutEvenIdeal : Prop :=
  True

def algebraic_OutEvenIdeal_RefOutEvenIdeal [hOutEvenIdeal : Cert.OutEvenIdeal.Facts] [hRefOutEvenIdeal : Cert.RefOutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg)
    (m' : (ℓ : Loc Cert.RefOutEvenIdeal.nD Cert.RefOutEvenIdeal.τ Cert.RefOutEvenIdeal.sig) → Buf (Elt Ideal) ℓ) (g' : Dev Cert.RefOutEvenIdeal.nD → PrngReg), Pre_OutEvenIdeal m →
    (∀ c : Dev Cert.OutEvenIdeal.nD,
      m' ((c.tc : Thread Cert.RefOutEvenIdeal.nD Cert.RefOutEvenIdeal.τ).loc Cert.RefOutEvenIdeal.main_arg0) = m ((c.tc : Thread Cert.OutEvenIdeal.nD Cert.OutEvenIdeal.τ).loc Cert.OutEvenIdeal.main_arg0)
      ∧ m' ((c.tc : Thread Cert.RefOutEvenIdeal.nD Cert.RefOutEvenIdeal.τ).loc Cert.RefOutEvenIdeal.main_arg1) = m ((c.tc : Thread Cert.OutEvenIdeal.nD Cert.OutEvenIdeal.τ).loc Cert.OutEvenIdeal.main_arg1)
      ∧ m' ((c.tc : Thread Cert.RefOutEvenIdeal.nD Cert.RefOutEvenIdeal.τ).loc Cert.RefOutEvenIdeal.main_arg2) = m ((c.tc : Thread Cert.OutEvenIdeal.nD Cert.OutEvenIdeal.τ).loc Cert.OutEvenIdeal.main_arg2)
      ∧ m' ((c.tc : Thread Cert.RefOutEvenIdeal.nD Cert.RefOutEvenIdeal.τ).loc Cert.RefOutEvenIdeal.main_arg3) = m ((c.tc : Thread Cert.OutEvenIdeal.nD Cert.OutEvenIdeal.τ).loc Cert.OutEvenIdeal.main_arg3)
      ∧ m' ((c.tc : Thread Cert.RefOutEvenIdeal.nD Cert.RefOutEvenIdeal.τ).loc Cert.RefOutEvenIdeal.main_arg4) = m ((c.tc : Thread Cert.OutEvenIdeal.nD Cert.OutEvenIdeal.τ).loc Cert.OutEvenIdeal.main_arg4)) →
    ∃ (v0 : (c : Dev Cert.OutEvenIdeal.nD) → Buf (Elt Ideal) ((c.tc : Thread Cert.OutEvenIdeal.nD Cert.OutEvenIdeal.τ).loc Cert.OutEvenIdeal.main_v1)),
      θ_run (Cert.OutEvenIdeal.defs (F := Ideal)) (onTc (τ := Cert.OutEvenIdeal.τ) (Cert.OutEvenIdeal.main (F := Ideal))) ⟨m, fun _ => 0, g⟩ (fun r => ∀ c : Dev Cert.OutEvenIdeal.nD,
          r.2.mem ((c.tc : Thread Cert.OutEvenIdeal.nD Cert.OutEvenIdeal.τ).loc Cert.OutEvenIdeal.main_v1) = v0 c
          ∧ r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
          ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
          ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
          ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
          ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4))
      ∧ θ_run (Cert.RefOutEvenIdeal.defs (F := Ideal)) (onTc (τ := Cert.RefOutEvenIdeal.τ) (Cert.RefOutEvenIdeal.main (F := Ideal))) ⟨m', fun _ => 0, g'⟩ (fun r => ∀ c : Dev Cert.RefOutEvenIdeal.nD,
          r.2.mem ((c.tc : Thread Cert.RefOutEvenIdeal.nD Cert.RefOutEvenIdeal.τ).loc Cert.RefOutEvenIdeal.main_v9) = v0 c
          ∧ r.2.mem ((c.tc : Thread Cert.RefOutEvenIdeal.nD Cert.RefOutEvenIdeal.τ).loc Cert.RefOutEvenIdeal.main_arg0) = m' ((c.tc : Thread Cert.RefOutEvenIdeal.nD Cert.RefOutEvenIdeal.τ).loc Cert.RefOutEvenIdeal.main_arg0)
          ∧ r.2.mem ((c.tc : Thread Cert.RefOutEvenIdeal.nD Cert.RefOutEvenIdeal.τ).loc Cert.RefOutEvenIdeal.main_arg1) = m' ((c.tc : Thread Cert.RefOutEvenIdeal.nD Cert.RefOutEvenIdeal.τ).loc Cert.RefOutEvenIdeal.main_arg1)
          ∧ r.2.mem ((c.tc : Thread Cert.RefOutEvenIdeal.nD Cert.RefOutEvenIdeal.τ).loc Cert.RefOutEvenIdeal.main_arg2) = m' ((c.tc : Thread Cert.RefOutEvenIdeal.nD Cert.RefOutEvenIdeal.τ).loc Cert.RefOutEvenIdeal.main_arg2)
          ∧ r.2.mem ((c.tc : Thread Cert.RefOutEvenIdeal.nD Cert.RefOutEvenIdeal.τ).loc Cert.RefOutEvenIdeal.main_arg3) = m' ((c.tc : Thread Cert.RefOutEvenIdeal.nD Cert.RefOutEvenIdeal.τ).loc Cert.RefOutEvenIdeal.main_arg3)
          ∧ r.2.mem ((c.tc : Thread Cert.RefOutEvenIdeal.nD Cert.RefOutEvenIdeal.τ).loc Cert.RefOutEvenIdeal.main_arg4) = m' ((c.tc : Thread Cert.RefOutEvenIdeal.nD Cert.RefOutEvenIdeal.τ).loc Cert.RefOutEvenIdeal.main_arg4))

def preserves_OutOdd_OutOddIdeal : Prop :=
  True

def algebraic_OutOddIdeal_RefOutOddIdeal [hOutOddIdeal : Cert.OutOddIdeal.Facts] [hRefOutOddIdeal : Cert.RefOutOddIdeal.Facts] : Prop :=
  ∀ (m : (ℓ : Loc Cert.OutOddIdeal.nD Cert.OutOddIdeal.τ Cert.OutOddIdeal.sig) → Buf (Elt Ideal) ℓ) (g : Dev Cert.OutOddIdeal.nD → PrngReg)
    (m' : (ℓ : Loc Cert.RefOutOddIdeal.nD Cert.RefOutOddIdeal.τ Cert.RefOutOddIdeal.sig) → Buf (Elt Ideal) ℓ) (g' : Dev Cert.RefOutOddIdeal.nD → PrngReg), Pre_OutOddIdeal m →
    (∀ c : Dev Cert.OutOddIdeal.nD,
      m' ((c.tc : Thread Cert.RefOutOddIdeal.nD Cert.RefOutOddIdeal.τ).loc Cert.RefOutOddIdeal.main_arg0) = m ((c.tc : Thread Cert.OutOddIdeal.nD Cert.OutOddIdeal.τ).loc Cert.OutOddIdeal.main_arg0)
      ∧ m' ((c.tc : Thread Cert.RefOutOddIdeal.nD Cert.RefOutOddIdeal.τ).loc Cert.RefOutOddIdeal.main_arg1) = m ((c.tc : Thread Cert.OutOddIdeal.nD Cert.OutOddIdeal.τ).loc Cert.OutOddIdeal.main_arg1)
      ∧ m' ((c.tc : Thread Cert.RefOutOddIdeal.nD Cert.RefOutOddIdeal.τ).loc Cert.RefOutOddIdeal.main_arg2) = m ((c.tc : Thread Cert.OutOddIdeal.nD Cert.OutOddIdeal.τ).loc Cert.OutOddIdeal.main_arg2)
      ∧ m' ((c.tc : Thread Cert.RefOutOddIdeal.nD Cert.RefOutOddIdeal.τ).loc Cert.RefOutOddIdeal.main_arg3) = m ((c.tc : Thread Cert.OutOddIdeal.nD Cert.OutOddIdeal.τ).loc Cert.OutOddIdeal.main_arg3)) →
    ∃ (v0 : (c : Dev Cert.OutOddIdeal.nD) → Buf (Elt Ideal) ((c.tc : Thread Cert.OutOddIdeal.nD Cert.OutOddIdeal.τ).loc Cert.OutOddIdeal.main_v1)),
      θ_run (Cert.OutOddIdeal.defs (F := Ideal)) (onTc (τ := Cert.OutOddIdeal.τ) (Cert.OutOddIdeal.main (F := Ideal))) ⟨m, fun _ => 0, g⟩ (fun r => ∀ c : Dev Cert.OutOddIdeal.nD,
          r.2.mem ((c.tc : Thread Cert.OutOddIdeal.nD Cert.OutOddIdeal.τ).loc Cert.OutOddIdeal.main_v1) = v0 c
          ∧ r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
          ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
          ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
          ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3))
      ∧ θ_run (Cert.RefOutOddIdeal.defs (F := Ideal)) (onTc (τ := Cert.RefOutOddIdeal.τ) (Cert.RefOutOddIdeal.main (F := Ideal))) ⟨m', fun _ => 0, g'⟩ (fun r => ∀ c : Dev Cert.RefOutOddIdeal.nD,
          r.2.mem ((c.tc : Thread Cert.RefOutOddIdeal.nD Cert.RefOutOddIdeal.τ).loc Cert.RefOutOddIdeal.main_v7) = v0 c
          ∧ r.2.mem ((c.tc : Thread Cert.RefOutOddIdeal.nD Cert.RefOutOddIdeal.τ).loc Cert.RefOutOddIdeal.main_arg0) = m' ((c.tc : Thread Cert.RefOutOddIdeal.nD Cert.RefOutOddIdeal.τ).loc Cert.RefOutOddIdeal.main_arg0)
          ∧ r.2.mem ((c.tc : Thread Cert.RefOutOddIdeal.nD Cert.RefOutOddIdeal.τ).loc Cert.RefOutOddIdeal.main_arg1) = m' ((c.tc : Thread Cert.RefOutOddIdeal.nD Cert.RefOutOddIdeal.τ).loc Cert.RefOutOddIdeal.main_arg1)
          ∧ r.2.mem ((c.tc : Thread Cert.RefOutOddIdeal.nD Cert.RefOutOddIdeal.τ).loc Cert.RefOutOddIdeal.main_arg2) = m' ((c.tc : Thread Cert.RefOutOddIdeal.nD Cert.RefOutOddIdeal.τ).loc Cert.RefOutOddIdeal.main_arg2)
          ∧ r.2.mem ((c.tc : Thread Cert.RefOutOddIdeal.nD Cert.RefOutOddIdeal.τ).loc Cert.RefOutOddIdeal.main_arg3) = m' ((c.tc : Thread Cert.RefOutOddIdeal.nD Cert.RefOutOddIdeal.τ).loc Cert.RefOutOddIdeal.main_arg3))

def preserves_OutLast_OutLastIdeal : Prop :=
  True

def algebraic_OutLastIdeal_RefOutLastIdeal [hOutLastIdeal : Cert.OutLastIdeal.Facts] [hRefOutLastIdeal : Cert.RefOutLastIdeal.Facts] : Prop :=
  ∀ (m : (ℓ : Loc Cert.OutLastIdeal.nD Cert.OutLastIdeal.τ Cert.OutLastIdeal.sig) → Buf (Elt Ideal) ℓ) (g : Dev Cert.OutLastIdeal.nD → PrngReg)
    (m' : (ℓ : Loc Cert.RefOutLastIdeal.nD Cert.RefOutLastIdeal.τ Cert.RefOutLastIdeal.sig) → Buf (Elt Ideal) ℓ) (g' : Dev Cert.RefOutLastIdeal.nD → PrngReg), Pre_OutLastIdeal m →
    (∀ c : Dev Cert.OutLastIdeal.nD,
      m' ((c.tc : Thread Cert.RefOutLastIdeal.nD Cert.RefOutLastIdeal.τ).loc Cert.RefOutLastIdeal.main_arg0) = m ((c.tc : Thread Cert.OutLastIdeal.nD Cert.OutLastIdeal.τ).loc Cert.OutLastIdeal.main_arg0)
      ∧ m' ((c.tc : Thread Cert.RefOutLastIdeal.nD Cert.RefOutLastIdeal.τ).loc Cert.RefOutLastIdeal.main_arg1) = m ((c.tc : Thread Cert.OutLastIdeal.nD Cert.OutLastIdeal.τ).loc Cert.OutLastIdeal.main_arg1)
      ∧ m' ((c.tc : Thread Cert.RefOutLastIdeal.nD Cert.RefOutLastIdeal.τ).loc Cert.RefOutLastIdeal.main_arg2) = m ((c.tc : Thread Cert.OutLastIdeal.nD Cert.OutLastIdeal.τ).loc Cert.OutLastIdeal.main_arg2)
      ∧ m' ((c.tc : Thread Cert.RefOutLastIdeal.nD Cert.RefOutLastIdeal.τ).loc Cert.RefOutLastIdeal.main_arg3) = m ((c.tc : Thread Cert.OutLastIdeal.nD Cert.OutLastIdeal.τ).loc Cert.OutLastIdeal.main_arg3)
      ∧ m' ((c.tc : Thread Cert.RefOutLastIdeal.nD Cert.RefOutLastIdeal.τ).loc Cert.RefOutLastIdeal.main_arg4) = m ((c.tc : Thread Cert.OutLastIdeal.nD Cert.OutLastIdeal.τ).loc Cert.OutLastIdeal.main_arg4)) →
    ∃ (v0 : (c : Dev Cert.OutLastIdeal.nD) → Buf (Elt Ideal) ((c.tc : Thread Cert.OutLastIdeal.nD Cert.OutLastIdeal.τ).loc Cert.OutLastIdeal.main_v2)),
      θ_run (Cert.OutLastIdeal.defs (F := Ideal)) (onTc (τ := Cert.OutLastIdeal.τ) (Cert.OutLastIdeal.main (F := Ideal))) ⟨m, fun _ => 0, g⟩ (fun r => ∀ c : Dev Cert.OutLastIdeal.nD,
          r.2.mem ((c.tc : Thread Cert.OutLastIdeal.nD Cert.OutLastIdeal.τ).loc Cert.OutLastIdeal.main_v2) = v0 c
          ∧ r.2.mem ((c.tc : Thread Cert.OutLastIdeal.nD Cert.OutLastIdeal.τ).loc Cert.OutLastIdeal.main_arg0) = m ((c.tc : Thread Cert.OutLastIdeal.nD Cert.OutLastIdeal.τ).loc Cert.OutLastIdeal.main_arg0)
          ∧ r.2.mem ((c.tc : Thread Cert.OutLastIdeal.nD Cert.OutLastIdeal.τ).loc Cert.OutLastIdeal.main_arg1) = m ((c.tc : Thread Cert.OutLastIdeal.nD Cert.OutLastIdeal.τ).loc Cert.OutLastIdeal.main_arg1)
          ∧ r.2.mem ((c.tc : Thread Cert.OutLastIdeal.nD Cert.OutLastIdeal.τ).loc Cert.OutLastIdeal.main_arg2) = m ((c.tc : Thread Cert.OutLastIdeal.nD Cert.OutLastIdeal.τ).loc Cert.OutLastIdeal.main_arg2)
          ∧ r.2.mem ((c.tc : Thread Cert.OutLastIdeal.nD Cert.OutLastIdeal.τ).loc Cert.OutLastIdeal.main_arg3) = m ((c.tc : Thread Cert.OutLastIdeal.nD Cert.OutLastIdeal.τ).loc Cert.OutLastIdeal.main_arg3)
          ∧ r.2.mem ((c.tc : Thread Cert.OutLastIdeal.nD Cert.OutLastIdeal.τ).loc Cert.OutLastIdeal.main_arg4) = m ((c.tc : Thread Cert.OutLastIdeal.nD Cert.OutLastIdeal.τ).loc Cert.OutLastIdeal.main_arg4))
      ∧ θ_run (Cert.RefOutLastIdeal.defs (F := Ideal)) (onTc (τ := Cert.RefOutLastIdeal.τ) (Cert.RefOutLastIdeal.main (F := Ideal))) ⟨m', fun _ => 0, g'⟩ (fun r => ∀ c : Dev Cert.RefOutLastIdeal.nD,
          r.2.mem ((c.tc : Thread Cert.RefOutLastIdeal.nD Cert.RefOutLastIdeal.τ).loc Cert.RefOutLastIdeal.main_v20) = v0 c
          ∧ r.2.mem ((c.tc : Thread Cert.RefOutLastIdeal.nD Cert.RefOutLastIdeal.τ).loc Cert.RefOutLastIdeal.main_arg0) = m' ((c.tc : Thread Cert.RefOutLastIdeal.nD Cert.RefOutLastIdeal.τ).loc Cert.RefOutLastIdeal.main_arg0)
          ∧ r.2.mem ((c.tc : Thread Cert.RefOutLastIdeal.nD Cert.RefOutLastIdeal.τ).loc Cert.RefOutLastIdeal.main_arg1) = m' ((c.tc : Thread Cert.RefOutLastIdeal.nD Cert.RefOutLastIdeal.τ).loc Cert.RefOutLastIdeal.main_arg1)
          ∧ r.2.mem ((c.tc : Thread Cert.RefOutLastIdeal.nD Cert.RefOutLastIdeal.τ).loc Cert.RefOutLastIdeal.main_arg2) = m' ((c.tc : Thread Cert.RefOutLastIdeal.nD Cert.RefOutLastIdeal.τ).loc Cert.RefOutLastIdeal.main_arg2)
          ∧ r.2.mem ((c.tc : Thread Cert.RefOutLastIdeal.nD Cert.RefOutLastIdeal.τ).loc Cert.RefOutLastIdeal.main_arg3) = m' ((c.tc : Thread Cert.RefOutLastIdeal.nD Cert.RefOutLastIdeal.τ).loc Cert.RefOutLastIdeal.main_arg3)
          ∧ r.2.mem ((c.tc : Thread Cert.RefOutLastIdeal.nD Cert.RefOutLastIdeal.τ).loc Cert.RefOutLastIdeal.main_arg4) = m' ((c.tc : Thread Cert.RefOutLastIdeal.nD Cert.RefOutLastIdeal.τ).loc Cert.RefOutLastIdeal.main_arg4))

def preserves_Na_NaIdeal : Prop :=
  True

def algebraic_NaIdeal_RefNaIdeal_pre_na_scores_finite [hNaIdeal : Cert.NaIdeal.Facts] [hRefNaIdeal : Cert.RefNaIdeal.Facts] [hPre_na_scores_finite : Cert.Pre_na_scores_finite.Facts] : Prop :=
  ∀ (m : (ℓ : Loc Cert.NaIdeal.nD Cert.NaIdeal.τ Cert.NaIdeal.sig) → Buf (Elt Ideal) ℓ) (g : Dev Cert.NaIdeal.nD → PrngReg)
    (m' : (ℓ : Loc Cert.RefNaIdeal.nD Cert.RefNaIdeal.τ Cert.RefNaIdeal.sig) → Buf (Elt Ideal) ℓ) (g' : Dev Cert.RefNaIdeal.nD → PrngReg), Pre_NaIdeal_na_scores_finite m →
    (∀ c : Dev Cert.NaIdeal.nD,
      m' ((c.tc : Thread Cert.RefNaIdeal.nD Cert.RefNaIdeal.τ).loc Cert.RefNaIdeal.main_arg0) = m ((c.tc : Thread Cert.NaIdeal.nD Cert.NaIdeal.τ).loc Cert.NaIdeal.main_arg0)
      ∧ m' ((c.tc : Thread Cert.RefNaIdeal.nD Cert.RefNaIdeal.τ).loc Cert.RefNaIdeal.main_arg1) = m ((c.tc : Thread Cert.NaIdeal.nD Cert.NaIdeal.τ).loc Cert.NaIdeal.main_arg1)
      ∧ m' ((c.tc : Thread Cert.RefNaIdeal.nD Cert.RefNaIdeal.τ).loc Cert.RefNaIdeal.main_arg2) = m ((c.tc : Thread Cert.NaIdeal.nD Cert.NaIdeal.τ).loc Cert.NaIdeal.main_arg2)) →
    ∃ (v0 : (c : Dev Cert.NaIdeal.nD) → Buf (Elt Ideal) ((c.tc : Thread Cert.NaIdeal.nD Cert.NaIdeal.τ).loc Cert.NaIdeal.main_v0)),
      θ_run (Cert.NaIdeal.defs (F := Ideal)) (onTc (τ := Cert.NaIdeal.τ) (Cert.NaIdeal.main (F := Ideal))) ⟨m, fun _ => 0, g⟩ (fun r => ∀ c : Dev Cert.NaIdeal.nD,
          r.2.mem ((c.tc : Thread Cert.NaIdeal.nD Cert.NaIdeal.τ).loc Cert.NaIdeal.main_v0) = v0 c
          ∧ r.2.mem ((c.tc : Thread Cert.NaIdeal.nD Cert.NaIdeal.τ).loc Cert.NaIdeal.main_arg0) = m ((c.tc : Thread Cert.NaIdeal.nD Cert.NaIdeal.τ).loc Cert.NaIdeal.main_arg0)
          ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
          ∧ r.2.mem ((c.tc : Thread Cert.NaIdeal.nD Cert.NaIdeal.τ).loc Cert.NaIdeal.main_arg2) = m ((c.tc : Thread Cert.NaIdeal.nD Cert.NaIdeal.τ).loc Cert.NaIdeal.main_arg2))
      ∧ θ_run (Cert.RefNaIdeal.defs (F := Ideal)) (onTc (τ := Cert.RefNaIdeal.τ) (Cert.RefNaIdeal.main (F := Ideal))) ⟨m', fun _ => 0, g'⟩ (fun r => ∀ c : Dev Cert.RefNaIdeal.nD,
          r.2.mem ((c.tc : Thread Cert.RefNaIdeal.nD Cert.RefNaIdeal.τ).loc Cert.RefNaIdeal.main_v64) = v0 c
          ∧ r.2.mem ((c.tc : Thread Cert.RefNaIdeal.nD Cert.RefNaIdeal.τ).loc Cert.RefNaIdeal.main_arg0) = m' ((c.tc : Thread Cert.RefNaIdeal.nD Cert.RefNaIdeal.τ).loc Cert.RefNaIdeal.main_arg0)
          ∧ r.2.mem ((c.tc : Thread Cert.RefNaIdeal.nD Cert.RefNaIdeal.τ).loc Cert.RefNaIdeal.main_arg1) = m' ((c.tc : Thread Cert.RefNaIdeal.nD Cert.RefNaIdeal.τ).loc Cert.RefNaIdeal.main_arg1)
          ∧ r.2.mem ((c.tc : Thread Cert.RefNaIdeal.nD Cert.RefNaIdeal.τ).loc Cert.RefNaIdeal.main_arg2) = m' ((c.tc : Thread Cert.RefNaIdeal.nD Cert.RefNaIdeal.τ).loc Cert.RefNaIdeal.main_arg2))

def preserves_Ada_AdaIdeal : Prop :=
  True

def algebraic_AdaIdeal_RefAdaIdeal [hAdaIdeal : Cert.AdaIdeal.Facts] [hRefAdaIdeal : Cert.RefAdaIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.RefAdaIdeal.nD Cert.RefAdaIdeal.τ Cert.RefAdaIdeal.sig) → Buf (Elt Ideal) ℓ) (g' : Dev Cert.RefAdaIdeal.nD → PrngReg), Pre_AdaIdeal m →
    (∀ c : Dev Cert.AdaIdeal.nD,
      m' ((c.tc : Thread Cert.RefAdaIdeal.nD Cert.RefAdaIdeal.τ).loc Cert.RefAdaIdeal.main_arg0) = m ((c.tc : Thread Cert.AdaIdeal.nD Cert.AdaIdeal.τ).loc Cert.AdaIdeal.main_arg0)
      ∧ m' ((c.tc : Thread Cert.RefAdaIdeal.nD Cert.RefAdaIdeal.τ).loc Cert.RefAdaIdeal.main_arg1) = m ((c.tc : Thread Cert.AdaIdeal.nD Cert.AdaIdeal.τ).loc Cert.AdaIdeal.main_arg1)
      ∧ m' ((c.tc : Thread Cert.RefAdaIdeal.nD Cert.RefAdaIdeal.τ).loc Cert.RefAdaIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.RefAdaIdeal.defs (F := Ideal)) (onTc (τ := Cert.RefAdaIdeal.τ) (Cert.RefAdaIdeal.main (F := Ideal))) ⟨m', fun _ => 0, g'⟩ (fun r => ∀ c : Dev Cert.RefAdaIdeal.nD,
          r.2.mem ((c.tc : Thread Cert.RefAdaIdeal.nD Cert.RefAdaIdeal.τ).loc Cert.RefAdaIdeal.main_v5) = v0 c
          ∧ r.2.mem ((c.tc : Thread Cert.RefAdaIdeal.nD Cert.RefAdaIdeal.τ).loc Cert.RefAdaIdeal.main_arg0) = m' ((c.tc : Thread Cert.RefAdaIdeal.nD Cert.RefAdaIdeal.τ).loc Cert.RefAdaIdeal.main_arg0)
          ∧ r.2.mem ((c.tc : Thread Cert.RefAdaIdeal.nD Cert.RefAdaIdeal.τ).loc Cert.RefAdaIdeal.main_arg1) = m' ((c.tc : Thread Cert.RefAdaIdeal.nD Cert.RefAdaIdeal.τ).loc Cert.RefAdaIdeal.main_arg1)
          ∧ r.2.mem ((c.tc : Thread Cert.RefAdaIdeal.nD Cert.RefAdaIdeal.τ).loc Cert.RefAdaIdeal.main_arg2) = m' ((c.tc : Thread Cert.RefAdaIdeal.nD Cert.RefAdaIdeal.τ).loc Cert.RefAdaIdeal.main_arg2))

def preserves_Rpb_RpbIdeal : Prop :=
  True

def algebraic_RpbIdeal_RefRpbIdeal [hRpbIdeal : Cert.RpbIdeal.Facts] [hRefRpbIdeal : Cert.RefRpbIdeal.Facts] : Prop :=
  ∀ (m : (ℓ : Loc Cert.RpbIdeal.nD Cert.RpbIdeal.τ Cert.RpbIdeal.sig) → Buf (Elt Ideal) ℓ) (g : Dev Cert.RpbIdeal.nD → PrngReg)
    (m' : (ℓ : Loc Cert.RefRpbIdeal.nD Cert.RefRpbIdeal.τ Cert.RefRpbIdeal.sig) → Buf (Elt Ideal) ℓ) (g' : Dev Cert.RefRpbIdeal.nD → PrngReg), Pre_RpbIdeal m →
    (∀ c : Dev Cert.RpbIdeal.nD,
      m' ((c.tc : Thread Cert.RefRpbIdeal.nD Cert.RefRpbIdeal.τ).loc Cert.RefRpbIdeal.main_arg0) = m ((c.tc : Thread Cert.RpbIdeal.nD Cert.RpbIdeal.τ).loc Cert.RpbIdeal.main_arg0)) →
    ∃ (v0 : (c : Dev Cert.RpbIdeal.nD) → Buf (Elt Ideal) ((c.tc : Thread Cert.RpbIdeal.nD Cert.RpbIdeal.τ).loc Cert.RpbIdeal.main_v1)),
      θ_run (Cert.RpbIdeal.defs (F := Ideal)) (onTc (τ := Cert.RpbIdeal.τ) (Cert.RpbIdeal.main (F := Ideal))) ⟨m, fun _ => 0, g⟩ (fun r => ∀ c : Dev Cert.RpbIdeal.nD,
          r.2.mem ((c.tc : Thread Cert.RpbIdeal.nD Cert.RpbIdeal.τ).loc Cert.RpbIdeal.main_v1) = v0 c
          ∧ r.2.mem ((c.tc : Thread Cert.RpbIdeal.nD Cert.RpbIdeal.τ).loc Cert.RpbIdeal.main_arg0) = m ((c.tc : Thread Cert.RpbIdeal.nD Cert.RpbIdeal.τ).loc Cert.RpbIdeal.main_arg0))
      ∧ θ_run (Cert.RefRpbIdeal.defs (F := Ideal)) (onTc (τ := Cert.RefRpbIdeal.τ) (Cert.RefRpbIdeal.main (F := Ideal))) ⟨m', fun _ => 0, g'⟩ (fun r => ∀ c : Dev Cert.RefRpbIdeal.nD,
          r.2.mem ((c.tc : Thread Cert.RefRpbIdeal.nD Cert.RefRpbIdeal.τ).loc Cert.RefRpbIdeal.main_v18) = v0 c
          ∧ r.2.mem ((c.tc : Thread Cert.RefRpbIdeal.nD Cert.RefRpbIdeal.τ).loc Cert.RefRpbIdeal.main_arg0) = m' ((c.tc : Thread Cert.RefRpbIdeal.nD Cert.RefRpbIdeal.τ).loc Cert.RefRpbIdeal.main_arg0))

def preserves_T5_T5Ideal : Prop :=
  True

def algebraic_T5Ideal_RefT5Ideal_pre_buckets_in_range [hT5Ideal : Cert.T5Ideal.Facts] [hRefT5Ideal : Cert.RefT5Ideal.Facts] [hPre_buckets_in_range : Cert.Pre_buckets_in_range.Facts] : Prop :=
  ∀ (m : (ℓ : Loc Cert.T5Ideal.nD Cert.T5Ideal.τ Cert.T5Ideal.sig) → Buf (Elt Ideal) ℓ) (g : Dev Cert.T5Ideal.nD → PrngReg)
    (m' : (ℓ : Loc Cert.RefT5Ideal.nD Cert.RefT5Ideal.τ Cert.RefT5Ideal.sig) → Buf (Elt Ideal) ℓ) (g' : Dev Cert.RefT5Ideal.nD → PrngReg), Pre_T5Ideal_buckets_in_range m →
    (∀ c : Dev Cert.T5Ideal.nD,
      m' ((c.tc : Thread Cert.RefT5Ideal.nD Cert.RefT5Ideal.τ).loc Cert.RefT5Ideal.main_arg0) = m ((c.tc : Thread Cert.T5Ideal.nD Cert.T5Ideal.τ).loc Cert.T5Ideal.main_arg0)
      ∧ m' ((c.tc : Thread Cert.RefT5Ideal.nD Cert.RefT5Ideal.τ).loc Cert.RefT5Ideal.main_arg1) = m ((c.tc : Thread Cert.T5Ideal.nD Cert.T5Ideal.τ).loc Cert.T5Ideal.main_arg1)) →
    ∃ (v0 : (c : Dev Cert.T5Ideal.nD) → Buf (Elt Ideal) ((c.tc : Thread Cert.T5Ideal.nD Cert.T5Ideal.τ).loc Cert.T5Ideal.main_v0)),
      θ_run (Cert.T5Ideal.defs (F := Ideal)) (onTc (τ := Cert.T5Ideal.τ) (Cert.T5Ideal.main (F := Ideal))) ⟨m, fun _ => 0, g⟩ (fun r => ∀ c : Dev Cert.T5Ideal.nD,
          r.2.mem ((c.tc : Thread Cert.T5Ideal.nD Cert.T5Ideal.τ).loc Cert.T5Ideal.main_v0) = v0 c
          ∧ r.2.mem ((c.tc : Thread Cert.T5Ideal.nD Cert.T5Ideal.τ).loc Cert.T5Ideal.main_arg0) = m ((c.tc : Thread Cert.T5Ideal.nD Cert.T5Ideal.τ).loc Cert.T5Ideal.main_arg0)
          ∧ r.2.mem ((c.tc : Thread Cert.T5Ideal.nD Cert.T5Ideal.τ).loc Cert.T5Ideal.main_arg1) = m ((c.tc : Thread Cert.T5Ideal.nD Cert.T5Ideal.τ).loc Cert.T5Ideal.main_arg1))
      ∧ θ_run (Cert.RefT5Ideal.defs (F := Ideal)) (onTc (τ := Cert.RefT5Ideal.τ) (Cert.RefT5Ideal.main (F := Ideal))) ⟨m', fun _ => 0, g'⟩ (fun r => ∀ c : Dev Cert.RefT5Ideal.nD,
          r.2.mem ((c.tc : Thread Cert.RefT5Ideal.nD Cert.RefT5Ideal.τ).loc Cert.RefT5Ideal.main_v6) = v0 c
          ∧ r.2.mem ((c.tc : Thread Cert.RefT5Ideal.nD Cert.RefT5Ideal.τ).loc Cert.RefT5Ideal.main_arg0) = m' ((c.tc : Thread Cert.RefT5Ideal.nD Cert.RefT5Ideal.τ).loc Cert.RefT5Ideal.main_arg0)
          ∧ r.2.mem ((c.tc : Thread Cert.RefT5Ideal.nD Cert.RefT5Ideal.τ).loc Cert.RefT5Ideal.main_arg1) = m' ((c.tc : Thread Cert.RefT5Ideal.nD Cert.RefT5Ideal.τ).loc Cert.RefT5Ideal.main_arg1))

def preserves_Lru_LruIdeal : Prop :=
  True

def algebraic_LruIdeal_RefLruIdeal [hLruIdeal : Cert.LruIdeal.Facts] [hRefLruIdeal : Cert.RefLruIdeal.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.RefLruIdeal.nD Cert.RefLruIdeal.τ Cert.RefLruIdeal.sig) → Buf (Elt Ideal) ℓ) (g' : Dev Cert.RefLruIdeal.nD → PrngReg), Pre_LruIdeal m →
    (∀ c : Dev Cert.LruIdeal.nD,
      m' ((c.tc : Thread Cert.RefLruIdeal.nD Cert.RefLruIdeal.τ).loc Cert.RefLruIdeal.main_arg0) = m ((c.tc : Thread Cert.LruIdeal.nD Cert.LruIdeal.τ).loc Cert.LruIdeal.main_arg0)
      ∧ m' ((c.tc : Thread Cert.RefLruIdeal.nD Cert.RefLruIdeal.τ).loc Cert.RefLruIdeal.main_arg1) = m ((c.tc : Thread Cert.LruIdeal.nD Cert.LruIdeal.τ).loc Cert.LruIdeal.main_arg1)
      ∧ m' ((c.tc : Thread Cert.RefLruIdeal.nD Cert.RefLruIdeal.τ).loc Cert.RefLruIdeal.main_arg2) = m ((c.tc : Thread Cert.LruIdeal.nD Cert.LruIdeal.τ).loc Cert.LruIdeal.main_arg2)
      ∧ m' ((c.tc : Thread Cert.RefLruIdeal.nD Cert.RefLruIdeal.τ).loc Cert.RefLruIdeal.main_arg3) = m ((c.tc : Thread Cert.LruIdeal.nD Cert.LruIdeal.τ).loc Cert.LruIdeal.main_arg3)
      ∧ m' ((c.tc : Thread Cert.RefLruIdeal.nD Cert.RefLruIdeal.τ).loc Cert.RefLruIdeal.main_arg4) = m ((c.tc : Thread Cert.LruIdeal.nD Cert.LruIdeal.τ).loc Cert.LruIdeal.main_arg4)
      ∧ m' ((c.tc : Thread Cert.RefLruIdeal.nD Cert.RefLruIdeal.τ).loc Cert.RefLruIdeal.main_arg5) = m ((c.tc : Thread Cert.LruIdeal.nD Cert.LruIdeal.τ).loc Cert.LruIdeal.main_arg5)
      ∧ m' ((c.tc : Thread Cert.RefLruIdeal.nD Cert.RefLruIdeal.τ).loc Cert.RefLruIdeal.main_arg6) = m ((c.tc : Thread Cert.LruIdeal.nD Cert.LruIdeal.τ).loc Cert.LruIdeal.main_arg6)
      ∧ m' ((c.tc : Thread Cert.RefLruIdeal.nD Cert.RefLruIdeal.τ).loc Cert.RefLruIdeal.main_arg7) = m ((c.tc : Thread Cert.LruIdeal.nD Cert.LruIdeal.τ).loc Cert.LruIdeal.main_arg7)) →
    ∃ (v0 : (c : Dev Cert.LruIdeal.nD) → Buf (Elt Ideal) ((c.tc : Thread Cert.LruIdeal.nD Cert.LruIdeal.τ).loc Cert.LruIdeal.main_v80)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v80) = v0 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
          ∧ r.2.mem ((c.tc : Thread Cert.LruIdeal.nD Cert.LruIdeal.τ).loc Cert.LruIdeal.main_arg7) = m ((c.tc : Thread Cert.LruIdeal.nD Cert.LruIdeal.τ).loc Cert.LruIdeal.main_arg7))
      ∧ θ_run (Cert.RefLruIdeal.defs (F := Ideal)) (onTc (τ := Cert.RefLruIdeal.τ) (Cert.RefLruIdeal.main (F := Ideal))) ⟨m', fun _ => 0, g'⟩ (fun r => ∀ c : Dev Cert.RefLruIdeal.nD,
          r.2.mem ((c.tc : Thread Cert.RefLruIdeal.nD Cert.RefLruIdeal.τ).loc Cert.RefLruIdeal.main_v105) = v0 c
          ∧ r.2.mem ((c.tc : Thread Cert.RefLruIdeal.nD Cert.RefLruIdeal.τ).loc Cert.RefLruIdeal.main_arg0) = m' ((c.tc : Thread Cert.RefLruIdeal.nD Cert.RefLruIdeal.τ).loc Cert.RefLruIdeal.main_arg0)
          ∧ r.2.mem ((c.tc : Thread Cert.RefLruIdeal.nD Cert.RefLruIdeal.τ).loc Cert.RefLruIdeal.main_arg1) = m' ((c.tc : Thread Cert.RefLruIdeal.nD Cert.RefLruIdeal.τ).loc Cert.RefLruIdeal.main_arg1)
          ∧ r.2.mem ((c.tc : Thread Cert.RefLruIdeal.nD Cert.RefLruIdeal.τ).loc Cert.RefLruIdeal.main_arg2) = m' ((c.tc : Thread Cert.RefLruIdeal.nD Cert.RefLruIdeal.τ).loc Cert.RefLruIdeal.main_arg2)
          ∧ r.2.mem ((c.tc : Thread Cert.RefLruIdeal.nD Cert.RefLruIdeal.τ).loc Cert.RefLruIdeal.main_arg3) = m' ((c.tc : Thread Cert.RefLruIdeal.nD Cert.RefLruIdeal.τ).loc Cert.RefLruIdeal.main_arg3)
          ∧ r.2.mem ((c.tc : Thread Cert.RefLruIdeal.nD Cert.RefLruIdeal.τ).loc Cert.RefLruIdeal.main_arg4) = m' ((c.tc : Thread Cert.RefLruIdeal.nD Cert.RefLruIdeal.τ).loc Cert.RefLruIdeal.main_arg4)
          ∧ r.2.mem ((c.tc : Thread Cert.RefLruIdeal.nD Cert.RefLruIdeal.τ).loc Cert.RefLruIdeal.main_arg5) = m' ((c.tc : Thread Cert.RefLruIdeal.nD Cert.RefLruIdeal.τ).loc Cert.RefLruIdeal.main_arg5)
          ∧ r.2.mem ((c.tc : Thread Cert.RefLruIdeal.nD Cert.RefLruIdeal.τ).loc Cert.RefLruIdeal.main_arg6) = m' ((c.tc : Thread Cert.RefLruIdeal.nD Cert.RefLruIdeal.τ).loc Cert.RefLruIdeal.main_arg6)
          ∧ r.2.mem ((c.tc : Thread Cert.RefLruIdeal.nD Cert.RefLruIdeal.τ).loc Cert.RefLruIdeal.main_arg7) = m' ((c.tc : Thread Cert.RefLruIdeal.nD Cert.RefLruIdeal.τ).loc Cert.RefLruIdeal.main_arg7))

def Claim : Prop :=
  ∃ (hKernel : Cert.Kernel.Facts) (hKernelIdeal : Cert.KernelIdeal.Facts) (hReferenceIdeal : Cert.ReferenceIdeal.Facts) (hInEven : Cert.InEven.Facts) (hInEvenIdeal : Cert.InEvenIdeal.Facts) (hRefInEvenIdeal : Cert.RefInEvenIdeal.Facts) (hInOdd : Cert.InOdd.Facts) (hInOddIdeal : Cert.InOddIdeal.Facts) (hRefInOddIdeal : Cert.RefInOddIdeal.Facts) (hOutEven : Cert.OutEven.Facts) (hOutEvenIdeal : Cert.OutEvenIdeal.Facts) (hRefOutEvenIdeal : Cert.RefOutEvenIdeal.Facts) (hOutOdd : Cert.OutOdd.Facts) (hOutOddIdeal : Cert.OutOddIdeal.Facts) (hRefOutOddIdeal : Cert.RefOutOddIdeal.Facts) (hOutLast : Cert.OutLast.Facts) (hOutLastIdeal : Cert.OutLastIdeal.Facts) (hRefOutLastIdeal : Cert.RefOutLastIdeal.Facts) (hNa : Cert.Na.Facts) (hNaIdeal : Cert.NaIdeal.Facts) (hRefNaIdeal : Cert.RefNaIdeal.Facts) (hAda : Cert.Ada.Facts) (hAdaIdeal : Cert.AdaIdeal.Facts) (hRefAdaIdeal : Cert.RefAdaIdeal.Facts) (hRpb : Cert.Rpb.Facts) (hRpbIdeal : Cert.RpbIdeal.Facts) (hRefRpbIdeal : Cert.RefRpbIdeal.Facts) (hT5 : Cert.T5.Facts) (hT5Ideal : Cert.T5Ideal.Facts) (hRefT5Ideal : Cert.RefT5Ideal.Facts) (hLru : Cert.Lru.Facts) (hLruIdeal : Cert.LruIdeal.Facts) (hRefLruIdeal : Cert.RefLruIdeal.Facts) (hPre_scores_finite : Cert.Pre_scores_finite.Facts) (hPre_na_scores_finite : Cert.Pre_na_scores_finite.Facts) (hPre_buckets_in_range : Cert.Pre_buckets_in_range.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_InEven (hInEven := hInEven)
    ∧ quiescent_InEvenIdeal (hInEvenIdeal := hInEvenIdeal)
    ∧ quiescent_RefInEvenIdeal (hRefInEvenIdeal := hRefInEvenIdeal)
    ∧ quiescent_InOdd (hInOdd := hInOdd)
    ∧ quiescent_InOddIdeal (hInOddIdeal := hInOddIdeal)
    ∧ quiescent_RefInOddIdeal (hRefInOddIdeal := hRefInOddIdeal)
    ∧ quiescent_OutEven (hOutEven := hOutEven)
    ∧ quiescent_OutEvenIdeal (hOutEvenIdeal := hOutEvenIdeal)
    ∧ quiescent_RefOutEvenIdeal (hRefOutEvenIdeal := hRefOutEvenIdeal)
    ∧ quiescent_OutOdd (hOutOdd := hOutOdd)
    ∧ quiescent_OutOddIdeal (hOutOddIdeal := hOutOddIdeal)
    ∧ quiescent_RefOutOddIdeal (hRefOutOddIdeal := hRefOutOddIdeal)
    ∧ quiescent_OutLast (hOutLast := hOutLast)
    ∧ quiescent_OutLastIdeal (hOutLastIdeal := hOutLastIdeal)
    ∧ quiescent_RefOutLastIdeal (hRefOutLastIdeal := hRefOutLastIdeal)
    ∧ quiescent_Na (hNa := hNa)
    ∧ quiescent_NaIdeal (hNaIdeal := hNaIdeal)
    ∧ quiescent_NaIdeal_pre_na_scores_finite (hNaIdeal := hNaIdeal) (hPre_na_scores_finite := hPre_na_scores_finite)
    ∧ quiescent_RefNaIdeal (hRefNaIdeal := hRefNaIdeal)
    ∧ quiescent_RefNaIdeal_pre_na_scores_finite (hRefNaIdeal := hRefNaIdeal) (hPre_na_scores_finite := hPre_na_scores_finite)
    ∧ quiescent_Ada (hAda := hAda)
    ∧ quiescent_AdaIdeal (hAdaIdeal := hAdaIdeal)
    ∧ quiescent_RefAdaIdeal (hRefAdaIdeal := hRefAdaIdeal)
    ∧ quiescent_Rpb (hRpb := hRpb)
    ∧ quiescent_RpbIdeal (hRpbIdeal := hRpbIdeal)
    ∧ quiescent_RefRpbIdeal (hRefRpbIdeal := hRefRpbIdeal)
    ∧ quiescent_T5 (hT5 := hT5)
    ∧ quiescent_T5Ideal (hT5Ideal := hT5Ideal)
    ∧ quiescent_T5Ideal_pre_buckets_in_range (hT5Ideal := hT5Ideal) (hPre_buckets_in_range := hPre_buckets_in_range)
    ∧ quiescent_RefT5Ideal (hRefT5Ideal := hRefT5Ideal)
    ∧ quiescent_RefT5Ideal_pre_buckets_in_range (hRefT5Ideal := hRefT5Ideal) (hPre_buckets_in_range := hPre_buckets_in_range)
    ∧ quiescent_Lru (hLru := hLru)
    ∧ quiescent_LruIdeal (hLruIdeal := hLruIdeal)
    ∧ quiescent_RefLruIdeal (hRefLruIdeal := hRefLruIdeal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_InEven_InEvenIdeal
    ∧ algebraic_InEvenIdeal_RefInEvenIdeal (hInEvenIdeal := hInEvenIdeal) (hRefInEvenIdeal := hRefInEvenIdeal)
    ∧ preserves_InOdd_InOddIdeal
    ∧ algebraic_InOddIdeal_RefInOddIdeal (hInOddIdeal := hInOddIdeal) (hRefInOddIdeal := hRefInOddIdeal)
    ∧ preserves_OutEven_OutEvenIdeal
    ∧ algebraic_OutEvenIdeal_RefOutEvenIdeal (hOutEvenIdeal := hOutEvenIdeal) (hRefOutEvenIdeal := hRefOutEvenIdeal)
    ∧ preserves_OutOdd_OutOddIdeal
    ∧ algebraic_OutOddIdeal_RefOutOddIdeal (hOutOddIdeal := hOutOddIdeal) (hRefOutOddIdeal := hRefOutOddIdeal)
    ∧ preserves_OutLast_OutLastIdeal
    ∧ algebraic_OutLastIdeal_RefOutLastIdeal (hOutLastIdeal := hOutLastIdeal) (hRefOutLastIdeal := hRefOutLastIdeal)
    ∧ preserves_Na_NaIdeal
    ∧ algebraic_NaIdeal_RefNaIdeal_pre_na_scores_finite (hNaIdeal := hNaIdeal) (hRefNaIdeal := hRefNaIdeal) (hPre_na_scores_finite := hPre_na_scores_finite)
    ∧ preserves_Ada_AdaIdeal
    ∧ algebraic_AdaIdeal_RefAdaIdeal (hAdaIdeal := hAdaIdeal) (hRefAdaIdeal := hRefAdaIdeal)
    ∧ preserves_Rpb_RpbIdeal
    ∧ algebraic_RpbIdeal_RefRpbIdeal (hRpbIdeal := hRpbIdeal) (hRefRpbIdeal := hRefRpbIdeal)
    ∧ preserves_T5_T5Ideal
    ∧ algebraic_T5Ideal_RefT5Ideal_pre_buckets_in_range (hT5Ideal := hT5Ideal) (hRefT5Ideal := hRefT5Ideal) (hPre_buckets_in_range := hPre_buckets_in_range)
    ∧ preserves_Lru_LruIdeal
    ∧ algebraic_LruIdeal_RefLruIdeal (hLruIdeal := hLruIdeal) (hRefLruIdeal := hRefLruIdeal)
-- ==== Pre_buckets_in_range.lean ====
abbrev S4x32 : Shape := ⟨2, ![4, 32]⟩
abbrev S31x128x128 : Shape := ⟨3, ![31, 128, 128]⟩
abbrev S_ : Shape := ⟨0, ![]⟩

class Facts : Prop where
  bcast_S_S31x128x128 : S_.BroadcastsInDim S31x128x128 (![] : Fin 0 → Fin S31x128x128.rank)

variable [Facts]

def fn {F : FTy → Type} [FloatOps F] (main_arg0 : FVec F S4x32 .f32) (main_arg1 : IVec S31x128x128 32) : IVec S31x128x128 1 × IVec S31x128x128 1 :=
  let main_c : IVec S_ 32 := constantI S_ 32 0#32
  let main_v0 : IVec S31x128x128 32 := broadcastInDim S31x128x128 ![] bcast_S_S31x128x128 main_c
  let main_v1 : IVec S31x128x128 1 := cmpi .sge main_arg1 main_v0
  let main_c_0 : IVec S_ 32 := constantI S_ 32 32#32
  let main_v2 : IVec S31x128x128 32 := broadcastInDim S31x128x128 ![] bcast_S_S31x128x128 main_c_0
  let main_v3 : IVec S31x128x128 1 := cmpi .slt main_arg1 main_v2
  (main_v1, main_v3)
-- ==== Pre_na_scores_finite.lean ====
abbrev S16x2048x3072 : Shape := ⟨3, ![16, 2048, 3072]⟩
abbrev S16x2048x1024 : Shape := ⟨3, ![16, 2048, 1024]⟩
abbrev S8x16x64x512 : Shape := ⟨4, ![8, 16, 64, 512]⟩
abbrev S16x2048x2048 : Shape := ⟨3, ![16, 2048, 2048]⟩
abbrev S_ : Shape := ⟨0, ![]⟩
abbrev S8x16x64 : Shape := ⟨3, ![8, 16, 64]⟩

class Facts : Prop where
  slices_S16x2048x3072_S16x2048x2048_0_0_0 : S16x2048x3072.Slices ![0, 0, 0] S16x2048x2048
  bitsLt_bf16_f32 : FTy.bits .bf16 < FTy.bits .f32
  bcast_S_S16x2048x2048 : S_.BroadcastsInDim S16x2048x2048 (![] : Fin 0 → Fin S16x2048x2048.rank)
  bcast_S_S8x16x64x512 : S_.BroadcastsInDim S8x16x64x512 (![] : Fin 0 → Fin S8x16x64x512.rank)
  reducesTo_S8x16x64x512_S8x16x64_d3 : S8x16x64x512.ReducesTo [3] S8x16x64
  h_S_ : 0 < S_.numel
  bcast_S_S8x16x64 : S_.BroadcastsInDim S8x16x64 (![] : Fin 0 → Fin S8x16x64.rank)

variable [Facts]

def fn {F : FTy → Type} [FloatOps F] (main_arg0 : FVec F S16x2048x3072 .bf16) (main_arg1 : FVec F S16x2048x1024 .f32) (main_arg2 : FVec F S8x16x64x512 .f32) : IVec S16x2048x2048 1 × IVec S8x16x64x512 1 × IVec S8x16x64 1 :=
  let main_v0 : FVec F S16x2048x2048 .bf16 := (extractStridedSlice S16x2048x2048 ![0, 0, 0] · slices_S16x2048x3072_S16x2048x2048_0_0_0) main_arg0
  let main_v1 : FVec F S16x2048x2048 .f32 := (extf .f32 · bitsLt_bf16_f32) main_v0
  let main_v2 : FVec F S16x2048x2048 .f32 := Host.absf main_v1
  let main_cst : FVec F S_ .f32 := constant S_ .f32 0x7F800000#32
  let main_v3 : FVec F S16x2048x2048 .f32 := broadcastInDim S16x2048x2048 ![] bcast_S_S16x2048x2048 main_cst
  let main_v4 : IVec S16x2048x2048 1 := cmpf .olt main_v2 main_v3
  let main_cst_0 : FVec F S_ .f32 := constant S_ .f32 0x7F800000#32
  let main_v5 : FVec F S8x16x64x512 .f32 := broadcastInDim S8x16x64x512 ![] bcast_S_S8x16x64x512 main_cst_0
  let main_v6 : IVec S8x16x64x512 1 := cmpf .olt main_arg2 main_v5
  let main_cst_1 : FVec F S_ .f32 := constant S_ .f32 0xFF800000#32
  let main_v7 : FVec F S8x16x64 .f32 := (fun x v => Host.reduce FloatOps.maximumf x v reducesTo_S8x16x64x512_S8x16x64_d3 h_S_) main_arg2 main_cst_1
  let main_cst_2 : FVec F S_ .f32 := constant S_ .f32 0xFF800000#32
  let main_v8 : FVec F S8x16x64 .f32 := broadcastInDim S8x16x64 ![] bcast_S_S8x16x64 main_cst_2
  let main_v9 : IVec S8x16x64 1 := cmpf .ogt main_v7 main_v8
  (main_v4, main_v6, main_v9)
-- ==== Pre_scores_finite.lean ====
abbrev S4x64 : Shape := ⟨2, ![4, 64]⟩
abbrev S16x2048x1536 : Shape := ⟨3, ![16, 2048, 1536]⟩
abbrev S4x31x128x128 : Shape := ⟨4, ![4, 31, 128, 128]⟩
abbrev S128 : Shape := ⟨1, ![128]⟩
abbrev S16x2048x1024 : Shape := ⟨3, ![16, 2048, 1024]⟩
abbrev S_ : Shape := ⟨0, ![]⟩

class Facts : Prop where
  slices_S16x2048x1536_S16x2048x1024_0_0_0 : S16x2048x1536.Slices ![0, 0, 0] S16x2048x1024
  bitsLt_bf16_f32 : FTy.bits .bf16 < FTy.bits .f32
  bcast_S_S16x2048x1024 : S_.BroadcastsInDim S16x2048x1024 (![] : Fin 0 → Fin S16x2048x1024.rank)
  bcast_S_S4x31x128x128 : S_.BroadcastsInDim S4x31x128x128 (![] : Fin 0 → Fin S4x31x128x128.rank)

variable [Facts]

def fn {F : FTy → Type} [FloatOps F] (main_arg0 : FVec F S4x64 .f32) (main_arg1 : FVec F S16x2048x1536 .bf16) (main_arg2 : FVec F S16x2048x1536 .f32) (main_arg3 : FVec F S4x31x128x128 .f32) (main_arg4 : FVec F S128 .f32) : IVec S16x2048x1024 1 × IVec S4x31x128x128 1 :=
  let main_v0 : FVec F S16x2048x1024 .bf16 := (extractStridedSlice S16x2048x1024 ![0, 0, 0] · slices_S16x2048x1536_S16x2048x1024_0_0_0) main_arg1
  let main_v1 : FVec F S16x2048x1024 .f32 := (extf .f32 · bitsLt_bf16_f32) main_v0
  let main_v2 : FVec F S16x2048x1024 .f32 := Host.absf main_v1
  let main_cst : FVec F S_ .f32 := constant S_ .f32 0x7F800000#32
  let main_v3 : FVec F S16x2048x1024 .f32 := broadcastInDim S16x2048x1024 ![] bcast_S_S16x2048x1024 main_cst
  let main_v4 : IVec S16x2048x1024 1 := cmpf .olt main_v2 main_v3
  let main_v5 : FVec F S4x31x128x128 .f32 := Host.absf main_arg3
  let main_cst_0 : FVec F S_ .f32 := constant S_ .f32 0x7F800000#32
  let main_v6 : FVec F S4x31x128x128 .f32 := broadcastInDim S4x31x128x128 ![] bcast_S_S4x31x128x128 main_cst_0
  let main_v7 : IVec S4x31x128x128 1 := cmpf .olt main_v5 main_v6
  (main_v4, main_v7)
-- ==== Kernel.lean ====
abbrev S4x64 : Shape := ⟨2, ![4, 64]⟩
abbrev S16x2048x1536 : Shape := ⟨3, ![16, 2048, 1536]⟩
abbrev S4x31x128x128 : Shape := ⟨4, ![4, 31, 128, 128]⟩
abbrev S128 : Shape := ⟨1, ![128]⟩
abbrev S1x128 : Shape := ⟨2, ![1, 128]⟩
abbrev S16x2048x512 : Shape := ⟨3, ![16, 2048, 512]⟩
abbrev S1x256x128 : Shape := ⟨3, ![1, 256, 128]⟩
abbrev S1x2048x128 : Shape := ⟨3, ![1, 2048, 128]⟩
abbrev S1x31x128x128 : Shape := ⟨4, ![1, 31, 128, 128]⟩
abbrev S1x64 : Shape := ⟨2, ![1, 64]⟩
abbrev S1 : Shape := ⟨1, ![1]⟩
abbrev S1x1 : Shape := ⟨2, ![1, 1]⟩
abbrev S256x128 : Shape := ⟨2, ![256, 128]⟩
abbrev S2048x128 : Shape := ⟨2, ![2048, 128]⟩
abbrev S1x1x128x128 : Shape := ⟨4, ![1, 1, 128, 128]⟩
abbrev S128x128 : Shape := ⟨2, ![128, 128]⟩
abbrev S128x2048 : Shape := ⟨2, ![128, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 14
  | .smem => 0
  | _ => 0

abbrev bufTy : (tb : Table) → Fin (tcTables nBuf tb) → BufTy
  | .hbm, ⟨0, _⟩ => ⟨S4x64, .f32⟩
  | .hbm, ⟨1, _⟩ => ⟨S16x2048x1536, .bf16⟩
  | .hbm, ⟨2, _⟩ => ⟨S16x2048x1536, .f32⟩
  | .hbm, ⟨3, _⟩ => ⟨S4x31x128x128, .f32⟩
  | .hbm, ⟨4, _⟩ => ⟨S128, .f32⟩
  | .hbm, ⟨5, _⟩ => ⟨S1x128, .f32⟩
  | .hbm, ⟨6, _⟩ => ⟨S16x2048x512, .bf16⟩
  | .local _ .vmem, ⟨0, _⟩ => ⟨S4x64, .f32⟩
  | .local _ .vmem, ⟨1, _⟩ => ⟨S1x256x128, .bf16⟩
  | .local _ .vmem, ⟨2, _⟩ => ⟨S1x256x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x31x128x128, .f32⟩
  | .local _ .vmem, ⟨8, _⟩ => ⟨S1x31x128x128, .f32⟩
  | .local _ .vmem, ⟨9, _⟩ => ⟨S1x256x128, .f32⟩
  | .local _ .vmem, ⟨10, _⟩ => ⟨S1x256x128, .f32⟩
  | .local _ .vmem, ⟨11, _⟩ => ⟨S1x128, .f32⟩
  | .local _ .vmem, ⟨12, _⟩ => ⟨S1x256x128, .bf16⟩
  | .local _ .vmem, ⟨13, _⟩ => ⟨S1x256x128, .bf16⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 8, 16], ![false, false, false]⟩

def k0_off1 (i : grid0.Coords) (c0_i32_15 : BitVec 32) (c0_i32 : BitVec 32) : Fin 4 → Nat :=
  let c0_16 : Index := 0#32
  let arg1 : BitVec 32 := BitVec.ofNat 32 (i 1).val
  let c2_i32 : BitVec 32 := 2#32
  let v32 : BitVec 32 := Scalar.muli arg1 c2_i32
  let v33 : BitVec 32 := Scalar.addi v32 c0_i32
  let v34 : BitVec 32 := Scalar.subi c0_i32_15 v33
  let c15_i32 : BitVec 32 := 15#32
  let v35 : BitVec 32 := Scalar.addi v34 c15_i32
  let v36 : Index := Scalar.indexCast v35
  let c0_17 : Index := 0#32
  let c0_18 : Index := 0#32
  ![0, v36.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  let c0_i32_0 : BitVec 32 := 0#32
  ![arg2.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let c0_i32_0 : BitVec 32 := 0#32
  ![arg2.toNat, c0_i32.toNat, v0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat, arg0.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x31x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S4x64 : Shape := ⟨2, ![4, 64]⟩
abbrev S16x2048x1536 : Shape := ⟨3, ![16, 2048, 1536]⟩
abbrev S4x31x128x128 : Shape := ⟨4, ![4, 31, 128, 128]⟩
abbrev S128 : Shape := ⟨1, ![128]⟩
abbrev S16x2048x512 : Shape := ⟨3, ![16, 2048, 512]⟩
abbrev S16x2048x4x2x64 : Shape := ⟨5, ![16, 2048, 4, 2, 64]⟩
abbrev S16x2048x4x128 : Shape := ⟨4, ![16, 2048, 4, 128]⟩
abbrev S1x64 : Shape := ⟨2, ![1, 64]⟩
abbrev S64 : Shape := ⟨1, ![64]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S2048x2048x3 : Shape := ⟨3, ![2048, 2048, 3]⟩
abbrev S4x2048x2048 : Shape := ⟨3, ![4, 2048, 2048]⟩
abbrev S16x4x2x2048x2048 : Shape := ⟨5, ![16, 4, 2, 2048, 2048]⟩
abbrev S1x4x1x2048x2048 : Shape := ⟨5, ![1, 4, 1, 2048, 2048]⟩
abbrev S16x4x2x2048 : Shape := ⟨4, ![16, 4, 2, 2048]⟩
abbrev S16x4x2x2048x1 : Shape := ⟨5, ![16, 4, 2, 2048, 1]⟩
abbrev S16x4x1x2048x2048 : Shape := ⟨5, ![16, 4, 1, 2048, 2048]⟩
abbrev S16x4x2048x2048 : Shape := ⟨4, ![16, 4, 2048, 2048]⟩
abbrev S16x4x128x2048 : Shape := ⟨4, ![16, 4, 128, 2048]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩

abbrev nBuf : Space → Nat
  | .hbm => 210
  | .vmem => 0
  | .smem => 0
  | _ => 0

abbrev hbmTy0_0 (i : Nat) : BufTy := match i % 128 with
  | 0 => ⟨S4x64, .f32⟩
  | 1 => ⟨S16x2048x1536, .bf16⟩
  | 2 => ⟨S16x2048x1536, .f32⟩
  | 3 => ⟨S4x31x128x128, .f32⟩
  | 4 => ⟨S128, .f32⟩
  | 5 => ⟨S16x2048x1536, .f32⟩
  | 6 => ⟨S16x2048x512, .f32⟩
  | 7 => ⟨S16x2048x512, .f32⟩
  | 8 => ⟨S16x2048x512, .f32⟩
  | 9 => ⟨S16x2048x512, .f32⟩
  | 10 => ⟨S16x2048x4x2x64, .f32⟩
  | 11 => ⟨S16x2048x4x2x64, .f32⟩
  | 12 => ⟨S16x2048x4x128, .f32⟩
  | 13 => ⟨S1x64, .f32⟩
  | 14 => ⟨S64, .f32⟩
  | 15 => ⟨S1x64, .f32⟩
  | 16 => ⟨S64, .f32⟩
  | 17 => ⟨S64, .f32⟩
  | 18 => ⟨S_, .f32⟩
  | 19 => ⟨S_, .f32⟩
  | 20 => ⟨S_, .f32⟩
  | 21 => ⟨S1x64, .f32⟩
  | 22 => ⟨S64, .f32⟩
  | 23 => ⟨S1x64, .f32⟩
  | 24 => ⟨S64, .f32⟩
  | 25 => ⟨S64, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S2048, .i32⟩
  | 33 => ⟨S2048x1, .i32⟩
  | 34 => ⟨S1x2048, .i32⟩
  | 35 => ⟨S_, .i32⟩
  | 36 => ⟨S_, .i32⟩
  | 37 => ⟨S1x2048, .i32⟩
  | 38 => ⟨S1x2048, .i32⟩
  | 39 => ⟨S1x2048, .i32⟩
  | 40 => ⟨S_, .i32⟩
  | 41 => ⟨S1x2048, .i32⟩
  | 42 => ⟨S1x2048, .i1⟩
  | 43 => ⟨S1x2048, .i32⟩
  | 44 => ⟨S1x2048, .i32⟩
  | 45 => ⟨S_, .i32⟩
  | 46 => ⟨S1x2048, .i32⟩
  | 47 => ⟨S1x2048, .i1⟩
  | 48 => ⟨S1x2048, .i1⟩
  | 49 => ⟨S_, .i32⟩
  | 50 => ⟨S1x2048, .i32⟩
  | 51 => ⟨S1x2048, .i32⟩
  | 52 => ⟨S1x2048, .i32⟩
  | 53 => ⟨S_, .i32⟩
  | 54 => ⟨S_, .i32⟩
  | 55 => ⟨S2048x1, .i32⟩
  | 56 => ⟨S2048x1, .i32⟩
  | 57 => ⟨S2048x1, .i32⟩
  | 58 => ⟨S_, .i32⟩
  | 59 => ⟨S2048x1, .i32⟩
  | 60 => ⟨S2048x1, .i1⟩
  | 61 => ⟨S2048x1, .i32⟩
  | 62 => ⟨S2048x1, .i32⟩
  | 63 => ⟨S_, .i32⟩
  | 64 => ⟨S2048x1, .i32⟩
  | 65 => ⟨S2048x1, .i1⟩
  | 66 => ⟨S2048x1, .i1⟩
  | 67 => ⟨S_, .i32⟩
  | 68 => ⟨S2048x1, .i32⟩
  | 69 => ⟨S2048x1, .i32⟩
  | 70 => ⟨S2048x1, .i32⟩
  | 71 => ⟨S2048x2048, .i32⟩
  | 72 => ⟨S2048x2048, .i32⟩
  | 73 => ⟨S2048x2048, .i32⟩
  | 74 => ⟨S_, .i32⟩
  | 75 => ⟨S2048x2048, .i32⟩
  | 76 => ⟨S2048x2048, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S2048x1, .i32⟩
  | 84 => ⟨S2048x1, .i32⟩
  | 85 => ⟨S_, .i32⟩
  | 86 => ⟨S2048x1, .i32⟩
  | 87 => ⟨S2048x1, .i1⟩
  | 88 => ⟨S_, .i32⟩
  | 89 => ⟨S2048x1, .i32⟩
  | 90 => ⟨S2048x1, .i1⟩
  | 91 => ⟨S_, .i32⟩
  | 92 => ⟨S_, .i1⟩
  | 93 => ⟨S2048x1, .i1⟩
  | 94 => ⟨S2048x1, .i1⟩
  | 95 => ⟨S2048x1, .i1⟩
  | 96 => ⟨S2048x1, .i32⟩
  | 97 => ⟨S2048x1, .i32⟩
  | 98 => ⟨S2048x1, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S1x2048, .i32⟩
  | 106 => ⟨S1x2048, .i32⟩
  | 107 => ⟨S_, .i32⟩
  | 108 => ⟨S1x2048, .i32⟩
  | 109 => ⟨S1x2048, .i1⟩
  | 110 => ⟨S_, .i32⟩
  | 111 => ⟨S1x2048, .i32⟩
  | 112 => ⟨S1x2048, .i1⟩
  | 113 => ⟨S_, .i32⟩
  | 114 => ⟨S_, .i1⟩
  | 115 => ⟨S1x2048, .i1⟩
  | 116 => ⟨S1x2048, .i1⟩
  | 117 => ⟨S1x2048, .i1⟩
  | 118 => ⟨S1x2048, .i32⟩
  | 119 => ⟨S1x2048, .i32⟩
  | 120 => ⟨S1x2048, .i32⟩
  | 121 => ⟨S_, .i32⟩
  | 122 => ⟨S2048x2048, .i32⟩
  | 123 => ⟨S2048x2048, .i1⟩
  | 124 => ⟨S_, .i32⟩
  | 125 => ⟨S2048x2048, .i32⟩
  | 126 => ⟨S2048x2048, .i32⟩
  | 127 => ⟨S2048x2048, .i32⟩
  | _ => ⟨S4x64, .f32⟩

abbrev hbmTy0_1 (i : Nat) : BufTy := match i % 128 with
  | 0 => ⟨S_, .i32⟩
  | 1 => ⟨S2048x1, .i32⟩
  | 2 => ⟨S2048x1, .i1⟩
  | 3 => ⟨S_, .i32⟩
  | 4 => ⟨S2048x1, .i32⟩
  | 5 => ⟨S2048x1, .i32⟩
  | 6 => ⟨S2048x1, .i32⟩
  | 7 => ⟨S_, .i32⟩
  | 8 => ⟨S1x2048, .i32⟩
  | 9 => ⟨S1x2048, .i1⟩
  | 10 => ⟨S_, .i32⟩
  | 11 => ⟨S1x2048, .i32⟩
  | 12 => ⟨S1x2048, .i32⟩
  | 13 => ⟨S1x2048, .i32⟩
  | 14 => ⟨S2048x2048, .i32⟩
  | 15 => ⟨S2048x2048, .i32⟩
  | 16 => ⟨S2048x2048x1, .i32⟩
  | 17 => ⟨S2048x2048x1, .i32⟩
  | 18 => ⟨S2048x2048x1, .i32⟩
  | 19 => ⟨S2048x2048x3, .i32⟩
  | 20 => ⟨S4x2048x2048, .f32⟩
  | 21 => ⟨S16x4x2x2048x2048, .f32⟩
  | 22 => ⟨S_, .f32⟩
  | 23 => ⟨S16x4x2x2048x2048, .f32⟩
  | 24 => ⟨S16x4x2x2048x2048, .f32⟩
  | 25 => ⟨S1x4x1x2048x2048, .f32⟩
  | 26 => ⟨S16x4x2x2048x2048, .f32⟩
  | 27 => ⟨S16x4x2x2048x2048, .f32⟩
  | 28 => ⟨S_, .f32⟩
  | 29 => ⟨S16x4x2x2048, .f32⟩
  | 30 => ⟨S_, .f32⟩
  | 31 => ⟨S16x4x2x2048, .f32⟩
  | 32 => ⟨S16x4x2x2048, .f32⟩
  | 33 => ⟨S16x4x2x2048x1, .f32⟩
  | 34 => ⟨S16x4x2x2048x2048, .f32⟩
  | 35 => ⟨S16x4x2x2048x2048, .f32⟩
  | 36 => ⟨S16x4x2x2048x2048, .f32⟩
  | 37 => ⟨S_, .f32⟩
  | 38 => ⟨S16x4x2x2048, .f32⟩
  | 39 => ⟨S16x4x2x2048x1, .f32⟩
  | 40 => ⟨S16x4x2x2048x2048, .f32⟩
  | 41 => ⟨S16x4x2x2048x2048, .f32⟩
  | 42 => ⟨S16x4x1x2048x2048, .f32⟩
  | 43 => ⟨S16x4x2048x2048, .f32⟩
  | 44 => ⟨S16x4x1x2048x2048, .f32⟩
  | 45 => ⟨S16x4x2048x2048, .f32⟩
  | 46 => ⟨S16x4x2048x2048, .f32⟩
  | 47 => ⟨S16x4x2048x2048, .f32⟩
  | 48 => ⟨S16x4x2048x2048, .f32⟩
  | 49 => ⟨S16x4x128x2048, .f32⟩
  | 50 => ⟨S16x2048x4x128, .f32⟩
  | 51 => ⟨S16x2048x4x128, .f32⟩
  | 52 => ⟨S_, .f32⟩
  | 53 => ⟨S16x2048x4, .f32⟩
  | 54 => ⟨S16x2048x4x1, .f32⟩
  | 55 => ⟨S_, .f32⟩
  | 56 => ⟨S16x2048x4x1, .f32⟩
  | 57 => ⟨S16x2048x4x1, .f32⟩
  | 58 => ⟨S_, .f32⟩
  | 59 => ⟨S16x2048x4x1, .f32⟩
  | 60 => ⟨S16x2048x4x1, .f32⟩
  | 61 => ⟨S16x2048x4x1, .f32⟩
  | 62 => ⟨S16x2048x4x128, .f32⟩
  | 63 => ⟨S16x2048x4x128, .f32⟩
  | 64 => ⟨S1x1x1x128, .f32⟩
  | 65 => ⟨S16x2048x4x128, .f32⟩
  | 66 => ⟨S16x2048x4x128, .f32⟩
  | 67 => ⟨S_, .f32⟩
  | 68 => ⟨S16x2048x4x128, .f32⟩
  | 69 => ⟨S16x2048x4x128, .f32⟩
  | 70 => ⟨S16x2048x512, .f32⟩
  | 71 => ⟨S16x2048x512, .f32⟩
  | 72 => ⟨S16x2048x512, .f32⟩
  | 73 => ⟨S_, .f32⟩
  | 74 => ⟨S16x2048x512, .f32⟩
  | 75 => ⟨S16x2048x512, .f32⟩
  | 76 => ⟨S_, .f32⟩
  | 77 => ⟨S16x2048x512, .f32⟩
  | 78 => ⟨S16x2048x512, .f32⟩
  | 79 => ⟨S16x2048x512, .f32⟩
  | 80 => ⟨S16x2048x512, .f32⟩
  | 81 => ⟨S16x2048x512, .bf16⟩
  | _ => ⟨S4x64, .f32⟩

abbrev hbmTy (i : Nat) : BufTy := match i / 128 with
  | 0 => hbmTy0_0 i
  | 1 => hbmTy0_1 i
  | _ => ⟨S4x64, .f32⟩

abbrev bufTy : (tb : Table) → Fin (tcTables nBuf tb) → BufTy
  | .hbm, ⟨i, _⟩ => hbmTy i
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_c : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_0 : Ref sig .tc := ⟨.hbm, 49, rfl⟩
abbrev main_call0_v12 : Ref sig .tc := ⟨.hbm, 50, rfl⟩
abbrev main_call0_v13 : Ref sig .tc := ⟨.hbm, 51, rfl⟩
abbrev main_v27 : Ref sig .tc := ⟨.hbm, 52, rfl⟩
abbrev main_c_2 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_c : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_0 : Ref sig .tc := ⟨.hbm, 67, rfl⟩
abbrev main_call1_v12 : Ref sig .tc := ⟨.hbm, 68, rfl⟩
abbrev main_call1_v13 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_c_3 : Ref sig .tc := ⟨.hbm, 74, rfl⟩
abbrev main_v32 : Ref sig .tc := ⟨.hbm, 75, rfl⟩
abbrev main_v33 : Ref sig .tc := ⟨.hbm, 76, rfl⟩
abbrev main_c_4 : Ref sig .tc := ⟨.hbm, 77, rfl⟩
abbrev main_call2_v0 : Ref sig .tc := ⟨.hbm, 78, rfl⟩
abbrev main_call2_c : Ref sig .tc := ⟨.hbm, 79, rfl⟩
abbrev main_call2_v1 : Ref sig .tc := ⟨.hbm, 80, rfl⟩
abbrev main_call2_c_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_c_1 : Ref sig .tc := ⟨.hbm, 85, rfl⟩
abbrev main_call2_v5 : Ref sig .tc := ⟨.hbm, 86, rfl⟩
abbrev main_call2_v6 : Ref sig .tc := ⟨.hbm, 87, rfl⟩
abbrev main_call2_c_2 : Ref sig .tc := ⟨.hbm, 88, rfl⟩
abbrev main_call2_v7 : Ref sig .tc := ⟨.hbm, 89, rfl⟩
abbrev main_call2_v8 : Ref sig .tc := ⟨.hbm, 90, rfl⟩
abbrev main_call2_c_3 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_v12 : Ref sig .tc := ⟨.hbm, 95, rfl⟩
abbrev main_call2_v13 : Ref sig .tc := ⟨.hbm, 96, rfl⟩
abbrev main_call2_v14 : Ref sig .tc := ⟨.hbm, 97, rfl⟩
abbrev main_v34 : Ref sig .tc := ⟨.hbm, 98, rfl⟩
abbrev main_c_5 : Ref sig .tc := ⟨.hbm, 99, rfl⟩
abbrev main_call3_v0 : Ref sig .tc := ⟨.hbm, 100, rfl⟩
abbrev main_call3_c : Ref sig .tc := ⟨.hbm, 101, rfl⟩
abbrev main_call3_v1 : Ref sig .tc := ⟨.hbm, 102, rfl⟩
abbrev main_call3_c_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_c_1 : Ref sig .tc := ⟨.hbm, 107, rfl⟩
abbrev main_call3_v5 : Ref sig .tc := ⟨.hbm, 108, rfl⟩
abbrev main_call3_v6 : Ref sig .tc := ⟨.hbm, 109, rfl⟩
abbrev main_call3_c_2 : Ref sig .tc := ⟨.hbm, 110, rfl⟩
abbrev main_call3_v7 : Ref sig .tc := ⟨.hbm, 111, rfl⟩
abbrev main_call3_v8 : Ref sig .tc := ⟨.hbm, 112, rfl⟩
abbrev main_call3_c_3 : Ref sig .tc := ⟨.hbm, 113, rfl⟩
abbrev main_call3_v9 : Ref sig .tc := ⟨.hbm, 114, rfl⟩
abbrev main_call3_v10 : Ref sig .tc := ⟨.hbm, 115, rfl⟩
abbrev main_call3_v11 : Ref sig .tc := ⟨.hbm, 116, rfl⟩
abbrev main_call3_v12 : Ref sig .tc := ⟨.hbm, 117, rfl⟩
abbrev main_call3_v13 : Ref sig .tc := ⟨.hbm, 118, rfl⟩
abbrev main_call3_v14 : Ref sig .tc := ⟨.hbm, 119, rfl⟩
abbrev main_v35 : Ref sig .tc := ⟨.hbm, 120, rfl⟩
abbrev main_c_6 : Ref sig .tc := ⟨.hbm, 121, rfl⟩
abbrev main_v36 : Ref sig .tc := ⟨.hbm, 122, rfl⟩
abbrev main_v37 : Ref sig .tc := ⟨.hbm, 123, rfl⟩
abbrev main_c_7 : Ref sig .tc := ⟨.hbm, 124, rfl⟩
abbrev main_v38 : Ref sig .tc := ⟨.hbm, 125, rfl⟩
abbrev main_v39 : Ref sig .tc := ⟨.hbm, 126, rfl⟩
abbrev main_v40 : Ref sig .tc := ⟨.hbm, 127, rfl⟩
abbrev main_c_8 : Ref sig .tc := ⟨.hbm, 128, rfl⟩
abbrev main_v41 : Ref sig .tc := ⟨.hbm, 129, rfl⟩
abbrev main_v42 : Ref sig .tc := ⟨.hbm, 130, rfl⟩
abbrev main_c_9 : Ref sig .tc := ⟨.hbm, 131, rfl⟩
abbrev main_v43 : Ref sig .tc := ⟨.hbm, 132, rfl⟩
abbrev main_v44 : Ref sig .tc := ⟨.hbm, 133, rfl⟩
abbrev main_v45 : Ref sig .tc := ⟨.hbm, 134, rfl⟩
abbrev main_c_10 : Ref sig .tc := ⟨.hbm, 135, rfl⟩
abbrev main_v46 : Ref sig .tc := ⟨.hbm, 136, rfl⟩
abbrev main_v47 : Ref sig .tc := ⟨.hbm, 137, rfl⟩
abbrev main_c_11 : Ref sig .tc := ⟨.hbm, 138, rfl⟩
abbrev main_v48 : Ref sig .tc := ⟨.hbm, 139, rfl⟩
abbrev main_v49 : Ref sig .tc := ⟨.hbm, 140, rfl⟩
abbrev main_v50 : Ref sig .tc := ⟨.hbm, 141, rfl⟩
abbrev main_v51 : Ref sig .tc := ⟨.hbm, 142, rfl⟩
abbrev main_v52 : Ref sig .tc := ⟨.hbm, 143, rfl⟩
abbrev main_v53 : Ref sig .tc := ⟨.hbm, 144, rfl⟩
abbrev main_v54 : Ref sig .tc := ⟨.hbm, 145, rfl⟩
abbrev main_v55 : Ref sig .tc := ⟨.hbm, 146, rfl⟩
abbrev main_v56 : Ref sig .tc := ⟨.hbm, 147, rfl⟩
abbrev main_v57 : Ref sig .tc := ⟨.hbm, 148, rfl⟩
abbrev main_v58 : Ref sig .tc := ⟨.hbm, 149, rfl⟩
abbrev main_cst_12 : Ref sig .tc := ⟨.hbm, 150, rfl⟩
abbrev main_v59 : Ref sig .tc := ⟨.hbm, 151, rfl⟩
abbrev main_v60 : Ref sig .tc := ⟨.hbm, 152, rfl⟩
abbrev main_v61 : Ref sig .tc := ⟨.hbm, 153, rfl⟩
abbrev main_v62 : Ref sig .tc := ⟨.hbm, 154, rfl⟩
abbrev main_v63 : Ref sig .tc := ⟨.hbm, 155, rfl⟩
abbrev main_cst_13 : Ref sig .tc := ⟨.hbm, 156, rfl⟩
abbrev main_v64 : Ref sig .tc := ⟨.hbm, 157, rfl⟩
abbrev main_cst_14 : Ref sig .tc := ⟨.hbm, 158, rfl⟩
abbrev main_v65 : Ref sig .tc := ⟨.hbm, 159, rfl⟩
abbrev main_v66 : Ref sig .tc := ⟨.hbm, 160, rfl⟩
abbrev main_v67 : Ref sig .tc := ⟨.hbm, 161, rfl⟩
abbrev main_v68 : Ref sig .tc := ⟨.hbm, 162, rfl⟩
abbrev main_v69 : Ref sig .tc := ⟨.hbm, 163, rfl⟩
abbrev main_v70 : Ref sig .tc := ⟨.hbm, 164, rfl⟩
abbrev main_cst_15 : Ref sig .tc := ⟨.hbm, 165, rfl⟩
abbrev main_v71 : Ref sig .tc := ⟨.hbm, 166, rfl⟩
abbrev main_v72 : Ref sig .tc := ⟨.hbm, 167, rfl⟩
abbrev main_v73 : Ref sig .tc := ⟨.hbm, 168, rfl⟩
abbrev main_v74 : Ref sig .tc := ⟨.hbm, 169, rfl⟩
abbrev main_v75 : Ref sig .tc := ⟨.hbm, 170, rfl⟩
abbrev main_v76 : Ref sig .tc := ⟨.hbm, 171, rfl⟩
abbrev main_v77 : Ref sig .tc := ⟨.hbm, 172, rfl⟩
abbrev main_v78 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_v83 : Ref sig .tc := ⟨.hbm, 178, rfl⟩
abbrev main_v84 : Ref sig .tc := ⟨.hbm, 179, rfl⟩
abbrev main_cst_16 : Ref sig .tc := ⟨.hbm, 180, rfl⟩
abbrev main_v85 : Ref sig .tc := ⟨.hbm, 181, rfl⟩
abbrev main_v86 : Ref sig .tc := ⟨.hbm, 182, rfl⟩
abbrev main_cst_17 : Ref sig .tc := ⟨.hbm, 183, rfl⟩
abbrev main_v87 : Ref sig .tc := ⟨.hbm, 184, rfl⟩
abbrev main_v88 : Ref sig .tc := ⟨.hbm, 185, rfl⟩
abbrev main_cst_18 : Ref sig .tc := ⟨.hbm, 186, rfl⟩
abbrev main_v89 : Ref sig .tc := ⟨.hbm, 187, rfl⟩
abbrev main_v90 : Ref sig .tc := ⟨.hbm, 188, rfl⟩
abbrev main_v91 : Ref sig .tc := ⟨.hbm, 189, rfl⟩
abbrev main_v92 : Ref sig .tc := ⟨.hbm, 190, rfl⟩
abbrev main_v93 : Ref sig .tc := ⟨.hbm, 191, rfl⟩
abbrev main_v94 : Ref sig .tc := ⟨.hbm, 192, rfl⟩
abbrev main_v95 : Ref sig .tc := ⟨.hbm, 193, rfl⟩
abbrev main_v96 : Ref sig .tc := ⟨.hbm, 194, rfl⟩
abbrev main_cst_19 : Ref sig .tc := ⟨.hbm, 195, rfl⟩
abbrev main_v97 : Ref sig .tc := ⟨.hbm, 196, rfl⟩
abbrev main_v98 : Ref sig .tc := ⟨.hbm, 197, rfl⟩
abbrev main_v99 : Ref sig .tc := ⟨.hbm, 198, rfl⟩
abbrev main_call4_v0 : Ref sig .tc := ⟨.hbm, 199, rfl⟩
abbrev main_call4_v1 : Ref sig .tc := ⟨.hbm, 200, rfl⟩
abbrev main_call4_cst : Ref sig .tc := ⟨.hbm, 201, rfl⟩
abbrev main_call4_v2 : Ref sig .tc := ⟨.hbm, 202, rfl⟩
abbrev main_call4_v3 : Ref sig .tc := ⟨.hbm, 203, rfl⟩
abbrev main_call4_cst_0 : Ref sig .tc := ⟨.hbm, 204, rfl⟩
abbrev main_call4_v4 : Ref sig .tc := ⟨.hbm, 205, rfl⟩
abbrev main_call4_v5 : Ref sig .tc := ⟨.hbm, 206, rfl⟩
abbrev main_v100 : Ref sig .tc := ⟨.hbm, 207, rfl⟩
abbrev main_v101 : Ref sig .tc := ⟨.hbm, 208, rfl⟩
abbrev main_v102 : Ref sig .tc := ⟨.hbm, 209, rfl⟩

abbrev nD : Nat := 1
abbrev τ : Topo := Topo.v7x

variable {F : FTy → Type} [FloatOps F]
-- ==== InEven.lean ====
abbrev S16x2048x1024 : Shape := ⟨3, ![16, 2048, 1024]⟩
abbrev S16x3x1024 : Shape := ⟨3, ![16, 3, 1024]⟩
abbrev S1024 : Shape := ⟨1, ![1024]⟩
abbrev S1024x3072 : Shape := ⟨2, ![1024, 3072]⟩
abbrev S1x1024 : Shape := ⟨2, ![1, 1024]⟩
abbrev S16x2048x1536 : Shape := ⟨3, ![16, 2048, 1536]⟩
abbrev S1x512x1024 : Shape := ⟨3, ![1, 512, 1024]⟩
abbrev S1x3x1024 : Shape := ⟨3, ![1, 3, 1024]⟩
abbrev S1x512x1536 : Shape := ⟨3, ![1, 512, 1536]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 8
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S16x3x1024, .f32⟩
  | .hbm, ⟨2, _⟩ => ⟨S1024, .f32⟩
  | .hbm, ⟨3, _⟩ => ⟨S1024x3072, .f32⟩
  | .hbm, ⟨4, _⟩ => ⟨S1024x3072, .bf16⟩
  | .hbm, ⟨5, _⟩ => ⟨S1x1024, .f32⟩
  | .hbm, ⟨6, _⟩ => ⟨S16x2048x1536, .bf16⟩
  | .hbm, ⟨7, _⟩ => ⟨S16x2048x1536, .f32⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1024x3072, .bf16⟩
  | .local _ .vmem, ⟨6, _⟩ => ⟨S1x512x1536, .bf16⟩
  | .local _ .vmem, ⟨7, _⟩ => ⟨S1x512x1536, .bf16⟩
  | .local _ .vmem, ⟨8, _⟩ => ⟨S1x512x1536, .f32⟩
  | .local _ .vmem, ⟨9, _⟩ => ⟨S1x512x1536, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefInEvenIdeal.lean ====
abbrev S16x2048x1024 : Shape := ⟨3, ![16, 2048, 1024]⟩
abbrev S16x3x1024 : Shape := ⟨3, ![16, 3, 1024]⟩
abbrev S1024 : Shape := ⟨1, ![1024]⟩
abbrev S1024x3072 : Shape := ⟨2, ![1024, 3072]⟩
abbrev S16x1x1024 : Shape := ⟨3, ![16, 1, 1024]⟩
abbrev S16x1024 : Shape := ⟨2, ![16, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3072 : Shape := ⟨3, ![16, 2048, 3072]⟩
abbrev S16x2048x1536 : Shape := ⟨3, ![16, 2048, 1536]⟩

abbrev nBuf : Space → Nat
  | .hbm => 37
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x3x1024, .f32⟩
  | .hbm, ⟨2, _⟩ => ⟨S1024, .f32⟩
  | .hbm, ⟨3, _⟩ => ⟨S1024x3072, .f32⟩
  | .hbm, ⟨4, _⟩ => ⟨S16x1x1024, .f32⟩
  | .hbm, ⟨5, _⟩ => ⟨S16x1024, .f32⟩
  | .hbm, ⟨6, _⟩ => ⟨S16x1x1024, .f32⟩
  | .hbm, ⟨7, _⟩ => ⟨S16x1024, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S16x1x1024, .f32⟩
  | .hbm, ⟨25, _⟩ => ⟨S_, .f32⟩
  | .hbm, ⟨26, _⟩ => ⟨S16x1x1024, .f32⟩
  | .hbm, ⟨27, _⟩ => ⟨S16x1x1024, .f32⟩
  | .hbm, ⟨28, _⟩ => ⟨S16x2048x1024, .f32⟩
  | .hbm, ⟨29, _⟩ => ⟨S16x2048x1024, .f32⟩
  | .hbm, ⟨30, _⟩ => ⟨S16x1x1024, .f32⟩
  | .hbm, ⟨31, _⟩ => ⟨S16x2048x1024, .f32⟩
  | .hbm, ⟨32, _⟩ => ⟨S16x2048x1024, .f32⟩
  | .hbm, ⟨33, _⟩ => ⟨S16x2048x3072, .f32⟩
  | .hbm, ⟨34, _⟩ => ⟨S16x2048x1536, .f32⟩
  | .hbm, ⟨35, _⟩ => ⟨S16x2048x1536, .bf16⟩
  | .hbm, ⟨36, _⟩ => ⟨S16x2048x1536, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== InOdd.lean ====
abbrev S16x2048x1024 : Shape := ⟨3, ![16, 2048, 1024]⟩
abbrev S16x3x1024 : Shape := ⟨3, ![16, 3, 1024]⟩
abbrev S1024 : Shape := ⟨1, ![1024]⟩
abbrev S1024x4096 : Shape := ⟨2, ![1024, 4096]⟩
abbrev S1x1024 : Shape := ⟨2, ![1, 1024]⟩
abbrev S16x2048x3072 : Shape := ⟨3, ![16, 2048, 3072]⟩
abbrev S1x512x1024 : Shape := ⟨3, ![1, 512, 1024]⟩
abbrev S1x3x1024 : Shape := ⟨3, ![1, 3, 1024]⟩
abbrev S1x512x3072 : Shape := ⟨3, ![1, 512, 3072]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 8
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S16x3x1024, .f32⟩
  | .hbm, ⟨2, _⟩ => ⟨S1024, .f32⟩
  | .hbm, ⟨3, _⟩ => ⟨S1024x4096, .f32⟩
  | .hbm, ⟨4, _⟩ => ⟨S1024x4096, .bf16⟩
  | .hbm, ⟨5, _⟩ => ⟨S1x1024, .f32⟩
  | .hbm, ⟨6, _⟩ => ⟨S16x2048x3072, .bf16⟩
  | .hbm, ⟨7, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1024x4096, .bf16⟩
  | .local _ .vmem, ⟨6, _⟩ => ⟨S1x512x3072, .bf16⟩
  | .local _ .vmem, ⟨7, _⟩ => ⟨S1x512x3072, .bf16⟩
  | .local _ .vmem, ⟨8, _⟩ => ⟨S1x512x1024, .f32⟩
  | .local _ .vmem, ⟨9, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefInOddIdeal.lean ====
abbrev S16x2048x1024 : Shape := ⟨3, ![16, 2048, 1024]⟩
abbrev S16x3x1024 : Shape := ⟨3, ![16, 3, 1024]⟩
abbrev S1024 : Shape := ⟨1, ![1024]⟩
abbrev S1024x4096 : Shape := ⟨2, ![1024, 4096]⟩
abbrev S16x1x1024 : Shape := ⟨3, ![16, 1, 1024]⟩
abbrev S16x1024 : Shape := ⟨2, ![16, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4096 : Shape := ⟨3, ![16, 2048, 4096]⟩
abbrev S16x2048x3072 : Shape := ⟨3, ![16, 2048, 3072]⟩

abbrev nBuf : Space → Nat
  | .hbm => 37
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x3x1024, .f32⟩
  | .hbm, ⟨2, _⟩ => ⟨S1024, .f32⟩
  | .hbm, ⟨3, _⟩ => ⟨S1024x4096, .f32⟩
  | .hbm, ⟨4, _⟩ => ⟨S16x1x1024, .f32⟩
  | .hbm, ⟨5, _⟩ => ⟨S16x1024, .f32⟩
  | .hbm, ⟨6, _⟩ => ⟨S16x1x1024, .f32⟩
  | .hbm, ⟨7, _⟩ => ⟨S16x1024, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S16x1x1024, .f32⟩
  | .hbm, ⟨25, _⟩ => ⟨S_, .f32⟩
  | .hbm, ⟨26, _⟩ => ⟨S16x1x1024, .f32⟩
  | .hbm, ⟨27, _⟩ => ⟨S16x1x1024, .f32⟩
  | .hbm, ⟨28, _⟩ => ⟨S16x2048x1024, .f32⟩
  | .hbm, ⟨29, _⟩ => ⟨S16x2048x1024, .f32⟩
  | .hbm, ⟨30, _⟩ => ⟨S16x1x1024, .f32⟩
  | .hbm, ⟨31, _⟩ => ⟨S16x2048x1024, .f32⟩
  | .hbm, ⟨32, _⟩ => ⟨S16x2048x1024, .f32⟩
  | .hbm, ⟨33, _⟩ => ⟨S16x2048x4096, .f32⟩
  | .hbm, ⟨34, _⟩ => ⟨S16x2048x3072, .f32⟩
  | .hbm, ⟨35, _⟩ => ⟨S16x2048x3072, .bf16⟩
  | .hbm, ⟨36, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== OutEven.lean ====
abbrev S16x2048x512 : Shape := ⟨3, ![16, 2048, 512]⟩
abbrev S1024x1024 : Shape := ⟨2, ![1024, 1024]⟩
abbrev S16x2048x1024 : Shape := ⟨3, ![16, 2048, 1024]⟩
abbrev S16x3x1024 : Shape := ⟨3, ![16, 3, 1024]⟩
abbrev S1x512x512 : Shape := ⟨3, ![1, 512, 512]⟩
abbrev S1x512x1024 : Shape := ⟨3, ![1, 512, 1024]⟩
abbrev S1x3x1024 : Shape := ⟨3, ![1, 3, 1024]⟩
abbrev S512x512 : Shape := ⟨2, ![512, 512]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S1024x1024, .f32⟩
  | .hbm, ⟨3, _⟩ => ⟨S16x2048x1024, .f32⟩
  | .hbm, ⟨4, _⟩ => ⟨S16x3x1024, .f32⟩
  | .hbm, ⟨5, _⟩ => ⟨S1024x1024, .bf16⟩
  | .hbm, ⟨6, _⟩ => ⟨S16x2048x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x1024, .bf16⟩
  | .local _ .vmem, ⟨5, _⟩ => ⟨S1x512x1024, .f32⟩
  | .local _ .vmem, ⟨6, _⟩ => ⟨S1x512x1024, .f32⟩
  | .local _ .vmem, ⟨7, _⟩ => ⟨S1x3x1024, .f32⟩
  | .local _ .vmem, ⟨8, _⟩ => ⟨S1x3x1024, .f32⟩
  | .local _ .vmem, ⟨9, _⟩ => ⟨S1x512x1024, .f32⟩
  | .local _ .vmem, ⟨10, _⟩ => ⟨S1x512x1024, .f32⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefOutEvenIdeal.lean ====
abbrev S16x2048x512 : Shape := ⟨3, ![16, 2048, 512]⟩
abbrev S1024x1024 : Shape := ⟨2, ![1024, 1024]⟩
abbrev S16x2048x1024 : Shape := ⟨3, ![16, 2048, 1024]⟩
abbrev S16x3x1024 : Shape := ⟨3, ![16, 3, 1024]⟩
abbrev S16x1x1024 : Shape := ⟨3, ![16, 1, 1024]⟩
abbrev S16x1024 : Shape := ⟨2, ![16, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S1024x1024, .f32⟩
  | .hbm, ⟨3, _⟩ => ⟨S16x2048x1024, .f32⟩
  | .hbm, ⟨4, _⟩ => ⟨S16x3x1024, .f32⟩
  | .hbm, ⟨5, _⟩ => ⟨S16x2048x512, .f32⟩
  | .hbm, ⟨6, _⟩ => ⟨S16x2048x512, .f32⟩
  | .hbm, ⟨7, _⟩ => ⟨S16x2048x1024, .f32⟩
  | .hbm, ⟨8, _⟩ => ⟨S16x1x1024, .f32⟩
  | .hbm, ⟨9, _⟩ => ⟨S16x1024, .f32⟩
  | .hbm, ⟨10, _⟩ => ⟨S16x1x1024, .f32⟩
  | .hbm, ⟨11, _⟩ => ⟨S16x2048x1024, .f32⟩
  | .hbm, ⟨12, _⟩ => ⟨S16x2048x1024, .f32⟩
  | .hbm, ⟨13, _⟩ => ⟨S16x2048x1024, .f32⟩
  | .hbm, ⟨14, _⟩ => ⟨S16x2048x1024, .f32⟩
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== OutOdd.lean ====
abbrev S16x2048x1024 : Shape := ⟨3, ![16, 2048, 1024]⟩
abbrev S1024x1024 : Shape := ⟨2, ![1024, 1024]⟩
abbrev S16x3x1024 : Shape := ⟨3, ![16, 3, 1024]⟩
abbrev S1x512x1024 : Shape := ⟨3, ![1, 512, 1024]⟩
abbrev S1x3x1024 : Shape := ⟨3, ![1, 3, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16x2048x1024, .bf16⟩
  | .hbm, ⟨1, _⟩ => ⟨S1024x1024, .f32⟩
  | .hbm, ⟨2, _⟩ => ⟨S16x2048x1024, .f32⟩
  | .hbm, ⟨3, _⟩ => ⟨S16x3x1024, .f32⟩
  | .hbm, ⟨4, _⟩ => ⟨S1024x1024, .bf16⟩
  | .hbm, ⟨5, _⟩ => ⟨S16x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x3x1024, .f32⟩
  | .local _ .vmem, ⟨6, _⟩ => ⟨S1x3x1024, .f32⟩
  | .local _ .vmem, ⟨7, _⟩ => ⟨S1x512x1024, .f32⟩
  | .local _ .vmem, ⟨8, _⟩ => ⟨S1x512x1024, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefOutOddIdeal.lean ====
abbrev S16x2048x1024 : Shape := ⟨3, ![16, 2048, 1024]⟩
abbrev S1024x1024 : Shape := ⟨2, ![1024, 1024]⟩
abbrev S16x3x1024 : Shape := ⟨3, ![16, 3, 1024]⟩
abbrev S16x1x1024 : Shape := ⟨3, ![16, 1, 1024]⟩
abbrev S16x1024 : Shape := ⟨2, ![16, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S1024x1024, .f32⟩
  | .hbm, ⟨2, _⟩ => ⟨S16x2048x1024, .f32⟩
  | .hbm, ⟨3, _⟩ => ⟨S16x3x1024, .f32⟩
  | .hbm, ⟨4, _⟩ => ⟨S16x1x1024, .f32⟩
  | .hbm, ⟨5, _⟩ => ⟨S16x1024, .f32⟩
  | .hbm, ⟨6, _⟩ => ⟨S16x1x1024, .f32⟩
  | .hbm, ⟨7, _⟩ => ⟨S16x2048x1024, .f32⟩
  | .hbm, ⟨8, _⟩ => ⟨S16x2048x1024, .f32⟩
  | .hbm, ⟨9, _⟩ => ⟨S16x2048x1024, .f32⟩
  | .hbm, ⟨10, _⟩ => ⟨S16x2048x1024, .f32⟩
  | .hbm, ⟨11, _⟩ => ⟨S16x2048x1024, .f32⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== OutLast.lean ====
abbrev S16x2048x1024 : Shape := ⟨3, ![16, 2048, 1024]⟩
abbrev S1024x1024 : Shape := ⟨2, ![1024, 1024]⟩
abbrev S16x3x1024 : Shape := ⟨3, ![16, 3, 1024]⟩
abbrev S1024 : Shape := ⟨1, ![1024]⟩
abbrev S1x1024 : Shape := ⟨2, ![1, 1024]⟩
abbrev S1x512x1024 : Shape := ⟨3, ![1, 512, 1024]⟩
abbrev S1x3x1024 : Shape := ⟨3, ![1, 3, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S16x2048x1024, .bf16⟩
  | .hbm, ⟨1, _⟩ => ⟨S1024x1024, .f32⟩
  | .hbm, ⟨2, _⟩ => ⟨S16x2048x1024, .f32⟩
  | .hbm, ⟨3, _⟩ => ⟨S16x3x1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S16x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x3x1024, .f32⟩
  | .local _ .vmem, ⟨6, _⟩ => ⟨S1x3x1024, .f32⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefOutLastIdeal.lean ====
abbrev S16x2048x1024 : Shape := ⟨3, ![16, 2048, 1024]⟩
abbrev S1024x1024 : Shape := ⟨2, ![1024, 1024]⟩
abbrev S16x3x1024 : Shape := ⟨3, ![16, 3, 1024]⟩
abbrev S1024 : Shape := ⟨1, ![1024]⟩
abbrev S16x1x1024 : Shape := ⟨3, ![16, 1, 1024]⟩
abbrev S16x1024 : Shape := ⟨2, ![16, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S1024x1024, .f32⟩
  | .hbm, ⟨2, _⟩ => ⟨S16x2048x1024, .f32⟩
  | .hbm, ⟨3, _⟩ => ⟨S16x3x1024, .f32⟩
  | .hbm, ⟨4, _⟩ => ⟨S1024, .f32⟩
  | .hbm, ⟨5, _⟩ => ⟨S16x1x1024, .f32⟩
  | .hbm, ⟨6, _⟩ => ⟨S16x1024, .f32⟩
  | .hbm, ⟨7, _⟩ => ⟨S16x1x1024, .f32⟩
  | .hbm, ⟨8, _⟩ => ⟨S16x2048x1024, .f32⟩
  | .hbm, ⟨9, _⟩ => ⟨S16x2048x1024, .f32⟩
  | .hbm, ⟨10, _⟩ => ⟨S16x2048x1024, .f32⟩
  | .hbm, ⟨11, _⟩ => ⟨S16x2048x1024, .f32⟩
  | .hbm, ⟨12, _⟩ => ⟨S16x2048x1024, .f32⟩
  | .hbm, ⟨13, _⟩ => ⟨S16x2048x1024, .f32⟩
  | .hbm, ⟨14, _⟩ => ⟨S_, .f32⟩
  | .hbm, ⟨15, _⟩ => ⟨S16x2048, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S16x2048x1, .f32⟩
  | .hbm, ⟨24, _⟩ => ⟨S16x2048x1024, .f32⟩
  | .hbm, ⟨25, _⟩ => ⟨S16x2048x1024, .f32⟩
  | .hbm, ⟨26, _⟩ => ⟨S1x1x1024, .f32⟩
  | .hbm, ⟨27, _⟩ => ⟨S16x2048x1024, .f32⟩
  | .hbm, ⟨28, _⟩ => ⟨S16x2048x1024, .f32⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Na.lean ====
abbrev S16x2048x3072 : Shape := ⟨3, ![16, 2048, 3072]⟩
abbrev S16x2048x1024 : Shape := ⟨3, ![16, 2048, 1024]⟩
abbrev S8x16x64x512 : Shape := ⟨4, ![8, 16, 64, 512]⟩
abbrev S1x2048x128 : Shape := ⟨3, ![1, 2048, 128]⟩
abbrev S1x16x64x512 : Shape := ⟨4, ![1, 16, 64, 512]⟩
abbrev S64x128 : Shape := ⟨2, ![64, 128]⟩
abbrev S1x512x128 : Shape := ⟨3, ![1, 512, 128]⟩
abbrev S512x128 : Shape := ⟨2, ![512, 128]⟩
abbrev S1x64x128 : Shape := ⟨3, ![1, 64, 128]⟩
abbrev S64x512 : Shape := ⟨2, ![64, 512]⟩
abbrev S1x1x64x512 : Shape := ⟨4, ![1, 1, 64, 512]⟩
abbrev S64 : Shape := ⟨1, ![64]⟩
abbrev S64x1 : Shape := ⟨2, ![64, 1]⟩

abbrev nBuf : Space → Nat
  | .hbm => 4
  | .vmem => 12
  | .smem => 0
  | _ => 0

abbrev bufTy : (tb : Table) → Fin (tcTables nBuf tb) → BufTy
  | .hbm, ⟨0, _⟩ => ⟨S16x2048x3072, .bf16⟩
  | .hbm, ⟨1, _⟩ => ⟨S16x2048x1024, .f32⟩
  | .hbm, ⟨2, _⟩ => ⟨S8x16x64x512, .f32⟩
  | .hbm, ⟨3, _⟩ => ⟨S16x2048x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .f32⟩
  | .local _ .vmem, ⟨7, _⟩ => ⟨S1x2048x128, .f32⟩
  | .local _ .vmem, ⟨8, _⟩ => ⟨S1x16x64x512, .f32⟩
  | .local _ .vmem, ⟨9, _⟩ => ⟨S1x16x64x512, .f32⟩
  | .local _ .vmem, ⟨10, _⟩ => ⟨S1x2048x128, .bf16⟩
  | .local _ .vmem, ⟨11, _⟩ => ⟨S1x2048x128, .bf16⟩
  | _, _ => ⟨S16x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c0_i32 : BitVec 32 := 0#32
  let c32_i32 : BitVec 32 := 32#32
  let v3 : BitVec 32 := Scalar.addi c0_i32 c32_i32
  let c1_i32 : BitVec 32 := 1#32
  ⟨c0_i32, v3, c1_i32⟩
def k0_mult1 (k0_t1 : Fin k0_t1_loop.trips) : BitVec 32 :=
  let c24_i32 : BitVec 32 := 24#32
  let c0_i32_1 : BitVec 32 := 0#32
  let c0_i32 : BitVec 32 := 0#32
  let c1_i32 : BitVec 32 := 1#32
  let arg8 : BitVec 32 := Scf.iv c0_i32 c1_i32 k0_t1
  let c4_i32 : BitVec 32 := 4#32
  let v4 : BitVec 32 := Scalar.subi arg8 c4_i32
  let v5 : BitVec 32 := Scalar.maxsi c0_i32_1 v4
  let v6 : BitVec 32 := Scalar.minsi c24_i32 v5
  let c64_i32_2 : BitVec 32 := 64#32
  let v8 : BitVec 32 := Scalar.muli v6 c64_i32_2
  v8
def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c64_i32_3 : BitVec 32 := 64#32
  let v10 : BitVec 32 := Scalar.muli arg8 c64_i32_3
  v10
def k0_off1 (k0_t1 : Fin k0_t1_loop.trips) : Fin 3 → Nat :=
  let c0 : Index := 0#32
  let c24_i32 : BitVec 32 := 24#32
  let c0_i32_1 : BitVec 32 := 0#32
  let c0_i32 : BitVec 32 := 0#32
  let c1_i32 : BitVec 32 := 1#32
  let arg8 : BitVec 32 := Scf.iv c0_i32 c1_i32 k0_t1
  let c4_i32 : BitVec 32 := 4#32
  let v4 : BitVec 32 := Scalar.subi arg8 c4_i32
  let v5 : BitVec 32 := Scalar.maxsi c0_i32_1 v4
  let v6 : BitVec 32 := Scalar.minsi c24_i32 v5
  let c64_i32_2 : BitVec 32 := 64#32
  let v8 : BitVec 32 := Scalar.muli v6 c64_i32_2
  let v9 : BitVec 32 := v8
  let v12 : Index := Scalar.indexCast v9
  let c0_4 : Index := 0#32
  ![0, v12.toNat, 0]
def k0_off2 (k0_t1 : Fin k0_t1_loop.trips) : Fin 3 → Nat :=
  let c0_7 : Index := 0#32
  let c0_i32 : BitVec 32 := 0#32
  let c1_i32 : BitVec 32 := 1#32
  let arg8 : BitVec 32 := Scf.iv c0_i32 c1_i32 k0_t1
  let c64_i32_3 : BitVec 32 := 64#32
  let v10 : BitVec 32 := Scalar.muli arg8 c64_i32_3
  let v11 : BitVec 32 := v10
  let v18 : Index := Scalar.indexCast v11
  let c0_8 : Index := 0#32
  ![0, v18.toNat, 0]
def k0_off3 (k0_t1 : Fin k0_t1_loop.trips) (c0_i32_11 : BitVec 32) : Fin 4 → Nat :=
  let c0_12 : Index := 0#32
  let c2_i32 : BitVec 32 := 2#32
  let c0_i32 : BitVec 32 := 0#32
  let c1_i32 : BitVec 32 := 1#32
  let arg8 : BitVec 32 := Scf.iv c0_i32 c1_i32 k0_t1
  let c24_i32 : BitVec 32 := 24#32
  let c0_i32_1 : BitVec 32 := 0#32
  let c4_i32 : BitVec 32 := 4#32
  let v4 : BitVec 32 := Scalar.subi arg8 c4_i32
  let v5 : BitVec 32 := Scalar.maxsi c0_i32_1 v4
  let v6 : BitVec 32 := Scalar.minsi c24_i32 v5
  let v7 : BitVec 32 := Scalar.subi arg8 v6
  let v26 : BitVec 32 := Scalar.muli c2_i32 v7
  let v27 : BitVec 32 := Scalar.addi v26 c0_i32_11
  let v28 : Index := Scalar.indexCast v27
  let c0_13 : Index := 0#32
  let c0_14 : Index := 0#32
  ![0, v28.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefNaIdeal.lean ====
abbrev S16x2048x3072 : Shape := ⟨3, ![16, 2048, 3072]⟩
abbrev S16x2048x1024 : Shape := ⟨3, ![16, 2048, 1024]⟩
abbrev S8x16x64x512 : Shape := ⟨4, ![8, 16, 64, 512]⟩
abbrev S16x32x64x48x64 : Shape := ⟨5, ![16, 32, 64, 48, 64]⟩
abbrev S16x32x64x16x64 : Shape := ⟨5, ![16, 32, 64, 16, 64]⟩
abbrev S32 : Shape := ⟨1, ![32]⟩
abbrev S_ : Shape := ⟨0, ![]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S8x8x2x64x512 : Shape := ⟨5, ![8, 8, 2, 64, 512]⟩
abbrev S8x2x8x64x512 : Shape := ⟨5, ![8, 2, 8, 64, 512]⟩
abbrev S16x8x64x512 : Shape := ⟨4, ![16, 8, 64, 512]⟩
abbrev S32x8x1 : Shape := ⟨3, ![32, 8, 1]⟩
abbrev S16x32x8x64x16x64 : Shape := ⟨6, ![16, 32, 8, 64, 16, 64]⟩
abbrev S16x16x32x64x8x64 : Shape := ⟨6, ![16, 16, 32, 64, 8, 64]⟩
abbrev S16x16x32x64x512 : Shape := ⟨5, ![16, 16, 32, 64, 512]⟩
abbrev S16x32x64x512 : Shape := ⟨4, ![16, 32, 64, 512]⟩
abbrev S1x16x32x64x512 : Shape := ⟨5, ![1, 16, 32, 64, 512]⟩
abbrev S16x16x32x64 : Shape := ⟨4, ![16, 16, 32, 64]⟩
abbrev S16x16x32x64x1 : Shape := ⟨5, ![16, 16, 32, 64, 1]⟩
abbrev S16x32x512x16x64 : Shape := ⟨5, ![16, 32, 512, 16, 64]⟩
abbrev S16x32x16x64x64 : Shape := ⟨5, ![16, 32, 16, 64, 64]⟩

abbrev nBuf : Space → Nat
  | .hbm => 94
  | .vmem => 0
  | .smem => 0
  | _ => 0

abbrev bufTy : (tb : Table) → Fin (tcTables nBuf tb) → BufTy
  | .hbm, ⟨0, _⟩ => ⟨S16x2048x3072, .bf16⟩
  | .hbm, ⟨1, _⟩ => ⟨S16x2048x1024, .f32⟩
  | .hbm, ⟨2, _⟩ => ⟨S8x16x64x512, .f32⟩
  | .hbm, ⟨3, _⟩ => ⟨S16x2048x3072, .f32⟩
  | .hbm, ⟨4, _⟩ => ⟨S16x32x64x48x64, .f32⟩
  | .hbm, ⟨5, _⟩ => ⟨S16x32x64x16x64, .f32⟩
  | .hbm, ⟨6, _⟩ => ⟨S16x32x64x16x64, .f32⟩
  | .hbm, ⟨7, _⟩ => ⟨S16x32x64x16x64, .f32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i32⟩
  | .hbm, ⟨20, _⟩ => ⟨S32x1, .i32⟩
  | .hbm, ⟨21, _⟩ => ⟨S8, .i32⟩
  | .hbm, ⟨22, _⟩ => ⟨S1x8, .i32⟩
  | .hbm, ⟨23, _⟩ => ⟨S32x8, .i32⟩
  | .hbm, ⟨24, _⟩ => ⟨S32x8, .i32⟩
  | .hbm, ⟨25, _⟩ => ⟨S32x8, .i32⟩
  | .hbm, ⟨26, _⟩ => ⟨S8x8x2x64x512, .f32⟩
  | .hbm, ⟨27, _⟩ => ⟨S8x2x8x64x512, .f32⟩
  | .hbm, ⟨28, _⟩ => ⟨S16x8x64x512, .f32⟩
  | .hbm, ⟨29, _⟩ => ⟨S_, .i32⟩
  | .hbm, ⟨30, _⟩ => ⟨S32x8, .i32⟩
  | .hbm, ⟨31, _⟩ => ⟨S32x8, .i1⟩
  | .hbm, ⟨32, _⟩ => ⟨S_, .i32⟩
  | .hbm, ⟨33, _⟩ => ⟨S32x8, .i32⟩
  | .hbm, ⟨34, _⟩ => ⟨S32x8, .i32⟩
  | .hbm, ⟨35, _⟩ => ⟨S32x8, .i32⟩
  | .hbm, ⟨36, _⟩ => ⟨S32x8x1, .i32⟩
  | .hbm, ⟨37, _⟩ => ⟨S16x32x8x64x16x64, .f32⟩
  | .hbm, ⟨38, _⟩ => ⟨S16x16x32x64x8x64, .f32⟩
  | .hbm, ⟨39, _⟩ => ⟨S16x16x32x64x512, .f32⟩
  | .hbm, ⟨40, _⟩ => ⟨S_, .f32⟩
  | .hbm, ⟨41, _⟩ => ⟨S16x16x32x64x512, .f32⟩
  | .hbm, ⟨42, _⟩ => ⟨S16x16x32x64x512, .f32⟩
  | .hbm, ⟨43, _⟩ => ⟨S32, .i32⟩
  | .hbm, ⟨44, _⟩ => ⟨S_, .i32⟩
  | .hbm, ⟨45, _⟩ => ⟨S32, .i32⟩
  | .hbm, ⟨46, _⟩ => ⟨S32, .i1⟩
  | .hbm, ⟨47, _⟩ => ⟨S_, .i32⟩
  | .hbm, ⟨48, _⟩ => ⟨S32, .i32⟩
  | .hbm, ⟨49, _⟩ => ⟨S32, .i32⟩
  | .hbm, ⟨50, _⟩ => ⟨S32, .i32⟩
  | .hbm, ⟨51, _⟩ => ⟨S32x1, .i32⟩
  | .hbm, ⟨52, _⟩ => ⟨S16x32x64x512, .f32⟩
  | .hbm, ⟨53, _⟩ => ⟨S1x16x32x64x512, .f32⟩
  | .hbm, ⟨54, _⟩ => ⟨S16x16x32x64x512, .f32⟩
  | .hbm, ⟨55, _⟩ => ⟨S16x16x32x64x512, .f32⟩
  | .hbm, ⟨56, _⟩ => ⟨S_, .f32⟩
  | .hbm, ⟨57, _⟩ => ⟨S16x16x32x64, .f32⟩
  | .hbm, ⟨58, _⟩ => ⟨S_, .f32⟩
  | .hbm, ⟨59, _⟩ => ⟨S16x16x32x64, .f32⟩
  | .hbm, ⟨60, _⟩ => ⟨S16x16x32x64, .f32⟩
  | .hbm, ⟨61, _⟩ => ⟨S16x16x32x64x1, .f32⟩
  | .hbm, ⟨62, _⟩ => ⟨S16x16x32x64x512, .f32⟩
  | .hbm, ⟨63, _⟩ => ⟨S16x16x32x64x512, .f32⟩
  | .hbm, ⟨64, _⟩ => ⟨S16x16x32x64x512, .f32⟩
  | .hbm, ⟨65, _⟩ => ⟨S_, .f32⟩
  | .hbm, ⟨66, _⟩ => ⟨S16x16x32x64, .f32⟩
  | .hbm, ⟨67, _⟩ => ⟨S16x16x32x64x1, .f32⟩
  | .hbm, ⟨68, _⟩ => ⟨S16x16x32x64x512, .f32⟩
  | .hbm, ⟨69, _⟩ => ⟨S16x16x32x64x512, .f32⟩
  | .hbm, ⟨70, _⟩ => ⟨S_, .i32⟩
  | .hbm, ⟨71, _⟩ => ⟨S32x8, .i32⟩
  | .hbm, ⟨72, _⟩ => ⟨S32x8, .i1⟩
  | .hbm, ⟨73, _⟩ => ⟨S_, .i32⟩
  | .hbm, ⟨74, _⟩ => ⟨S32x8, .i32⟩
  | .hbm, ⟨75, _⟩ => ⟨S32x8, .i32⟩
  | .hbm, ⟨76, _⟩ => ⟨S32x8, .i32⟩
  | .hbm, ⟨77, _⟩ => ⟨S32x8x1, .i32⟩
  | .hbm, ⟨78, _⟩ => ⟨S16x32x8x64x16x64, .f32⟩
  | .hbm, ⟨79, _⟩ => ⟨S16x32x512x16x64, .f32⟩
  | .hbm, ⟨80, _⟩ => ⟨S16x32x16x64x64, .f32⟩
  | .hbm, ⟨81, _⟩ => ⟨S16x32x64x16x64, .f32⟩
  | .hbm, ⟨82, _⟩ => ⟨S16x2048x1024, .f32⟩
  | .hbm, ⟨83, _⟩ => ⟨S16x2048x1024, .f32⟩
  | .hbm, ⟨84, _⟩ => ⟨S16x2048x1024, .f32⟩
  | .hbm, ⟨85, _⟩ => ⟨S_, .f32⟩
  | .hbm, ⟨86, _⟩ => ⟨S16x2048x1024, .f32⟩
  | .hbm, ⟨87, _⟩ => ⟨S16x2048x1024, .f32⟩
  | .hbm, ⟨88, _⟩ => ⟨S_, .f32⟩
  | .hbm, ⟨89, _⟩ => ⟨S16x2048x1024, .f32⟩
  | .hbm, ⟨90, _⟩ => ⟨S16x2048x1024, .f32⟩
  | .hbm, ⟨91, _⟩ => ⟨S16x2048x1024, .f32⟩
  | .hbm, ⟨92, _⟩ => ⟨S16x2048x1024, .f32⟩
  | .hbm, ⟨93, _⟩ => ⟨S16x2048x1024, .bf16⟩
  | _, _ => ⟨S16x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_call1_v5 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]
-- ==== Ada.lean ====
abbrev S16x1024 : Shape := ⟨2, ![16, 1024]⟩
abbrev S4x1024x3072 : Shape := ⟨3, ![4, 1024, 3072]⟩
abbrev S4x3072 : Shape := ⟨2, ![4, 3072]⟩
abbrev S4x1x3072 : Shape := ⟨3, ![4, 1, 3072]⟩
abbrev S4x16x3072 : Shape := ⟨3, ![4, 16, 3072]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x3072, .f32⟩
  | .hbm, ⟨2, _⟩ => ⟨S4x3072, .f32⟩
  | .hbm, ⟨3, _⟩ => ⟨S4x1x3072, .f32⟩
  | .hbm, ⟨4, _⟩ => ⟨S4x16x3072, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefAdaIdeal.lean ====
abbrev S16x1024 : Shape := ⟨2, ![16, 1024]⟩
abbrev S4x1024x3072 : Shape := ⟨3, ![4, 1024, 3072]⟩
abbrev S4x3072 : Shape := ⟨2, ![4, 3072]⟩
abbrev S_ : Shape := ⟨0, ![]⟩
abbrev S4x3072x16 : Shape := ⟨3, ![4, 3072, 16]⟩
abbrev S4x16x3072 : Shape := ⟨3, ![4, 16, 3072]⟩
abbrev S4x1x3072 : Shape := ⟨3, ![4, 1, 3072]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x3072, .f32⟩
  | .hbm, ⟨2, _⟩ => ⟨S4x3072, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x3072x16, .f32⟩
  | .hbm, ⟨13, _⟩ => ⟨S4x16x3072, .f32⟩
  | .hbm, ⟨14, _⟩ => ⟨S4x1x3072, .f32⟩
  | .hbm, ⟨15, _⟩ => ⟨S4x16x3072, .f32⟩
  | .hbm, ⟨16, _⟩ => ⟨S4x16x3072, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Rpb.lean ====
abbrev S16x15x31 : Shape := ⟨3, ![16, 15, 31]⟩
abbrev S1x4096 : Shape := ⟨2, ![1, 4096]⟩
abbrev S240x31 : Shape := ⟨2, ![240, 31]⟩
abbrev S240x4096 : Shape := ⟨2, ![240, 4096]⟩
abbrev S240x1 : Shape := ⟨2, ![240, 1]⟩

abbrev nBuf : Space → Nat
  | .hbm => 4
  | .vmem => 3
  | .smem => 0
  | _ => 0

abbrev bufTy : (tb : Table) → Fin (tcTables nBuf tb) → BufTy
  | .hbm, ⟨0, _⟩ => ⟨S16x15x31, .f32⟩
  | .hbm, ⟨1, _⟩ => ⟨S1x4096, .i32⟩
  | .hbm, ⟨2, _⟩ => ⟨S240x31, .f32⟩
  | .hbm, ⟨3, _⟩ => ⟨S240x4096, .f32⟩
  | .local _ .vmem, ⟨0, _⟩ => ⟨S240x31, .f32⟩
  | .local _ .vmem, ⟨1, _⟩ => ⟨S1x4096, .i32⟩
  | .local _ .vmem, ⟨2, _⟩ => ⟨S240x4096, .f32⟩
  | _, _ => ⟨S16x15x31, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S240x31 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S240x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== RefRpbIdeal.lean ====
abbrev S16x15x31 : Shape := ⟨3, ![16, 15, 31]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S_ : Shape := ⟨0, ![]⟩
abbrev S64x64x1 : Shape := ⟨3, ![64, 64, 1]⟩
abbrev S16x15x64x64 : Shape := ⟨4, ![16, 15, 64, 64]⟩
abbrev S240x4096 : Shape := ⟨2, ![240, 4096]⟩

abbrev nBuf : Space → Nat
  | .hbm => 31
  | .vmem => 0
  | .smem => 0
  | _ => 0

abbrev bufTy : (tb : Table) → Fin (tcTables nBuf tb) → BufTy
  | .hbm, ⟨0, _⟩ => ⟨S16x15x31, .f32⟩
  | .hbm, ⟨1, _⟩ => ⟨S64, .i32⟩
  | .hbm, ⟨2, _⟩ => ⟨S1x64, .i32⟩
  | .hbm, ⟨3, _⟩ => ⟨S64x1, .i32⟩
  | .hbm, ⟨4, _⟩ => ⟨S64x64, .i32⟩
  | .hbm, ⟨5, _⟩ => ⟨S64x64, .i32⟩
  | .hbm, ⟨6, _⟩ => ⟨S64x64, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S64x64, .i32⟩
  | .hbm, ⟨11, _⟩ => ⟨S64x64, .i32⟩
  | .hbm, ⟨12, _⟩ => ⟨S_, .i32⟩
  | .hbm, ⟨13, _⟩ => ⟨S64x64, .i32⟩
  | .hbm, ⟨14, _⟩ => ⟨S64x64, .i32⟩
  | .hbm, ⟨15, _⟩ => ⟨S_, .i32⟩
  | .hbm, ⟨16, _⟩ => ⟨S64x64, .i32⟩
  | .hbm, ⟨17, _⟩ => ⟨S64x64, .i32⟩
  | .hbm, ⟨18, _⟩ => ⟨S_, .i32⟩
  | .hbm, ⟨19, _⟩ => ⟨S64x64, .i32⟩
  | .hbm, ⟨20, _⟩ => ⟨S64x64, .i32⟩
  | .hbm, ⟨21, _⟩ => ⟨S_, .i32⟩
  | .hbm, ⟨22, _⟩ => ⟨S64x64, .i32⟩
  | .hbm, ⟨23, _⟩ => ⟨S64x64, .i1⟩
  | .hbm, ⟨24, _⟩ => ⟨S_, .i32⟩
  | .hbm, ⟨25, _⟩ => ⟨S64x64, .i32⟩
  | .hbm, ⟨26, _⟩ => ⟨S64x64, .i32⟩
  | .hbm, ⟨27, _⟩ => ⟨S64x64, .i32⟩
  | .hbm, ⟨28, _⟩ => ⟨S64x64x1, .i32⟩
  | .hbm, ⟨29, _⟩ => ⟨S16x15x64x64, .f32⟩
  | .hbm, ⟨30, _⟩ => ⟨S240x4096, .f32⟩
  | _, _ => ⟨S16x15x31, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_c_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]
-- ==== T5.lean ====
abbrev S4x32 : Shape := ⟨2, ![4, 32]⟩
abbrev S31x128x128 : Shape := ⟨3, ![31, 128, 128]⟩
abbrev S4x31x128x128 : Shape := ⟨4, ![4, 31, 128, 128]⟩
abbrev S1x31x128x128 : Shape := ⟨4, ![1, 31, 128, 128]⟩
abbrev S1x128x128 : Shape := ⟨3, ![1, 128, 128]⟩
abbrev S128x128 : Shape := ⟨2, ![128, 128]⟩
abbrev S1x1 : Shape := ⟨2, ![1, 1]⟩
abbrev S1x1x128x128 : Shape := ⟨4, ![1, 1, 128, 128]⟩

abbrev nBuf : Space → Nat
  | .hbm => 3
  | .vmem => 3
  | .smem => 1
  | _ => 0

abbrev bufTy : (tb : Table) → Fin (tcTables nBuf tb) → BufTy
  | .hbm, ⟨0, _⟩ => ⟨S4x32, .f32⟩
  | .hbm, ⟨1, _⟩ => ⟨S31x128x128, .i32⟩
  | .hbm, ⟨2, _⟩ => ⟨S4x31x128x128, .f32⟩
  | .local _ .vmem, ⟨0, _⟩ => ⟨S31x128x128, .i32⟩
  | .local _ .vmem, ⟨1, _⟩ => ⟨S1x31x128x128, .f32⟩
  | .local _ .vmem, ⟨2, _⟩ => ⟨S1x31x128x128, .f32⟩
  | .local _ .smem, ⟨0, _⟩ => ⟨S4x32, .f32⟩
  | _, _ => ⟨S4x32, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c31_i32 : BitVec 32 := 31#32
  let v0 : BitVec 32 := Scalar.addi c0_i32 c31_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg4 : BitVec 32 := Scf.iv c0_i32 c1_i32 k0_t1
  let v1 : Index := Scalar.indexCast arg4
  let c0 : Index := 0#32
  let c0_1 : Index := 0#32
  ![v1.toNat, 0, 0]
def k0_off2 (i : grid0.Coords) : Fin 2 → Nat :=
  let arg0 : BitVec 32 := BitVec.ofNat 32 (i 0).val
  let v4 : Index := Scalar.indexCast arg0
  let c0_2 : Index := 0#32
  ![v4.toNat, 0]
def k0_off3 (i : grid0.Coords) : Fin 2 → Nat :=
  let arg0 : BitVec 32 := BitVec.ofNat 32 (i 0).val
  let v9 : Index := Scalar.indexCast arg0
  let c1 : Index := 1#32
  ![v9.toNat, 1]
def k0_off4 (i : grid0.Coords) : Fin 2 → Nat :=
  let arg0 : BitVec 32 := BitVec.ofNat 32 (i 0).val
  let v15 : Index := Scalar.indexCast arg0
  let c2 : Index := 2#32
  ![v15.toNat, 2]
def k0_off5 (i : grid0.Coords) : Fin 2 → Nat :=
  let arg0 : BitVec 32 := BitVec.ofNat 32 (i 0).val
  let v21 : Index := Scalar.indexCast arg0
  let c3 : Index := 3#32
  ![v21.toNat, 3]
def k0_off6 (i : grid0.Coords) : Fin 2 → Nat :=
  let arg0 : BitVec 32 := BitVec.ofNat 32 (i 0).val
  let v27 : Index := Scalar.indexCast arg0
  let c4 : Index := 4#32
  ![v27.toNat, 4]
def k0_off7 (i : grid0.Coords) : Fin 2 → Nat :=
  let arg0 : BitVec 32 := BitVec.ofNat 32 (i 0).val
  let v33 : Index := Scalar.indexCast arg0
  let c5 : Index := 5#32
  ![v33.toNat, 5]
def k0_off8 (i : grid0.Coords) : Fin 2 → Nat :=
  let arg0 : BitVec 32 := BitVec.ofNat 32 (i 0).val
  let v39 : Index := Scalar.indexCast arg0
  let c6 : Index := 6#32
  ![v39.toNat, 6]
def k0_off9 (i : grid0.Coords) : Fin 2 → Nat :=
  let arg0 : BitVec 32 := BitVec.ofNat 32 (i 0).val
  let v45 : Index := Scalar.indexCast arg0
  let c7 : Index := 7#32
  ![v45.toNat, 7]
def k0_off10 (i : grid0.Coords) : Fin 2 → Nat :=
  let arg0 : BitVec 32 := BitVec.ofNat 32 (i 0).val
  let v51 : Index := Scalar.indexCast arg0
  let c8 : Index := 8#32
  ![v51.toNat, 8]
def k0_off11 (i : grid0.Coords) : Fin 2 → Nat :=
  let arg0 : BitVec 32 := BitVec.ofNat 32 (i 0).val
  let v57 : Index := Scalar.indexCast arg0
  let c9 : Index := 9#32
  ![v57.toNat, 9]
def k0_off12 (i : grid0.Coords) : Fin 2 → Nat :=
  let arg0 : BitVec 32 := BitVec.ofNat 32 (i 0).val
  let v63 : Index := Scalar.indexCast arg0
  let c10 : Index := 10#32
  ![v63.toNat, 10]
def k0_off13 (i : grid0.Coords) : Fin 2 → Nat :=
  let arg0 : BitVec 32 := BitVec.ofNat 32 (i 0).val
  let v69 : Index := Scalar.indexCast arg0
  let c11 : Index := 11#32
  ![v69.toNat, 11]
def k0_off14 (i : grid0.Coords) : Fin 2 → Nat :=
  let arg0 : BitVec 32 := BitVec.ofNat 32 (i 0).val
  let v75 : Index := Scalar.indexCast arg0
  let c12 : Index := 12#32
  ![v75.toNat, 12]
def k0_off15 (i : grid0.Coords) : Fin 2 → Nat :=
  let arg0 : BitVec 32 := BitVec.ofNat 32 (i 0).val
  let v81 : Index := Scalar.indexCast arg0
  let c13 : Index := 13#32
  ![v81.toNat, 13]
def k0_off16 (i : grid0.Coords) : Fin 2 → Nat :=
  let arg0 : BitVec 32 := BitVec.ofNat 32 (i 0).val
  let v87 : Index := Scalar.indexCast arg0
  let c14 : Index := 14#32
  ![v87.toNat, 14]
def k0_off17 (i : grid0.Coords) : Fin 2 → Nat :=
  let arg0 : BitVec 32 := BitVec.ofNat 32 (i 0).val
  let v93 : Index := Scalar.indexCast arg0
  let c15 : Index := 15#32
  ![v93.toNat, 15]
def k0_off18 (i : grid0.Coords) : Fin 2 → Nat :=
  let arg0 : BitVec 32 := BitVec.ofNat 32 (i 0).val
  let v99 : Index := Scalar.indexCast arg0
  let c16 : Index := 16#32
  ![v99.toNat, 16]
def k0_off19 (i : grid0.Coords) : Fin 2 → Nat :=
  let arg0 : BitVec 32 := BitVec.ofNat 32 (i 0).val
  let v105 : Index := Scalar.indexCast arg0
  let c17 : Index := 17#32
  ![v105.toNat, 17]
def k0_off20 (i : grid0.Coords) : Fin 2 → Nat :=
  let arg0 : BitVec 32 := BitVec.ofNat 32 (i 0).val
  let v111 : Index := Scalar.indexCast arg0
  let c18 : Index := 18#32
  ![v111.toNat, 18]
def k0_off21 (i : grid0.Coords) : Fin 2 → Nat :=
  let arg0 : BitVec 32 := BitVec.ofNat 32 (i 0).val
  let v117 : Index := Scalar.indexCast arg0
  let c19 : Index := 19#32
  ![v117.toNat, 19]
def k0_off22 (i : grid0.Coords) : Fin 2 → Nat :=
  let arg0 : BitVec 32 := BitVec.ofNat 32 (i 0).val
  let v123 : Index := Scalar.indexCast arg0
  let c20 : Index := 20#32
  ![v123.toNat, 20]
def k0_off23 (i : grid0.Coords) : Fin 2 → Nat :=
  let arg0 : BitVec 32 := BitVec.ofNat 32 (i 0).val
  let v129 : Index := Scalar.indexCast arg0
  let c21 : Index := 21#32
  ![v129.toNat, 21]
def k0_off24 (i : grid0.Coords) : Fin 2 → Nat :=
  let arg0 : BitVec 32 := BitVec.ofNat 32 (i 0).val
  let v135 : Index := Scalar.indexCast arg0
  let c22 : Index := 22#32
  ![v135.toNat, 22]
def k0_off25 (i : grid0.Coords) : Fin 2 → Nat :=
  let arg0 : BitVec 32 := BitVec.ofNat 32 (i 0).val
  let v141 : Index := Scalar.indexCast arg0
  let c23 : Index := 23#32
  ![v141.toNat, 23]
def k0_off26 (i : grid0.Coords) : Fin 2 → Nat :=
  let arg0 : BitVec 32 := BitVec.ofNat 32 (i 0).val
  let v147 : Index := Scalar.indexCast arg0
  let c24 : Index := 24#32
  ![v147.toNat, 24]
def k0_off27 (i : grid0.Coords) : Fin 2 → Nat :=
  let arg0 : BitVec 32 := BitVec.ofNat 32 (i 0).val
  let v153 : Index := Scalar.indexCast arg0
  let c25 : Index := 25#32
  ![v153.toNat, 25]
def k0_off28 (i : grid0.Coords) : Fin 2 → Nat :=
  let arg0 : BitVec 32 := BitVec.ofNat 32 (i 0).val
  let v159 : Index := Scalar.indexCast arg0
  let c26 : Index := 26#32
  ![v159.toNat, 26]
def k0_off29 (i : grid0.Coords) : Fin 2 → Nat :=
  let arg0 : BitVec 32 := BitVec.ofNat 32 (i 0).val
  let v165 : Index := Scalar.indexCast arg0
  let c27 : Index := 27#32
  ![v165.toNat, 27]
def k0_off30 (i : grid0.Coords) : Fin 2 → Nat :=
  let arg0 : BitVec 32 := BitVec.ofNat 32 (i 0).val
  let v171 : Index := Scalar.indexCast arg0
  let c28 : Index := 28#32
  ![v171.toNat, 28]
def k0_off31 (i : grid0.Coords) : Fin 2 → Nat :=
  let arg0 : BitVec 32 := BitVec.ofNat 32 (i 0).val
  let v177 : Index := Scalar.indexCast arg0
  let c29 : Index := 29#32
  ![v177.toNat, 29]
def k0_off32 (i : grid0.Coords) : Fin 2 → Nat :=
  let arg0 : BitVec 32 := BitVec.ofNat 32 (i 0).val
  let v183 : Index := Scalar.indexCast arg0
  let c30 : Index := 30#32
  ![v183.toNat, 30]
def k0_off33 (i : grid0.Coords) : Fin 2 → Nat :=
  let arg0 : BitVec 32 := BitVec.ofNat 32 (i 0).val
  let v189 : Index := Scalar.indexCast arg0
  let c31 : Index := 31#32
  ![v189.toNat, 31]
def k0_off34 (k0_t1 : Fin k0_t1_loop.trips) : Fin 4 → Nat :=
  let c0_5 : Index := 0#32
  let c0_i32 : BitVec 32 := 0#32
  let c1_i32 : BitVec 32 := 1#32
  let arg4 : BitVec 32 := Scf.iv c0_i32 c1_i32 k0_t1
  let v193 : Index := Scalar.indexCast arg4
  let c0_6 : Index := 0#32
  let c0_7 : Index := 0#32
  ![0, v193.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S4x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S31x128x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x31x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefT5Ideal.lean ====
abbrev S4x32 : Shape := ⟨2, ![4, 32]⟩
abbrev S31x128x128 : Shape := ⟨3, ![31, 128, 128]⟩
abbrev S_ : Shape := ⟨0, ![]⟩
abbrev S31x128x128x1 : Shape := ⟨4, ![31, 128, 128, 1]⟩
abbrev S4x31x128x128 : Shape := ⟨4, ![4, 31, 128, 128]⟩

abbrev nBuf : Space → Nat
  | .hbm => 11
  | .vmem => 0
  | .smem => 0
  | _ => 0

abbrev bufTy : (tb : Table) → Fin (tcTables nBuf tb) → BufTy
  | .hbm, ⟨0, _⟩ => ⟨S4x32, .f32⟩
  | .hbm, ⟨1, _⟩ => ⟨S31x128x128, .i32⟩
  | .hbm, ⟨2, _⟩ => ⟨S_, .i32⟩
  | .hbm, ⟨3, _⟩ => ⟨S31x128x128, .i32⟩
  | .hbm, ⟨4, _⟩ => ⟨S31x128x128, .i1⟩
  | .hbm, ⟨5, _⟩ => ⟨S_, .i32⟩
  | .hbm, ⟨6, _⟩ => ⟨S31x128x128, .i32⟩
  | .hbm, ⟨7, _⟩ => ⟨S31x128x128, .i32⟩
  | .hbm, ⟨8, _⟩ => ⟨S31x128x128, .i32⟩
  | .hbm, ⟨9, _⟩ => ⟨S31x128x128x1, .i32⟩
  | .hbm, ⟨10, _⟩ => ⟨S4x31x128x128, .f32⟩
  | _, _ => ⟨S4x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Lru.lean ====
abbrev S16x2048x1536 : Shape := ⟨3, ![16, 2048, 1536]⟩
abbrev S4x512 : Shape := ⟨2, ![4, 512]⟩
abbrev S512 : Shape := ⟨1, ![512]⟩
abbrev S2x8x64x64 : Shape := ⟨4, ![2, 8, 64, 64]⟩
abbrev S2x512 : Shape := ⟨2, ![2, 512]⟩
abbrev S1x8x64x64 : Shape := ⟨4, ![1, 8, 64, 64]⟩
abbrev S8x64x64 : Shape := ⟨3, ![8, 64, 64]⟩
abbrev S2x4x64x64 : Shape := ⟨4, ![2, 4, 64, 64]⟩
abbrev S4x4 : Shape := ⟨2, ![4, 4]⟩
abbrev S_ : Shape := ⟨0, ![]⟩
abbrev S2x4x64x1x64 : Shape := ⟨5, ![2, 4, 64, 1, 64]⟩
abbrev S4x1x4x1 : Shape := ⟨4, ![4, 1, 4, 1]⟩
abbrev S1x4x1x4x1 : Shape := ⟨5, ![1, 4, 1, 4, 1]⟩
abbrev S2x4x64x4x64 : Shape := ⟨5, ![2, 4, 64, 4, 64]⟩
abbrev S2x256x256 : Shape := ⟨3, ![2, 256, 256]⟩
abbrev S2x256x1024 : Shape := ⟨3, ![2, 256, 1024]⟩
abbrev S1x512 : Shape := ⟨2, ![1, 512]⟩
abbrev S2x1x256 : Shape := ⟨3, ![2, 1, 256]⟩
abbrev S2x1x1024 : Shape := ⟨3, ![2, 1, 1024]⟩
abbrev S16x2048x512 : Shape := ⟨3, ![16, 2048, 512]⟩
abbrev S1x2048x256 : Shape := ⟨3, ![1, 2048, 256]⟩
abbrev S4x256 : Shape := ⟨2, ![4, 256]⟩
abbrev S1x256 : Shape := ⟨2, ![1, 256]⟩
abbrev S1x256x1024 : Shape := ⟨3, ![1, 256, 1024]⟩
abbrev S1x1x1024 : Shape := ⟨3, ![1, 1, 1024]⟩
abbrev S2x256 : Shape := ⟨2, ![2, 256]⟩
abbrev S2048x256 : Shape := ⟨2, ![2048, 256]⟩
abbrev S256x8x256 : Shape := ⟨3, ![256, 8, 256]⟩
abbrev S256x1x256 : Shape := ⟨3, ![256, 1, 256]⟩
abbrev S256x256 : Shape := ⟨2, ![256, 256]⟩
abbrev S1x256x512 : Shape := ⟨3, ![1, 256, 512]⟩
abbrev S256x512 : Shape := ⟨2, ![256, 512]⟩
abbrev S1x1x512 : Shape := ⟨3, ![1, 1, 512]⟩
abbrev S32x8x256 : Shape := ⟨3, ![32, 8, 256]⟩
abbrev S1x1x256 : Shape := ⟨3, ![1, 1, 256]⟩

abbrev nBuf : Space → Nat
  | .hbm => 93
  | .vmem => 21
  | .smem => 0
  | _ => 0

abbrev bufTy : (tb : Table) → Fin (tcTables nBuf tb) → BufTy
  | .hbm, ⟨0, _⟩ => ⟨S16x2048x1536, .f32⟩
  | .hbm, ⟨1, _⟩ => ⟨S4x512, .f32⟩
  | .hbm, ⟨2, _⟩ => ⟨S512, .f32⟩
  | .hbm, ⟨3, _⟩ => ⟨S2x8x64x64, .f32⟩
  | .hbm, ⟨4, _⟩ => ⟨S2x512, .f32⟩
  | .hbm, ⟨5, _⟩ => ⟨S2x8x64x64, .f32⟩
  | .hbm, ⟨6, _⟩ => ⟨S2x512, .f32⟩
  | .hbm, ⟨7, _⟩ => ⟨S2x512, .f32⟩
  | .hbm, ⟨8, _⟩ => ⟨S1x8x64x64, .f32⟩
  | .hbm, ⟨9, _⟩ => ⟨S8x64x64, .f32⟩
  | .hbm, ⟨10, _⟩ => ⟨S2x4x64x64, .f32⟩
  | .hbm, ⟨11, _⟩ => ⟨S4x4, .i32⟩
  | .hbm, ⟨12, _⟩ => ⟨S4x4, .i32⟩
  | .hbm, ⟨13, _⟩ => ⟨S_, .i32⟩
  | .hbm, ⟨14, _⟩ => ⟨S4x4, .i32⟩
  | .hbm, ⟨15, _⟩ => ⟨S4x4, .i32⟩
  | .hbm, ⟨16, _⟩ => ⟨S4x4, .i1⟩
  | .hbm, ⟨17, _⟩ => ⟨S4x4, .f32⟩
  | .hbm, ⟨18, _⟩ => ⟨S2x4x64x1x64, .f32⟩
  | .hbm, ⟨19, _⟩ => ⟨S4x1x4x1, .f32⟩
  | .hbm, ⟨20, _⟩ => ⟨S1x4x1x4x1, .f32⟩
  | .hbm, ⟨21, _⟩ => ⟨S2x4x64x4x64, .f32⟩
  | .hbm, ⟨22, _⟩ => ⟨S2x4x64x4x64, .f32⟩
  | .hbm, ⟨23, _⟩ => ⟨S2x4x64x4x64, .f32⟩
  | .hbm, ⟨24, _⟩ => ⟨S2x256x256, .f32⟩
  | .hbm, ⟨25, _⟩ => ⟨S1x8x64x64, .f32⟩
  | .hbm, ⟨26, _⟩ => ⟨S8x64x64, .f32⟩
  | .hbm, ⟨27, _⟩ => ⟨S2x4x64x64, .f32⟩
  | .hbm, ⟨28, _⟩ => ⟨S4x4, .i32⟩
  | .hbm, ⟨29, _⟩ => ⟨S4x4, .i32⟩
  | .hbm, ⟨30, _⟩ => ⟨S_, .i32⟩
  | .hbm, ⟨31, _⟩ => ⟨S4x4, .i32⟩
  | .hbm, ⟨32, _⟩ => ⟨S4x4, .i32⟩
  | .hbm, ⟨33, _⟩ => ⟨S4x4, .i1⟩
  | .hbm, ⟨34, _⟩ => ⟨S4x4, .f32⟩
  | .hbm, ⟨35, _⟩ => ⟨S2x4x64x1x64, .f32⟩
  | .hbm, ⟨36, _⟩ => ⟨S4x1x4x1, .f32⟩
  | .hbm, ⟨37, _⟩ => ⟨S1x4x1x4x1, .f32⟩
  | .hbm, ⟨38, _⟩ => ⟨S2x4x64x4x64, .f32⟩
  | .hbm, ⟨39, _⟩ => ⟨S2x4x64x4x64, .f32⟩
  | .hbm, ⟨40, _⟩ => ⟨S2x4x64x4x64, .f32⟩
  | .hbm, ⟨41, _⟩ => ⟨S2x256x256, .f32⟩
  | .hbm, ⟨42, _⟩ => ⟨S1x8x64x64, .f32⟩
  | .hbm, ⟨43, _⟩ => ⟨S8x64x64, .f32⟩
  | .hbm, ⟨44, _⟩ => ⟨S2x4x64x64, .f32⟩
  | .hbm, ⟨45, _⟩ => ⟨S4x4, .i32⟩
  | .hbm, ⟨46, _⟩ => ⟨S4x4, .i32⟩
  | .hbm, ⟨47, _⟩ => ⟨S_, .i32⟩
  | .hbm, ⟨48, _⟩ => ⟨S4x4, .i32⟩
  | .hbm, ⟨49, _⟩ => ⟨S4x4, .i32⟩
  | .hbm, ⟨50, _⟩ => ⟨S4x4, .i1⟩
  | .hbm, ⟨51, _⟩ => ⟨S4x4, .f32⟩
  | .hbm, ⟨52, _⟩ => ⟨S2x4x64x1x64, .f32⟩
  | .hbm, ⟨53, _⟩ => ⟨S4x1x4x1, .f32⟩
  | .hbm, ⟨54, _⟩ => ⟨S1x4x1x4x1, .f32⟩
  | .hbm, ⟨55, _⟩ => ⟨S2x4x64x4x64, .f32⟩
  | .hbm, ⟨56, _⟩ => ⟨S2x4x64x4x64, .f32⟩
  | .hbm, ⟨57, _⟩ => ⟨S2x4x64x4x64, .f32⟩
  | .hbm, ⟨58, _⟩ => ⟨S2x256x256, .f32⟩
  | .hbm, ⟨59, _⟩ => ⟨S1x8x64x64, .f32⟩
  | .hbm, ⟨60, _⟩ => ⟨S8x64x64, .f32⟩
  | .hbm, ⟨61, _⟩ => ⟨S2x4x64x64, .f32⟩
  | .hbm, ⟨62, _⟩ => ⟨S4x4, .i32⟩
  | .hbm, ⟨63, _⟩ => ⟨S4x4, .i32⟩
  | .hbm, ⟨64, _⟩ => ⟨S_, .i32⟩
  | .hbm, ⟨65, _⟩ => ⟨S4x4, .i32⟩
  | .hbm, ⟨66, _⟩ => ⟨S4x4, .i32⟩
  | .hbm, ⟨67, _⟩ => ⟨S4x4, .i1⟩
  | .hbm, ⟨68, _⟩ => ⟨S4x4, .f32⟩
  | .hbm, ⟨69, _⟩ => ⟨S2x4x64x1x64, .f32⟩
  | .hbm, ⟨70, _⟩ => ⟨S4x1x4x1, .f32⟩
  | .hbm, ⟨71, _⟩ => ⟨S1x4x1x4x1, .f32⟩
  | .hbm, ⟨72, _⟩ => ⟨S2x4x64x4x64, .f32⟩
  | .hbm, ⟨73, _⟩ => ⟨S2x4x64x4x64, .f32⟩
  | .hbm, ⟨74, _⟩ => ⟨S2x4x64x4x64, .f32⟩
  | .hbm, ⟨75, _⟩ => ⟨S2x256x256, .f32⟩
  | .hbm, ⟨76, _⟩ => ⟨S2x256x1024, .f32⟩
  | .hbm, ⟨77, _⟩ => ⟨S1x512, .f32⟩
  | .hbm, ⟨78, _⟩ => ⟨S512, .f32⟩
  | .hbm, ⟨79, _⟩ => ⟨S2x1x256, .f32⟩
  | .hbm, ⟨80, _⟩ => ⟨S1x512, .f32⟩
  | .hbm, ⟨81, _⟩ => ⟨S512, .f32⟩
  | .hbm, ⟨82, _⟩ => ⟨S2x1x256, .f32⟩
  | .hbm, ⟨83, _⟩ => ⟨S1x512, .f32⟩
  | .hbm, ⟨84, _⟩ => ⟨S512, .f32⟩
  | .hbm, ⟨85, _⟩ => ⟨S2x1x256, .f32⟩
  | .hbm, ⟨86, _⟩ => ⟨S1x512, .f32⟩
  | .hbm, ⟨87, _⟩ => ⟨S512, .f32⟩
  | .hbm, ⟨88, _⟩ => ⟨S2x1x256, .f32⟩
  | .hbm, ⟨89, _⟩ => ⟨S2x1x1024, .f32⟩
  | .hbm, ⟨90, _⟩ => ⟨S2x256x1024, .bf16⟩
  | .hbm, ⟨91, _⟩ => ⟨S1x512, .f32⟩
  | .hbm, ⟨92, _⟩ => ⟨S16x2048x512, .bf16⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S4x256, .f32⟩
  | .local _ .vmem, ⟨5, _⟩ => ⟨S4x256, .f32⟩
  | .local _ .vmem, ⟨6, _⟩ => ⟨S1x256, .f32⟩
  | .local _ .vmem, ⟨7, _⟩ => ⟨S1x256, .f32⟩
  | .local _ .vmem, ⟨8, _⟩ => ⟨S1x256x1024, .bf16⟩
  | .local _ .vmem, ⟨9, _⟩ => ⟨S1x256x1024, .bf16⟩
  | .local _ .vmem, ⟨10, _⟩ => ⟨S1x1x1024, .f32⟩
  | .local _ .vmem, ⟨11, _⟩ => ⟨S1x1x1024, .f32⟩
  | .local _ .vmem, ⟨12, _⟩ => ⟨S2x256, .f32⟩
  | .local _ .vmem, ⟨13, _⟩ => ⟨S2x256, .f32⟩
  | .local _ .vmem, ⟨14, _⟩ => ⟨S1x2048x256, .bf16⟩
  | .local _ .vmem, ⟨15, _⟩ => ⟨S1x2048x256, .bf16⟩
  | .local _ .vmem, ⟨16, _⟩ => ⟨S2048x256, .f32⟩
  | .local _ .vmem, ⟨17, _⟩ => ⟨S256x8x256, .f32⟩
  | .local _ .vmem, ⟨18, _⟩ => ⟨S256x8x256, .f32⟩
  | .local _ .vmem, ⟨19, _⟩ => ⟨S256x1x256, .f32⟩
  | .local _ .vmem, ⟨20, _⟩ => ⟨S256x8x256, .f32⟩
  | _, _ => ⟨S16x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_1 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_c_2 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 2], ![false, false]⟩

@[reducible] def k0_t1_loop : Scf.Loop 32 :=
  let c0_i32_34 : BitVec 32 := 0#32
  let c8_i32_35 : BitVec 32 := 8#32
  let v78 : BitVec 32 := Scalar.addi c0_i32_34 c8_i32_35
  let c1_i32_36 : BitVec 32 := 1#32
  ⟨c0_i32_34, v78, c1_i32_36⟩
def k0_mult1 (k0_t1 : Fin k0_t1_loop.trips) : BitVec 32 :=
  let c0_i32_34 : BitVec 32 := 0#32
  let c1_i32_36 : BitVec 32 := 1#32
  let arg15 : BitVec 32 := Scf.iv c0_i32_34 c1_i32_36 k0_t1
  let c256_i32_109 : BitVec 32 := 256#32
  let v146 : BitVec 32 := Scalar.muli arg15 c256_i32_109
  v146
def k0_off1 (k0_t1 : Fin k0_t1_loop.trips) : Fin 2 → Nat :=
  let c0_i32_34 : BitVec 32 := 0#32
  let c1_i32_36 : BitVec 32 := 1#32
  let arg15 : BitVec 32 := Scf.iv c0_i32_34 c1_i32_36 k0_t1
  let c256_i32_109 : BitVec 32 := 256#32
  let v146 : BitVec 32 := Scalar.muli arg15 c256_i32_109
  let v147 : BitVec 32 := v146
  let v148 : Index := Scalar.indexCast v147
  let c0_110 : Index := 0#32
  ![v148.toNat, 0]
def k0_mult2 (k0_t1 : Fin k0_t1_loop.trips) : BitVec 32 :=
  let c0_i32_34 : BitVec 32 := 0#32
  let c1_i32_36 : BitVec 32 := 1#32
  let arg15 : BitVec 32 := Scf.iv c0_i32_34 c1_i32_36 k0_t1
  let c32_i32 : BitVec 32 := 32#32
  let v201 : BitVec 32 := Scalar.muli arg15 c32_i32
  v201
def k0_off2 (k0_t1 : Fin k0_t1_loop.trips) : Fin 3 → Nat :=
  let c0_i32_34 : BitVec 32 := 0#32
  let c1_i32_36 : BitVec 32 := 1#32
  let arg15 : BitVec 32 := Scf.iv c0_i32_34 c1_i32_36 k0_t1
  let c32_i32 : BitVec 32 := 32#32
  let v201 : BitVec 32 := Scalar.muli arg15 c32_i32
  let v202 : BitVec 32 := v201
  let v204 : Index := Scalar.indexCast v202
  let c0_128 : Index := 0#32
  let c0_129 : Index := 0#32
  ![v204.toNat, 0, 0]
@[reducible] def k0_t2_loop : Scf.Loop 32 :=
  let c0_i32_43 : BitVec 32 := 0#32
  let c256_i32 : BitVec 32 := 256#32
  let v84 : BitVec 32 := Scalar.addi c0_i32_43 c256_i32
  let c1_i32_44 : BitVec 32 := 1#32
  ⟨c0_i32_43, v84, c1_i32_44⟩
def k0_off3 (k0_t2 : Fin k0_t2_loop.trips) : Fin 3 → Nat :=
  let c0_i32_43 : BitVec 32 := 0#32
  let c1_i32_44 : BitVec 32 := 1#32
  let arg15 : BitVec 32 := Scf.iv c0_i32_43 c1_i32_44 k0_t2
  let v146 : Index := Scalar.indexCast arg15
  let c0_109 : Index := 0#32
  let c0_110 : Index := 0#32
  ![v146.toNat, 0, 0]
def k0_off4 (k0_t2 : Fin k0_t2_loop.trips) : Fin 3 → Nat :=
  let c0_i32_43 : BitVec 32 := 0#32
  let c1_i32_44 : BitVec 32 := 1#32
  let arg15 : BitVec 32 := Scf.iv c0_i32_43 c1_i32_44 k0_t2
  let v150 : Index := Scalar.indexCast arg15
  let c7 : Index := 7#32
  let c0_111 : Index := 0#32
  ![v150.toNat, 7, 0]
@[reducible] def k0_t3_loop : Scf.Loop 32 :=
  let c0_i32_72 : BitVec 32 := 0#32
  let c8_i32_73 : BitVec 32 := 8#32
  let v116 : BitVec 32 := Scalar.addi c0_i32_72 c8_i32_73
  let c1_i32_74 : BitVec 32 := 1#32
  ⟨c0_i32_72, v116, c1_i32_74⟩
def k0_mult3 (k0_t3 : Fin k0_t3_loop.trips) : BitVec 32 :=
  let c0_i32_72 : BitVec 32 := 0#32
  let c1_i32_74 : BitVec 32 := 1#32
  let arg15 : BitVec 32 := Scf.iv c0_i32_72 c1_i32_74 k0_t3
  let c256_i32_109 : BitVec 32 := 256#32
  let v146 : BitVec 32 := Scalar.muli arg15 c256_i32_109
  v146
def k0_off5 (k0_t3 : Fin k0_t3_loop.trips) : Fin 2 → Nat :=
  let c0_i32_72 : BitVec 32 := 0#32
  let c1_i32_74 : BitVec 32 := 1#32
  let arg15 : BitVec 32 := Scf.iv c0_i32_72 c1_i32_74 k0_t3
  let c256_i32_109 : BitVec 32 := 256#32
  let v146 : BitVec 32 := Scalar.muli arg15 c256_i32_109
  let v147 : BitVec 32 := v146
  let v148 : Index := Scalar.indexCast v147
  let c0_110 : Index := 0#32
  ![v148.toNat, 0]
def k0_mult4 (k0_t3 : Fin k0_t3_loop.trips) : BitVec 32 :=
  let c0_i32_72 : BitVec 32 := 0#32
  let c1_i32_74 : BitVec 32 := 1#32
  let arg15 : BitVec 32 := Scf.iv c0_i32_72 c1_i32_74 k0_t3
  let c32_i32 : BitVec 32 := 32#32
  let v201 : BitVec 32 := Scalar.muli arg15 c32_i32
  v201
def k0_off6 (k0_t3 : Fin k0_t3_loop.trips) : Fin 3 → Nat :=
  let c0_i32_72 : BitVec 32 := 0#32
  let c1_i32_74 : BitVec 32 := 1#32
  let arg15 : BitVec 32 := Scf.iv c0_i32_72 c1_i32_74 k0_t3
  let c32_i32 : BitVec 32 := 32#32
  let v201 : BitVec 32 := Scalar.muli arg15 c32_i32
  let v202 : BitVec 32 := v201
  let v204 : Index := Scalar.indexCast v202
  let c0_122 : Index := 0#32
  let c0_123 : Index := 0#32
  ![v204.toNat, 0, 0]
@[reducible] def k0_t4_loop : Scf.Loop 32 :=
  let c0_i32_81 : BitVec 32 := 0#32
  let c256_i32_82 : BitVec 32 := 256#32
  let v122 : BitVec 32 := Scalar.addi c0_i32_81 c256_i32_82
  let c1_i32_83 : BitVec 32 := 1#32
  ⟨c0_i32_81, v122, c1_i32_83⟩
def k0_off7 (k0_t4 : Fin k0_t4_loop.trips) : Fin 3 → Nat :=
  let c255_i32 : BitVec 32 := 255#32
  let c0_i32_81 : BitVec 32 := 0#32
  let c1_i32_83 : BitVec 32 := 1#32
  let arg15 : BitVec 32 := Scf.iv c0_i32_81 c1_i32_83 k0_t4
  let v146 : BitVec 32 := Scalar.subi c255_i32 arg15
  let v147 : Index := Scalar.indexCast v146
  let c0_109 : Index := 0#32
  let c0_110 : Index := 0#32
  ![v147.toNat, 0, 0]
def k0_off8 (k0_t4 : Fin k0_t4_loop.trips) : Fin 3 → Nat :=
  let c255_i32 : BitVec 32 := 255#32
  let c0_i32_81 : BitVec 32 := 0#32
  let c1_i32_83 : BitVec 32 := 1#32
  let arg15 : BitVec 32 := Scf.iv c0_i32_81 c1_i32_83 k0_t4
  let v146 : BitVec 32 := Scalar.subi c255_i32 arg15
  let v151 : Index := Scalar.indexCast v146
  let c0_111 : Index := 0#32
  let c0_112 : Index := 0#32
  ![v151.toNat, 0, 0]
def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefLruIdeal.lean ====
abbrev S16x2048x1536 : Shape := ⟨3, ![16, 2048, 1536]⟩
abbrev S4x512 : Shape := ⟨2, ![4, 512]⟩
abbrev S512 : Shape := ⟨1, ![512]⟩
abbrev S2x8x64x64 : Shape := ⟨4, ![2, 8, 64, 64]⟩
abbrev S2x512 : Shape := ⟨2, ![2, 512]⟩
abbrev S16x2048x512 : Shape := ⟨3, ![16, 2048, 512]⟩
abbrev S_ : Shape := ⟨0, ![]⟩
abbrev S16x2051x512 : Shape := ⟨3, ![16, 2051, 512]⟩
abbrev S1x512 : Shape := ⟨2, ![1, 512]⟩
abbrev S1x1x512 : Shape := ⟨3, ![1, 1, 512]⟩
abbrev S16x2048x8x64 : Shape := ⟨4, ![16, 2048, 8, 64]⟩
abbrev S8x2x64x16x2048 : Shape := ⟨5, ![8, 2, 64, 16, 2048]⟩
abbrev S2x16x2048x8x64 : Shape := ⟨5, ![2, 16, 2048, 8, 64]⟩
abbrev S2x16x2048x512 : Shape := ⟨4, ![2, 16, 2048, 512]⟩
abbrev S2x1x1x512 : Shape := ⟨4, ![2, 1, 1, 512]⟩
abbrev S1x16x2048x512 : Shape := ⟨4, ![1, 16, 2048, 512]⟩
abbrev S2048x2x16x512 : Shape := ⟨4, ![2048, 2, 16, 512]⟩
abbrev S2x16x512 : Shape := ⟨3, ![2, 16, 512]⟩
abbrev S1x2x16x512 : Shape := ⟨4, ![1, 2, 16, 512]⟩

abbrev nBuf : Space → Nat
  | .hbm => 171
  | .vmem => 0
  | .smem => 0
  | _ => 0

abbrev hbmTy0_0 (i : Nat) : BufTy := match i % 128 with
  | 0 => ⟨S16x2048x1536, .f32⟩
  | 1 => ⟨S4x512, .f32⟩
  | 2 => ⟨S512, .f32⟩
  | 3 => ⟨S2x8x64x64, .f32⟩
  | 4 => ⟨S2x512, .f32⟩
  | 5 => ⟨S2x8x64x64, .f32⟩
  | 6 => ⟨S2x512, .f32⟩
  | 7 => ⟨S2x512, .f32⟩
  | 8 => ⟨S16x2048x512, .f32⟩
  | 9 => ⟨S_, .i32⟩
  | 10 => ⟨S_, .f32⟩
  | 11 => ⟨S16x2051x512, .f32⟩
  | 12 => ⟨S1x512, .f32⟩
  | 13 => ⟨S512, .f32⟩
  | 14 => ⟨S16x2048x512, .f32⟩
  | 15 => ⟨S1x1x512, .f32⟩
  | 16 => ⟨S16x2048x512, .f32⟩
  | 17 => ⟨S16x2048x512, .f32⟩
  | 18 => ⟨S1x512, .f32⟩
  | 19 => ⟨S512, .f32⟩
  | 20 => ⟨S16x2048x512, .f32⟩
  | 21 => ⟨S1x1x512, .f32⟩
  | 22 => ⟨S16x2048x512, .f32⟩
  | 23 => ⟨S16x2048x512, .f32⟩
  | 24 => ⟨S16x2048x512, .f32⟩
  | 25 => ⟨S1x512, .f32⟩
  | 26 => ⟨S512, .f32⟩
  | 27 => ⟨S16x2048x512, .f32⟩
  | 28 => ⟨S1x1x512, .f32⟩
  | 29 => ⟨S16x2048x512, .f32⟩
  | 30 => ⟨S16x2048x512, .f32⟩
  | 31 => ⟨S16x2048x512, .f32⟩
  | 32 => ⟨S1x512, .f32⟩
  | 33 => ⟨S512, .f32⟩
  | 34 => ⟨S16x2048x512, .f32⟩
  | 35 => ⟨S1x1x512, .f32⟩
  | 36 => ⟨S16x2048x512, .f32⟩
  | 37 => ⟨S16x2048x512, .f32⟩
  | 38 => ⟨S16x2048x512, .f32⟩
  | 39 => ⟨S1x1x512, .f32⟩
  | 40 => ⟨S16x2048x512, .f32⟩
  | 41 => ⟨S16x2048x512, .f32⟩
  | 42 => ⟨S16x2048x8x64, .f32⟩
  | 43 => ⟨S8x2x64x16x2048, .f32⟩
  | 44 => ⟨S2x16x2048x8x64, .f32⟩
  | 45 => ⟨S2x16x2048x512, .f32⟩
  | 46 => ⟨S2x1x1x512, .f32⟩
  | 47 => ⟨S2x16x2048x512, .f32⟩
  | 48 => ⟨S2x16x2048x512, .f32⟩
  | 49 => ⟨S8x2x64x16x2048, .f32⟩
  | 50 => ⟨S2x16x2048x8x64, .f32⟩
  | 51 => ⟨S2x16x2048x512, .f32⟩
  | 52 => ⟨S2x1x1x512, .f32⟩
  | 53 => ⟨S2x16x2048x512, .f32⟩
  | 54 => ⟨S2x16x2048x512, .f32⟩
  | 55 => ⟨S2x16x2048x512, .f32⟩
  | 56 => ⟨S2x16x2048x512, .f32⟩
  | 57 => ⟨S_, .f32⟩
  | 58 => ⟨S2x16x2048x512, .f32⟩
  | 59 => ⟨S2x16x2048x512, .f32⟩
  | 60 => ⟨S_, .f32⟩
  | 61 => ⟨S2x16x2048x512, .f32⟩
  | 62 => ⟨S2x16x2048x512, .f32⟩
  | 63 => ⟨S_, .f32⟩
  | 64 => ⟨S2x16x2048x512, .f32⟩
  | 65 => ⟨S2x16x2048x512, .f32⟩
  | 66 => ⟨S2x512, .f32⟩
  | 67 => ⟨S_, .f32⟩
  | 68 => ⟨S2x512, .f32⟩
  | 69 => ⟨S2x512, .f32⟩
  | 70 => ⟨S2x512, .f32⟩
  | 71 => ⟨S2x512, .f32⟩
  | 72 => ⟨S2x512, .i1⟩
  | 73 => ⟨S2x512, .f32⟩
  | 74 => ⟨S2x512, .f32⟩
  | 75 => ⟨S2x512, .f32⟩
  | 76 => ⟨S2x512, .f32⟩
  | 77 => ⟨S2x512, .f32⟩
  | 78 => ⟨S2x512, .f32⟩
  | 79 => ⟨S2x512, .f32⟩
  | 80 => ⟨S2x512, .f32⟩
  | 81 => ⟨S2x1x1x512, .f32⟩
  | 82 => ⟨S2x16x2048x512, .f32⟩
  | 83 => ⟨S2x16x2048x512, .f32⟩
  | 84 => ⟨S2x16x2048x512, .f32⟩
  | 85 => ⟨S_, .f32⟩
  | 86 => ⟨S2x16x2048x512, .f32⟩
  | 87 => ⟨S2x16x2048x512, .f32⟩
  | 88 => ⟨S2x16x2048x512, .f32⟩
  | 89 => ⟨S2x16x2048x512, .f32⟩
  | 90 => ⟨S2x16x2048x512, .f32⟩
  | 91 => ⟨S2x16x2048x512, .f32⟩
  | 92 => ⟨S2x16x2048x512, .f32⟩
  | 93 => ⟨S_, .f32⟩
  | 94 => ⟨S2x16x2048x512, .f32⟩
  | 95 => ⟨S2x16x2048x512, .f32⟩
  | 96 => ⟨S_, .f32⟩
  | 97 => ⟨S2x16x2048x512, .f32⟩
  | 98 => ⟨S2x16x2048x512, .f32⟩
  | 99 => ⟨S2x16x2048x512, .f32⟩
  | 100 => ⟨S1x16x2048x512, .f32⟩
  | 101 => ⟨S2x16x2048x512, .f32⟩
  | 102 => ⟨S2x16x2048x512, .f32⟩
  | 103 => ⟨S1x16x2048x512, .f32⟩
  | 104 => ⟨S16x2048x512, .f32⟩
  | 105 => ⟨S1x16x2048x512, .f32⟩
  | 106 => ⟨S1x16x2048x512, .f32⟩
  | 107 => ⟨S16x2048x512, .f32⟩
  | 108 => ⟨S1x16x2048x512, .f32⟩
  | 109 => ⟨S1x16x2048x512, .f32⟩
  | 110 => ⟨S2x16x2048x512, .f32⟩
  | 111 => ⟨S2048x2x16x512, .f32⟩
  | 112 => ⟨S1x16x2048x512, .f32⟩
  | 113 => ⟨S16x2048x512, .f32⟩
  | 114 => ⟨S1x16x2048x512, .f32⟩
  | 115 => ⟨S1x16x2048x512, .f32⟩
  | 116 => ⟨S16x2048x512, .f32⟩
  | 117 => ⟨S1x16x2048x512, .f32⟩
  | 118 => ⟨S1x16x2048x512, .f32⟩
  | 119 => ⟨S2x16x2048x512, .f32⟩
  | 120 => ⟨S2048x2x16x512, .f32⟩
  | 121 => ⟨S_, .f32⟩
  | 122 => ⟨S2x16x512, .f32⟩
  | 123 => ⟨S_, .f32⟩
  | 124 => ⟨S2048x2x16x512, .f32⟩
  | 125 => ⟨S_, .i32⟩
  | 126 => ⟨S2048x2x16x512, .f32⟩
  | 127 => ⟨S2048x2x16x512, .f32⟩
  | _ => ⟨S16x2048x1536, .f32⟩

abbrev hbmTy0_1 (i : Nat) : BufTy := match i % 128 with
  | 0 => ⟨S_, .i32⟩
  | 1 => ⟨S2x16x512, .f32⟩
  | 2 => ⟨S2048x2x16x512, .f32⟩
  | 3 => ⟨S_, .i32⟩
  | 4 => ⟨S_, .i1⟩
  | 5 => ⟨S_, .i32⟩
  | 6 => ⟨S_, .i32⟩
  | 7 => ⟨S_, .i32⟩
  | 8 => ⟨S1x2x16x512, .f32⟩
  | 9 => ⟨S2x16x512, .f32⟩
  | 10 => ⟨S_, .i32⟩
  | 11 => ⟨S_, .i32⟩
  | 12 => ⟨S_, .i32⟩
  | 13 => ⟨S1x2x16x512, .f32⟩
  | 14 => ⟨S2x16x512, .f32⟩
  | 15 => ⟨S2x16x512, .f32⟩
  | 16 => ⟨S2x16x512, .f32⟩
  | 17 => ⟨S1x2x16x512, .f32⟩
  | 18 => ⟨S_, .i32⟩
  | 19 => ⟨S_, .i32⟩
  | 20 => ⟨S_, .i32⟩
  | 21 => ⟨S2048x2x16x512, .f32⟩
  | 22 => ⟨S_, .i32⟩
  | 23 => ⟨S_, .i32⟩
  | 24 => ⟨S2x16x2048x512, .f32⟩
  | 25 => ⟨S1x16x2048x512, .f32⟩
  | 26 => ⟨S16x2048x512, .f32⟩
  | 27 => ⟨S1x16x2048x512, .f32⟩
  | 28 => ⟨S1x16x2048x512, .f32⟩
  | 29 => ⟨S16x2048x512, .f32⟩
  | 30 => ⟨S16x2048x512, .f32⟩
  | 31 => ⟨S16x2048x512, .f32⟩
  | 32 => ⟨S16x2048x512, .f32⟩
  | 33 => ⟨S16x2048x512, .f32⟩
  | 34 => ⟨S_, .f32⟩
  | 35 => ⟨S16x2048x512, .f32⟩
  | 36 => ⟨S16x2048x512, .f32⟩
  | 37 => ⟨S_, .f32⟩
  | 38 => ⟨S16x2048x512, .f32⟩
  | 39 => ⟨S16x2048x512, .f32⟩
  | 40 => ⟨S16x2048x512, .f32⟩
  | 41 => ⟨S16x2048x512, .f32⟩
  | 42 => ⟨S16x2048x512, .bf16⟩
  | _ => ⟨S16x2048x1536, .f32⟩

abbrev hbmTy (i : Nat) : BufTy := match i / 128 with
  | 0 => hbmTy0_0 i
  | 1 => hbmTy0_1 i
  | _ => ⟨S16x2048x1536, .f32⟩

abbrev bufTy : (tb : Table) → Fin (tcTables nBuf tb) → BufTy
  | .hbm, ⟨i, _⟩ => hbmTy i
  | _, _ => ⟨S16x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst : Ref sig .tc := ⟨.hbm, 57, rfl⟩
abbrev main_v47 : Ref sig .tc := ⟨.hbm, 58, rfl⟩
abbrev main_v48 : Ref sig .tc := ⟨.hbm, 59, rfl⟩
abbrev main_cst_0 : Ref sig .tc := ⟨.hbm, 60, rfl⟩
abbrev main_v49 : Ref sig .tc := ⟨.hbm, 61, rfl⟩
abbrev main_v50 : Ref sig .tc := ⟨.hbm, 62, rfl⟩
abbrev main_cst_1 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_2 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_3 : Ref sig .tc := ⟨.hbm, 93, rfl⟩
abbrev main_v66 : Ref sig .tc := ⟨.hbm, 94, rfl⟩
abbrev main_v67 : Ref sig .tc := ⟨.hbm, 95, rfl⟩
abbrev main_cst_4 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_5 : Ref sig .tc := ⟨.hbm, 121, rfl⟩
abbrev main_v92 : Ref sig .tc := ⟨.hbm, 122, rfl⟩
abbrev main_cst_6 : Ref sig .tc := ⟨.hbm, 123, rfl⟩
abbrev main_v93 : Ref sig .tc := ⟨.hbm, 124, rfl⟩
abbrev main_c_7 : Ref sig .tc := ⟨.hbm, 125, rfl⟩
abbrev main_v94_0 : Ref sig .tc := ⟨.hbm, 126, rfl⟩
abbrev main_v94_1 : Ref sig .tc := ⟨.hbm, 127, rfl⟩
abbrev main_v94_2 : Ref sig .tc := ⟨.hbm, 128, rfl⟩
abbrev main_v94_3 : Ref sig .tc := ⟨.hbm, 129, rfl⟩
abbrev main_v94_4 : Ref sig .tc := ⟨.hbm, 130, rfl⟩
abbrev main_while0c_c_12 : Ref sig .tc := ⟨.hbm, 131, rfl⟩
abbrev main_while0c_v106 : Ref sig .tc := ⟨.hbm, 132, rfl⟩
abbrev main_while0b_call2_c : Ref sig .tc := ⟨.hbm, 133, rfl⟩
abbrev main_while0b_call2_c_0 : Ref sig .tc := ⟨.hbm, 134, rfl⟩
abbrev main_while0b_call2_c_1 : Ref sig .tc := ⟨.hbm, 135, rfl⟩
abbrev main_while0b_call2_v0 : Ref sig .tc := ⟨.hbm, 136, rfl⟩
abbrev main_while0b_v106 : Ref sig .tc := ⟨.hbm, 137, rfl⟩
abbrev main_while0b_call3_c : Ref sig .tc := ⟨.hbm, 138, rfl⟩
abbrev main_while0b_call3_c_0 : Ref sig .tc := ⟨.hbm, 139, rfl⟩
abbrev main_while0b_call3_c_1 : Ref sig .tc := ⟨.hbm, 140, rfl⟩
abbrev main_while0b_call3_v0 : Ref sig .tc := ⟨.hbm, 141, rfl⟩
abbrev main_while0b_v107 : Ref sig .tc := ⟨.hbm, 142, rfl⟩
abbrev main_while0b_v108 : Ref sig .tc := ⟨.hbm, 143, rfl⟩
abbrev main_while0b_v109 : Ref sig .tc := ⟨.hbm, 144, rfl⟩
abbrev main_while0b_call4_v0 : Ref sig .tc := ⟨.hbm, 145, rfl⟩
abbrev main_while0b_call4_c : Ref sig .tc := ⟨.hbm, 146, rfl⟩
abbrev main_while0b_call4_c_0 : Ref sig .tc := ⟨.hbm, 147, rfl⟩
abbrev main_while0b_call4_c_1 : Ref sig .tc := ⟨.hbm, 148, rfl⟩
abbrev main_while0b_v110 : Ref sig .tc := ⟨.hbm, 149, rfl⟩
abbrev main_while0b_c_12 : Ref sig .tc := ⟨.hbm, 150, rfl⟩
abbrev main_while0b_v111 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_call5_v0 : Ref sig .tc := ⟨.hbm, 160, rfl⟩
abbrev main_call5_v1 : Ref sig .tc := ⟨.hbm, 161, rfl⟩
abbrev main_call5_cst : Ref sig .tc := ⟨.hbm, 162, rfl⟩
abbrev main_call5_v2 : Ref sig .tc := ⟨.hbm, 163, rfl⟩
abbrev main_call5_v3 : Ref sig .tc := ⟨.hbm, 164, rfl⟩
abbrev main_call5_cst_0 : Ref sig .tc := ⟨.hbm, 165, rfl⟩
abbrev main_call5_v4 : Ref sig .tc := ⟨.hbm, 166, rfl⟩
abbrev main_call5_v5 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩

abbrev nD : Nat := 1
abbrev τ : Topo := Topo.v7x

variable {F : FTy → Type} [FloatOps F]

abbrev main_while0_count : Scf.Loop 32 := ⟨0#32, 2048#32, 1#32⟩
-- ==== Proof.InEvenValue.lean ====
/- The input projection of an even layer: what the two blocks of a grid point hold, and what the two arrays hold after the run. -/
module

public import proofs.«01_k».proof.Proof.Gen.InEvenIdeal.Frame
public import proofs.«01_k».proof.Proof.Gen.RefInEvenIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InEvenIdeal.Value

open Cert.InEvenIdeal Cert.InEvenIdeal.Gen

variable (m : (ℓ : Loc nD τ sig) → Buf (Elt Ideal) ℓ)

/-- Every window's block index at grid point `t`: batch entry `t / 4`, row tile `t % 4`. -/
theorem idx_val : ∀ t : Fin cfg0.N, win0_0.index t = ![t.val / 4, t.val % 4, 0]
    ∧ win0_1.index t = ![t.val / 4, 0, 0]
    ∧ win0_2.index t = ![0, 0]
    ∧ win0_3.index t = ![0, 0]
    ∧ win0_4.index t = ![t.val / 4, t.val % 4, 0]
    ∧ win0_5.index t = ![t.val / 4, t.val % 4, 0] :=
  (by decide +kernel : ∀ t : Fin grid0.N, _)

open Cert.RefInEvenIdeal.Read in
/-- The normalised and modulated rows of a block are the reference's rows `512 * (t % 4) + r` of batch entry `t / 4`. -/
theorem hidden (c : Dev nD) (t : Fin cfg0.N) (i : S512x1024.Idx) (j : Cert.RefInEvenIdeal.S16x2048x1024.Idx)
    (h0 : (j 0 : ℕ) = t.val / 4) (h1 : (j 1 : ℕ) = t.val % 4 * 512 + i 0) (h2 : (j 2 : ℕ) = i 1) :
    k0_pay9 (F := Ideal) (iblk m c 0 t) (iblk m c 1 t) (iblk m c 2 t) (iblk m c 3 t) i
      = val_main_v24 (F := Ideal) (m ((c : Thread nD τ).loc main_arg0)) (m ((c : Thread nD τ).loc main_arg1)) (m ((c : Thread nD τ).loc main_arg2)) j := by
  pointwise [k0_pay9, k0_pay2, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  blk_point [iblk, V, idx_val t]

open Cert.RefInEvenIdeal.Read in
/-- An entry of the block of the first result at grid point `t` is the reference's entry at the position it lands on. -/
theorem entry4 (c : Dev nD) (t : Fin cfg0.N) (y : S1x512x1536.Idx) (j : Cert.RefInEvenIdeal.S16x2048x1536.Idx)
    (hj0 : (j 0 : ℕ) = t.val / 4) (hj1 : (j 1 : ℕ) = t.val % 4 * 512 + y 1) (hj2 : (j 2 : ℕ) = y 2) :
    out0_4 (iblk m c 0 t) (iblk m c 1 t) (iblk m c 2 t) (iblk m c 3 t) y = val_main_v27 (F := Ideal) (m ((c : Thread nD τ).loc main_arg0)) (m ((c : Thread nD τ).loc main_arg1)) (m ((c : Thread nD τ).loc main_arg2)) (m ((c : Thread nD τ).loc main_arg3)) j := by
  canon_tiles x h
  all_goals
    pointwise [k0_pay1, k0_pay3, k0_pay4, k0_pay5, k0_pay6, k0_pay7, k0_pay8, val_main_v27, val_main_v26, val_main_v25]
    refine Finset.sum_congr rfl fun z _ => ?_
    refine congrArg₂ (· * ·) (hidden m c t (ix2 (x 1) z) (ix3 (j 0) (j 1) z) hj0 ?_ rfl) ?_
    · exact hj1.trans (congrArg (t.val % 4 * 512 + ·) h1)
    · blk_ext [iblk, V, idx_val t]

open Cert.RefInEvenIdeal.Read in
/-- The block of the first result at grid point `t` is the reference's result at the positions the block covers. -/
theorem point4 (c : Dev nD) (t : Fin cfg0.N) (y) :
    out0_4 (iblk m c 0 t) (iblk m c 1 t) (iblk m c 2 t) (iblk m c 3 t) y = val_main_v27 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  refine entry4 m c t y _ ?_ ?_ ?_ <;> (blk_simp [idx_val t] <;> try omega)

/-- The first result array after the run is the reference's. -/
theorem final4 (c : Dev nD) : (dats m 0 c).arrAt 4 (cfgs 0).N
    = Cert.RefInEvenIdeal.Read.val_main_v27 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  exact point4 m c t y

open Cert.RefInEvenIdeal.Read in
/-- An entry of the block of the second result at grid point `t` is the reference's entry at the position it lands on. -/
theorem entry5 (c : Dev nD) (t : Fin cfg0.N) (y : S1x512x1536.Idx) (j : Cert.RefInEvenIdeal.S16x2048x1536.Idx)
    (hj0 : (j 0 : ℕ) = t.val / 4) (hj1 : (j 1 : ℕ) = t.val % 4 * 512 + y 1) (hj2 : (j 2 : ℕ) = y 2) :
    out0_5 (iblk m c 0 t) (iblk m c 1 t) (iblk m c 2 t) (iblk m c 3 t) y = val_main_v28 (F := Ideal) (m ((c : Thread nD τ).loc main_arg0)) (m ((c : Thread nD τ).loc main_arg1)) (m ((c : Thread nD τ).loc main_arg2)) (m ((c : Thread nD τ).loc main_arg3)) j := by
  canon_tiles x h
  all_goals
    pointwise [k0_pay1, k0_pay3, k0_pay4, k0_pay5, k0_pay6, k0_pay7, k0_pay8, val_main_v28, val_main_v25]
    refine Finset.sum_congr rfl fun z _ => ?_
    refine congrArg₂ (· * ·) (hidden m c t (ix2 (x 1) z) (ix3 (j 0) (j 1) z) hj0 ?_ rfl) ?_
    · exact hj1.trans (congrArg (t.val % 4 * 512 + ·) h1)
    · blk_ext [iblk, V, idx_val t]

open Cert.RefInEvenIdeal.Read in
/-- The block of the second result at grid point `t` is the reference's result at the positions the block covers. -/
theorem point5 (c : Dev nD) (t : Fin cfg0.N) (y) :
    out0_5 (iblk m c 0 t) (iblk m c 1 t) (iblk m c 2 t) (iblk m c 3 t) y = val_main_v28 (F := Ideal) (m ((c : Thread nD τ).loc main_arg0)) (m ((c : Thread nD τ).loc main_arg1)) (m ((c : Thread nD τ).loc main_arg2)) (m ((c : Thread nD τ).loc main_arg3)) (((cfg0.win 5).blk t).view.emb y) := by
  refine entry5 m c t y _ ?_ ?_ ?_ <;> (blk_simp [idx_val t] <;> try omega)

/-- The second result array after the run is the reference's. -/
theorem final5 (c : Dev nD) : (dats m 0 c).arrAt 5 (cfgs 0).N
    = Cert.RefInEvenIdeal.Read.val_main_v28 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]
  exact point5 m c t y

end Cert.InEvenIdeal.Value
-- ==== Proof.InOddValue.lean ====
/- The input projection of an odd layer: what the two blocks of a grid point hold, and what the two arrays hold after the run. -/
module

public import proofs.«01_k».proof.Proof.Gen.InOddIdeal.Frame
public import proofs.«01_k».proof.Proof.Gen.RefInOddIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InOddIdeal.Value

open Cert.InOddIdeal Cert.InOddIdeal.Gen

variable (m : (ℓ : Loc nD τ sig) → Buf (Elt Ideal) ℓ)

/-- Every window's block index at grid point `t`: batch entry `t / 4`, row tile `t % 4`. -/
theorem idx_val : ∀ t : Fin cfg0.N, win0_0.index t = ![t.val / 4, t.val % 4, 0]
    ∧ win0_1.index t = ![t.val / 4, 0, 0]
    ∧ win0_2.index t = ![0, 0]
    ∧ win0_3.index t = ![0, 0]
    ∧ win0_4.index t = ![t.val / 4, t.val % 4, 0]
    ∧ win0_5.index t = ![t.val / 4, t.val % 4, 0] :=
  (by decide +kernel : ∀ t : Fin grid0.N, _)

open Cert.RefInOddIdeal.Read in
/-- The normalised and modulated rows of a block are the reference's rows `512 * (t % 4) + r` of batch entry `t / 4`. -/
theorem hidden (c : Dev nD) (t : Fin cfg0.N) (i : S512x1024.Idx) (j : Cert.RefInOddIdeal.S16x2048x1024.Idx)
    (h0 : (j 0 : ℕ) = t.val / 4) (h1 : (j 1 : ℕ) = t.val % 4 * 512 + i 0) (h2 : (j 2 : ℕ) = i 1) :
    k0_pay11 (F := Ideal) (iblk m c 0 t) (iblk m c 1 t) (iblk m c 2 t) (iblk m c 3 t) i
      = val_main_v24 (F := Ideal) (m ((c : Thread nD τ).loc main_arg0)) (m ((c : Thread nD τ).loc main_arg1)) (m ((c : Thread nD τ).loc main_arg2)) j := by
  pointwise [k0_pay11, k0_pay4, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  blk_point [iblk, V, idx_val t]

open Cert.RefInOddIdeal.Read in
/-- An entry of the block of the first result at grid point `t` is the reference's entry at the position it lands on. -/
theorem entry4 (c : Dev nD) (t : Fin cfg0.N) (y : S1x512x3072.Idx) (j : Cert.RefInOddIdeal.S16x2048x3072.Idx)
    (hj0 : (j 0 : ℕ) = t.val / 4) (hj1 : (j 1 : ℕ) = t.val % 4 * 512 + y 1) (hj2 : (j 2 : ℕ) = y 2) :
    out0_4 (iblk m c 0 t) (iblk m c 1 t) (iblk m c 2 t) (iblk m c 3 t) y = val_main_v27 (F := Ideal) (m ((c : Thread nD τ).loc main_arg0)) (m ((c : Thread nD τ).loc main_arg1)) (m ((c : Thread nD τ).loc main_arg2)) (m ((c : Thread nD τ).loc main_arg3)) j := by
  canon_tiles x h
  all_goals
    pointwise [k0_pay1, k0_pay10, k0_pay2, k0_pay3, k0_pay5, k0_pay6, k0_pay7, k0_pay8, k0_pay9, val_main_v27, val_main_v26, val_main_v25]
    refine Finset.sum_congr rfl fun z _ => ?_
    refine congrArg₂ (· * ·) (hidden m c t (ix2 (x 1) z) (ix3 (j 0) (j 1) z) hj0 ?_ rfl) ?_
    · exact hj1.trans (congrArg (t.val % 4 * 512 + ·) h1)
    · blk_ext [iblk, V, idx_val t]

open Cert.RefInOddIdeal.Read in
/-- The block of the first result at grid point `t` is the reference's result at the positions the block covers. -/
theorem point4 (c : Dev nD) (t : Fin cfg0.N) (y) :
    out0_4 (iblk m c 0 t) (iblk m c 1 t) (iblk m c 2 t) (iblk m c 3 t) y = val_main_v27 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  refine entry4 m c t y _ ?_ ?_ ?_ <;> (blk_simp [idx_val t] <;> try omega)

/-- The first result array after the run is the reference's. -/
theorem final4 (c : Dev nD) : (dats m 0 c).arrAt 4 (cfgs 0).N
    = Cert.RefInOddIdeal.Read.val_main_v27 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  exact point4 m c t y

open Cert.RefInOddIdeal.Read in
/-- An entry of the block of the second result at grid point `t` is the reference's entry at the position it lands on. -/
theorem entry5 (c : Dev nD) (t : Fin cfg0.N) (y : S1x512x1024.Idx) (j : Cert.RefInOddIdeal.S16x2048x1024.Idx)
    (hj0 : (j 0 : ℕ) = t.val / 4) (hj1 : (j 1 : ℕ) = t.val % 4 * 512 + y 1) (hj2 : (j 2 : ℕ) = y 2) :
    out0_5 (iblk m c 0 t) (iblk m c 1 t) (iblk m c 2 t) (iblk m c 3 t) y = val_main_v28 (F := Ideal) (m ((c : Thread nD τ).loc main_arg0)) (m ((c : Thread nD τ).loc main_arg1)) (m ((c : Thread nD τ).loc main_arg2)) (m ((c : Thread nD τ).loc main_arg3)) j := by
  canon_tiles x h
  all_goals
    pointwise [k0_pay1, k0_pay10, k0_pay2, k0_pay3, k0_pay5, k0_pay6, k0_pay7, k0_pay8, k0_pay9, val_main_v28, val_main_v25]
    refine Finset.sum_congr rfl fun z _ => ?_
    refine congrArg₂ (· * ·) (hidden m c t (ix2 (x 1) z) (ix3 (j 0) (j 1) z) hj0 ?_ rfl) ?_
    · exact hj1.trans (congrArg (t.val % 4 * 512 + ·) h1)
    · blk_ext [iblk, V, idx_val t]

open Cert.RefInOddIdeal.Read in
/-- The block of the second result at grid point `t` is the reference's result at the positions the block covers. -/
theorem point5 (c : Dev nD) (t : Fin cfg0.N) (y) :
    out0_5 (iblk m c 0 t) (iblk m c 1 t) (iblk m c 2 t) (iblk m c 3 t) y = val_main_v28 (F := Ideal) (m ((c : Thread nD τ).loc main_arg0)) (m ((c : Thread nD τ).loc main_arg1)) (m ((c : Thread nD τ).loc main_arg2)) (m ((c : Thread nD τ).loc main_arg3)) (((cfg0.win 5).blk t).view.emb y) := by
  refine entry5 m c t y _ ?_ ?_ ?_ <;> (blk_simp [idx_val t] <;> try omega)

/-- The second result array after the run is the reference's. -/
theorem final5 (c : Dev nD) : (dats m 0 c).arrAt 5 (cfgs 0).N
    = Cert.RefInOddIdeal.Read.val_main_v28 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]
  exact point5 m c t y

end Cert.InOddIdeal.Value
-- ==== Proof.OutEvenValue.lean ====
/- The output projection of an even layer: what one block holds, and what the array holds after the run. -/
module

public import proofs.«01_k».proof.Proof.Gen.OutEvenIdeal.Frame
public import proofs.«01_k».proof.Proof.Gen.RefOutEvenIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutEvenIdeal.Value

open Cert.OutEvenIdeal Cert.OutEvenIdeal.Gen

variable (m : (ℓ : Loc nD τ sig) → Buf (Elt Ideal) ℓ)

/-- Every window's block index at grid point `t`: batch entry `t / 4`, row tile `t % 4`. -/
theorem idx_val : ∀ t : Fin cfg0.N, win0_0.index t = ![t.val / 4, t.val % 4, 0]
    ∧ win0_1.index t = ![t.val / 4, t.val % 4, 0]
    ∧ win0_2.index t = ![0, 0]
    ∧ win0_3.index t = ![t.val / 4, t.val % 4, 0]
    ∧ win0_4.index t = ![t.val / 4, 0, 0]
    ∧ win0_5.index t = ![t.val / 4, t.val % 4, 0] :=
  (by decide +kernel : ∀ t : Fin grid0.N, _)

open Cert.RefOutEvenIdeal.Read in
/-- The block stored at grid point `t` is the reference's result at the positions the block covers. -/
theorem point (c : Dev nD) (t : Fin cfg0.N) (y) :
    k0_pay1 (iblk m c 0 t) (View.ld (iblk m c 2 t) r0_1) (iblk m c 1 t) (View.ld (iblk m c 2 t) r0_2)
      (iblk m c 3 t) (View.ld (iblk m c 4 t) r0_4) y
      = val_main_v9 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  pointwise [k0_pay1, val_main_v9, val_main_v8, val_main_v7, val_main_v6, val_main_v5, val_main_v4, val_main_v3, val_main_v2, val_main_v1, val_main_v0]
  blk_point [iblk, V, idx_val t]

/-- The result array after the run is the reference's result. -/
theorem final (c : Dev nD) : (dats m 0 c).arrAt 5 (cfgs 0).N
    = Cert.RefOutEvenIdeal.Read.val_main_v9 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]; frame_out
  exact point m c t y

end Cert.OutEvenIdeal.Value
-- ==== Proof.OutOddValue.lean ====
/- The output projection of an odd layer: what one block holds, and what the array holds after the run. -/
module

public import proofs.«01_k».proof.Proof.Gen.OutOddIdeal.Frame
public import proofs.«01_k».proof.Proof.Gen.RefOutOddIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutOddIdeal.Value

open Cert.OutOddIdeal Cert.OutOddIdeal.Gen

variable (m : (ℓ : Loc nD τ sig) → Buf (Elt Ideal) ℓ)

/-- Every window's block index at grid point `t`: batch entry `t / 4`, row tile `t % 4`. -/
theorem idx_val : ∀ t : Fin cfg0.N, win0_0.index t = ![t.val / 4, t.val % 4, 0]
    ∧ win0_1.index t = ![0, 0]
    ∧ win0_2.index t = ![t.val / 4, t.val % 4, 0]
    ∧ win0_3.index t = ![t.val / 4, 0, 0]
    ∧ win0_4.index t = ![t.val / 4, t.val % 4, 0] :=
  (by decide +kernel : ∀ t : Fin grid0.N, _)

open Cert.RefOutOddIdeal.Read in
/-- The block stored at grid point `t` is the reference's result at the positions the block covers. -/
theorem point (c : Dev nD) (t : Fin cfg0.N) (y) :
    k0_pay1 (iblk m c 0 t) (iblk m c 1 t) (iblk m c 2 t) (View.ld (iblk m c 3 t) r0_2) y
      = val_main_v7 (F := Ideal) (m ((c : Thread nD τ).loc main_arg0)) (m ((c : Thread nD τ).loc main_arg1))
        (m ((c : Thread nD τ).loc main_arg2)) (m ((c : Thread nD τ).loc main_arg3)) (((cfg0.win 4).blk t).view.emb y) := by
  pointwise [k0_pay1, val_main_v7, val_main_v6, val_main_v5, val_main_v4, val_main_v3, val_main_v2, val_main_v1, val_main_v0]
  blk_point [iblk, V, idx_val t]

/-- The result array after the run is the reference's result. -/
theorem final (c : Dev nD) : (dats m 0 c).arrAt 4 (cfgs 0).N
    = Cert.RefOutOddIdeal.Read.val_main_v7 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp; rw [after0_4]; frame_out
  exact point m c t y

end Cert.OutOddIdeal.Value
-- ==== Proof.OutLastValue.lean ====
/- The output projection of the last odd layer, with the final norm: what one block holds, and what the array holds after the run. -/
module

public import proofs.«01_k».proof.Proof.Gen.OutLastIdeal.Frame
public import proofs.«01_k».proof.Proof.Gen.RefOutLastIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutLastIdeal.Value

open Cert.OutLastIdeal Cert.OutLastIdeal.Gen

variable (m : (ℓ : Loc nD τ sig) → Buf (Elt Ideal) ℓ)

/-- Every window's block index at grid point `t`: batch entry `t / 4`, row tile `t % 4`. -/
theorem idx_val : ∀ t : Fin cfg0.N, win0_0.index t = ![t.val / 4, t.val % 4, 0]
    ∧ win0_1.index t = ![0, 0]
    ∧ win0_2.index t = ![t.val / 4, t.val % 4, 0]
    ∧ win0_3.index t = ![t.val / 4, 0, 0]
    ∧ win0_4.index t = ![0, 0]
    ∧ win0_5.index t = ![t.val / 4, t.val % 4, 0] :=
  (by decide +kernel : ∀ t : Fin grid0.N, _)

open Cert.RefOutLastIdeal.Read in
/-- The block stored at grid point `t` is the reference's result at the positions the block covers. -/
theorem point (c : Dev nD) (t : Fin cfg0.N) (y) :
    k0_pay1 (iblk m c 0 t) (iblk m c 1 t) (iblk m c 2 t) (View.ld (iblk m c 3 t) r0_2) (iblk m c 4 t) y
      = val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  pointwise [k0_pay1, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx_val t]

/-- The result array after the run is the reference's result. -/
theorem final (c : Dev nD) : (dats m 0 c).arrAt 5 (cfgs 0).N
    = Cert.RefOutLastIdeal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]; frame_out
  exact point m c t y

end Cert.OutLastIdeal.Value
-- ==== Proof.KernelBias.lean ====
module
public import proofs.«01_k».proof.Proof.Gen.KernelIdeal.Frame
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

/-- Tile `n` of row block `b` of a point's bias. -/
def tileAt (i : grid0.Coords) (x : Vec Ideal S1x31x128x128 .f32) (b : Fin 2) (n : Fin 16) : FVec Ideal S128x128 .f32 :=
  shapeCast S128x128 (View.ld x (Rect.unit (s := S1x31x128x128) (k0_off1 i (BitVec.ofNat 32 n.val) (BitVec.ofNat 32 b.val))
    S1x1x128x128.size (k0_off1_inb i n b))) shapeCasts_S1x1x128x128_S128x128

/-- Row block `b` of a point's bias: its sixteen tiles side by side. -/
def rowsAt (i : grid0.Coords) (x : Vec Ideal S1x31x128x128 .f32) (b : Fin 2) : FVec Ideal S128x2048 .f32 :=
  concatenate S128x2048 1 (List.ofFn fun n : Fin 16 => (⟨S128x128, tileAt i x b n⟩ : (s : Shape) × (s.Idx → Ideal .f32)))
    concatenates_S128x128_S128x128_S128x128_S128x128_S128x128_S128x128_S128x128_S128x128_S128x128_S128x128_S128x128_S128x128_S128x128_S128x128_S128x128_S128x128_S128x2048_d1

/-- A point's bias: its two row blocks, one below the other. -/
def biasAt (i : grid0.Coords) (x : Vec Ideal S1x31x128x128 .f32) : FVec Ideal S256x2048 .f32 :=
  concatenate S256x2048 0 [⟨S128x2048, rowsAt i x 0⟩, ⟨S128x2048, rowsAt i x 1⟩] concatenates_S128x2048_S128x2048_S256x2048_d0

/-- A tile's element. -/
theorem tileAt_apply (i : grid0.Coords) (x : Vec Ideal S1x31x128x128 .f32) (b : Fin 2) (n : Fin 16) (r c : Fin 128) (p : Fin 31)
    (hp : p.val = n.val + 15 - (2 * (i 1).val + b.val)) : tileAt i x b n (ix2 r c) = x (ix4 0 p r c) := by
  unfold tileAt
  have cast : ∀ y : FVec Ideal S1x1x128x128 .f32, shapeCast S128x128 y shapeCasts_S1x1x128x128_S128x128 (ix2 r c) = y (ix4 0 0 r c) := by
    intro y; pointwise
  rw [cast]
  refine View.ld_unit_apply_of _ _ _ _ _ _ ?_
  intro a
  refine Eq.trans ?_ (congrArg (fun f : Fin 4 → Nat => f a + (ix4 (0 : Fin 1) (0 : Fin 1) r c a).val) (k0_off1_eq i n b)).symm
  match a with
  | ⟨0, _⟩ => rfl
  | ⟨1, _⟩ => exact hp.trans (Nat.add_zero _).symm
  | ⟨2, _⟩ => exact (Nat.zero_add _).symm
  | ⟨3, _⟩ => exact (Nat.zero_add _).symm

/-- A row block's element. -/
theorem rowsAt_apply (i : grid0.Coords) (x : Vec Ideal S1x31x128x128 .f32) (b : Fin 2) (r : Fin 128) (c : Fin 2048) (p : Fin 31)
    (hp : p.val = c.val / 128 + 15 - (2 * (i 1).val + b.val)) :
    rowsAt i x b (ix2 r c) = x (ix4 0 p r ⟨c.val % 128, by omega⟩) := by
  unfold rowsAt
  refine (concatenate_ofFn_apply (t := S128x2048) (s₁ := S128x128) 1 (tileAt i x b) _ rfl 128 rfl (ix2 r c) ⟨c.val / 128, by omega⟩ rfl (ix2 r ⟨c.val % 128, by omega⟩) rfl
    (fun a ha => by
      match a with
      | ⟨0, _⟩ => rfl
      | ⟨1, _⟩ => exact absurd rfl ha)).trans ?_
  exact tileAt_apply i x b _ r _ p hp

/-- The bias of a point at row `r` and key `c`. -/
theorem biasAt_apply (i : grid0.Coords) (x : Vec Ideal S1x31x128x128 .f32) (r : Fin 256) (c : Fin 2048) (p : Fin 31)
    (hp : p.val = c.val / 128 + 15 - (2 * (i 1).val + r.val / 128)) :
    biasAt i x (ix2 r c) = x (ix4 0 p ⟨r.val % 128, by omega⟩ ⟨c.val % 128, by omega⟩) := by
  unfold biasAt
  by_cases hr : r.val < 128
  · rw [concatenate_pair_apply_left (t := S256x2048) 0 (rowsAt i x 0) (rowsAt i x 1)
      concatenates_S128x2048_S128x2048_S256x2048_d0 (ix2 r c) rfl (ix2 ⟨r.val % 128, by omega⟩ c) (fun a => by
        match a with
        | ⟨0, _⟩ => exact Nat.mod_eq_of_lt hr
        | ⟨1, _⟩ => rfl)]
    exact rowsAt_apply i x 0 _ c p (by simpa [Nat.div_eq_of_lt hr] using hp)
  · rw [concatenate_pair_apply_right (t := S256x2048) 0 (rowsAt i x 0) (rowsAt i x 1)
      concatenates_S128x2048_S128x2048_S256x2048_d0 (ix2 r c) rfl rfl (ix2 ⟨r.val % 128, by omega⟩ c) (fun a ha => by
        match a with
        | ⟨0, _⟩ => exact absurd rfl ha
        | ⟨1, _⟩ => rfl) (show r.val % 128 + 128 = r.val by omega)]
    exact rowsAt_apply i x 1 _ c p (by rw [hp, show r.val / 128 = 1 by omega]; rfl)

end Cert.KernelIdeal.Value
end
-- ==== Proof.Softmax.lean ====
module
public import Idealize.ShloMosaic.Lib.Pipeline.ValueKit
public import Idealize.ShloMosaic.Lib.Pointwise
@[expose] public section
noncomputable section
open Idealize.ShloMosaic
namespace Cert.KernelIdeal.Value

/-- A value that is neither infinity. -/
def Finite (x : EReal) : Prop := x ≠ ⊥ ∧ x ≠ ⊤

/-- A finite value is a real number. -/
theorem Finite.real {x : EReal} (h : Finite x) : ∃ r : ℝ, x = (r : EReal) :=
  ⟨x.toReal, (EReal.coe_toReal h.2 h.1).symm⟩

/-- A real number is finite. -/
theorem Finite.of_real (r : ℝ) : Finite (r : EReal) := ⟨EReal.coe_ne_bot r, EReal.coe_ne_top r⟩

/-- The largest score of a row. -/
def rowMax (s : Fin 2048 → EReal) : EReal := Finset.univ.fold max ⊥ s

/-- The softmax of a row of scores at one key. -/
def soft (s : Fin 2048 → EReal) (k : Fin 2048) : EReal :=
  Ideal.div (Ideal.exp (s k - rowMax s)) (∑ z, Ideal.exp (s z - rowMax s))

/-- An exponential is nowhere negative. -/
theorem exp_nonneg (x : EReal) : 0 ≤ Ideal.exp x := by
  induction x with
  | bot => exact le_of_eq Ideal.exp_bot.symm
  | top => rw [Ideal.exp_top]; exact le_top
  | coe r => rw [Ideal.exp_coe]; exact EReal.coe_nonneg.mpr (Real.exp_pos r).le

/-- The exponential of a real number is positive. -/
theorem exp_pos (r : ℝ) : 0 < Ideal.exp (r : EReal) := by
  rw [Ideal.exp_coe]; exact EReal.coe_pos.mpr (Real.exp_pos r)

/-- The largest of finite scores is finite. -/
theorem rowMax_finite (s : Fin 2048 → EReal) (hs : ∀ k, Finite (s k)) : Finite (rowMax s) := by
  refine ⟨?_, ?_⟩
  · have h : s 0 ≤ rowMax s := (Finset.le_fold_max (s 0)).mpr (Or.inr ⟨0, Finset.mem_univ _, le_rfl⟩)
    exact fun e => (hs 0).1 (le_bot_iff.mp (e ▸ h))
  · exact ne_of_lt ((Finset.fold_max_lt ⊤).mpr ⟨bot_lt_top, fun k _ => lt_top_iff_ne_top.mpr (hs k).2⟩)

/-- The denominator of a softmax over finite scores isn't zero. -/
theorem denom_ne_zero (s : Fin 2048 → EReal) (hs : ∀ k, Finite (s k)) : (∑ z, Ideal.exp (s z - rowMax s)) ≠ 0 := by
  obtain ⟨a, ha⟩ := (hs 0).real
  obtain ⟨b, hb⟩ := (rowMax_finite s hs).real
  have h0 : 0 < Ideal.exp (s 0 - rowMax s) := by rw [ha, hb, ← EReal.coe_sub]; exact exp_pos _
  exact (lt_of_lt_of_le h0 (Finset.single_le_sum (f := fun z => Ideal.exp (s z - rowMax s)) (fun z _ => exp_nonneg _) (Finset.mem_univ 0))).ne'

/-- Multiplying by the reciprocal of the denominator is dividing by it, over finite scores. -/
theorem soft_recip (s : Fin 2048 → EReal) (hs : ∀ k, Finite (s k)) (k : Fin 2048) :
    Ideal.exp (s k - rowMax s) * Ideal.div 1 (∑ z, Ideal.exp (s z - rowMax s)) = soft s k :=
  Ideal.mul_one_div (denom_ne_zero s hs)

/-- A sum of real numbers is the real number their sum is. -/
theorem real_sum {n : Nat} (f : Fin n → ℝ) : (∑ d, ((f d : ℝ) : EReal)) = ((∑ d, f d : ℝ) : EReal) := by
  refine Finset.induction_on (motive := fun S : Finset (Fin n) => (∑ d ∈ S, ((f d : ℝ) : EReal)) = ((∑ d ∈ S, f d : ℝ) : EReal))
    Finset.univ (by simp) fun a S ha ih => ?_
  rw [Finset.sum_insert ha, Finset.sum_insert ha, ih, EReal.coe_add]

/-- A sum of products of finite values is finite. -/
theorem dot_finite {n : Nat} (q k : Fin n → EReal) (hq : ∀ d, Finite (q d)) (hk : ∀ d, Finite (k d)) : Finite (∑ d, q d * k d) := by
  choose a ha using fun d => (hq d).real
  choose b hb using fun d => (hk d).real
  simp only [ha, hb, ← EReal.coe_mul]
  rw [real_sum fun d => a d * b d]
  exact Finite.of_real _

/-- A score: a finite product over the lanes, scaled, plus a finite bias. -/
theorem score_finite {n : Nat} (q k : Fin n → EReal) (c : ℝ) (x : EReal) (hq : ∀ d, Finite (q d)) (hk : ∀ d, Finite (k d)) (hx : Finite x) :
    Finite ((∑ d, q d * k d) * (c : EReal) + x) := by
  obtain ⟨a, ha⟩ := (dot_finite q k hq hk).real
  obtain ⟨b, hb⟩ := hx.real
  rw [ha, hb, ← EReal.coe_mul, ← EReal.coe_add]
  exact Finite.of_real _

/-- The scale taken out of a product over the lanes. -/
theorem dot_scale {n : Nat} (q k : Fin n → EReal) (c : ℝ) (hq : ∀ d, Finite (q d)) (hk : ∀ d, Finite (k d)) :
    (∑ d, (q d * (c : EReal)) * k d) = (∑ d, q d * k d) * (c : EReal) := by
  choose a ha using fun d => (hq d).real
  choose b hb using fun d => (hk d).real
  simp only [ha, hb, ← EReal.coe_mul]
  rw [real_sum fun d => a d * c * b d, real_sum fun d => a d * b d, ← EReal.coe_mul, Finset.sum_mul]
  exact congrArg _ (Finset.sum_congr rfl fun d _ => by ring)

/-- A product over 128 lanes of which the upper half is masked: the product over the lower 64. -/
theorem dot_lower (q k : Fin 128 → EReal) (c : ℝ) (hq : ∀ d, Finite (q d)) (hk : ∀ d, Finite (k d)) :
    (∑ l : Fin 128, (if l.val < 64 then q l * (c : EReal) else 0) * k l)
      = (∑ d : Fin 64, q ⟨d.val, by omega⟩ * k ⟨d.val, by omega⟩) * (c : EReal) := by
  rw [← dot_scale (fun d : Fin 64 => q ⟨d.val, by omega⟩) (fun d => k ⟨d.val, by omega⟩) c (fun d => hq _) (fun d => hk _)]
  refine (Fin.sum_univ_add (a := 64) (b := 64) _).trans ?_
  have hz : (∑ i : Fin 64, (if (Fin.natAdd 64 i).val < 64 then q (Fin.natAdd 64 i) * (c : EReal) else 0) * k (Fin.natAdd 64 i)) = 0 := by
    refine Finset.sum_eq_zero fun i _ => ?_
    rw [if_neg (by simp), zero_mul]
  rw [hz, add_zero]
  refine Finset.sum_congr rfl fun i _ => ?_
  rw [if_pos (show (Fin.castAdd 64 i).val < 64 from i.isLt)]
  rfl

/-- A product over 128 lanes of which the lower half is masked: the product over the upper 64. -/
theorem dot_upper (q k : Fin 128 → EReal) (c : ℝ) (hq : ∀ d, Finite (q d)) (hk : ∀ d, Finite (k d)) :
    (∑ l : Fin 128, (if 64 ≤ l.val then q l * (c : EReal) else 0) * k l)
      = (∑ d : Fin 64, q ⟨64 + d.val, by omega⟩ * k ⟨64 + d.val, by omega⟩) * (c : EReal) := by
  rw [← dot_scale (fun d : Fin 64 => q ⟨64 + d.val, by omega⟩) (fun d => k ⟨64 + d.val, by omega⟩) c (fun d => hq _) (fun d => hk _)]
  refine (Fin.sum_univ_add (a := 64) (b := 64) _).trans ?_
  have hz : (∑ i : Fin 64, (if 64 ≤ (Fin.castAdd 64 i).val then q (Fin.castAdd 64 i) * (c : EReal) else 0) * k (Fin.castAdd 64 i)) = 0 := by
    refine Finset.sum_eq_zero fun i _ => ?_
    rw [if_neg (show ¬ 64 ≤ (Fin.castAdd 64 i).val from Nat.not_le.mpr i.isLt), zero_mul]
  rw [hz, zero_add]
  refine Finset.sum_congr rfl fun i _ => ?_
  rw [if_pos (show 64 ≤ (Fin.natAdd 64 i).val from Nat.le_add_right 64 i.val)]
  rfl

/-- The kernel's scale is one eighth. -/
theorem scale_bf16 : (Ideal.ofBits FTy.bf16 0x3E00#16 : EReal) = ((1 / 8 : ℝ) : EReal) := by
  simp [Ideal.ofBits, Ideal.ieee, -EReal.coe_mul]; norm_num

/-- The reference's scale is one eighth. -/
theorem scale_f32 : (Ideal.ofBits FTy.f32 0x3E000000#32 : EReal) = ((1 / 8 : ℝ) : EReal) := by
  simp [Ideal.ofBits, Ideal.ieee, -EReal.coe_mul]; norm_num

/-- The word a row's maximum starts from is −∞. -/
theorem neg_inf : (Ideal.ofBits FTy.f32 0xFF800000#32 : EReal) = ⊥ := by
  simp [Ideal.ofBits, Ideal.ieee]

/-- The word the finiteness of an argument is compared with is +∞. -/
theorem pos_inf : (Ideal.ofBits FTy.f32 0x7F800000#32 : EReal) = ⊤ := by
  simp [Ideal.ofBits, Ideal.ieee]

end Cert.KernelIdeal.Value
end
-- ==== Proof.KernelMaps.lean ====
module
public import proofs.«01_k».proof.Proof.Gen.KernelIdeal.Frame
public import proofs.«01_k».proof.Proof.KernelBias
public import proofs.«01_k».proof.Proof.Softmax
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

/-- The scores of one map at a point: the masked queries against the keys, plus the bias. -/
def scores (q : FVec Ideal S256x128 .bf16) (k : FVec Ideal S2048x128 .bf16) (w : FVec Ideal S256x2048 .f32) : FVec Ideal S256x2048 .f32 :=
  addf (matmul dot_S256x128_S2048x128_S256x2048_1_1_0_0_n_n none q k (constant S256x2048 .f32 0x00000000#32)) w

/-- The row maxima of an array of scores. -/
def maxima (s : FVec Ideal S256x2048 .f32) : FVec Ideal S256 .f32 :=
  multiReduction .maximumf [1] S256 s 0xFF800000#32 reduces_S256x2048_S256 (.inl rfl) rfl

/-- The exponentials of an array of scores less the row maxima. -/
def exps (s : FVec Ideal S256x2048 .f32) : FVec Ideal S256x2048 .f32 :=
  exp (subf s (broadcastTo S256x2048 (shapeCast S256x1 (maxima s) shapeCasts_S256_S256x1) broadcasts_S256x1_S256x2048))

/-- The reciprocals of the row sums of the exponentials. -/
def recips (s : FVec Ideal S256x2048 .f32) : FVec Ideal S256x1 .f32 :=
  divf (broadcast S256x1 (Scalar.ofBits .f32 0x3F800000#32))
    (shapeCast S256x1 (multiReduction .add [1] S256 (exps s) 0x00000000#32 reduces_S256x2048_S256 (.inl rfl) rfl) shapeCasts_S256_S256x1)

/-- The first map at a point. -/
def firstMap (s : FVec Ideal S256x2048 .f32) : FVec Ideal S256x2048 .f32 :=
  mulf (exps s) (broadcastTo S256x2048 (recips s) broadcasts_S256x1_S256x2048)

/-- The second map at a point, times its weight. -/
def secondMap (l : FVec Ideal S1x1 .f32) (s : FVec Ideal S256x2048 .f32) : FVec Ideal S256x2048 .f32 :=
  mulf (exps s) (broadcastTo S256x2048 (mulf (broadcastTo S256x1 l broadcasts_S1x1_S256x1) (recips s)) broadcasts_S256x1_S256x2048)

/-- A row's maximum. -/
theorem maxima_apply (s : FVec Ideal S256x2048 .f32) (r : Fin 256) : maxima s (ix1 r) = rowMax fun z => s (ix2 r z) := by
  unfold maxima rowMax
  refine (Ideal.multiReduction_maximumf_single s _ _ _ _ (ix1 r)).trans ?_
  refine (congrArg (fun w => Finset.fold max w _ Finset.univ) neg_inf).trans ?_
  refine congrArg (fun f => Finset.fold max ⊥ f Finset.univ) (funext fun z => congrArg s ?_)
  funext a
  refine Fin.ext ?_
  match a with
  | ⟨0, _⟩ => rfl
  | ⟨1, _⟩ => rfl

/-- An entry of the exponentials. -/
theorem exps_apply (s : FVec Ideal S256x2048 .f32) (r : Fin 256) (z : Fin 2048) :
    exps s (ix2 r z) = Ideal.exp (s (ix2 r z) - rowMax fun z => s (ix2 r z)) := by
  rw [← maxima_apply]
  unfold exps
  generalize maxima s = y
  pointwise

/-- A row's reciprocal. -/
theorem recips_apply (s : FVec Ideal S256x2048 .f32) (r : Fin 256) :
    recips s (ix2 r 0) = Ideal.div 1 (∑ z, Ideal.exp (s (ix2 r z) - rowMax fun z => s (ix2 r z))) := by
  have e : recips s (ix2 r 0) = Ideal.div 1 (∑ z, exps s (ix2 r z)) := by
    unfold recips
    generalize exps s = y
    pointwise
  rw [e]
  exact congrArg (Ideal.div 1) (Finset.sum_congr rfl fun z _ => exps_apply s r z)

/-- The first map is the softmax of its scores, over finite scores. -/
theorem firstMap_apply (s : FVec Ideal S256x2048 .f32) (r : Fin 256) (hs : ∀ z, Finite (s (ix2 r z))) (z : Fin 2048) :
    firstMap s (ix2 r z) = soft (fun z => s (ix2 r z)) z := by
  have e : firstMap s (ix2 r z) = exps s (ix2 r z) * recips s (ix2 r 0) := by
    unfold firstMap
    generalize exps s = y
    generalize recips s = y'
    pointwise
  rw [e, exps_apply, recips_apply]
  exact soft_recip (fun z => s (ix2 r z)) hs z

/-- The second map is its weight times the softmax of its scores, over finite scores. -/
theorem secondMap_apply (l : FVec Ideal S1x1 .f32) (s : FVec Ideal S256x2048 .f32) (r : Fin 256) (hs : ∀ z, Finite (s (ix2 r z))) (z : Fin 2048) :
    secondMap l s (ix2 r z) = l (ix2 0 0) * soft (fun z => s (ix2 r z)) z := by
  have e : secondMap l s (ix2 r z) = exps s (ix2 r z) * (l (ix2 0 0) * recips s (ix2 r 0)) := by
    unfold secondMap
    generalize exps s = y
    generalize recips s = y'
    pointwise
  rw [e, exps_apply, recips_apply, mul_left_comm]
  exact congrArg (l (ix2 0 0) * ·) (soft_recip (fun z => s (ix2 r z)) hs z)

/-- The second map's weight. -/
theorem lam_apply (x : Vec Ideal S4x64 .f32) : k0_pay2 x (ix2 0 0) = Ideal.exp (∑ z : Fin 64, x (ix2 0 z) * x (ix2 1 z)) - Ideal.exp (∑ z : Fin 64, x (ix2 2 z) * x (ix2 3 z))
        + Ideal.ofBits FTy.f32 0x3E4CCCCD#32 := by
  pointwise [k0_pay2]

/-- The mask of the lower lanes. -/
theorem below (l : Fin 128) : IntOp.cmpi CmpIPredicate.slt (BitVec.ofNat 32 l.val) 64#32 = if l.val < 64 then 1#1 else 0#1 := by
  revert l; decide

/-- The mask of the upper lanes. -/
theorem above (l : Fin 128) : IntOp.cmpi CmpIPredicate.sge (BitVec.ofNat 32 l.val) 64#32 = if 64 ≤ l.val then 1#1 else 0#1 := by
  revert l; decide

/-- The queries of the first map: the scaled lower lanes, the others 0. -/
theorem lower_apply (x : Vec Ideal S1x256x128 .bf16) (r : Fin 256) (l : Fin 128) :
    k0_pay5 x (ix2 r l) = if l.val < 64 then x (ix3 0 r l) * ((1 / 8 : ℝ) : EReal) else 0 := by
  rw [← scale_bf16]
  pointwise [k0_pay5, k0_pay3, k0_pay4]
  rw [below]
  unfold Scalar.select
  by_cases h : l.val < 64
  · rw [if_pos h, if_pos h, if_pos (by decide)]
  · rw [if_neg h, if_neg h, if_neg (by decide)]

/-- The queries of the second map: the scaled upper lanes, the others 0. -/
theorem upper_apply (x : Vec Ideal S1x256x128 .bf16) (r : Fin 256) (l : Fin 128) :
    k0_pay6 x (ix2 r l) = if 64 ≤ l.val then x (ix3 0 r l) * ((1 / 8 : ℝ) : EReal) else 0 := by
  rw [← scale_bf16]
  pointwise [k0_pay6, k0_pay3, k0_pay4]
  rw [above]
  unfold Scalar.select
  by_cases h : 64 ≤ l.val
  · rw [if_pos h, if_pos h, if_pos (by decide)]
  · rw [if_neg h, if_neg h, if_neg (by decide)]

/-- A score. -/
theorem scores_apply (q : FVec Ideal S256x128 .bf16) (k : FVec Ideal S2048x128 .bf16) (w : FVec Ideal S256x2048 .f32) (r : Fin 256) (z : Fin 2048) :
    scores q k w (ix2 r z) = (∑ l : Fin 128, q (ix2 r l) * k (ix2 z l)) + w (ix2 r z) := by
  unfold scores
  pointwise

/-- The keys and the values are their blocks' rows. -/
theorem keys_apply (x : Vec Ideal S1x2048x128 .bf16) (z : Fin 2048) (l : Fin 128) : k0_pay7 x (ix2 z l) = x (ix3 0 z l) := by
  pointwise [k0_pay7]

/-- The keys and the values are their blocks' rows. -/
theorem values_apply (x : Vec Ideal S1x2048x128 .bf16) (z : Fin 2048) (l : Fin 128) : k0_pay8 x (ix2 z l) = x (ix3 0 z l) := by
  pointwise [k0_pay8]

/-- The stored block: the product of the difference of the maps with the values, normalised, scaled and gated. -/
theorem value_apply (v : FVec Ideal S2048x128 .bf16) (a b : FVec Ideal S256x2048 .f32) (sg : Vec Ideal S1x128 .f32) (g : Vec Ideal S1x256x128 .f32)
    (r : Fin 256) (d : Fin 128) (o : Fin 128 → EReal) (ho : ∀ x, (∑ z, (a (ix2 r z) - b (ix2 r z)) * v (ix2 z x)) = o x) :
    k0_pay1 v a b sg g (ix3 0 r d)
      = o d * Ideal.rsqrt (Ideal.div (∑ x, o x * o x) (Ideal.ofBits FTy.f32 0x43000000#32) + Ideal.ofBits FTy.f32 0x358637BD#32)
          * sg (ix2 0 d) * Ideal.ofBits FTy.f32 0x3F4CCCCD#32
          * (g (ix3 0 r d) * Ideal.div 1 (1 + Ideal.exp (-g (ix3 0 r d)))) := by
  rw [← ho d, show (∑ x, o x * o x) = ∑ x, (∑ z, (a (ix2 r z) - b (ix2 r z)) * v (ix2 z x)) * (∑ z, (a (ix2 r z) - b (ix2 r z)) * v (ix2 z x))
    from Finset.sum_congr rfl fun x _ => by rw [ho x]]
  pointwise [k0_pay1]
  rfl

end Cert.KernelIdeal.Value
end
-- ==== Proof.ReferenceBias.lean ====
module
public import proofs.«01_k».proof.Proof.Gen.ReferenceIdeal.Read
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.KernelIdeal.Value
open Cert.ReferenceIdeal Cert.ReferenceIdeal.Gen Cert.ReferenceIdeal.Read

/-- The block number of a key position. -/
theorem key_block : ∀ k : Fin 2048, val_main_v27 (F := Ideal) (ix2 0 k) = BitVec.ofNat 32 (k.val / 128) := by
  decide +kernel

/-- The block number of a query position. -/
theorem query_block : ∀ k : Fin 2048, val_main_v28 (F := Ideal) (ix2 k 0) = BitVec.ofNat 32 (k.val / 128) := by
  decide +kernel

/-- The place of a query position inside its block. -/
theorem query_place : ∀ k : Fin 2048, val_main_v45 (F := Ideal) (ix2 k 0) = BitVec.ofNat 32 (k.val % 128) := by
  decide +kernel

/-- The place of a key position inside its block. -/
theorem key_place : ∀ k : Fin 2048, val_main_v50 (F := Ideal) (ix2 0 k) = BitVec.ofNat 32 (k.val % 128) := by
  decide +kernel

end Cert.KernelIdeal.Value
end
-- ==== Proof.ReferenceGather.lean ====
module
public import proofs.«01_k».proof.Proof.ReferenceBias
@[expose] public section
set_option maxRecDepth 16384
noncomputable section
open Idealize.ShloMosaic Idealize.ShloMosaic.TcCoe Idealize.SL.Sem
open Idealize.ShloMosaic.Pipeline (Dat)
namespace Cert.KernelIdeal.Value
open Cert.ReferenceIdeal Cert.ReferenceIdeal.Gen Cert.ReferenceIdeal.Read

/-- The diagonal number of two blocks, a negative one wrapped, read as a natural number at most 30. -/
theorem diagonal : ∀ a b : Fin 16,
    min (Scalar.select (IntOp.cmpi .slt (IntOp.addi (IntOp.subi (BitVec.ofNat 32 a.val) (BitVec.ofNat 32 b.val)) 15#32) 0#32)
      (IntOp.addi (IntOp.addi (IntOp.subi (BitVec.ofNat 32 a.val) (BitVec.ofNat 32 b.val)) 15#32) 31#32)
      (IntOp.addi (IntOp.subi (BitVec.ofNat 32 a.val) (BitVec.ofNat 32 b.val)) 15#32)).toInt.toNat 30
    = a.val + 15 - b.val := by
  decide +kernel

/-- A place inside a block, read as a natural number at most 127. -/
theorem place : ∀ a : Fin 128, min (BitVec.ofNat 32 a.val).toInt.toNat 127 = a.val := by
  decide +kernel

/-- The first index component at a query and a key. -/
theorem index0 (q k : Fin 2048) : min (val_main_v56 (F := Ideal) (ix3 q k 0)).toInt.toNat 30 = k.val / 128 + 15 - q.val / 128 := by
  have e : val_main_v56 (F := Ideal) (ix3 q k 0) = val_main_v40 (F := Ideal) (ix2 q k) := by
    pointwise [val_main_v56, val_main_v53]
  rw [e]
  have hk := key_block k
  have hq := query_block q
  have e2 : val_main_v40 (F := Ideal) (ix2 q k)
      = Scalar.select (IntOp.cmpi .slt (IntOp.addi (IntOp.subi (val_main_v27 (F := Ideal) (ix2 0 k)) (val_main_v28 (F := Ideal) (ix2 q 0))) 15#32) 0#32)
      (IntOp.addi (IntOp.addi (IntOp.subi (val_main_v27 (F := Ideal) (ix2 0 k)) (val_main_v28 (F := Ideal) (ix2 q 0))) 15#32) 31#32)
      (IntOp.addi (IntOp.subi (val_main_v27 (F := Ideal) (ix2 0 k)) (val_main_v28 (F := Ideal) (ix2 q 0))) 15#32) := by
    simp only [val_main_v40_apply, val_main_v37_apply, val_main_v39_apply, val_main_v33_apply, val_main_v31_apply, val_main_v29_apply, val_main_v30_apply, val_main_v32_apply, val_main_v36_apply, val_main_v38_apply]
    rfl
  rw [e2, hk, hq]
  exact diagonal ⟨k.val / 128, by omega⟩ ⟨q.val / 128, by omega⟩

/-- The second index component: the query's place in its block. -/
theorem index1 (q k : Fin 2048) : min (val_main_v56 (F := Ideal) (ix3 q k 1)).toInt.toNat 127 = q.val % 128 := by
  have e : val_main_v56 (F := Ideal) (ix3 q k 1) = val_main_v45 (F := Ideal) (ix2 q 0) := by
    pointwise [val_main_v56, val_main_v54, val_main_v51]
  rw [e, query_place q]
  exact place ⟨q.val % 128, by omega⟩

/-- The third index component: the key's place in its block. -/
theorem index2 (q k : Fin 2048) : min (val_main_v56 (F := Ideal) (ix3 q k 2)).toInt.toNat 127 = k.val % 128 := by
  have e : val_main_v56 (F := Ideal) (ix3 q k 2) = val_main_v50 (F := Ideal) (ix2 0 k) := by
    pointwise [val_main_v56, val_main_v55, val_main_v52]
  rw [e, key_place k]
  exact place ⟨k.val % 128, by omega⟩

/-- The index triple's first axis is the query. -/
theorem triple_query (h : Fin 4) (q k : Fin 2048) (n : Fin 3) : ((gather_S4x31x128x128_S2048x2048x3_S4x2048x2048_0_123_n_n_123_2_4111).siIdx (ix3 h q k) n 0).val = q.val := by
  refine (congrArg Fin.val (dif_neg (show ¬ ((0 : Fin 3).val = 2) by decide))).trans ?_
  unfold GatherDims.siCoord
  rfl

/-- The index triple's second axis is the key. -/
theorem triple_key (h : Fin 4) (q k : Fin 2048) (n : Fin 3) : ((gather_S4x31x128x128_S2048x2048x3_S4x2048x2048_0_123_n_n_123_2_4111).siIdx (ix3 h q k) n 1).val = k.val := by
  refine (congrArg Fin.val (dif_neg (show ¬ ((1 : Fin 3).val = 2) by decide))).trans ?_
  unfold GatherDims.siCoord
  exact congrArg (fun a => (ix3 h q k a).val) (show _ = (2 : Fin 3) by decide)

/-- Component `n` of the index triple of head `h`, query `q` and key `k` lies at query `q`, key `k` and place `n`. -/
theorem triple (h : Fin 4) (q k : Fin 2048) (n : Fin 3) : (gather_S4x31x128x128_S2048x2048x3_S4x2048x2048_0_123_n_n_123_2_4111).siIdx (ix3 h q k) n = ix3 q k n := by
  funext b; refine Fin.ext ?_
  match b with
  | ⟨0, _⟩ => exact triple_query h q k n
  | ⟨1, _⟩ => exact triple_key h q k n
  | ⟨2, _⟩ => exact (congrArg Fin.val (dif_pos (show ((2 : Fin 3).val = 2) by decide))).trans rfl

/-- The gather of one element per head, query and key: the three index components are read as natural numbers and cut to the
    last tile, row and column. -/
theorem gather_tiles (x3 : (⟨S4x31x128x128, .f32⟩ : BufTy).Contents (Elt Ideal)) (v : IVec S2048x2048x3 32) (h : Fin 4) (q k : Fin 2048) :
    Host.gather gather_S4x31x128x128_S2048x2048x3_S4x2048x2048_0_123_n_n_123_2_4111 x3 v (ix3 h q k)
      = x3 (ix4 h ⟨min (v (ix3 q k 0)).toInt.toNat 30, by omega⟩ ⟨min (v (ix3 q k 1)).toInt.toNat 127, by omega⟩
          ⟨min (v (ix3 q k 2)).toInt.toNat 127, by omega⟩) := by
  unfold Host.gather
  refine congrArg x3 (funext fun a => Fin.ext ?_)
  unfold GatherDims.operandIdx
  match a with
  | ⟨0, _⟩ =>
    have e : (gather_S4x31x128x128_S2048x2048x3_S4x2048x2048_0_123_n_n_123_2_4111).start (ix3 h q k) v 0 = 0 := by
      unfold GatherDims.start
      rw [dif_neg (by decide)]
    have o : (gather_S4x31x128x128_S2048x2048x3_S4x2048x2048_0_123_n_n_123_2_4111).offCoord (ix3 h q k) 0 = h.val := by
      unfold GatherDims.offCoord
      rw [dif_pos (by decide)]
      rfl
    exact (congrArg₂ (fun a b => a + 0 + b) e o).trans (Nat.zero_add _)
  | ⟨1, _⟩ =>
    have e : (gather_S4x31x128x128_S2048x2048x3_S4x2048x2048_0_123_n_n_123_2_4111).start (ix3 h q k) v 1
        = min (v ((gather_S4x31x128x128_S2048x2048x3_S4x2048x2048_0_123_n_n_123_2_4111).siIdx (ix3 h q k) (0 : Fin 3))).toInt.toNat 30 := by
      unfold GatherDims.start
      rw [dif_pos (by decide)]
      rfl
    exact e.trans (congrArg (fun z => min (v z).toInt.toNat 30) (triple h q k 0))
  | ⟨2, _⟩ =>
    have e : (gather_S4x31x128x128_S2048x2048x3_S4x2048x2048_0_123_n_n_123_2_4111).start (ix3 h q k) v 2
        = min (v ((gather_S4x31x128x128_S2048x2048x3_S4x2048x2048_0_123_n_n_123_2_4111).siIdx (ix3 h q k) (1 : Fin 3))).toInt.toNat 127 := by
      unfold GatherDims.start
      rw [dif_pos (by decide)]
      rfl
    exact e.trans (congrArg (fun z => min (v z).toInt.toNat 127) (triple h q k 1))
  | ⟨3, _⟩ =>
    have e : (gather_S4x31x128x128_S2048x2048x3_S4x2048x2048_0_123_n_n_123_2_4111).start (ix3 h q k) v 3
        = min (v ((gather_S4x31x128x128_S2048x2048x3_S4x2048x2048_0_123_n_n_123_2_4111).siIdx (ix3 h q k) (2 : Fin 3))).toInt.toNat 127 := by
      unfold GatherDims.start
      rw [dif_pos (by decide)]
      rfl
    exact e.trans (congrArg (fun z => min (v z).toInt.toNat 127) (triple h q k 2))

/-- Four coordinates that agree give the same index. -/
theorem tile_index (h : Fin 4) {p p' : Fin 31} {r r' c c' : Fin 128} (hp : p.val = p'.val) (hr : r.val = r'.val) (hc : c.val = c'.val) :
    (ix4 h p r c : S4x31x128x128.Idx) = ix4 h p' r' c' := by
  rw [Fin.ext hp, Fin.ext hr, Fin.ext hc]

/-- The reference's bias at head `h`, query `q` and key `k`. -/
theorem reference_bias (x3 : (⟨S4x31x128x128, .f32⟩ : BufTy).Contents (Elt Ideal)) (h : Fin 4) (q k : Fin 2048) :
    val_main_v57 (F := Ideal) x3 (ix3 h q k)
      = x3 (ix4 h ⟨k.val / 128 + 15 - q.val / 128, by omega⟩ ⟨q.val % 128, by omega⟩ ⟨k.val % 128, by omega⟩) := by
  unfold val_main_v57
  rw [gather_tiles]
  exact congrArg x3 (tile_index h (index0 q k) (index1 q k) (index2 q k))

end Cert.KernelIdeal.Value
end
-- ==== Proof.ReferenceValue.lean ====
module
public import proofs.«01_k».proof.Proof.ReferenceGather
public import proofs.«01_k».proof.Proof.Softmax
public import Idealize.ShloMosaic.Lib.KernelVsHost
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Value
open Cert.ReferenceIdeal Cert.ReferenceIdeal.Gen Cert.ReferenceIdeal.Read

variable (x0 : (⟨S4x64, .f32⟩ : BufTy).Contents (Elt Ideal)) (x1 : (⟨S16x2048x1536, .bf16⟩ : BufTy).Contents (Elt Ideal))
  (x2 : (⟨S16x2048x1536, .f32⟩ : BufTy).Contents (Elt Ideal)) (x3 : (⟨S4x31x128x128, .f32⟩ : BufTy).Contents (Elt Ideal))
  (x4 : (⟨S128, .f32⟩ : BufTy).Contents (Elt Ideal))

/-- The reference's score of map `j`: the scaled product over the map's 64 lanes plus the bias. -/
theorem ref_score (b : Fin 16) (h : Fin 4) (j : Fin 2) (q k : Fin 2048) :
    val_main_v63 (F := Ideal) x1 x3 (ix5 b h j q k)
      = (∑ d : Fin 64, x1 (ix3 b q ⟨h.val * 128 + j.val * 64 + d.val, by omega⟩) * x1 (ix3 b k ⟨512 + (h.val * 128 + j.val * 64 + d.val), by omega⟩))
          * ((1 / 8 : ℝ) : EReal) + val_main_v57 (F := Ideal) x3 (ix3 h q k) := by
  rw [← scale_f32]
  pointwise [val_main_v63, val_main_v62, val_main_v61, val_main_v60, val_main_v59, val_main_cst_12, val_main_v58, val_main_v5, val_main_v6, val_main_v1, val_main_v2, val_main_v0]

/-- The reference's maximum of a row of scores. -/
theorem ref_max (b : Fin 16) (h : Fin 4) (j : Fin 2) (q : Fin 2048) :
    val_main_v66 (F := Ideal) x1 x3 (ix4 b h j q) = rowMax fun z => val_main_v63 (F := Ideal) x1 x3 (ix5 b h j q z) := by
  rw [val_main_v66_apply, val_main_v65_apply, val_main_cst_14_apply]
  unfold val_main_v64 val_main_cst_13
  generalize val_main_v63 (F := Ideal) x1 x3 = y
  have hred : S16x4x2x2048x2048.Reduces [4] S16x4x2x2048 := by decide
  have e₁ := congrFun (hostReduce_maximumf_eq_multiReduction (F := Ideal) (u := S_) (φ := .f32) y 0xFF800000#32 reducesTo_S16x4x2x2048x2048_S16x4x2x2048_d4 h_S_
    hred (.inl rfl) rfl) (ix4 b h j q)
  have e₂ := Ideal.multiReduction_maximumf_single (φ := .f32) (a := (4 : Fin 5)) y 0xFF800000#32 hred (.inl rfl) rfl (ix4 b h j q)
  have e := e₁.trans e₂
  refine (congrArg (max (Ideal.ofBits FTy.f32 0xFF800000#32)) e).trans ?_
  rw [neg_inf]
  refine (bot_sup_eq _).trans ?_
  unfold rowMax
  refine (congrArg (fun w => Finset.fold max w _ Finset.univ) neg_inf).trans ?_
  refine congrArg (fun f => Finset.fold max ⊥ f Finset.univ) (funext fun z => congrArg y ?_)
  funext a
  refine Fin.ext ?_
  match a with
  | ⟨0, _⟩ => rfl
  | ⟨1, _⟩ => rfl
  | ⟨2, _⟩ => rfl
  | ⟨3, _⟩ => rfl
  | ⟨4, _⟩ => rfl

/-- The reference's softmax of a row of scores. -/
theorem ref_soft (b : Fin 16) (h : Fin 4) (j : Fin 2) (q k : Fin 2048) :
    val_main_v74 (F := Ideal) x1 x3 (ix5 b h j q k) = soft (fun z => val_main_v63 (F := Ideal) x1 x3 (ix5 b h j q z)) k := by
  unfold soft
  rw [← ref_max]
  pointwise [val_main_v74, val_main_v73, val_main_v72, val_main_v71, val_main_v70, val_main_v69, val_main_v68, val_main_v67, val_main_cst_15]

/-- The reference's first map. -/
theorem ref_first (b : Fin 16) (h : Fin 4) (q k : Fin 2048) :
    val_main_v76 (F := Ideal) x1 x3 (ix4 b h q k) = val_main_v74 (F := Ideal) x1 x3 (ix5 b h 0 q k) := by
  unfold val_main_v76 val_main_v75
  generalize val_main_v74 (F := Ideal) x1 x3 = y
  pointwise

/-- The reference's second map. -/
theorem ref_second (b : Fin 16) (h : Fin 4) (q k : Fin 2048) :
    val_main_v78 (F := Ideal) x1 x3 (ix4 b h q k) = val_main_v74 (F := Ideal) x1 x3 (ix5 b h 1 q k) := by
  unfold val_main_v78 val_main_v77
  generalize val_main_v74 (F := Ideal) x1 x3 = y
  pointwise

/-- The reference's difference of the two maps. -/
theorem ref_map (b : Fin 16) (h : Fin 4) (q k : Fin 2048) :
    val_main_v81 (F := Ideal) x0 x1 x3 (ix4 b h q k)
      = soft (fun z => val_main_v63 (F := Ideal) x1 x3 (ix5 b h 0 q z)) k
          - val_main_v23 (F := Ideal) x0 ix0 * soft (fun z => val_main_v63 (F := Ideal) x1 x3 (ix5 b h 1 q z)) k := by
  rw [val_main_v81_apply, val_main_v80_apply, val_main_v79_apply, ref_first, ref_second, ref_soft, ref_soft]
  exact congrArg (fun i => soft (fun z => val_main_v63 (F := Ideal) x1 x3 (ix5 b h 0 q z)) k
    - val_main_v23 (F := Ideal) x0 i * soft (fun z => val_main_v63 (F := Ideal) x1 x3 (ix5 b h 1 q z)) k) (funext fun a => a.elim0)

/-- The reference's weight of the second map. -/
theorem ref_lam : val_main_v23 (F := Ideal) x0 ix0
    = Ideal.exp (∑ z : Fin 64, x0 (ix2 0 z) * x0 (ix2 1 z)) - Ideal.exp (∑ z : Fin 64, x0 (ix2 2 z) * x0 (ix2 3 z))
        + Ideal.ofBits FTy.f32 0x3E4CCCCD#32 := by
  pointwise [val_main_v23, val_main_v22, val_main_v21, val_main_v20, val_main_v19, val_main_v18, val_main_v17, val_main_v16, val_main_v15,
    val_main_v14, val_main_v13, val_main_v12, val_main_v11, val_main_v10, val_main_v9, val_main_v8, val_main_cst, val_main_cst_0, val_main_cst_1]

/-- The reference's product of the map with the values. -/
theorem ref_out (b : Fin 16) (q : Fin 2048) (h : Fin 4) (d : Fin 128) :
    val_main_v83 (F := Ideal) x0 x1 x3 (ix4 b q h d)
      = ∑ z : Fin 2048, val_main_v81 (F := Ideal) x0 x1 x3 (ix4 b h q z) * x1 (ix3 b z ⟨1024 + (h.val * 128 + d.val), by omega⟩) := by
  pointwise [val_main_v83, val_main_v82, val_main_v7, val_main_v3, val_main_v0]
  exact Finset.sum_congr rfl fun z _ => mul_comm _ _

/-- The reference's result: the product normalised by its root mean square, scaled and gated. -/
theorem ref_value (b : Fin 16) (q : Fin 2048) (h : Fin 4) (d : Fin 128) :
    val_main_v102 (F := Ideal) x0 x1 x2 x3 x4 (ix3 b q ⟨h.val * 128 + d.val, by omega⟩)
      = val_main_v83 (F := Ideal) x0 x1 x3 (ix4 b q h d)
          * Ideal.rsqrt (Ideal.div (∑ x, val_main_v83 (F := Ideal) x0 x1 x3 (ix4 b q h x) * val_main_v83 (F := Ideal) x0 x1 x3 (ix4 b q h x))
              (Ideal.ofBits FTy.f32 0x43000000#32) + Ideal.ofBits FTy.f32 0x358637BD#32)
          * x4 (ix1 d) * Ideal.ofBits FTy.f32 0x3F4CCCCD#32
          * (x2 (ix3 b q ⟨h.val * 128 + d.val, by omega⟩) * Ideal.div 1 (1 + Ideal.exp (-x2 (ix3 b q ⟨h.val * 128 + d.val, by omega⟩)))) := by
  pointwise [val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v4, val_main_cst_16, val_main_cst_17, val_main_cst_18, val_main_cst_19,
    val_main_call4_v0, val_main_call4_v1, val_main_call4_v2, val_main_call4_v3, val_main_call4_v4, val_main_call4_v5, val_main_call4_cst, val_main_call4_cst_0]

end Cert.KernelIdeal.Value
end
-- ==== Proof.KernelValue.lean ====
module
public import proofs.«01_k».proof.Proof.Gen.KernelIdeal.Frame
public import proofs.«01_k».proof.Proof.KernelMaps
public import proofs.«01_k».proof.Proof.ReferenceValue
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

variable (m : (ℓ : Loc nD τ sig) → Buf (Elt Ideal) ℓ)

/-- Every window's block index at grid point `t`: batch entry `t % 16`, row tile `t / 16 % 8`, head `t / 128`. -/
theorem idx_val : ∀ t : Fin cfg0.N, win0_0.index t = ![0, 0]
    ∧ win0_1.index t = ![t.val % 16, t.val / 16 % 8, t.val / 128]
    ∧ win0_2.index t = ![t.val % 16, 0, 4 + (t.val / 128)]
    ∧ win0_3.index t = ![t.val % 16, 0, 8 + (t.val / 128)]
    ∧ win0_4.index t = ![t.val / 128, 0, 0, 0]
    ∧ win0_5.index t = ![t.val % 16, t.val / 16 % 8, t.val / 128]
    ∧ win0_6.index t = ![0, 0]
    ∧ win0_7.index t = ![t.val % 16, t.val / 16 % 8, t.val / 128] :=
  (by decide +kernel : ∀ t : Fin grid0.N, _)

/-- The grid's second coordinate at point `t` is the row tile. -/
theorem tile_val : ∀ t : Fin cfg0.N, (grid0.coords t 1).val = t.val / 16 % 8 :=
  (by decide +kernel : ∀ t : Fin grid0.N, _)

/-- The head of grid point `t`. -/
def head (t : Fin cfg0.N) : Fin 4 := ⟨t.val / 128, by have h : t.val < 512 := t.isLt; omega⟩

/-- The batch entry of grid point `t`. -/
def batch (t : Fin cfg0.N) : Fin 16 := ⟨t.val % 16, by omega⟩

/-- The query of row `r` of grid point `t`'s tile. -/
def query (t : Fin cfg0.N) (r : Fin 256) : Fin 2048 := ⟨t.val / 16 % 8 * 256 + r.val, by omega⟩

/-- The bias of grid point `t`. -/
abbrev bias (c : Dev nD) (t : Fin cfg0.N) : FVec Ideal S256x2048 .f32 := biasAt (grid0.coords t) (iblk m c 4 t)

/-- What grid point `t` stores, by the two maps. -/
theorem stored (c : Dev nD) (t : Fin cfg0.N) : outsAt0 m c t
    = k0_pay1 (k0_pay8 (iblk m c 3 t)) (firstMap (scores (k0_pay5 (iblk m c 1 t)) (k0_pay7 (iblk m c 2 t)) (bias m c t)))
        (secondMap (k0_pay2 (iblk m c 0 t)) (scores (k0_pay6 (iblk m c 1 t)) (k0_pay7 (iblk m c 2 t)) (bias m c t)))
        (iblk m c 6 t) (iblk m c 5 t) := by
  unfold outsAt0 out0_A_7
  frame_out
  rfl

/-- The block of queries. -/
theorem query_block_apply (c : Dev nD) (t : Fin cfg0.N) (r : Fin 256) (l : Fin 128) : iblk m c 1 t (ix3 0 r l)
    = m ((c : Thread nD τ).loc main_arg1) (ix3 (batch t) (query t r) ⟨(head t).val * 128 + l.val, by omega⟩) := by
  blk_point [iblk, V, idx_val t]
  all_goals (simp only [head, batch, query]; try omega)

/-- The block of keys. -/
theorem key_block_apply (c : Dev nD) (t : Fin cfg0.N) (z : Fin 2048) (l : Fin 128) : iblk m c 2 t (ix3 0 z l)
    = m ((c : Thread nD τ).loc main_arg1) (ix3 (batch t) z ⟨512 + ((head t).val * 128 + l.val), by omega⟩) := by
  blk_point [iblk, V, idx_val t]
  all_goals (simp only [head, batch, query]; try omega)

/-- The block of values. -/
theorem value_block_apply (c : Dev nD) (t : Fin cfg0.N) (z : Fin 2048) (l : Fin 128) : iblk m c 3 t (ix3 0 z l)
    = m ((c : Thread nD τ).loc main_arg1) (ix3 (batch t) z ⟨1024 + ((head t).val * 128 + l.val), by omega⟩) := by
  blk_point [iblk, V, idx_val t]
  all_goals (simp only [head, batch, query]; try omega)

/-- The block of bias tiles. -/
theorem tile_block_apply (c : Dev nD) (t : Fin cfg0.N) (p : Fin 31) (r l : Fin 128) : iblk m c 4 t (ix4 0 p r l)
    = m ((c : Thread nD τ).loc main_arg3) (ix4 (head t) p r l) := by
  blk_point [iblk, V, idx_val t]
  all_goals (simp only [head, batch, query]; try omega)

/-- The block of gates. -/
theorem gate_block_apply (c : Dev nD) (t : Fin cfg0.N) (r : Fin 256) (l : Fin 128) : iblk m c 5 t (ix3 0 r l)
    = m ((c : Thread nD τ).loc main_arg2) (ix3 (batch t) (query t r) ⟨(head t).val * 128 + l.val, by omega⟩) := by
  blk_point [iblk, V, idx_val t]
  all_goals (simp only [head, batch, query]; try omega)

/-- The block of gains. -/
theorem gain_block_apply (c : Dev nD) (t : Fin cfg0.N) (l : Fin 128) : iblk m c 6 t (ix2 0 l) = m ((c : Thread nD τ).loc main_arg4) (ix1 l) := by
  blk_point [iblk, V, idx_val t]
  all_goals (simp only [head, batch, query]; try omega)

/-- The block the second map's weight is made from. -/
theorem lam_block_apply (c : Dev nD) (t : Fin cfg0.N) (a : Fin 4) (z : Fin 64) : iblk m c 0 t (ix2 a z) = m ((c : Thread nD τ).loc main_arg0) (ix2 a z) := by
  blk_point [iblk, V, idx_val t]
  all_goals (simp only [head, batch, query]; try omega)

open Cert.ReferenceIdeal.Read

section Finite
variable (c : Dev nD) (h1 : ∀ (b : Fin 16) (s : Fin 2048) (k : Fin 1536), k.val < 1024 → Finite (m ((c : Thread nD τ).loc main_arg1) (ix3 b s k))) (h3 : ∀ i, Finite (m ((c : Thread nD τ).loc main_arg3) i))

/-- The bias of a point is the reference's. -/
theorem bias_eq (t : Fin cfg0.N) (r : Fin 256) (z : Fin 2048) : bias m c t (ix2 r z)
    = val_main_v57 (F := Ideal) (m ((c : Thread nD τ).loc main_arg3)) (ix3 (head t) (query t r) z) := by
  have e : (query t r).val / 128 = 2 * (grid0.coords t 1).val + r.val / 128 := by
    rw [tile_val t]; simp only [query]; omega
  have e' : (query t r).val % 128 = r.val % 128 := by simp only [query]; omega
  rw [reference_bias]
  refine (biasAt_apply (grid0.coords t) (iblk m c 4 t) r z ⟨z.val / 128 + 15 - (query t r).val / 128, by omega⟩ (by rw [← e])).trans ?_
  rw [tile_block_apply]
  exact congrArg _ (tile_index (head t) rfl e'.symm rfl)

include h1 in
/-- The scores of the first map are the reference's. -/
theorem first_scores (t : Fin cfg0.N) (r : Fin 256) (z : Fin 2048) :
    scores (k0_pay5 (iblk m c 1 t)) (k0_pay7 (iblk m c 2 t)) (bias m c t) (ix2 r z)
      = val_main_v63 (F := Ideal) (m ((c : Thread nD τ).loc main_arg1)) (m ((c : Thread nD τ).loc main_arg3)) (ix5 (batch t) (head t) 0 (query t r) z) := by
  rw [scores_apply, bias_eq, ref_score]
  refine congrArg (· + _) ?_
  simp only [lower_apply, keys_apply, query_block_apply, key_block_apply]
  refine (dot_lower (fun l => m ((c : Thread nD τ).loc main_arg1) (ix3 (batch t) (query t r) ⟨(head t).val * 128 + l.val, by omega⟩))
    (fun l => m ((c : Thread nD τ).loc main_arg1) (ix3 (batch t) z ⟨512 + ((head t).val * 128 + l.val), by omega⟩)) (1 / 8)
    (fun l => h1 _ _ _ (show (head t).val * 128 + l.val < 1024 by omega)) (fun l => h1 _ _ _ (show 512 + ((head t).val * 128 + l.val) < 1024 by omega))).trans ?_
  refine congrArg (· * _) (Finset.sum_congr rfl fun d _ => ?_)
  rfl

include h1 in
/-- The scores of the second map are the reference's. -/
theorem second_scores (t : Fin cfg0.N) (r : Fin 256) (z : Fin 2048) :
    scores (k0_pay6 (iblk m c 1 t)) (k0_pay7 (iblk m c 2 t)) (bias m c t) (ix2 r z)
      = val_main_v63 (F := Ideal) (m ((c : Thread nD τ).loc main_arg1)) (m ((c : Thread nD τ).loc main_arg3)) (ix5 (batch t) (head t) 1 (query t r) z) := by
  rw [scores_apply, bias_eq, ref_score]
  refine congrArg (· + _) ?_
  simp only [upper_apply, keys_apply, query_block_apply, key_block_apply]
  refine (dot_upper (fun l => m ((c : Thread nD τ).loc main_arg1) (ix3 (batch t) (query t r) ⟨(head t).val * 128 + l.val, by omega⟩))
    (fun l => m ((c : Thread nD τ).loc main_arg1) (ix3 (batch t) z ⟨512 + ((head t).val * 128 + l.val), by omega⟩)) (1 / 8)
    (fun l => h1 _ _ _ (show (head t).val * 128 + l.val < 1024 by omega)) (fun l => h1 _ _ _ (show 512 + ((head t).val * 128 + l.val) < 1024 by omega))).trans ?_
  refine congrArg (· * _) (Finset.sum_congr rfl fun d _ => ?_)
  refine congrArg₂ (· * ·) (congrArg _ (congrArg (ix3 _ _) (Fin.ext ?_))) (congrArg _ (congrArg (ix3 _ _) (Fin.ext ?_)))
  · exact (Nat.add_assoc _ _ _).symm
  · exact congrArg (512 + ·) (Nat.add_assoc _ _ _).symm

include h1 h3 in
/-- The reference's scores are finite. -/
theorem ref_score_finite (b : Fin 16) (h : Fin 4) (j : Fin 2) (q z : Fin 2048) :
    Finite (val_main_v63 (F := Ideal) (m ((c : Thread nD τ).loc main_arg1)) (m ((c : Thread nD τ).loc main_arg3)) (ix5 b h j q z)) := by
  rw [ref_score, reference_bias]
  exact score_finite _ _ _ _ (fun d => h1 _ _ _ (show h.val * 128 + j.val * 64 + d.val < 1024 by omega))
    (fun d => h1 _ _ _ (show 512 + (h.val * 128 + j.val * 64 + d.val) < 1024 by omega)) (h3 _)

include h1 h3 in
/-- The difference of a point's two maps is the reference's. -/
theorem map_eq (t : Fin cfg0.N) (r : Fin 256) (z : Fin 2048) :
    firstMap (scores (k0_pay5 (iblk m c 1 t)) (k0_pay7 (iblk m c 2 t)) (bias m c t)) (ix2 r z)
        - secondMap (k0_pay2 (iblk m c 0 t)) (scores (k0_pay6 (iblk m c 1 t)) (k0_pay7 (iblk m c 2 t)) (bias m c t)) (ix2 r z)
      = val_main_v81 (F := Ideal) (m ((c : Thread nD τ).loc main_arg0)) (m ((c : Thread nD τ).loc main_arg1)) (m ((c : Thread nD τ).loc main_arg3))
          (ix4 (batch t) (head t) (query t r) z) := by
  rw [firstMap_apply _ r (fun z => by rw [first_scores m c h1]; exact ref_score_finite m c h1 h3 _ _ _ _ _),
    secondMap_apply _ _ r (fun z => by rw [second_scores m c h1]; exact ref_score_finite m c h1 h3 _ _ _ _ _),
    ref_map, ref_lam, lam_apply]
  simp only [first_scores m c h1, second_scores m c h1, lam_block_apply]

include h1 h3 in
/-- The product of a point's map with the values is the reference's. -/
theorem out_eq (t : Fin cfg0.N) (r : Fin 256) (d : Fin 128) :
    (∑ z, (firstMap (scores (k0_pay5 (iblk m c 1 t)) (k0_pay7 (iblk m c 2 t)) (bias m c t)) (ix2 r z)
        - secondMap (k0_pay2 (iblk m c 0 t)) (scores (k0_pay6 (iblk m c 1 t)) (k0_pay7 (iblk m c 2 t)) (bias m c t)) (ix2 r z))
          * k0_pay8 (iblk m c 3 t) (ix2 z d))
      = val_main_v83 (F := Ideal) (m ((c : Thread nD τ).loc main_arg0)) (m ((c : Thread nD τ).loc main_arg1)) (m ((c : Thread nD τ).loc main_arg3))
          (ix4 (batch t) (query t r) (head t) d) := by
  rw [ref_out]
  refine Finset.sum_congr rfl fun z _ => ?_
  rw [map_eq m c h1 h3, values_apply, value_block_apply]

include h1 h3 in
/-- An entry of the block stored at grid point `t` is the reference's. -/
theorem entry (t : Fin cfg0.N) (r : Fin 256) (d : Fin 128) : outsAt0 m c t (ix3 0 r d)
    = val_main_v102 (F := Ideal) (m ((c : Thread nD τ).loc main_arg0)) (m ((c : Thread nD τ).loc main_arg1)) (m ((c : Thread nD τ).loc main_arg2))
        (m ((c : Thread nD τ).loc main_arg3)) (m ((c : Thread nD τ).loc main_arg4))
        (ix3 (batch t) (query t r) ⟨(head t).val * 128 + d.val, by omega⟩) := by
  rw [stored, value_apply _ _ _ _ _ r d _ (fun x => out_eq m c h1 h3 t r x), ref_value, gain_block_apply, gate_block_apply]

include h1 h3 in
/-- The block stored at grid point `t` is the reference's result at the positions the block covers. -/
theorem point (t : Fin cfg0.N) (y) : outsAt0 m c t y
    = val_main_v102 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 7).blk t).view.emb y) := by
  have e : y = ix3 0 (y 1) (y 2) := by
    funext a; refine Fin.ext ?_
    match a with
    | ⟨0, _⟩ => exact Nat.lt_one_iff.mp (y 0).isLt
    | ⟨1, _⟩ => rfl
    | ⟨2, _⟩ => rfl
  refine (congrArg (outsAt0 m c t) e).trans ((entry m c h1 h3 t (y 1) (y 2)).trans ?_)
  refine congrArg _ ?_
  blk_ext [iblk, V, idx_val t]
  all_goals (simp only [head, batch, query]; try omega)

include h1 h3 in
/-- The result array after the run is the reference's result, for finite queries, keys and bias tiles. -/
theorem final : (dats m 0 c).arrAt 7 (cfgs 0).N
    = val_main_v102 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t hf y => ?_
  blk_simp; rw [after0_7]
  exact point m c h1 h3 t y

end Finite

end Cert.KernelIdeal.Value
end
-- ==== Proof.Precondition.lean ====
module
public import proofs.«01_k».proof.Defs
public import proofs.«01_k».proof.Proof.Softmax
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.KernelIdeal.Value
open Cert.Pre_scores_finite

/-- The shape relations the precondition's function takes. -/
instance pre_facts : Cert.Pre_scores_finite.Facts where
  slices_S16x2048x1536_S16x2048x1024_0_0_0 := by decide
  bitsLt_bf16_f32 := by decide
  bcast_S_S16x2048x1024 := by decide
  bcast_S_S4x31x128x128 := by decide

/-- A value whose magnitude is less than +∞ is finite. -/
theorem finite_of_cmp (x : EReal) (h : Ideal.cmp CmpFPredicate.olt (max x (-x)) (Ideal.ofBits FTy.f32 0x7F800000#32) = 1#1) : Finite x := by
  rw [pos_inf] at h
  have hlt : max x (-x) < ⊤ := by
    by_contra hn
    simp [Ideal.cmp, hn] at h
  refine ⟨fun e => ?_, fun e => ?_⟩
  · rw [e, EReal.neg_bot] at hlt; exact absurd hlt (by simp)
  · rw [e] at hlt; exact absurd hlt (by simp)

variable (x0 : FVec Ideal S4x64 .f32) (x1 : FVec Ideal S16x2048x1536 .bf16) (x2 : FVec Ideal S16x2048x1536 .f32)
  (x3 : FVec Ideal S4x31x128x128 .f32) (x4 : FVec Ideal S128 .f32)

/-- Under the precondition the queries and the keys are finite. -/
theorem queries_keys_finite (h : (fn (F := Ideal) x0 x1 x2 x3 x4).1 = fun _ => 1#1) (b : Fin 16) (s : Fin 2048) (k : Fin 1536) (hk : k.val < 1024) :
    Finite (x1 (ix3 b s k)) := by
  refine finite_of_cmp _ (Eq.trans ?_ (congrFun h (ix3 b s ⟨k.val, hk⟩)))
  pointwise [fn]
  rfl

/-- Under the precondition the bias tiles are finite. -/
theorem tiles_finite (h : (fn (F := Ideal) x0 x1 x2 x3 x4).2 = fun _ => 1#1) (i : S4x31x128x128.Idx) : Finite (x3 i) := by
  refine finite_of_cmp _ (Eq.trans ?_ (congrFun h i))
  pointwise [fn]
  rfl

end Cert.KernelIdeal.Value
end
-- ==== Proof.NaLoop.lean ====
module
public import proofs.«01_k».proof.Proof.Gen.NaIdeal.Frame
public import Idealize.ShloMosaic.Lib.Pipeline.ValueKit
public import Idealize.ShloMosaic.Lib.WholeRead
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.NaIdeal.Value
open Cert.NaIdeal Cert.NaIdeal.Gen

/-- The scale of the queries. -/
def scale : Ideal .bf16 := Scalar.ofBits .bf16 0x3E00#16

/-- The eight rows of keys (or of values) a row reads. -/
def window (x : Vec Ideal S1x2048x128 .bf16) (k : Fin k0_t1_loop.trips) : Vec Ideal S1x512x128 .bf16 :=
  fun j => x ((Rect.unit (s := S1x2048x128) (k0_off1 k) S1x512x128.size (k0_off1_inb k)).toLoadRect.idx j)

/-- A row's queries. -/
def queryRow (x : Vec Ideal S1x2048x128 .bf16) (k : Fin k0_t1_loop.trips) : Vec Ideal S1x64x128 .bf16 :=
  fun j => x ((Rect.unit (s := S1x2048x128) (k0_off2 k) S1x64x128.size (k0_off2_inb k)).toLoadRect.idx j)

/-- A row's gates. -/
def gateRow (x : Vec Ideal S1x2048x128 .f32) (k : Fin k0_t1_loop.trips) : Vec Ideal S1x64x128 .f32 :=
  fun j => x ((Rect.unit (s := S1x2048x128) (k0_off2 k) S1x64x128.size (k0_off2_inb k)).toLoadRect.idx j)

/-- A row's biases for the pair's first head. -/
def bias0 (x : Vec Ideal S1x16x64x512 .f32) (k : Fin k0_t1_loop.trips) : Vec Ideal S1x1x64x512 .f32 :=
  fun j => x ((Rect.unit (s := S1x16x64x512) (k0_off3 k 0#32) S1x1x64x512.size (k0_off3_inb k 0)).toLoadRect.idx j)

/-- A row's biases for the pair's second head. -/
def bias1 (x : Vec Ideal S1x16x64x512 .f32) (k : Fin k0_t1_loop.trips) : Vec Ideal S1x1x64x512 .f32 :=
  fun j => x ((Rect.unit (s := S1x16x64x512) (k0_off3 k 1#32) S1x1x64x512.size (k0_off3_inb k 1)).toLoadRect.idx j)

/-- What a pass of the loop stores, from the blocks. -/
def rowOut (x0 x1 x2 : Vec Ideal S1x2048x128 .bf16) (x3 : Vec Ideal S1x2048x128 .f32) (x4 : Vec Ideal S1x16x64x512 .f32)
    (k : Fin k0_t1_loop.trips) : Vec Ideal S1x64x128 .bf16 :=
  k0_pay2 (k0_pay3 (window x1 k)) (k0_pay4 (window x2 k)) (k0_pay5 scale (queryRow x0 k)) k0_pay6
    (k0_pay7 k0_pay1 scale (window x1 k) (queryRow x0 k) (bias0 x4 k)) (k0_pay8 k0_pay1 scale (window x1 k) (queryRow x0 k) (bias0 x4 k))
    (bias1 x4 k) (gateRow x3 k)

/-- The pieces of one pass: one store, of its row. -/
theorem pass_pieces (c : Dev nD) (i : grid0.Coords) (arg2 : Memref sig .tc .vmem S1x2048x128 .bf16) (harg2 : arg2.IsWhole)
    (arg3 : Memref sig .tc .vmem S1x2048x128 .bf16) (harg3 : arg3.IsWhole) (arg4 : Memref sig .tc .vmem S1x2048x128 .bf16) (harg4 : arg4.IsWhole)
    (arg5 : Memref sig .tc .vmem S1x2048x128 .f32) (harg5 : arg5.IsWhole) (arg6 : Memref sig .tc .vmem S1x16x64x512 .f32) (harg6 : arg6.IsWhole)
    (arg7 : Memref sig .tc .vmem S1x2048x128 .bf16) (harg7 : arg7.IsWhole)
    (x0 x1 x2 : Vec Ideal S1x2048x128 .bf16) (x3 : Vec Ideal S1x2048x128 .f32) (x4 : Vec Ideal S1x16x64x512 .f32) (k : Fin k0_t1_loop.trips) :
    tripL_k0_t1 Variants.none c none i arg2 harg2 arg3 harg3 arg4 harg4 arg5 harg5 arg6 harg6 arg7 harg7 scale
      (harg2.unread x0) (harg3.unread x1) (harg4.unread x2) (harg5.unread x3) (harg6.unread x4) k
      = [⟨Rect.unit (s := S1x2048x128) (k0_off2 k) S1x64x128.size (k0_off2_inb k), rowOut x0 x1 x2 x3 x4 k⟩] := by
  have h1 : View.readAt (Elt Ideal) arg3.view (Rect.unit (s := S1x2048x128) (k0_off1 k) S1x512x128.size (k0_off1_inb k)).toLoadRect (harg3.unread x1) = window x1 k :=
    funext fun j => harg3.readAt_unread x1 _ j
  have h2 : View.readAt (Elt Ideal) arg4.view (Rect.unit (s := S1x2048x128) (k0_off1 k) S1x512x128.size (k0_off1_inb k)).toLoadRect (harg4.unread x2) = window x2 k :=
    funext fun j => harg4.readAt_unread x2 _ j
  have h3 : View.readAt (Elt Ideal) arg2.view (Rect.unit (s := S1x2048x128) (k0_off2 k) S1x64x128.size (k0_off2_inb k)).toLoadRect (harg2.unread x0) = queryRow x0 k :=
    funext fun j => harg2.readAt_unread x0 _ j
  have h4 : View.readAt (Elt Ideal) arg5.view (Rect.unit (s := S1x2048x128) (k0_off2 k) S1x64x128.size (k0_off2_inb k)).toLoadRect (harg5.unread x3) = gateRow x3 k :=
    funext fun j => harg5.readAt_unread x3 _ j
  have h5 : View.readAt (Elt Ideal) arg6.view (Rect.unit (s := S1x16x64x512) (k0_off3 k 0#32) S1x1x64x512.size (k0_off3_inb k 0)).toLoadRect (harg6.unread x4) = bias0 x4 k :=
    funext fun j => harg6.readAt_unread x4 _ j
  have h6 : View.readAt (Elt Ideal) arg6.view (Rect.unit (s := S1x16x64x512) (k0_off3 k 1#32) S1x1x64x512.size (k0_off3_inb k 1)).toLoadRect (harg6.unread x4) = bias1 x4 k :=
    funext fun j => harg6.readAt_unread x4 _ j
  unfold tripL_k0_t1 trip_k0_t1 rowOut
  rw [← h1, ← h2, ← h3, ← h4, ← h5, ← h6]
  rfl

/-- Which rows of its block a pass stores. -/
theorem off2_val : ∀ k : Fin k0_t1_loop.trips, k0_off2 k = ![0, 64 * k.val, 0] := by decide +kernel

/-- Which rows of keys and values a pass reads. -/
theorem off1_val : ∀ k : Fin k0_t1_loop.trips, k0_off1 k = ![0, 64 * min (k.val - 4) 24, 0] := by decide +kernel

/-- Which biases of the pair's first head a pass reads. -/
theorem off3_val0 : ∀ k : Fin k0_t1_loop.trips, k0_off3 k 0#32 = ![0, 2 * (k.val - min (k.val - 4) 24), 0, 0] := by decide +kernel

/-- Which biases of the pair's second head a pass reads. -/
theorem off3_val1 : ∀ k : Fin k0_t1_loop.trips, k0_off3 k 1#32 = ![0, 2 * (k.val - min (k.val - 4) 24) + 1, 0, 0] := by decide +kernel

end Cert.NaIdeal.Value
end
-- ==== Proof.NaBlock.lean ====
module
public import proofs.«01_k».proof.Proof.NaLoop
@[expose] public section
set_option maxRecDepth 16384
noncomputable section
open Idealize.ShloMosaic Idealize.ShloMosaic.TcCoe Idealize.SL.Sem
open Idealize.ShloMosaic.Pipeline (Dat)
namespace Cert.NaIdeal.Value
open Cert.NaIdeal Cert.NaIdeal.Gen

variable (x0 x1 x2 : Vec Ideal S1x2048x128 .bf16) (x3 : Vec Ideal S1x2048x128 .f32) (x4 : Vec Ideal S1x16x64x512 .f32)

/-- The block the loop's passes store, as one function of its indices. -/
def blockOut (y : S1x2048x128.Idx) : Elt Ideal .bf16 :=
  rowOut x0 x1 x2 x3 x4 (⟨(y 1).val / 64, (Nat.div_lt_iff_lt_mul (by decide)).mpr (y 1).isLt⟩ : Fin 32)
    (ix3 0 (⟨(y 1).val % 64, Nat.mod_lt _ (by decide)⟩ : Fin 64) (y 2))

/-- A pass's piece agrees with the block's function. -/
theorem pass_agrees (k : Fin k0_t1_loop.trips) (x : S1x64x128.Idx) :
    rowOut x0 x1 x2 x3 x4 k x = blockOut x0 x1 x2 x3 x4 ((Rect.unit (s := S1x2048x128) (k0_off2 k) S1x64x128.size (k0_off2_inb k)).emb x) := by
  have hx : (x 1).val < 64 := (x 1).isLt
  have h1 : ((Rect.unit (s := S1x2048x128) (k0_off2 k) S1x64x128.size (k0_off2_inb k)).emb x 1).val = 64 * k.val + (x 1).val :=
    (ValueKit.rect_emb_unit_val (s := S1x2048x128) (k0_off2 k) S1x64x128.size (k0_off2_inb k) x 1).trans (congrArg (· + (x 1).val) (congrFun (off2_val k) 1))
  have h2 : ((Rect.unit (s := S1x2048x128) (k0_off2 k) S1x64x128.size (k0_off2_inb k)).emb x 2).val = (x 2).val :=
    (ValueKit.rect_emb_unit_val (s := S1x2048x128) (k0_off2 k) S1x64x128.size (k0_off2_inb k) x 2).trans ((congrArg (· + (x 2).val) (congrFun (off2_val k) 2)).trans (Nat.zero_add _))
  unfold blockOut
  refine congrArg₂ (fun (a : Fin 32) (b : S1x64x128.Idx) => rowOut x0 x1 x2 x3 x4 a b) (Fin.ext ?_) (funext fun a => Fin.ext ?_)
  · show k.val = _ / 64
    omega
  · match a with
    | ⟨0, _⟩ => exact Nat.lt_one_iff.mp (x 0).isLt
    | ⟨1, _⟩ => show (x 1).val = _ % 64; omega
    | ⟨2, _⟩ => exact h2.symm

/-- The pieces of the passes before any one agree with the block's function. -/
theorem pieces_agree (c : Dev nD) (i : grid0.Coords) (arg2 : Memref sig .tc .vmem S1x2048x128 .bf16) (harg2 : arg2.IsWhole)
    (arg3 : Memref sig .tc .vmem S1x2048x128 .bf16) (harg3 : arg3.IsWhole) (arg4 : Memref sig .tc .vmem S1x2048x128 .bf16) (harg4 : arg4.IsWhole)
    (arg5 : Memref sig .tc .vmem S1x2048x128 .f32) (harg5 : arg5.IsWhole) (arg6 : Memref sig .tc .vmem S1x16x64x512 .f32) (harg6 : arg6.IsWhole)
    (arg7 : Memref sig .tc .vmem S1x2048x128 .bf16) (harg7 : arg7.IsWhole) :
    ∀ n : Nat, n ≤ k0_t1_loop.trips → ∀ p ∈ pb_k0_t1 Variants.none c none i arg2 harg2 arg3 harg3 arg4 harg4 arg5 harg5 arg6 harg6 arg7 harg7 scale
      (harg2.unread x0) (harg3.unread x1) (harg4.unread x2) (harg5.unread x3) (harg6.unread x4) n,
      ∀ x : p.1.shape.Idx, p.2 x = blockOut x0 x1 x2 x3 x4 (p.1.emb x)
  | 0, _, p, hp => absurd hp List.not_mem_nil
  | n + 1, hn, p, hp => by
    rw [show n + 1 = (⟨n, hn⟩ : Fin k0_t1_loop.trips).val + 1 from rfl, pb_k0_t1_succ, pass_pieces] at hp
    rcases List.mem_append.mp hp with h | h
    · obtain rfl := List.mem_singleton.mp h
      exact pass_agrees x0 x1 x2 x3 x4 ⟨n, hn⟩
    · exact pieces_agree c i arg2 harg2 arg3 harg3 arg4 harg4 arg5 harg5 arg6 harg6 arg7 harg7 n (Nat.le_of_succ_le hn) p h

/-- What the body leaves in the result's block. -/
theorem out_block (c : Dev nD) (i : grid0.Coords) (arg2 : Memref sig .tc .vmem S1x2048x128 .bf16) (harg2 : arg2.IsWhole)
    (arg3 : Memref sig .tc .vmem S1x2048x128 .bf16) (harg3 : arg3.IsWhole) (arg4 : Memref sig .tc .vmem S1x2048x128 .bf16) (harg4 : arg4.IsWhole)
    (arg5 : Memref sig .tc .vmem S1x2048x128 .f32) (harg5 : arg5.IsWhole) (arg6 : Memref sig .tc .vmem S1x16x64x512 .f32) (harg6 : arg6.IsWhole)
    (arg7 : Memref sig .tc .vmem S1x2048x128 .bf16) (harg7 : arg7.IsWhole) (y : S1x2048x128.Idx) :
    out0_A_5 c i arg2 harg2 arg3 harg3 arg4 harg4 arg5 harg5 arg6 harg6 arg7 harg7 x0 x1 x2 x3 x4 y = blockOut x0 x1 x2 x3 x4 y := by
  unfold out0_A_5
  rw [View.read_writes_junk_apply_eq_canon]
  refine View.canon_apply_of_pieces (blockOut x0 x1 x2 x3 x4) _ ?_ y (cover0_A_5 c i arg2 harg2 arg3 harg3 arg4 harg4 arg5 harg5 arg6 harg6 arg7 harg7 x0 x1 x2 x3 x4 y)
  unfold kernelRun0_A
  exact pieces_agree x0 x1 x2 x3 x4 c i arg2 harg2 arg3 harg3 arg4 harg4 arg5 harg5 arg6 harg6 arg7 harg7 _ (by decide)

end Cert.NaIdeal.Value
end
-- ==== Proof.NaGather.lean ====
module
public import proofs.«01_k».proof.Proof.Gen.RefNaIdeal.Read
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)

namespace Cert.NaIdeal.Value
open Cert.RefNaIdeal Cert.RefNaIdeal.Gen Cert.RefNaIdeal.Read

/-- The grid row that is number `i` of the window of grid row `k`. -/
def row (k : Fin 32) (i : Fin 8) : Fin 32 := ⟨min (k.val - 4) 24 + i.val, by omega⟩

/-- How far a grid row lies below its window's first row. -/
def below_first (k : Fin 32) : Fin 8 := ⟨k.val - min (k.val - 4) 24, by omega⟩

/-- The rows the keys are gathered from. -/
theorem key_row : ∀ (k : Fin 32) (i : Fin 8), min (val_main_v23 (F := Ideal) (ix3 k i 0)).toInt.toNat 31 = (row k i).val := by
  decide +kernel

/-- The rows the values are gathered from. -/
theorem value_row : ∀ (k : Fin 32) (i : Fin 8), min (val_main_v56 (F := Ideal) (ix3 k i 0)).toInt.toNat 31 = (row k i).val := by
  decide +kernel

/-- The bias blocks the rows take. -/
theorem bias_row : ∀ k : Fin 32, min (val_main_v35 (F := Ideal) (ix2 k 0)).toInt.toNat 7 = (below_first k).val := by
  decide +kernel

/-- The first axis of a gathered row's index is its row. -/
theorem row_place0 (b : Fin 16) (k : Fin 32) (i : Fin 8) (w : Fin 64) (h : Fin 16) (d : Fin 64) :
    ((gather_S16x32x64x16x64_S32x8x1_S16x32x8x64x16x64_0345_1_n_n_1_2_161641664).siIdx (ix6 b k i w h d) (0 : Fin 1) 0).val = k.val := by
  refine (congrArg Fin.val (dif_neg (show ¬ ((0 : Fin 3).val = 2) by decide))).trans ?_
  unfold GatherDims.siCoord
  exact congrArg (fun a => (ix6 b k i w h d a).val) (show _ = (1 : Fin 6) by decide)

/-- The second axis of a gathered row's index is its number in the window. -/
theorem row_place1 (b : Fin 16) (k : Fin 32) (i : Fin 8) (w : Fin 64) (h : Fin 16) (d : Fin 64) :
    ((gather_S16x32x64x16x64_S32x8x1_S16x32x8x64x16x64_0345_1_n_n_1_2_161641664).siIdx (ix6 b k i w h d) (0 : Fin 1) 1).val = i.val := by
  refine (congrArg Fin.val (dif_neg (show ¬ ((1 : Fin 3).val = 2) by decide))).trans ?_
  unfold GatherDims.siCoord
  exact congrArg (fun a => (ix6 b k i w h d a).val) (show _ = (2 : Fin 6) by decide)

/-- The index of a gathered row lies at its row and its number in the window. -/
theorem row_place (b : Fin 16) (k : Fin 32) (i : Fin 8) (w : Fin 64) (h : Fin 16) (d : Fin 64) :
    (gather_S16x32x64x16x64_S32x8x1_S16x32x8x64x16x64_0345_1_n_n_1_2_161641664).siIdx (ix6 b k i w h d) (0 : Fin 1) = ix3 k i 0 := by
  funext a; refine Fin.ext ?_
  match a with
  | ⟨0, _⟩ => exact row_place0 b k i w h d
  | ⟨1, _⟩ => exact row_place1 b k i w h d
  | ⟨2, _⟩ => exact (congrArg Fin.val (dif_pos (show ((2 : Fin 3).val = 2) by decide))).trans rfl

/-- The gather of the window's rows: the row index is read as a natural number and cut to the last row. -/
theorem gather_rows (x : (⟨S16x32x64x16x64, .f32⟩ : BufTy).Contents (Elt Ideal)) (v : IVec S32x8x1 32)
    (b : Fin 16) (k : Fin 32) (i : Fin 8) (w : Fin 64) (h : Fin 16) (d : Fin 64) :
    Host.gather gather_S16x32x64x16x64_S32x8x1_S16x32x8x64x16x64_0345_1_n_n_1_2_161641664 x v (ix6 b k i w h d) = x (ix5 b ⟨min (v (ix3 k i 0)).toInt.toNat 31, by omega⟩ w h d) := by
  unfold Host.gather
  refine congrArg x (funext fun a => Fin.ext ?_)
  unfold GatherDims.operandIdx
  match a with
  | ⟨0, _⟩ =>
    have e : (gather_S16x32x64x16x64_S32x8x1_S16x32x8x64x16x64_0345_1_n_n_1_2_161641664).start (ix6 b k i w h d) v 0 = 0 := by
      unfold GatherDims.start
      rw [dif_neg (by decide)]
    have o : (gather_S16x32x64x16x64_S32x8x1_S16x32x8x64x16x64_0345_1_n_n_1_2_161641664).offCoord (ix6 b k i w h d) 0 = b.val := by
      unfold GatherDims.offCoord
      rw [dif_pos (by decide)]
      rfl
    exact (congrArg₂ (fun a b => a + 0 + b) e o).trans (Nat.zero_add _)
  | ⟨1, _⟩ =>
    have e : (gather_S16x32x64x16x64_S32x8x1_S16x32x8x64x16x64_0345_1_n_n_1_2_161641664).start (ix6 b k i w h d) v 1
        = min (v ((gather_S16x32x64x16x64_S32x8x1_S16x32x8x64x16x64_0345_1_n_n_1_2_161641664).siIdx (ix6 b k i w h d) (0 : Fin 1))).toInt.toNat 31 := by
      unfold GatherDims.start
      rw [dif_pos (by decide)]
      rfl
    exact e.trans (congrArg (fun z => min (v z).toInt.toNat 31) (row_place b k i w h d))
  | ⟨2, _⟩ =>
    have e : (gather_S16x32x64x16x64_S32x8x1_S16x32x8x64x16x64_0345_1_n_n_1_2_161641664).start (ix6 b k i w h d) v 2 = 0 := by
      unfold GatherDims.start
      rw [dif_neg (by decide)]
    have o : (gather_S16x32x64x16x64_S32x8x1_S16x32x8x64x16x64_0345_1_n_n_1_2_161641664).offCoord (ix6 b k i w h d) 2 = w.val := by
      unfold GatherDims.offCoord
      rw [dif_pos (by decide)]
      rfl
    exact (congrArg₂ (fun a b => a + 0 + b) e o).trans (Nat.zero_add _)
  | ⟨3, _⟩ =>
    have e : (gather_S16x32x64x16x64_S32x8x1_S16x32x8x64x16x64_0345_1_n_n_1_2_161641664).start (ix6 b k i w h d) v 3 = 0 := by
      unfold GatherDims.start
      rw [dif_neg (by decide)]
    have o : (gather_S16x32x64x16x64_S32x8x1_S16x32x8x64x16x64_0345_1_n_n_1_2_161641664).offCoord (ix6 b k i w h d) 3 = h.val := by
      unfold GatherDims.offCoord
      rw [dif_pos (by decide)]
      rfl
    exact (congrArg₂ (fun a b => a + 0 + b) e o).trans (Nat.zero_add _)
  | ⟨4, _⟩ =>
    have e : (gather_S16x32x64x16x64_S32x8x1_S16x32x8x64x16x64_0345_1_n_n_1_2_161641664).start (ix6 b k i w h d) v 4 = 0 := by
      unfold GatherDims.start
      rw [dif_neg (by decide)]
    have o : (gather_S16x32x64x16x64_S32x8x1_S16x32x8x64x16x64_0345_1_n_n_1_2_161641664).offCoord (ix6 b k i w h d) 4 = d.val := by
      unfold GatherDims.offCoord
      rw [dif_pos (by decide)]
      rfl
    exact (congrArg₂ (fun a b => a + 0 + b) e o).trans (Nat.zero_add _)

/-- The first axis of a gathered bias block's index is its row. -/
theorem block_place0 (h : Fin 16) (k : Fin 32) (w : Fin 64) (z : Fin 512) :
    ((gather_S16x8x64x512_S32x1_S16x32x64x512_023_1_n_n_1_1_16164512).siIdx (ix4 h k w z) (0 : Fin 1) 0).val = k.val := by
  refine (congrArg Fin.val (dif_neg (show ¬ ((0 : Fin 2).val = 1) by decide))).trans ?_
  unfold GatherDims.siCoord
  exact congrArg (fun a => (ix4 h k w z a).val) (show _ = (1 : Fin 4) by decide)

/-- The index of a gathered bias block lies at its row. -/
theorem block_place (h : Fin 16) (k : Fin 32) (w : Fin 64) (z : Fin 512) :
    (gather_S16x8x64x512_S32x1_S16x32x64x512_023_1_n_n_1_1_16164512).siIdx (ix4 h k w z) (0 : Fin 1) = ix2 k 0 := by
  funext a; refine Fin.ext ?_
  match a with
  | ⟨0, _⟩ => exact block_place0 h k w z
  | ⟨1, _⟩ => exact (congrArg Fin.val (dif_pos (show ((1 : Fin 2).val = 1) by decide))).trans rfl

/-- The gather of the bias blocks: the block index is read as a natural number and cut to the last block. -/
theorem gather_blocks (x : (⟨S16x8x64x512, .f32⟩ : BufTy).Contents (Elt Ideal)) (v : IVec S32x1 32)
    (h : Fin 16) (k : Fin 32) (w : Fin 64) (z : Fin 512) :
    Host.gather gather_S16x8x64x512_S32x1_S16x32x64x512_023_1_n_n_1_1_16164512 x v (ix4 h k w z) = x (ix4 h ⟨min (v (ix2 k 0)).toInt.toNat 7, by omega⟩ w z) := by
  unfold Host.gather
  refine congrArg x (funext fun a => Fin.ext ?_)
  unfold GatherDims.operandIdx
  match a with
  | ⟨0, _⟩ =>
    have e : (gather_S16x8x64x512_S32x1_S16x32x64x512_023_1_n_n_1_1_16164512).start (ix4 h k w z) v 0 = 0 := by
      unfold GatherDims.start
      rw [dif_neg (by decide)]
    have o : (gather_S16x8x64x512_S32x1_S16x32x64x512_023_1_n_n_1_1_16164512).offCoord (ix4 h k w z) 0 = h.val := by
      unfold GatherDims.offCoord
      rw [dif_pos (by decide)]
      rfl
    exact (congrArg₂ (fun a b => a + 0 + b) e o).trans (Nat.zero_add _)
  | ⟨1, _⟩ =>
    have e : (gather_S16x8x64x512_S32x1_S16x32x64x512_023_1_n_n_1_1_16164512).start (ix4 h k w z) v 1
        = min (v ((gather_S16x8x64x512_S32x1_S16x32x64x512_023_1_n_n_1_1_16164512).siIdx (ix4 h k w z) (0 : Fin 1))).toInt.toNat 7 := by
      unfold GatherDims.start
      rw [dif_pos (by decide)]
      rfl
    exact e.trans (congrArg (fun z => min (v z).toInt.toNat 7) (block_place h k w z))
  | ⟨2, _⟩ =>
    have e : (gather_S16x8x64x512_S32x1_S16x32x64x512_023_1_n_n_1_1_16164512).start (ix4 h k w z) v 2 = 0 := by
      unfold GatherDims.start
      rw [dif_neg (by decide)]
    have o : (gather_S16x8x64x512_S32x1_S16x32x64x512_023_1_n_n_1_1_16164512).offCoord (ix4 h k w z) 2 = w.val := by
      unfold GatherDims.offCoord
      rw [dif_pos (by decide)]
      rfl
    exact (congrArg₂ (fun a b => a + 0 + b) e o).trans (Nat.zero_add _)
  | ⟨3, _⟩ =>
    have e : (gather_S16x8x64x512_S32x1_S16x32x64x512_023_1_n_n_1_1_16164512).start (ix4 h k w z) v 3 = 0 := by
      unfold GatherDims.start
      rw [dif_neg (by decide)]
    have o : (gather_S16x8x64x512_S32x1_S16x32x64x512_023_1_n_n_1_1_16164512).offCoord (ix4 h k w z) 3 = z.val := by
      unfold GatherDims.offCoord
      rw [dif_pos (by decide)]
      rfl
    exact (congrArg₂ (fun a b => a + 0 + b) e o).trans (Nat.zero_add _)

variable (x0 : (⟨S16x2048x3072, .bf16⟩ : BufTy).Contents (Elt Ideal)) (x2 : (⟨S8x16x64x512, .f32⟩ : BufTy).Contents (Elt Ideal))

/-- The gathered keys. -/
theorem ref_keys (b : Fin 16) (k : Fin 32) (i : Fin 8) (w : Fin 64) (h : Fin 16) (d : Fin 64) :
    val_main_v24 (F := Ideal) x0 (ix6 b k i w h d) = val_main_v3 (F := Ideal) x0 (ix5 b (row k i) w h d) := by
  unfold val_main_v24
  rw [gather_rows]
  exact congrArg (fun a => val_main_v3 (F := Ideal) x0 (ix5 b a w h d)) (Fin.ext (key_row k i))

/-- The gathered values. -/
theorem ref_values (b : Fin 16) (k : Fin 32) (i : Fin 8) (w : Fin 64) (h : Fin 16) (d : Fin 64) :
    val_main_v57 (F := Ideal) x0 (ix6 b k i w h d) = val_main_v4 (F := Ideal) x0 (ix5 b (row k i) w h d) := by
  unfold val_main_v57
  rw [gather_rows]
  exact congrArg (fun a => val_main_v4 (F := Ideal) x0 (ix5 b a w h d)) (Fin.ext (value_row k i))

/-- The gathered bias blocks. -/
theorem ref_blocks (h : Fin 16) (k : Fin 32) (w : Fin 64) (z : Fin 512) :
    val_main_v36 (F := Ideal) x2 (ix4 h k w z) = val_main_v17 (F := Ideal) x2 (ix4 h (below_first k) w z) := by
  unfold val_main_v36
  rw [gather_blocks]
  exact congrArg (fun a => val_main_v17 (F := Ideal) x2 (ix4 h a w z)) (Fin.ext (bias_row k))

end Cert.NaIdeal.Value
end
-- ==== Proof.NaRow.lean ====
module
public import proofs.«01_k».proof.Proof.NaLoop
public import proofs.«01_k».proof.Proof.Softmax
@[expose] public section
set_option maxRecDepth 16384
noncomputable section
open Idealize.ShloMosaic Idealize.ShloMosaic.TcCoe Idealize.SL.Sem
open Idealize.ShloMosaic.Pipeline (Dat)
namespace Cert.NaIdeal.Value
open Cert.NaIdeal Cert.NaIdeal.Gen
open Cert.KernelIdeal.Value (Finite neg_inf scale_bf16 exp_nonneg exp_pos)

/-- The largest score of a row. -/
def rowMax (s : Fin 512 → EReal) : EReal := Finset.univ.fold max ⊥ s

/-- The softmax of a row of scores at one key. -/
def soft (s : Fin 512 → EReal) (k : Fin 512) : EReal :=
  Ideal.div (Ideal.exp (s k - rowMax s)) (∑ z, Ideal.exp (s z - rowMax s))

/-- A row of scores of which none is +∞ and one isn't masked. -/
def Proper (s : Fin 512 → EReal) : Prop := (∀ k, s k ≠ ⊤) ∧ ∃ k, s k ≠ ⊥

/-- The largest of a proper row's scores is finite. -/
theorem rowMax_finite (s : Fin 512 → EReal) (hs : Proper s) : Finite (rowMax s) := by
  obtain ⟨ht, k, hk⟩ := hs
  refine ⟨fun e => ?_, ?_⟩
  · have h : s k ≤ rowMax s := (Finset.le_fold_max (s k)).mpr (Or.inr ⟨k, Finset.mem_univ _, le_rfl⟩)
    exact hk (le_bot_iff.mp (e ▸ h))
  · exact ne_of_lt ((Finset.fold_max_lt ⊤).mpr ⟨bot_lt_top, fun j _ => lt_top_iff_ne_top.mpr (ht j)⟩)

/-- Multiplying by the reciprocal of the denominator is dividing by it, over a proper row. -/
theorem soft_recip (s : Fin 512 → EReal) (hs : Proper s) (k : Fin 512) :
    Ideal.exp (s k - rowMax s) * Ideal.div 1 (∑ z, Ideal.exp (s z - rowMax s)) = soft s k := by
  obtain ⟨b, hb⟩ := (rowMax_finite s hs).real
  obtain ⟨ht, j, hj⟩ := hs
  obtain ⟨a, ha⟩ := (show Finite (s j) from ⟨hj, ht j⟩).real
  have h0 : 0 < Ideal.exp (s j - rowMax s) := by rw [ha, hb, ← EReal.coe_sub]; exact exp_pos _
  exact Ideal.mul_one_div
    (lt_of_lt_of_le h0 (Finset.single_le_sum (f := fun z => Ideal.exp (s z - rowMax s)) (fun z _ => exp_nonneg _) (Finset.mem_univ j))).ne'

/-- The scores of one head in a row: its masked queries against the window's keys, plus the biases. -/
def scores (q : FVec Ideal S64x128 .bf16) (k : FVec Ideal S512x128 .bf16) (w : Vec Ideal S1x1x64x512 .f32) : FVec Ideal S64x512 .f32 :=
  addf (matmul dot_S64x128_S512x128_S64x512_1_1_0_0_n_n none q k (constant S64x512 .f32 0x00000000#32)) (shapeCast S64x512 w shapeCasts_S1x1x64x512_S64x512)

/-- The row maxima of an array of scores. -/
def maxima (s : FVec Ideal S64x512 .f32) : FVec Ideal S64 .f32 :=
  multiReduction .maximumf [1] S64 s 0xFF800000#32 reduces_S64x512_S64 (.inl rfl) rfl

/-- The exponentials of an array of scores less the row maxima. -/
def exps (s : FVec Ideal S64x512 .f32) : FVec Ideal S64x512 .f32 :=
  exp (subf s (broadcastTo S64x512 (shapeCast S64x1 (maxima s) shapeCasts_S64_S64x1) broadcasts_S64x1_S64x512))

/-- The reciprocals of the row sums of an array of exponentials, one per entry. -/
def recips (e : FVec Ideal S64x512 .f32) : FVec Ideal S64x512 .f32 :=
  broadcastTo S64x512 (divf (broadcast S64x1 (Scalar.ofBits .f32 0x3F800000#32))
    (shapeCast S64x1 (multiReduction .add [1] S64 e 0x00000000#32 reduces_S64x512_S64 (.inl rfl) rfl) shapeCasts_S64_S64x1)) broadcasts_S64x1_S64x512

/-- One head's product of the weights with the window's values. -/
def mixed (e d : FVec Ideal S64x512 .f32) (v : FVec Ideal S512x128 .bf16) : FVec Ideal S64x128 .f32 :=
  matmul dot_S64x512_S512x128_S64x128_1_0_0_1_n_n none (truncf .bf16 (mulf e d) bitsLt_bf16_f32) v (constant S64x128 .f32 0x00000000#32)

/-- The masked queries of the pair's first head. -/
def query0 (q : Vec Ideal S1x64x128 .bf16) : FVec Ideal S64x128 .bf16 := select k0_pay1 (k0_pay5 scale q) (k0_pay6 (F := Ideal))

/-- The masked queries of the pair's second head. -/
def query1 (q : Vec Ideal S1x64x128 .bf16) : FVec Ideal S64x128 .bf16 := select k0_pay1 (k0_pay6 (F := Ideal)) (k0_pay5 scale q)

/-- The stored row: each half of the lanes its head's product, gated. -/
def joined (a b : FVec Ideal S64x128 .f32) (g : Vec Ideal S1x64x128 .f32) : FVec Ideal S1x64x128 .bf16 :=
  shapeCast S1x64x128 (truncf .bf16 (mulf (select k0_pay1 a b)
    (mulf (shapeCast S64x128 g shapeCasts_S1x64x128_S64x128) (logistic (shapeCast S64x128 g shapeCasts_S1x64x128_S64x128)))) bitsLt_bf16_f32) shapeCasts_S64x128_S1x64x128

/-- A row's maximum. -/
theorem maxima_apply (s : FVec Ideal S64x512 .f32) (r : Fin 64) : maxima s (ix1 r) = rowMax fun z => s (ix2 r z) := by
  unfold maxima rowMax
  refine (Ideal.multiReduction_maximumf_single s _ _ _ _ (ix1 r)).trans ?_
  refine (congrArg (fun w => Finset.fold max w _ Finset.univ) neg_inf).trans ?_
  refine congrArg (fun f => Finset.fold max ⊥ f Finset.univ) (funext fun z => congrArg s ?_)
  funext a
  refine Fin.ext ?_
  match a with
  | ⟨0, _⟩ => rfl
  | ⟨1, _⟩ => rfl

/-- An entry of the exponentials. -/
theorem exps_apply (s : FVec Ideal S64x512 .f32) (r : Fin 64) (z : Fin 512) :
    exps s (ix2 r z) = Ideal.exp (s (ix2 r z) - rowMax fun z => s (ix2 r z)) := by
  rw [← maxima_apply]
  unfold exps
  generalize maxima s = y
  pointwise

/-- An entry of the reciprocals. -/
theorem recips_apply (e : FVec Ideal S64x512 .f32) (r : Fin 64) (z : Fin 512) : recips e (ix2 r z) = Ideal.div 1 (∑ z, e (ix2 r z)) := by
  unfold recips
  pointwise

/-- A head's product is the product of the softmax of its scores with the values, over proper rows. -/
theorem mixed_apply (s : FVec Ideal S64x512 .f32) (v : FVec Ideal S512x128 .bf16) (r : Fin 64) (l : Fin 128) (hs : Proper fun z => s (ix2 r z)) :
    mixed (exps s) (recips (exps s)) v (ix2 r l) = ∑ z, soft (fun z => s (ix2 r z)) z * v (ix2 z l) := by
  have e : mixed (exps s) (recips (exps s)) v (ix2 r l) = ∑ z, (exps s (ix2 r z) * recips (exps s) (ix2 r z)) * v (ix2 z l) := by
    unfold mixed
    generalize recips (exps s) = y'
    generalize exps s = y
    pointwise
  rw [e]
  refine Finset.sum_congr rfl fun z _ => congrArg (· * v (ix2 z l)) ?_
  rw [recips_apply, exps_apply]
  refine Eq.trans (congrArg (fun w => _ * Ideal.div 1 w) (Finset.sum_congr rfl fun z _ => exps_apply s r z)) ?_
  exact soft_recip (fun z => s (ix2 r z)) hs z

/-- The mask of the lower lanes. -/
theorem below (l : Fin 128) : IntOp.cmpi CmpIPredicate.slt (BitVec.ofNat 32 l.val) 64#32 = if l.val < 64 then 1#1 else 0#1 := by
  revert l; decide

/-- The queries of the first head: the scaled lower lanes, the others 0. -/
theorem query0_apply (x : Vec Ideal S1x64x128 .bf16) (r : Fin 64) (l : Fin 128) :
    query0 x (ix2 r l) = if l.val < 64 then x (ix3 0 r l) * ((1 / 8 : ℝ) : EReal) else 0 := by
  rw [← scale_bf16]
  pointwise [query0, k0_pay1, k0_pay5, k0_pay6, scale]
  rw [below]
  unfold Scalar.select
  by_cases h : l.val < 64
  · rw [if_pos h, if_pos h, if_pos (by decide)]
  · rw [if_neg h, if_neg h, if_neg (by decide)]

/-- The queries of the second head: the scaled upper lanes, the others 0. -/
theorem query1_apply (x : Vec Ideal S1x64x128 .bf16) (r : Fin 64) (l : Fin 128) :
    query1 x (ix2 r l) = if 64 ≤ l.val then x (ix3 0 r l) * ((1 / 8 : ℝ) : EReal) else 0 := by
  rw [← scale_bf16]
  pointwise [query1, k0_pay1, k0_pay5, k0_pay6, scale]
  rw [below]
  unfold Scalar.select
  by_cases h : l.val < 64
  · rw [if_pos h, if_neg (Nat.not_le.mpr h), if_pos (by decide)]
  · rw [if_neg h, if_pos (Nat.le_of_not_lt h), if_neg (by decide)]

/-- A score. -/
theorem scores_apply (q : FVec Ideal S64x128 .bf16) (k : Vec Ideal S1x512x128 .bf16) (w : Vec Ideal S1x1x64x512 .f32) (r : Fin 64) (z : Fin 512) :
    scores q (k0_pay3 k) w (ix2 r z) = (∑ l : Fin 128, q (ix2 r l) * k (ix3 0 z l)) + w (ix4 0 0 r z) := by
  pointwise [scores, k0_pay3]

/-- The stored row at an entry. -/
theorem joined_apply (a b : FVec Ideal S64x128 .f32) (g : Vec Ideal S1x64x128 .f32) (r : Fin 64) (l : Fin 128) :
    joined a b g (ix3 0 r l) = (if l.val < 64 then a (ix2 r l) else b (ix2 r l)) * (g (ix3 0 r l) * Ideal.div 1 (1 + Ideal.exp (-g (ix3 0 r l)))) := by
  have e : joined a b g (ix3 0 r l) = Scalar.select (IntOp.cmpi CmpIPredicate.slt (BitVec.ofNat 32 l.val) 64#32) (a (ix2 r l)) (b (ix2 r l))
      * (g (ix3 0 r l) * Ideal.div 1 (1 + Ideal.exp (-g (ix3 0 r l)))) := by
    pointwise [joined, k0_pay1]
    rfl
  rw [e, below]
  unfold Scalar.select
  by_cases h : l.val < 64
  · rw [if_pos h, if_pos h, if_pos (by decide)]
  · rw [if_neg h, if_neg h, if_neg (by decide)]

/-- What a pass stores, by its parts. -/
theorem rowOut_eq (x0 x1 x2 : Vec Ideal S1x2048x128 .bf16) (x3 : Vec Ideal S1x2048x128 .f32) (x4 : Vec Ideal S1x16x64x512 .f32) (k : Fin k0_t1_loop.trips) :
    rowOut x0 x1 x2 x3 x4 k
      = joined
          (mixed (exps (scores (query0 (queryRow x0 k)) (k0_pay3 (window x1 k)) (bias0 x4 k)))
            (recips (exps (scores (query0 (queryRow x0 k)) (k0_pay3 (window x1 k)) (bias0 x4 k)))) (k0_pay4 (window x2 k)))
          (mixed (exps (scores (query1 (queryRow x0 k)) (k0_pay3 (window x1 k)) (bias1 x4 k)))
            (recips (exps (scores (query1 (queryRow x0 k)) (k0_pay3 (window x1 k)) (bias1 x4 k)))) (k0_pay4 (window x2 k)))
          (gateRow x3 k) := rfl

/-- The window's values are its block's rows. -/
theorem values_apply (x : Vec Ideal S1x512x128 .bf16) (z : Fin 512) (l : Fin 128) : k0_pay4 x (ix2 z l) = x (ix3 0 z l) := by
  pointwise [k0_pay4]

end Cert.NaIdeal.Value
end
-- ==== Proof.NaReference.lean ====
module
public import proofs.«01_k».proof.Proof.NaGather
public import proofs.«01_k».proof.Proof.NaRow
public import Idealize.ShloMosaic.Lib.KernelVsHost
@[expose] public section
set_option maxRecDepth 16384
noncomputable section
open Idealize.ShloMosaic Idealize.ShloMosaic.TcCoe Idealize.SL.Sem
open Idealize.ShloMosaic.Pipeline (Dat)
namespace Cert.NaIdeal.Value
open Cert.RefNaIdeal Cert.RefNaIdeal.Gen Cert.RefNaIdeal.Read
open Cert.KernelIdeal.Value (Finite neg_inf scale_f32)

variable (x0 : (⟨S16x2048x3072, .bf16⟩ : BufTy).Contents (Elt Ideal)) (x1 : (⟨S16x2048x1024, .f32⟩ : BufTy).Contents (Elt Ideal))
  (x2 : (⟨S8x16x64x512, .f32⟩ : BufTy).Contents (Elt Ideal))

/-- Indices whose coordinates agree are equal. -/
theorem at_place {n0 n1 n2 : Nat} (b : Fin n0) {s s' : Fin n1} {l l' : Fin n2} (hs : s.val = s'.val) (hl : l.val = l'.val) :
    (ix3 b s l : (⟨3, ![n0, n1, n2]⟩ : Shape).Idx) = ix3 b s' l' := by
  rw [Fin.ext hs, Fin.ext hl]

/-- Indices whose second coordinates agree are equal. -/
theorem at_block {n0 n1 n2 n3 : Nat} (p : Fin n0) {s s' : Fin n1} (w : Fin n2) (z : Fin n3) (hs : s.val = s'.val) :
    (ix4 p s w z : (⟨4, ![n0, n1, n2, n3]⟩ : Shape).Idx) = ix4 p s' w z := by
  rw [Fin.ext hs]

/-- The reference's queries. -/
theorem ref_query (b : Fin 16) (k : Fin 32) (w : Fin 64) (h : Fin 16) (d : Fin 64) :
    val_main_v2 (F := Ideal) x0 (ix5 b k w h d) = x0 (ix3 b ⟨64 * k.val + w.val, by omega⟩ ⟨64 * h.val + d.val, by omega⟩) := by
  pointwise [val_main_v2, val_main_v1, val_main_v0]
  exact congrArg x0 (at_place b (by show k.val * 64 + w.val = 64 * k.val + w.val; omega) (by show (h.val) * 64 + d.val = 64 * h.val + d.val; omega))

/-- The reference's keys. -/
theorem ref_key (b : Fin 16) (k : Fin 32) (w : Fin 64) (h : Fin 16) (d : Fin 64) :
    val_main_v3 (F := Ideal) x0 (ix5 b k w h d) = x0 (ix3 b ⟨64 * k.val + w.val, by omega⟩ ⟨1024 + (64 * h.val + d.val), by omega⟩) := by
  pointwise [val_main_v3, val_main_v1, val_main_v0]
  exact congrArg x0 (at_place b (by show k.val * 64 + w.val = 64 * k.val + w.val; omega) (by show (16 + h.val) * 64 + d.val = 1024 + (64 * h.val + d.val); omega))

/-- The reference's values. -/
theorem ref_val (b : Fin 16) (k : Fin 32) (w : Fin 64) (h : Fin 16) (d : Fin 64) :
    val_main_v4 (F := Ideal) x0 (ix5 b k w h d) = x0 (ix3 b ⟨64 * k.val + w.val, by omega⟩ ⟨2048 + (64 * h.val + d.val), by omega⟩) := by
  pointwise [val_main_v4, val_main_v1, val_main_v0]
  exact congrArg x0 (at_place b (by show k.val * 64 + w.val = 64 * k.val + w.val; omega) (by show (32 + h.val) * 64 + d.val = 2048 + (64 * h.val + d.val); omega))

/-- The bias blocks by head. -/
theorem ref_head_bias (p : Fin 8) (j : Fin 2) (n : Fin 8) (w : Fin 64) (z : Fin 512) :
    val_main_v17 (F := Ideal) x2 (ix4 ⟨2 * p.val + j.val, by omega⟩ n w z) = x2 (ix4 p ⟨2 * n.val + j.val, by omega⟩ w z) := by
  pointwise [val_main_v17, val_main_v16, val_main_v15]
  exact congrArg x2 (at_block p w z (by show n.val * 2 + j.val = 2 * n.val + j.val; omega))

/-- The reference's product of the queries with the gathered keys. -/
theorem ref_dot (b : Fin 16) (h : Fin 16) (k : Fin 32) (w : Fin 64) (i : Fin 8) (c : Fin 64) :
    val_main_v26 (F := Ideal) x0 (ix5 b h k w ⟨64 * i.val + c.val, by omega⟩)
      = ∑ d : Fin 64, val_main_v2 (F := Ideal) x0 (ix5 b k w h d) * val_main_v24 (F := Ideal) x0 (ix6 b k i c h d) := by
  unfold val_main_v26 val_main_v25
  generalize val_main_v2 (F := Ideal) x0 = y
  generalize val_main_v24 (F := Ideal) x0 = y'
  pointwise

/-- The reference's scores, from the scaled products and the gathered bias blocks. -/
theorem ref_sum (b : Fin 16) (h : Fin 16) (k : Fin 32) (w : Fin 64) (z : Fin 512) :
    val_main_v39 (F := Ideal) x0 x2 (ix5 b h k w z)
      = val_main_v26 (F := Ideal) x0 (ix5 b h k w z) * ((1 / 8 : ℝ) : EReal) + val_main_v36 (F := Ideal) x2 (ix4 h k w z) := by
  rw [← scale_f32]
  unfold val_main_v39 val_main_v38 val_main_v37 val_main_v28
  generalize val_main_v26 (F := Ideal) x0 = y
  generalize val_main_v36 (F := Ideal) x2 = y'
  pointwise [val_main_v27, val_main_cst]

/-- The reference's score of head `2 p + j` in row `k` at column `w`, against column `c` of the window's row `i`. -/
theorem ref_score (b : Fin 16) (p : Fin 8) (j : Fin 2) (k : Fin 32) (w : Fin 64) (i : Fin 8) (c : Fin 64) :
    val_main_v39 (F := Ideal) x0 x2 (ix5 b ⟨2 * p.val + j.val, by omega⟩ k w ⟨64 * i.val + c.val, by omega⟩)
      = (∑ d : Fin 64, x0 (ix3 b ⟨64 * k.val + w.val, by omega⟩ ⟨64 * (2 * p.val + j.val) + d.val, by omega⟩)
            * x0 (ix3 b ⟨64 * (row k i).val + c.val, by omega⟩ ⟨1024 + (64 * (2 * p.val + j.val) + d.val), by omega⟩)) * ((1 / 8 : ℝ) : EReal)
          + x2 (ix4 p ⟨2 * (below_first k).val + j.val, by omega⟩ w ⟨64 * i.val + c.val, by omega⟩) := by
  rw [ref_sum, ref_dot, ref_blocks, ref_head_bias]
  refine congrArg (fun s => s * ((1 / 8 : ℝ) : EReal) + _) (Finset.sum_congr rfl fun d _ => ?_)
  rw [ref_keys, ref_query, ref_key]

/-- The reference's maximum of a row of scores. -/
theorem ref_max (b : Fin 16) (h : Fin 16) (k : Fin 32) (w : Fin 64) :
    val_main_v42 (F := Ideal) x0 x2 (ix4 b h k w) = rowMax fun z => val_main_v39 (F := Ideal) x0 x2 (ix5 b h k w z) := by
  rw [val_main_v42_apply, val_main_v41_apply, val_main_cst_7_apply]
  unfold val_main_v40 val_main_cst_6
  generalize val_main_v39 (F := Ideal) x0 x2 = y
  have hred : S16x16x32x64x512.Reduces [4] S16x16x32x64 := by decide
  have e₁ := congrFun (hostReduce_maximumf_eq_multiReduction (F := Ideal) (u := S_) (φ := .f32) y 0xFF800000#32 reducesTo_S16x16x32x64x512_S16x16x32x64_d4 h_S_
    hred (.inl rfl) rfl) (ix4 b h k w)
  have e₂ := Ideal.multiReduction_maximumf_single (φ := .f32) (a := (4 : Fin 5)) y 0xFF800000#32 hred (.inl rfl) rfl (ix4 b h k w)
  have e := e₁.trans e₂
  refine (congrArg (max (Ideal.ofBits FTy.f32 0xFF800000#32)) e).trans ?_
  rw [neg_inf]
  refine (bot_sup_eq _).trans ?_
  unfold rowMax
  refine (congrArg (fun w => Finset.fold max w _ Finset.univ) neg_inf).trans ?_
  refine congrArg (fun f => Finset.fold max ⊥ f Finset.univ) (funext fun z => congrArg y ?_)
  funext a
  refine Fin.ext ?_
  match a with
  | ⟨0, _⟩ => rfl
  | ⟨1, _⟩ => rfl
  | ⟨2, _⟩ => rfl
  | ⟨3, _⟩ => rfl
  | ⟨4, _⟩ => rfl

/-- The reference's softmax of a row of scores. -/
theorem ref_soft (b : Fin 16) (h : Fin 16) (k : Fin 32) (w : Fin 64) (z : Fin 512) :
    val_main_v50 (F := Ideal) x0 x2 (ix5 b h k w z) = soft (fun z => val_main_v39 (F := Ideal) x0 x2 (ix5 b h k w z)) z := by
  unfold soft
  rw [← ref_max]
  unfold val_main_v50 val_main_v49 val_main_v48 val_main_v47 val_main_v46 val_main_v45 val_main_v44 val_main_v43
  generalize val_main_v42 (F := Ideal) x0 x2 = y
  generalize val_main_v39 (F := Ideal) x0 x2 = y'
  pointwise [val_main_cst_8]

/-- The reference's product of the softmax with the gathered values. -/
theorem ref_mixed (b : Fin 16) (k : Fin 32) (w : Fin 64) (h : Fin 16) (d : Fin 64) :
    val_main_v60 (F := Ideal) x0 x2 (ix5 b k w h d)
      = ∑ z : Fin 512, val_main_v50 (F := Ideal) x0 x2 (ix5 b h k w z)
          * x0 (ix3 b ⟨64 * (row k ⟨z.val / 64, by omega⟩).val + z.val % 64, by omega⟩ ⟨2048 + (64 * h.val + d.val), by omega⟩) := by
  have e : val_main_v60 (F := Ideal) x0 x2 (ix5 b k w h d)
      = ∑ z : Fin 512, val_main_v57 (F := Ideal) x0 (ix6 b k ⟨z.val / 64, by omega⟩ ⟨z.val % 64, by omega⟩ h d) * val_main_v50 (F := Ideal) x0 x2 (ix5 b h k w z) := by
    unfold val_main_v60 val_main_v59 val_main_v58
    generalize val_main_v50 (F := Ideal) x0 x2 = y
    generalize val_main_v57 (F := Ideal) x0 = y'
    pointwise
  rw [e]
  refine Finset.sum_congr rfl fun z _ => (mul_comm _ _).trans (congrArg (val_main_v50 (F := Ideal) x0 x2 (ix5 b h k w z) * ·) ?_)
  rw [ref_values, ref_val]

/-- The reference's result. -/
theorem ref_result (b : Fin 16) (k : Fin 32) (w : Fin 64) (h : Fin 16) (d : Fin 64) :
    val_main_v64 (F := Ideal) x0 x1 x2 (ix3 b ⟨64 * k.val + w.val, by omega⟩ ⟨64 * h.val + d.val, by omega⟩)
      = val_main_v60 (F := Ideal) x0 x2 (ix5 b k w h d)
          * (x1 (ix3 b ⟨64 * k.val + w.val, by omega⟩ ⟨64 * h.val + d.val, by omega⟩)
              * Ideal.div 1 (1 + Ideal.exp (-x1 (ix3 b ⟨64 * k.val + w.val, by omega⟩ ⟨64 * h.val + d.val, by omega⟩)))) := by
  unfold val_main_v64 val_main_v63 val_main_v61
  generalize val_main_v60 (F := Ideal) x0 x2 = y
  pointwise [val_main_v62, val_main_call1_v0, val_main_call1_v1, val_main_call1_v2, val_main_call1_v3, val_main_call1_v4, val_main_call1_v5, val_main_call1_cst, val_main_call1_cst_0]

end Cert.NaIdeal.Value
end
-- ==== Proof.NaValue.lean ====
module
public import proofs.«01_k».proof.Proof.NaBlock
public import proofs.«01_k».proof.Proof.NaReference
@[expose] public section
set_option maxRecDepth 16384
noncomputable section
open Idealize.ShloMosaic Idealize.ShloMosaic.TcCoe Idealize.SL.Sem
open Idealize.ShloMosaic.Pipeline (Dat)
namespace Cert.NaIdeal.Value
open Cert.NaIdeal Cert.NaIdeal.Gen Cert.RefNaIdeal.Read
open Cert.KernelIdeal.Value (Finite dot_finite dot_lower dot_upper)

/-- An entry of a window of keys or of values. -/
theorem window_apply (x : Vec Ideal S1x2048x128 .bf16) (k : Fin 32) (z : Fin 512) (l : Fin 128) :
    window x k (ix3 0 z l) = x (ix3 0 ⟨64 * (row k ⟨z.val / 64, by omega⟩).val + z.val % 64, by omega⟩ l) := by
  unfold window
  refine congrArg x (funext fun a => Fin.ext ?_)
  refine (ValueKit.rect_emb_unit_val (s := S1x2048x128) (k0_off1 k) S1x512x128.size (k0_off1_inb k) (ix3 0 z l) a).trans ?_
  refine (congrArg (· + _) (congrFun (off1_val k) a)).trans ?_
  match a with
  | ⟨0, _⟩ => rfl
  | ⟨1, _⟩ => show 64 * min (k.val - 4) 24 + z.val = 64 * (min (k.val - 4) 24 + z.val / 64) + z.val % 64; omega
  | ⟨2, _⟩ => exact Nat.zero_add _

/-- An entry of a row of queries. -/
theorem queryRow_apply (x : Vec Ideal S1x2048x128 .bf16) (k : Fin 32) (w : Fin 64) (l : Fin 128) :
    queryRow x k (ix3 0 w l) = x (ix3 0 ⟨64 * k.val + w.val, by omega⟩ l) := by
  unfold queryRow
  refine congrArg x (funext fun a => Fin.ext ?_)
  refine (ValueKit.rect_emb_unit_val (s := S1x2048x128) (k0_off2 k) S1x64x128.size (k0_off2_inb k) (ix3 0 w l) a).trans ?_
  refine (congrArg (· + _) (congrFun (off2_val k) a)).trans ?_
  match a with
  | ⟨0, _⟩ => rfl
  | ⟨1, _⟩ => rfl
  | ⟨2, _⟩ => exact Nat.zero_add _

/-- An entry of a row of gates. -/
theorem gateRow_apply (x : Vec Ideal S1x2048x128 .f32) (k : Fin 32) (w : Fin 64) (l : Fin 128) :
    gateRow x k (ix3 0 w l) = x (ix3 0 ⟨64 * k.val + w.val, by omega⟩ l) := by
  unfold gateRow
  refine congrArg x (funext fun a => Fin.ext ?_)
  refine (ValueKit.rect_emb_unit_val (s := S1x2048x128) (k0_off2 k) S1x64x128.size (k0_off2_inb k) (ix3 0 w l) a).trans ?_
  refine (congrArg (· + _) (congrFun (off2_val k) a)).trans ?_
  match a with
  | ⟨0, _⟩ => rfl
  | ⟨1, _⟩ => rfl
  | ⟨2, _⟩ => exact Nat.zero_add _

/-- An entry of the first head's biases. -/
theorem bias0_apply (x : Vec Ideal S1x16x64x512 .f32) (k : Fin 32) (w : Fin 64) (z : Fin 512) :
    bias0 x k (ix4 0 0 w z) = x (ix4 0 ⟨2 * (below_first k).val + (0 : Fin 2).val, by omega⟩ w z) := by
  unfold bias0
  refine congrArg x (funext fun a => Fin.ext ?_)
  refine (ValueKit.rect_emb_unit_val (s := S1x16x64x512) (k0_off3 k 0#32) S1x1x64x512.size (k0_off3_inb k 0) (ix4 0 0 w z) a).trans ?_
  refine (congrArg (· + _) (congrFun (off3_val0 k) a)).trans ?_
  match a with
  | ⟨0, _⟩ => rfl
  | ⟨1, _⟩ => rfl
  | ⟨2, _⟩ => exact Nat.zero_add _
  | ⟨3, _⟩ => exact Nat.zero_add _

/-- An entry of the second head's biases. -/
theorem bias1_apply (x : Vec Ideal S1x16x64x512 .f32) (k : Fin 32) (w : Fin 64) (z : Fin 512) :
    bias1 x k (ix4 0 0 w z) = x (ix4 0 ⟨2 * (below_first k).val + (1 : Fin 2).val, by omega⟩ w z) := by
  unfold bias1
  refine congrArg x (funext fun a => Fin.ext ?_)
  refine (ValueKit.rect_emb_unit_val (s := S1x16x64x512) (k0_off3 k 1#32) S1x1x64x512.size (k0_off3_inb k 1) (ix4 0 0 w z) a).trans ?_
  refine (congrArg (· + _) (congrFun (off3_val1 k) a)).trans ?_
  match a with
  | ⟨0, _⟩ => rfl
  | ⟨1, _⟩ => rfl
  | ⟨2, _⟩ => exact Nat.zero_add _
  | ⟨3, _⟩ => exact Nat.zero_add _

/-- The reference's score against any key of the window. -/
theorem ref_score_at (x0 : Vec Ideal Cert.RefNaIdeal.S16x2048x3072 .bf16) (x2 : Vec Ideal Cert.RefNaIdeal.S8x16x64x512 .f32)
    (b : Fin 16) (p : Fin 8) (j : Fin 2) (k : Fin 32) (w : Fin 64) (z : Fin 512) :
    val_main_v39 (F := Ideal) x0 x2 (ix5 b ⟨2 * p.val + j.val, by omega⟩ k w z)
      = (∑ d : Fin 64, x0 (ix3 b ⟨64 * k.val + w.val, by omega⟩ ⟨64 * (2 * p.val + j.val) + d.val, by omega⟩)
            * x0 (ix3 b ⟨64 * (row k ⟨z.val / 64, by omega⟩).val + z.val % 64, by omega⟩ ⟨1024 + (64 * (2 * p.val + j.val) + d.val), by omega⟩))
            * ((1 / 8 : ℝ) : EReal)
          + x2 (ix4 p ⟨2 * (below_first k).val + j.val, by omega⟩ w z) := by
  have hz : z = ⟨64 * (z.val / 64) + z.val % 64, by omega⟩ := Fin.ext (Nat.div_add_mod z.val 64).symm
  refine (congrArg (fun z' => val_main_v39 (F := Ideal) x0 x2 (ix5 b ⟨2 * p.val + j.val, by omega⟩ k w z')) hz).trans ?_
  refine (ref_score x0 x2 b p j k w ⟨z.val / 64, by omega⟩ ⟨z.val % 64, by omega⟩).trans ?_
  exact congrArg (fun z' => _ + x2 (ix4 p ⟨2 * (below_first k).val + j.val, by omega⟩ w z')) hz.symm

/-- A row of scores is proper: a finite product plus a proper row of biases. -/
theorem proper_scores (f g : Fin 512 → EReal) (hf : ∀ z, Finite (f z)) (hg : Proper g) : Proper fun z => f z + g z := by
  obtain ⟨ht, j, hj⟩ := hg
  refine ⟨fun z => ?_, j, ?_⟩
  · exact (EReal.add_lt_top (hf z).2 (ht z)).ne
  · intro e
    rcases EReal.add_eq_bot_iff.mp e with h | h
    · exact (hf j).1 h
    · exact hj h

variable (m : (ℓ : Loc nD τ sig) → Buf (Elt Ideal) ℓ)

/-- Every window's block index at grid point `t`: batch entry `t / 8`, pair of heads `t % 8`. -/
theorem idx_val : ∀ t : Fin cfg0.N, win0_0.index t = ![t.val / 8, 0, t.val % 8]
    ∧ win0_1.index t = ![t.val / 8, 0, 8 + t.val % 8]
    ∧ win0_2.index t = ![t.val / 8, 0, 16 + t.val % 8]
    ∧ win0_3.index t = ![t.val / 8, 0, t.val % 8]
    ∧ win0_4.index t = ![t.val % 8, 0, 0, 0]
    ∧ win0_5.index t = ![t.val / 8, 0, t.val % 8] :=
  (by decide +kernel : ∀ t : Fin grid0.N, _)

/-- The pair of heads of grid point `t`. -/
def pair (t : Fin cfg0.N) : Fin 8 := ⟨t.val % 8, by omega⟩

/-- The batch entry of grid point `t`. -/
def batch (t : Fin cfg0.N) : Fin 16 := ⟨t.val / 8, by have h : t.val < 128 := t.isLt; omega⟩

variable (c : Dev nD)

/-- The block of queries. -/
theorem query_block (t : Fin cfg0.N) (s : Fin 2048) (l : Fin 128) : iblk m c 0 t (ix3 0 s l)
    = m ((c : Thread nD τ).loc main_arg0) (ix3 (batch t) s ⟨128 * (pair t).val + l.val, by omega⟩) := by
  blk_point [iblk, V, idx_val t]
  all_goals (simp only [pair, batch]; try omega)

/-- The block of keys. -/
theorem key_block (t : Fin cfg0.N) (s : Fin 2048) (l : Fin 128) : iblk m c 1 t (ix3 0 s l)
    = m ((c : Thread nD τ).loc main_arg0) (ix3 (batch t) s ⟨1024 + (128 * (pair t).val + l.val), by omega⟩) := by
  blk_point [iblk, V, idx_val t]
  all_goals (simp only [pair, batch]; try omega)

/-- The block of values. -/
theorem value_block (t : Fin cfg0.N) (s : Fin 2048) (l : Fin 128) : iblk m c 2 t (ix3 0 s l)
    = m ((c : Thread nD τ).loc main_arg0) (ix3 (batch t) s ⟨2048 + (128 * (pair t).val + l.val), by omega⟩) := by
  blk_point [iblk, V, idx_val t]
  all_goals (simp only [pair, batch]; try omega)

/-- The block of gates. -/
theorem gate_block (t : Fin cfg0.N) (s : Fin 2048) (l : Fin 128) : iblk m c 3 t (ix3 0 s l)
    = m ((c : Thread nD τ).loc main_arg1) (ix3 (batch t) s ⟨128 * (pair t).val + l.val, by omega⟩) := by
  blk_point [iblk, V, idx_val t]
  all_goals (simp only [pair, batch]; try omega)

/-- The block of biases. -/
theorem bias_block (t : Fin cfg0.N) (n : Fin 16) (w : Fin 64) (z : Fin 512) : iblk m c 4 t (ix4 0 n w z)
    = m ((c : Thread nD τ).loc main_arg2) (ix4 (pair t) n w z) := by
  blk_point [iblk, V, idx_val t]
  all_goals (simp only [pair, batch]; try omega)

section Finite

variable (h1 : ∀ (b : Fin 16) (s : Fin 2048) (k : Fin 3072), k.val < 2048 → Finite (m ((c : Thread nD τ).loc main_arg0) (ix3 b s k)))
  (h2 : ∀ (p : Fin 8) (n : Fin 16) (w : Fin 64), Proper fun z => m ((c : Thread nD τ).loc main_arg2) (ix4 p n w z))

include h1 in
/-- The scores of a pair's first head are the reference's. -/
theorem scores0 (t : Fin cfg0.N) (k : Fin 32) (w : Fin 64) (z : Fin 512) :
    scores (query0 (queryRow (iblk m c 0 t) k)) (k0_pay3 (window (iblk m c 1 t) k)) (bias0 (iblk m c 4 t) k) (ix2 w z)
      = val_main_v39 (F := Ideal) (m ((c : Thread nD τ).loc main_arg0)) (m ((c : Thread nD τ).loc main_arg2))
          (ix5 (batch t) ⟨2 * (pair t).val + (0 : Fin 2).val, by omega⟩ k w z) := by
  rw [scores_apply, ref_score_at, bias0_apply, bias_block]
  refine congrArg (· + _) ?_
  simp only [query0_apply, queryRow_apply, window_apply, query_block, key_block]
  refine (dot_lower (fun l => m ((c : Thread nD τ).loc main_arg0) (ix3 (batch t) ⟨64 * k.val + w.val, by omega⟩ ⟨128 * (pair t).val + l.val, by omega⟩))
    (fun l => m ((c : Thread nD τ).loc main_arg0) (ix3 (batch t) ⟨64 * (row k ⟨z.val / 64, by omega⟩).val + z.val % 64, by omega⟩
      ⟨1024 + (128 * (pair t).val + l.val), by omega⟩)) (1 / 8)
    (fun l => h1 _ _ _ (show 128 * (pair t).val + l.val < 2048 by omega)) (fun l => h1 _ _ _ (show 1024 + (128 * (pair t).val + l.val) < 2048 by omega))).trans ?_
  refine congrArg (· * _) (Finset.sum_congr rfl fun d _ => congrArg₂ (· * ·) (congrArg _ (at_place _ rfl ?_)) (congrArg _ (at_place _ rfl ?_)))
  · show 128 * (pair t).val + d.val = 64 * (2 * (pair t).val + 0) + d.val; omega
  · show 1024 + (128 * (pair t).val + d.val) = 1024 + (64 * (2 * (pair t).val + 0) + d.val); omega

include h1 in
/-- The scores of a pair's second head are the reference's. -/
theorem scores1 (t : Fin cfg0.N) (k : Fin 32) (w : Fin 64) (z : Fin 512) :
    scores (query1 (queryRow (iblk m c 0 t) k)) (k0_pay3 (window (iblk m c 1 t) k)) (bias1 (iblk m c 4 t) k) (ix2 w z)
      = val_main_v39 (F := Ideal) (m ((c : Thread nD τ).loc main_arg0)) (m ((c : Thread nD τ).loc main_arg2))
          (ix5 (batch t) ⟨2 * (pair t).val + (1 : Fin 2).val, by omega⟩ k w z) := by
  rw [scores_apply, ref_score_at, bias1_apply, bias_block]
  refine congrArg (· + _) ?_
  simp only [query1_apply, queryRow_apply, window_apply, query_block, key_block]
  refine (dot_upper (fun l => m ((c : Thread nD τ).loc main_arg0) (ix3 (batch t) ⟨64 * k.val + w.val, by omega⟩ ⟨128 * (pair t).val + l.val, by omega⟩))
    (fun l => m ((c : Thread nD τ).loc main_arg0) (ix3 (batch t) ⟨64 * (row k ⟨z.val / 64, by omega⟩).val + z.val % 64, by omega⟩
      ⟨1024 + (128 * (pair t).val + l.val), by omega⟩)) (1 / 8)
    (fun l => h1 _ _ _ (show 128 * (pair t).val + l.val < 2048 by omega)) (fun l => h1 _ _ _ (show 1024 + (128 * (pair t).val + l.val) < 2048 by omega))).trans ?_
  refine congrArg (· * _) (Finset.sum_congr rfl fun d _ => congrArg₂ (· * ·) (congrArg _ (at_place _ rfl ?_)) (congrArg _ (at_place _ rfl ?_)))
  · show 128 * (pair t).val + (64 + d.val) = 64 * (2 * (pair t).val + 1) + d.val; omega
  · show 1024 + (128 * (pair t).val + (64 + d.val)) = 1024 + (64 * (2 * (pair t).val + 1) + d.val); omega

include h1 h2 in
/-- The reference's rows of scores are proper. -/
theorem ref_proper (b : Fin 16) (p : Fin 8) (j : Fin 2) (k : Fin 32) (w : Fin 64) :
    Proper fun z => val_main_v39 (F := Ideal) (m ((c : Thread nD τ).loc main_arg0)) (m ((c : Thread nD τ).loc main_arg2))
      (ix5 b ⟨2 * p.val + j.val, by omega⟩ k w z) := by
  simp only [ref_score_at]
  refine proper_scores _ _ (fun z => ?_) (h2 p ⟨2 * (below_first k).val + j.val, by omega⟩ w)
  obtain ⟨a, ha⟩ := (dot_finite (fun d : Fin 64 => m ((c : Thread nD τ).loc main_arg0)
      (ix3 b ⟨64 * k.val + w.val, by omega⟩ ⟨64 * (2 * p.val + j.val) + d.val, by omega⟩))
    (fun d => m ((c : Thread nD τ).loc main_arg0) (ix3 b ⟨64 * (row k ⟨z.val / 64, by omega⟩).val + z.val % 64, by omega⟩
      ⟨1024 + (64 * (2 * p.val + j.val) + d.val), by omega⟩))
    (fun d => h1 _ _ _ (show 64 * (2 * p.val + j.val) + d.val < 2048 by omega))
    (fun d => h1 _ _ _ (show 1024 + (64 * (2 * p.val + j.val) + d.val) < 2048 by omega))).real
  rw [ha, ← EReal.coe_mul]
  exact Finite.of_real _

include h1 h2 in
/-- The product of the first head's softmax with the values is the reference's. -/
theorem mixed0 (t : Fin cfg0.N) (k : Fin 32) (w : Fin 64) (d : Fin 64) :
    mixed (exps (scores (query0 (queryRow (iblk m c 0 t) k)) (k0_pay3 (window (iblk m c 1 t) k)) (bias0 (iblk m c 4 t) k)))
        (recips (exps (scores (query0 (queryRow (iblk m c 0 t) k)) (k0_pay3 (window (iblk m c 1 t) k)) (bias0 (iblk m c 4 t) k))))
        (k0_pay4 (window (iblk m c 2 t) k)) (ix2 w ⟨d.val, by omega⟩)
      = val_main_v60 (F := Ideal) (m ((c : Thread nD τ).loc main_arg0)) (m ((c : Thread nD τ).loc main_arg2))
          (ix5 (batch t) k w ⟨2 * (pair t).val + (0 : Fin 2).val, by omega⟩ d) := by
  rw [mixed_apply _ _ w _ (by simp only [scores0 m c h1]; exact ref_proper m c h1 h2 _ _ _ _ _), ref_mixed]
  refine Finset.sum_congr rfl fun z _ => ?_
  rw [ref_soft, values_apply, window_apply, value_block]
  simp only [scores0 m c h1]
  refine congrArg _ (congrArg _ (at_place _ rfl ?_))
  show 2048 + (128 * (pair t).val + d.val) = 2048 + (64 * (2 * (pair t).val + 0) + d.val)
  omega

include h1 h2 in
/-- The product of the second head's softmax with the values is the reference's. -/
theorem mixed1 (t : Fin cfg0.N) (k : Fin 32) (w : Fin 64) (d : Fin 64) :
    mixed (exps (scores (query1 (queryRow (iblk m c 0 t) k)) (k0_pay3 (window (iblk m c 1 t) k)) (bias1 (iblk m c 4 t) k)))
        (recips (exps (scores (query1 (queryRow (iblk m c 0 t) k)) (k0_pay3 (window (iblk m c 1 t) k)) (bias1 (iblk m c 4 t) k))))
        (k0_pay4 (window (iblk m c 2 t) k)) (ix2 w ⟨64 + d.val, by omega⟩)
      = val_main_v60 (F := Ideal) (m ((c : Thread nD τ).loc main_arg0)) (m ((c : Thread nD τ).loc main_arg2))
          (ix5 (batch t) k w ⟨2 * (pair t).val + (1 : Fin 2).val, by omega⟩ d) := by
  rw [mixed_apply _ _ w _ (by simp only [scores1 m c h1]; exact ref_proper m c h1 h2 _ _ _ _ _), ref_mixed]
  refine Finset.sum_congr rfl fun z _ => ?_
  rw [ref_soft, values_apply, window_apply, value_block]
  simp only [scores1 m c h1]
  refine congrArg _ (congrArg _ (at_place _ rfl ?_))
  show 2048 + (128 * (pair t).val + (64 + d.val)) = 2048 + (64 * (2 * (pair t).val + 1) + d.val)
  omega

include h1 h2 in
/-- An entry a pass stores is the reference's. -/
theorem entry (t : Fin cfg0.N) (k : Fin 32) (w : Fin 64) (l : Fin 128) :
    rowOut (iblk m c 0 t) (iblk m c 1 t) (iblk m c 2 t) (iblk m c 3 t) (iblk m c 4 t) k (ix3 0 w l)
      = val_main_v64 (F := Ideal) (m ((c : Thread nD τ).loc main_arg0)) (m ((c : Thread nD τ).loc main_arg1)) (m ((c : Thread nD τ).loc main_arg2))
          (ix3 (batch t) ⟨64 * k.val + w.val, by omega⟩ ⟨128 * (pair t).val + l.val, by omega⟩) := by
  refine (congrFun (rowOut_eq _ _ _ _ _ k) (ix3 0 w l)).trans ?_
  rw [joined_apply, gateRow_apply, gate_block]
  by_cases hl : l.val < 64
  · rw [if_pos hl]
    have e : (⟨128 * (pair t).val + l.val, by omega⟩ : Fin 1024) = ⟨64 * (2 * (pair t).val + (0 : Fin 2).val) + l.val, by simp; omega⟩ :=
      Fin.ext (show 128 * (pair t).val + l.val = 64 * (2 * (pair t).val + 0) + l.val by omega)
    rw [e]
    refine Eq.trans ?_ (ref_result _ _ _ (batch t) k w ⟨2 * (pair t).val + (0 : Fin 2).val, by simp; omega⟩ ⟨l.val, hl⟩).symm
    exact congrArg (· * _) (mixed0 m c h1 h2 t k w ⟨l.val, hl⟩)
  · rw [if_neg hl]
    have e : (⟨128 * (pair t).val + l.val, by omega⟩ : Fin 1024) = ⟨64 * (2 * (pair t).val + (1 : Fin 2).val) + (l.val - 64), by simp; omega⟩ :=
      Fin.ext (show 128 * (pair t).val + l.val = 64 * (2 * (pair t).val + 1) + (l.val - 64) by omega)
    rw [e]
    refine Eq.trans ?_ (ref_result _ _ _ (batch t) k w ⟨2 * (pair t).val + (1 : Fin 2).val, by simp; omega⟩ ⟨l.val - 64, by omega⟩).symm
    refine congrArg (· * _) (Eq.trans (congrArg _ (congrArg (ix2 w) (Fin.ext ?_))) (mixed1 m c h1 h2 t k w ⟨l.val - 64, by omega⟩))
    show l.val = 64 + (l.val - 64)
    omega

include h1 h2 in
/-- The block stored at grid point `t` is the reference's result at the positions the block covers. -/
theorem point (t : Fin cfg0.N) (y) : outsAt0 m c t y
    = val_main_v64 (F := Ideal) (m ((c : Thread nD τ).loc main_arg0)) (m ((c : Thread nD τ).loc main_arg1)) (m ((c : Thread nD τ).loc main_arg2))
        (((cfg0.win 5).blk t).view.emb y) := by
  have hy : (y 1).val < 2048 := (y 1).isLt
  unfold outsAt0
  refine (out_block _ _ _ _ _ _ _ _ _ _ _ _ _ _ _ _ _ _ _ y).trans ?_
  refine (entry m c h1 h2 t ⟨(y 1).val / 64, by omega⟩ ⟨(y 1).val % 64, by omega⟩ (y 2)).trans ?_
  refine congrArg _ ?_
  blk_ext [iblk, V, idx_val t]
  all_goals (simp only [pair, batch]; try omega)

include h1 h2 in
/-- The result array after the run is the reference's result, for finite queries and keys and proper rows of biases. -/
theorem final : (dats m 0 c).arrAt 5 (cfgs 0).N
    = val_main_v64 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]
  exact point m c h1 h2 t y

end Finite

end Cert.NaIdeal.Value
end
-- ==== Proof.NaPrecondition.lean ====
module
public import proofs.«01_k».proof.Defs
public import proofs.«01_k».proof.Proof.Precondition
public import proofs.«01_k».proof.Proof.NaRow
public import Idealize.ShloMosaic.Lib.KernelVsHost
@[expose] public section
set_option maxRecDepth 16384
noncomputable section
open Idealize.ShloMosaic Idealize.ShloMosaic.TcCoe Idealize.SL.Sem
open Idealize.ShloMosaic.Pipeline (Dat)
namespace Cert.NaIdeal.Value
open Cert.Pre_na_scores_finite
open Cert.KernelIdeal.Value (Finite finite_of_cmp pos_inf neg_inf)

/-- The shape relations the precondition's function takes. -/
instance pre_facts : Cert.Pre_na_scores_finite.Facts where
  slices_S16x2048x3072_S16x2048x2048_0_0_0 := by decide
  bitsLt_bf16_f32 := by decide
  bcast_S_S16x2048x2048 := by decide
  bcast_S_S8x16x64x512 := by decide
  reducesTo_S8x16x64x512_S8x16x64_d3 := by decide
  h_S_ := by decide
  bcast_S_S8x16x64 := by decide

/-- A value that compares less than +∞ isn't +∞. -/
theorem ne_top_of_cmp (x : EReal) (h : Ideal.cmp CmpFPredicate.olt x (Ideal.ofBits FTy.f32 0x7F800000#32) = 1#1) : x ≠ ⊤ := by
  rw [pos_inf] at h
  rintro rfl
  simp [Ideal.cmp] at h

/-- A value that compares greater than -∞ isn't -∞. -/
theorem ne_bot_of_cmp (x : EReal) (h : Ideal.cmp CmpFPredicate.ogt x (Ideal.ofBits FTy.f32 0xFF800000#32) = 1#1) : x ≠ ⊥ := by
  rw [neg_inf] at h
  rintro rfl
  simp [Ideal.cmp] at h

/-- A row whose maximum isn't -∞ has an entry that isn't. -/
theorem exists_of_max (s : Fin 512 → EReal) (h : rowMax s ≠ ⊥) : ∃ k, s k ≠ ⊥ := by
  by_contra hn
  refine h (le_bot_iff.mp ?_)
  refine (Finset.fold_max_le ⊥).mpr ⟨le_rfl, fun k _ => ?_⟩
  by_contra hk
  exact hn ⟨k, fun e => hk e.le⟩

variable (x0 : FVec Ideal S16x2048x3072 .bf16) (x1 : FVec Ideal S16x2048x1024 .f32) (x2 : FVec Ideal S8x16x64x512 .f32)

/-- Under the precondition the queries and the keys are finite. -/
theorem queries_keys_finite (h : (fn (F := Ideal) x0 x1 x2).1 = fun _ => 1#1) (b : Fin 16) (s : Fin 2048) (k : Fin 3072) (hk : k.val < 2048) :
    Finite (x0 (ix3 b s k)) := by
  refine finite_of_cmp _ (Eq.trans ?_ (congrFun h (ix3 b s ⟨k.val, hk⟩)))
  pointwise [fn]
  rfl

/-- Under the precondition no bias is +∞. -/
theorem bias_ne_top (h : (fn (F := Ideal) x0 x1 x2).2.1 = fun _ => 1#1) (i : S8x16x64x512.Idx) : x2 i ≠ ⊤ := by
  refine ne_top_of_cmp _ (Eq.trans ?_ (congrFun h i))
  pointwise [fn]

/-- The maximum over the keys of a row of biases. -/
theorem max_bias (p : Fin 8) (n : Fin 16) (w : Fin 64) :
    Host.reduce FloatOps.maximumf x2 (constant S_ .f32 0xFF800000#32) Facts.reducesTo_S8x16x64x512_S8x16x64_d3 Facts.h_S_ (ix3 p n w)
      = rowMax fun z => x2 (ix4 p n w z) := by
  have hred : S8x16x64x512.Reduces [3] S8x16x64 := by decide
  have e₁ := congrFun (hostReduce_maximumf_eq_multiReduction (F := Ideal) (u := S_) (φ := .f32) x2 0xFF800000#32 Facts.reducesTo_S8x16x64x512_S8x16x64_d3 Facts.h_S_
    hred (.inl rfl) rfl) (ix3 p n w)
  have e₂ := Ideal.multiReduction_maximumf_single (φ := .f32) (a := (3 : Fin 4)) x2 0xFF800000#32 hred (.inl rfl) rfl (ix3 p n w)
  refine (e₁.trans e₂).trans ?_
  unfold rowMax
  refine (congrArg (fun w => Finset.fold max w _ Finset.univ) neg_inf).trans ?_
  refine congrArg (fun f => Finset.fold max ⊥ f Finset.univ) (funext fun z => congrArg x2 ?_)
  funext a
  refine Fin.ext ?_
  match a with
  | ⟨0, _⟩ => rfl
  | ⟨1, _⟩ => rfl
  | ⟨2, _⟩ => rfl
  | ⟨3, _⟩ => rfl

/-- An array that compares greater than -∞ everywhere has no entry that is -∞. -/
theorem rows_ne_bot (x : FVec Ideal S8x16x64 .f32) (p : Fin 8) (n : Fin 16) (w : Fin 64)
    (h : cmpf (F := Ideal) CmpFPredicate.ogt x (broadcastInDim S8x16x64 ![] Facts.bcast_S_S8x16x64 (constant (F := Ideal) S_ .f32 0xFF800000#32)) = fun _ => 1#1) :
    x (ix3 p n w) ≠ ⊥ := by
  refine ne_bot_of_cmp _ (Eq.trans ?_ (congrFun h (ix3 p n w)))
  pointwise []

/-- Under the precondition every row of biases is proper. -/
theorem bias_proper (h : (fn (F := Ideal) x0 x1 x2).2.1 = fun _ => 1#1) (h' : (fn (F := Ideal) x0 x1 x2).2.2 = fun _ => 1#1)
    (p : Fin 8) (n : Fin 16) (w : Fin 64) : Proper fun z => x2 (ix4 p n w z) := by
  refine ⟨fun z => bias_ne_top x0 x1 x2 h _, exists_of_max _ fun e => ?_⟩
  exact rows_ne_bot _ p n w h' ((max_bias x2 p n w).trans e)

end Cert.NaIdeal.Value
end
-- ==== Proof.AdaValue.lean ====
/- The modulation vectors: what one block holds, and what the array holds after the run. -/
module

public import proofs.«01_k».proof.Proof.Gen.AdaIdeal.Frame
public import proofs.«01_k».proof.Proof.Gen.RefAdaIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdaIdeal.Value

open Cert.AdaIdeal Cert.AdaIdeal.Gen

variable (m : (ℓ : Loc nD τ sig) → Buf (Elt Ideal) ℓ)

/-- Every window's block index at grid point `t`: layer `t / 2`, column tile `t % 2`. -/
theorem idx_val : ∀ t : Fin cfg0.N, win0_0.index t = ![0, 0]
    ∧ win0_1.index t = ![t.val / 2, 0, t.val % 2]
    ∧ win0_2.index t = ![t.val / 2, 0, t.val % 2]
    ∧ win0_3.index t = ![t.val / 2, 0, t.val % 2] :=
  (by decide +kernel : ∀ t : Fin grid0.N, _)

open Cert.RefAdaIdeal.Read in
/-- The block stored at grid point `t` is the reference's result at the positions the block covers. -/
theorem point (c : Dev nD) (t : Fin cfg0.N) (y) :
    k0_pay1 (iblk m c 0 t) (iblk m c 1 t) (iblk m c 2 t) y
      = val_main_v5 (F := Ideal) (m ((c : Thread nD τ).loc main_arg0)) (m ((c : Thread nD τ).loc main_arg1))
        (m ((c : Thread nD τ).loc main_arg2)) (((cfg0.win 3).blk t).view.emb y) := by
  pointwise [k0_pay1, val_main_v5, val_main_v4, val_main_v3, val_main_v2, val_main_v1, val_main_v0, val_main_call0_v5, val_main_call0_v4,
    val_main_call0_v3, val_main_call0_v2, val_main_call0_v1, val_main_call0_v0, val_main_call0_cst, val_main_call0_cst_0, Ideal.logistic]
  refine congrArg₂ (· + ·) (Finset.sum_congr rfl fun x _ => (mul_comm _ _).trans (congrArg₂ (· * ·) ?_ ?_)) ?_
  · blk_point [iblk, V, idx_val t]
  · blk_point [iblk, V, idx_val t]
  · blk_point [iblk, V, idx_val t]

/-- The result array after the run is the reference's result. -/
theorem final (c : Dev nD) : (dats m 0 c).arrAt 3 (cfgs 0).N
    = Cert.RefAdaIdeal.Read.val_main_v5 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp; rw [after0_3]; frame_out
  exact point m c t y

end Cert.AdaIdeal.Value
-- ==== Proof.RpbValue.lean ====
module
public import proofs.«01_k».proof.Proof.Gen.RpbIdeal.Frame
public import proofs.«01_k».proof.Proof.Gen.RefRpbIdeal.Read
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.RpbIdeal.Value
open Cert.RpbIdeal Cert.RpbIdeal.Gen

/-- The table's column for query column `q` and key column `k`: their distance, clipped to 15 on either side. -/
def column (q k : Fin 64) : Fin 31 := ⟨min (k.val + 15 - q.val) 30, by omega⟩

/-- The constant the host passes holds the columns. -/
theorem const_val : ∀ q k : Fin 64, lit0 ⟨64 * q.val + k.val, by omega⟩ = BitVec.ofNat 32 (column q k).val := by
  decide +kernel

/-- The columns the reference gathers from. -/
theorem ref_column : ∀ q k : Fin 64, min (Cert.RefRpbIdeal.Read.val_main_v16 (F := Ideal) (ix3 q k 0)).toInt.toNat 30 = (column q k).val := by
  decide +kernel

/-- The body takes the table's column that the offset names. -/
theorem body_apply (x0 : Vec Ideal S240x31 .f32) (x1 : Vec Ideal S1x4096 .i32) (r : Fin 240) (n : Fin 4096) (d : Fin 31)
    (h : x1 (ix2 0 n) = BitVec.ofNat 32 d.val) : out0_2 x0 x1 (ix2 r n) = x0 (ix2 r d) := by
  unfold out0_2
  frame_out
  pointwise [k0_pay1, k0_pay2, k0_pay3, k0_pay4, k0_pay5, k0_pay6, k0_pay7, k0_pay8, k0_pay9, k0_pay10, k0_pay11, k0_pay12, k0_pay13]
  rw [h]
  clear h
  fin_cases d <;> rfl

variable (m : (ℓ : Loc nD τ sig) → Buf (Elt Ideal) ℓ) (c : Dev nD)

/-- Every window is its whole array. -/
theorem idx_val : ∀ t : Fin cfg0.N, win0_0.index t = ![0, 0] ∧ win0_1.index t = ![0, 0] ∧ win0_2.index t = ![0, 0] :=
  (by decide +kernel : ∀ t : Fin grid0.N, _)

/-- The table's rows, one per head and row distance. -/
theorem table_block (t : Fin cfg0.N) (h : Fin 16) (e : Fin 15) (d : Fin 31) :
    iblk m c 0 t (ix2 ⟨15 * h.val + e.val, by omega⟩ d) = m ((c : Thread nD τ).loc main_arg0) (ix3 h e d) := by
  blk_point [iblk, V, idx_val t]
  all_goals (try omega)

/-- The columns as the body reads them. -/
theorem column_block (t : Fin cfg0.N) (q k : Fin 64) :
    iblk m c 1 t (ix2 0 ⟨64 * q.val + k.val, by omega⟩) = BitVec.ofNat 32 (column q k).val := by
  have e : iblk m c 1 t (ix2 0 ⟨64 * q.val + k.val, by omega⟩) = lit0 (S1x4096.rowMajor (ix2 0 ⟨64 * q.val + k.val, by omega⟩)) := by
    blk_point [iblk, V, idx_val t]
  refine e.trans (Eq.trans (congrArg lit0 (Fin.ext ?_)) (const_val q k))
  rw [Shape.rowMajor_val_two]
  exact Nat.zero_add _

section Reference
open Cert.RefRpbIdeal Cert.RefRpbIdeal.Gen Cert.RefRpbIdeal.Read

/-- The first axis of a gathered column's index is the query column. -/
theorem column_place0 (h : Fin 16) (e : Fin 15) (q k : Fin 64) : (gather_S16x15x31_S64x64x1_S16x15x64x64_01_2_n_n_2_2_16151.siIdx (ix4 h e q k) (0 : Fin 1) 0).val = q.val := by
  refine (congrArg Fin.val (dif_neg (show ¬ ((0 : Fin 3).val = 2) by decide))).trans ?_
  unfold GatherDims.siCoord
  exact congrArg (fun a => (ix4 h e q k a).val) (show _ = (2 : Fin 4) by decide)

/-- The second axis of a gathered column's index is the key column. -/
theorem column_place1 (h : Fin 16) (e : Fin 15) (q k : Fin 64) : (gather_S16x15x31_S64x64x1_S16x15x64x64_01_2_n_n_2_2_16151.siIdx (ix4 h e q k) (0 : Fin 1) 1).val = k.val := by
  refine (congrArg Fin.val (dif_neg (show ¬ ((1 : Fin 3).val = 2) by decide))).trans ?_
  unfold GatherDims.siCoord
  exact congrArg (fun a => (ix4 h e q k a).val) (show _ = (3 : Fin 4) by decide)

/-- The index of a gathered column lies at its query and its key column. -/
theorem column_place (h : Fin 16) (e : Fin 15) (q k : Fin 64) : gather_S16x15x31_S64x64x1_S16x15x64x64_01_2_n_n_2_2_16151.siIdx (ix4 h e q k) (0 : Fin 1) = ix3 q k 0 := by
  funext a; refine Fin.ext ?_
  match a with
  | ⟨0, _⟩ => exact column_place0 h e q k
  | ⟨1, _⟩ => exact column_place1 h e q k
  | ⟨2, _⟩ => exact (congrArg Fin.val (dif_pos (show ((2 : Fin 3).val = 2) by decide))).trans rfl

/-- The gather of the table's columns. -/
theorem gather_columns (x : (⟨S16x15x31, .f32⟩ : BufTy).Contents (Elt Ideal)) (v : IVec S64x64x1 32) (h : Fin 16) (e : Fin 15) (q k : Fin 64) :
    Host.gather gather_S16x15x31_S64x64x1_S16x15x64x64_01_2_n_n_2_2_16151 x v (ix4 h e q k) = x (ix3 h e ⟨min (v (ix3 q k 0)).toInt.toNat 30, by omega⟩) := by
  unfold Host.gather
  refine congrArg x (funext fun a => Fin.ext ?_)
  unfold GatherDims.operandIdx
  match a with
  | ⟨0, _⟩ =>
    have s : gather_S16x15x31_S64x64x1_S16x15x64x64_01_2_n_n_2_2_16151.start (ix4 h e q k) v 0 = 0 := by
      unfold GatherDims.start
      rw [dif_neg (by decide)]
    have o : gather_S16x15x31_S64x64x1_S16x15x64x64_01_2_n_n_2_2_16151.offCoord (ix4 h e q k) 0 = h.val := by
      unfold GatherDims.offCoord
      rw [dif_pos (by decide)]
      rfl
    exact (congrArg₂ (fun a b => a + 0 + b) s o).trans (Nat.zero_add _)
  | ⟨1, _⟩ =>
    have s : gather_S16x15x31_S64x64x1_S16x15x64x64_01_2_n_n_2_2_16151.start (ix4 h e q k) v 1 = 0 := by
      unfold GatherDims.start
      rw [dif_neg (by decide)]
    have o : gather_S16x15x31_S64x64x1_S16x15x64x64_01_2_n_n_2_2_16151.offCoord (ix4 h e q k) 1 = e.val := by
      unfold GatherDims.offCoord
      rw [dif_pos (by decide)]
      rfl
    exact (congrArg₂ (fun a b => a + 0 + b) s o).trans (Nat.zero_add _)
  | ⟨2, _⟩ =>
    have s : gather_S16x15x31_S64x64x1_S16x15x64x64_01_2_n_n_2_2_16151.start (ix4 h e q k) v 2 = min (v (gather_S16x15x31_S64x64x1_S16x15x64x64_01_2_n_n_2_2_16151.siIdx (ix4 h e q k) (0 : Fin 1))).toInt.toNat 30 := by
      unfold GatherDims.start
      rw [dif_pos (by decide)]
      rfl
    exact s.trans (congrArg (fun z => min (v z).toInt.toNat 30) (column_place h e q k))

/-- An entry of the reference's result. -/
theorem ref_result (x : (⟨S16x15x31, .f32⟩ : BufTy).Contents (Elt Ideal)) (h : Fin 16) (e : Fin 15) (q k : Fin 64) :
    val_main_v18 (F := Ideal) x (ix2 ⟨15 * h.val + e.val, by omega⟩ ⟨64 * q.val + k.val, by omega⟩) = x (ix3 h e (column q k)) := by
  have i : idx_main_v18 (ix2 ⟨15 * h.val + e.val, by omega⟩ ⟨64 * q.val + k.val, by omega⟩) = ix4 h e q k := by
    funext a; refine Fin.ext ?_
    match a with
    | ⟨0, _⟩ => show ((15 * h.val + e.val) * 4096 + (64 * q.val + k.val)) / 61440 = h.val; omega
    | ⟨1, _⟩ => show ((15 * h.val + e.val) * 4096 + (64 * q.val + k.val)) / 4096 % 15 = e.val; omega
    | ⟨2, _⟩ => show ((15 * h.val + e.val) * 4096 + (64 * q.val + k.val)) / 64 % 64 = q.val; omega
    | ⟨3, _⟩ => show ((15 * h.val + e.val) * 4096 + (64 * q.val + k.val)) % 64 = k.val; omega
  rw [val_main_v18_apply, i]
  unfold val_main_v17
  exact (gather_columns x _ h e q k).trans (congrArg (fun d => x (ix3 h e d)) (Fin.ext (ref_column q k)))

end Reference

/-- The stored array is the reference's result. -/
theorem point (t : Fin cfg0.N) (y) : out0_2 (iblk m c 0 t) (iblk m c 1 t) y
    = Cert.RefRpbIdeal.Read.val_main_v18 (F := Ideal) (m ((c : Thread nD τ).loc main_arg0)) (((cfg0.win 2).blk t).view.emb y) := by
  have h0 : (y 0).val < 240 := (y 0).isLt
  have h1 : (y 1).val < 4096 := (y 1).isLt
  have e : y = ix2 ⟨15 * ((y 0).val / 15) + (y 0).val % 15, by omega⟩ ⟨64 * ((y 1).val / 64) + (y 1).val % 64, by omega⟩ := by
    funext a; refine Fin.ext ?_
    match a with
    | ⟨0, _⟩ => exact (Nat.div_add_mod _ _).symm
    | ⟨1, _⟩ => exact (Nat.div_add_mod _ _).symm
  have e' : ((cfg0.win 2).blk t).view.emb y = y := by
    blk_ext [idx_val t]
  refine Eq.trans ?_ (congrArg _ (e'.trans e).symm)
  refine Eq.trans ?_ (ref_result _ ⟨(y 0).val / 15, by omega⟩ ⟨(y 0).val % 15, by omega⟩ ⟨(y 1).val / 64, by omega⟩ ⟨(y 1).val % 64, by omega⟩).symm
  refine (congrArg _ e).trans ((body_apply _ _ _ _ _ (column_block m c t ⟨(y 1).val / 64, by omega⟩ ⟨(y 1).val % 64, by omega⟩)).trans ?_)
  exact table_block m c t ⟨(y 0).val / 15, by omega⟩ ⟨(y 0).val % 15, by omega⟩ _

/-- The result array after the run is the reference's result. -/
theorem final : (dats m 0 c).arrAt 2 (cfgs 0).N
    = Cert.RefRpbIdeal.Read.val_main_v18 (F := Ideal) (m ((c : Thread nD τ).loc main_arg0)) := by
  refine (dats m 0 c).arrAt_eq_of_covers 2 _ (by decide +kernel) fun t hf y => ?_
  blk_simp; rw [after0_2]
  exact point m c t y

end Cert.RpbIdeal.Value
end
-- ==== Proof.T5Value.lean ====
module
public import proofs.«01_k».proof.Proof.Gen.T5Ideal.Frame
public import proofs.«01_k».proof.Proof.Gen.RefT5Ideal.Read
public import proofs.«01_k».proof.Pre_buckets_in_range
public import Idealize.ShloMosaic.Lib.Pipeline.ValueKit
public import Idealize.ShloMosaic.Lib.WholeRead
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)

namespace Cert.T5Ideal.Value
open Cert.T5Ideal Cert.T5Ideal.Gen

/-- The buckets a pass reads. -/
def buckets (x : Vec Ideal S31x128x128 .i32) (k : Fin k0_t1_loop.trips) : Vec Ideal S1x128x128 .i32 :=
  fun j => x ((Rect.unit (s := S31x128x128) (k0_off1 k) S1x128x128.size (k0_off1_inb k)).toLoadRect.idx j)

/-- The tile a pass stores: for every bucket its entry of the head's row `f`. -/
def tile (f : Fin 32 → EReal) (w : Vec Ideal S1x128x128 .i32) : FVec Ideal S1x1x128x128 .f32 :=
  k0_pay1 (k0_pay2 w) (k0_pay9 (k0_pay2 w) (k0_pay7 (k0_pay2 w) (k0_pay5 (k0_pay2 w) (k0_pay3 w (f 0) (f 1) (f 2) (f 3) (f 4) (f 5) (f 6))
    k0_pay4 (f 7) (f 8) (f 9) (f 10) (f 11) (f 12) (f 13)) (k0_pay6 (k0_pay2 w)) (f 14) (f 15) (f 16) (f 17) (f 18) (f 19) (f 20) (f 21))
    k0_pay8 (f 22) (f 23) (f 24) (f 25) (f 26) (f 27) (f 28)) (k0_pay10 (k0_pay2 w)) (f 29) (f 30) (f 31)

/-- The body's chain of selections takes the entry that the bucket names. -/
theorem tile_apply (f : Fin 32 → EReal) (w : Vec Ideal S1x128x128 .i32) (a b : Fin 128) (d : Fin 32)
    (h : w (ix3 0 a b) = BitVec.ofNat 32 d.val) : tile f w (ix4 0 0 a b) = f d := by
  unfold tile
  pointwise [k0_pay1, k0_pay2, k0_pay3, k0_pay4, k0_pay5, k0_pay6, k0_pay7, k0_pay8, k0_pay9, k0_pay10]
  rw [h]
  clear h
  fin_cases d <;> rfl

/-- A single entry of the table as the body reads it. -/
def cell (arg1 : Memref sig .tc .smem S4x32 .f32) (harg1 : arg1.IsWhole) (x0 : Vec Ideal S4x32 .f32) (off : Fin 2 → Nat)
    (inb : ∀ a, off a + S1x1.size a ≤ S4x32.size a) : EReal :=
  View.readAt (Elt Ideal) arg1.view (Rect.unit (s := S4x32) off S1x1.size inb).toLoadRect (harg1.unread x0) (Shape.Idx.first (show 0 < S1x1.numel by decide))

/-- The head's number, read off the grid's coordinate. -/
theorem head_val : ∀ h : Fin 4, (Scalar.indexCast (BitVec.ofNat 32 h.val) : BitVec 32).toNat = h.val := by decide +kernel

/-- The entry read at the head's row and a column is the table's. -/
theorem cell_eq (arg1 : Memref sig .tc .smem S4x32 .f32) (harg1 : arg1.IsWhole) (x0 : Vec Ideal S4x32 .f32) (off : Fin 2 → Nat)
    (inb : ∀ a, off a + S1x1.size a ≤ S4x32.size a) (h : Fin 4) (j : Fin 32)
    (e0 : off 0 = (Scalar.indexCast (BitVec.ofNat 32 h.val) : BitVec 32).toNat) (e1 : off 1 = j.val) : cell arg1 harg1 x0 off inb = x0 (ix2 h j) := by
  unfold cell
  refine (harg1.readAt_unread x0 _ _).trans (congrArg x0 (funext fun a => Fin.ext ?_))
  refine (ValueKit.rect_emb_unit_val (s := S4x32) off S1x1.size inb _ a).trans ?_
  match a with
  | ⟨0, _⟩ => exact (congrArg (· + _) (e0.trans (head_val h))).trans (Nat.add_zero _)
  | ⟨1, _⟩ => exact (congrArg (· + _) e1).trans (Nat.add_zero _)

/-- The tile made of the entries as the body reads them is the tile of the head's row. -/
theorem cells (i : grid0.Coords) (arg1 : Memref sig .tc .smem S4x32 .f32) (harg1 : arg1.IsWhole) (x0 : Vec Ideal S4x32 .f32) (w : Vec Ideal S1x128x128 .i32) :
    k0_pay1 (k0_pay2 w) (k0_pay9 (k0_pay2 w) (k0_pay7 (k0_pay2 w) (k0_pay5 (k0_pay2 w) (k0_pay3 w
        (cell arg1 harg1 x0 (k0_off2 i) (k0_off2_inb i))
        (cell arg1 harg1 x0 (k0_off3 i) (k0_off3_inb i))
        (cell arg1 harg1 x0 (k0_off4 i) (k0_off4_inb i))
        (cell arg1 harg1 x0 (k0_off5 i) (k0_off5_inb i))
        (cell arg1 harg1 x0 (k0_off6 i) (k0_off6_inb i))
        (cell arg1 harg1 x0 (k0_off7 i) (k0_off7_inb i))
        (cell arg1 harg1 x0 (k0_off8 i) (k0_off8_inb i)))
        k0_pay4
        (cell arg1 harg1 x0 (k0_off9 i) (k0_off9_inb i))
        (cell arg1 harg1 x0 (k0_off10 i) (k0_off10_inb i))
        (cell arg1 harg1 x0 (k0_off11 i) (k0_off11_inb i))
        (cell arg1 harg1 x0 (k0_off12 i) (k0_off12_inb i))
        (cell arg1 harg1 x0 (k0_off13 i) (k0_off13_inb i))
        (cell arg1 harg1 x0 (k0_off14 i) (k0_off14_inb i))
        (cell arg1 harg1 x0 (k0_off15 i) (k0_off15_inb i))) (k0_pay6 (k0_pay2 w))
        (cell arg1 harg1 x0 (k0_off16 i) (k0_off16_inb i))
        (cell arg1 harg1 x0 (k0_off17 i) (k0_off17_inb i))
        (cell arg1 harg1 x0 (k0_off18 i) (k0_off18_inb i))
        (cell arg1 harg1 x0 (k0_off19 i) (k0_off19_inb i))
        (cell arg1 harg1 x0 (k0_off20 i) (k0_off20_inb i))
        (cell arg1 harg1 x0 (k0_off21 i) (k0_off21_inb i))
        (cell arg1 harg1 x0 (k0_off22 i) (k0_off22_inb i))
        (cell arg1 harg1 x0 (k0_off23 i) (k0_off23_inb i)))
        k0_pay8
        (cell arg1 harg1 x0 (k0_off24 i) (k0_off24_inb i))
        (cell arg1 harg1 x0 (k0_off25 i) (k0_off25_inb i))
        (cell arg1 harg1 x0 (k0_off26 i) (k0_off26_inb i))
        (cell arg1 harg1 x0 (k0_off27 i) (k0_off27_inb i))
        (cell arg1 harg1 x0 (k0_off28 i) (k0_off28_inb i))
        (cell arg1 harg1 x0 (k0_off29 i) (k0_off29_inb i))
        (cell arg1 harg1 x0 (k0_off30 i) (k0_off30_inb i))) (k0_pay10 (k0_pay2 w))
        (cell arg1 harg1 x0 (k0_off31 i) (k0_off31_inb i))
        (cell arg1 harg1 x0 (k0_off32 i) (k0_off32_inb i))
        (cell arg1 harg1 x0 (k0_off33 i) (k0_off33_inb i))
      = tile (fun j => x0 (ix2 (i 0) j)) w := by
  unfold tile
  rw [cell_eq arg1 harg1 x0 (k0_off2 i) (k0_off2_inb i) (i 0) 0 rfl rfl,
    cell_eq arg1 harg1 x0 (k0_off3 i) (k0_off3_inb i) (i 0) 1 rfl rfl,
    cell_eq arg1 harg1 x0 (k0_off4 i) (k0_off4_inb i) (i 0) 2 rfl rfl,
    cell_eq arg1 harg1 x0 (k0_off5 i) (k0_off5_inb i) (i 0) 3 rfl rfl,
    cell_eq arg1 harg1 x0 (k0_off6 i) (k0_off6_inb i) (i 0) 4 rfl rfl,
    cell_eq arg1 harg1 x0 (k0_off7 i) (k0_off7_inb i) (i 0) 5 rfl rfl,
    cell_eq arg1 harg1 x0 (k0_off8 i) (k0_off8_inb i) (i 0) 6 rfl rfl,
    cell_eq arg1 harg1 x0 (k0_off9 i) (k0_off9_inb i) (i 0) 7 rfl rfl,
    cell_eq arg1 harg1 x0 (k0_off10 i) (k0_off10_inb i) (i 0) 8 rfl rfl,
    cell_eq arg1 harg1 x0 (k0_off11 i) (k0_off11_inb i) (i 0) 9 rfl rfl,
    cell_eq arg1 harg1 x0 (k0_off12 i) (k0_off12_inb i) (i 0) 10 rfl rfl,
    cell_eq arg1 harg1 x0 (k0_off13 i) (k0_off13_inb i) (i 0) 11 rfl rfl,
    cell_eq arg1 harg1 x0 (k0_off14 i) (k0_off14_inb i) (i 0) 12 rfl rfl,
    cell_eq arg1 harg1 x0 (k0_off15 i) (k0_off15_inb i) (i 0) 13 rfl rfl,
    cell_eq arg1 harg1 x0 (k0_off16 i) (k0_off16_inb i) (i 0) 14 rfl rfl,
    cell_eq arg1 harg1 x0 (k0_off17 i) (k0_off17_inb i) (i 0) 15 rfl rfl,
    cell_eq arg1 harg1 x0 (k0_off18 i) (k0_off18_inb i) (i 0) 16 rfl rfl,
    cell_eq arg1 harg1 x0 (k0_off19 i) (k0_off19_inb i) (i 0) 17 rfl rfl,
    cell_eq arg1 harg1 x0 (k0_off20 i) (k0_off20_inb i) (i 0) 18 rfl rfl,
    cell_eq arg1 harg1 x0 (k0_off21 i) (k0_off21_inb i) (i 0) 19 rfl rfl,
    cell_eq arg1 harg1 x0 (k0_off22 i) (k0_off22_inb i) (i 0) 20 rfl rfl,
    cell_eq arg1 harg1 x0 (k0_off23 i) (k0_off23_inb i) (i 0) 21 rfl rfl,
    cell_eq arg1 harg1 x0 (k0_off24 i) (k0_off24_inb i) (i 0) 22 rfl rfl,
    cell_eq arg1 harg1 x0 (k0_off25 i) (k0_off25_inb i) (i 0) 23 rfl rfl,
    cell_eq arg1 harg1 x0 (k0_off26 i) (k0_off26_inb i) (i 0) 24 rfl rfl,
    cell_eq arg1 harg1 x0 (k0_off27 i) (k0_off27_inb i) (i 0) 25 rfl rfl,
    cell_eq arg1 harg1 x0 (k0_off28 i) (k0_off28_inb i) (i 0) 26 rfl rfl,
    cell_eq arg1 harg1 x0 (k0_off29 i) (k0_off29_inb i) (i 0) 27 rfl rfl,
    cell_eq arg1 harg1 x0 (k0_off30 i) (k0_off30_inb i) (i 0) 28 rfl rfl,
    cell_eq arg1 harg1 x0 (k0_off31 i) (k0_off31_inb i) (i 0) 29 rfl rfl,
    cell_eq arg1 harg1 x0 (k0_off32 i) (k0_off32_inb i) (i 0) 30 rfl rfl,
    cell_eq arg1 harg1 x0 (k0_off33 i) (k0_off33_inb i) (i 0) 31 rfl rfl]

/-- What a pass stores: one tile. -/
theorem pass_pieces (c : Dev nD) (i : grid0.Coords) (arg1 : Memref sig .tc .smem S4x32 .f32) (harg1 : arg1.IsWhole)
    (arg2 : Memref sig .tc .vmem S31x128x128 .i32) (harg2 : arg2.IsWhole) (arg3 : Memref sig .tc .vmem S1x31x128x128 .f32) (harg3 : arg3.IsWhole)
    (x0 : Vec Ideal S4x32 .f32) (x1 : Vec Ideal S31x128x128 .i32) (arg0 : BitVec 32) (k : Fin k0_t1_loop.trips) :
    tripL_k0_t1 Variants.none c none i arg1 harg1 arg2 harg2 arg3 harg3 arg0 (harg1.unread x0) (harg2.unread x1) k
      = [⟨Rect.unit (s := S1x31x128x128) (k0_off34 k) S1x1x128x128.size (k0_off34_inb k), tile (fun j => x0 (ix2 (i 0) j)) (buckets x1 k)⟩] := by
  have h1 : View.readAt (Elt Ideal) arg2.view (Rect.unit (s := S31x128x128) (k0_off1 k) S1x128x128.size (k0_off1_inb k)).toLoadRect (harg2.unread x1) = buckets x1 k :=
    funext fun j => harg2.readAt_unread x1 _ j
  refine Eq.trans ?_ (congrArg (fun z => [(⟨Rect.unit (s := S1x31x128x128) (k0_off34 k) S1x1x128x128.size (k0_off34_inb k), z⟩ : Σ r : Rect S1x31x128x128, r.shape.Idx → Elt Ideal .f32)])
    (cells i arg1 harg1 x0 (buckets x1 k)))
  rw [← h1]
  unfold tripL_k0_t1 trip_k0_t1
  rfl

/-- Which buckets a pass reads. -/
theorem off1_val : ∀ k : Fin k0_t1_loop.trips, k0_off1 k = ![k.val, 0, 0] := by decide +kernel

/-- Which tile a pass stores. -/
theorem off34_val : ∀ k : Fin k0_t1_loop.trips, k0_off34 k = ![0, k.val, 0, 0] := by decide +kernel

/-- An entry of the buckets a pass reads. -/
theorem buckets_apply (x : Vec Ideal S31x128x128 .i32) (k : Fin 31) (a b : Fin 128) : buckets x k (ix3 0 a b) = x (ix3 k a b) := by
  unfold buckets
  refine congrArg x (funext fun d => Fin.ext ?_)
  refine (ValueKit.rect_emb_unit_val (s := S31x128x128) (k0_off1 k) S1x128x128.size (k0_off1_inb k) (ix3 0 a b) d).trans ?_
  refine (congrArg (· + _) (congrFun (off1_val k) d)).trans ?_
  match d with
  | ⟨0, _⟩ => rfl
  | ⟨1, _⟩ => exact Nat.zero_add _
  | ⟨2, _⟩ => exact Nat.zero_add _

/-- The block as a function of the index: the tile of the index's diagonal. -/
def blockOut (f : Fin 32 → EReal) (x1 : Vec Ideal S31x128x128 .i32) (y : S1x31x128x128.Idx) : Elt Ideal .f32 :=
  tile f (buckets x1 (y 1 : Fin 31)) (ix4 0 0 (y 2) (y 3))

/-- A pass's piece agrees with the block's function. -/
theorem pass_agrees (f : Fin 32 → EReal) (x1 : Vec Ideal S31x128x128 .i32) (k : Fin k0_t1_loop.trips) (x : S1x1x128x128.Idx) :
    tile f (buckets x1 k) x
      = blockOut f x1 ((Rect.unit (s := S1x31x128x128) (k0_off34 k) S1x1x128x128.size (k0_off34_inb k)).emb x) := by
  have v (a) : ((Rect.unit (s := S1x31x128x128) (k0_off34 k) S1x1x128x128.size (k0_off34_inb k)).emb x a).val = (![0, k.val, 0, 0] : Fin 4 → Nat) a + (x a).val :=
    (ValueKit.rect_emb_unit_val (s := S1x31x128x128) (k0_off34 k) S1x1x128x128.size (k0_off34_inb k) x a).trans (congrArg (· + (x a).val) (congrFun (off34_val k) a))
  have x1' : (x 1).val = 0 := Nat.lt_one_iff.mp (x 1).isLt
  unfold blockOut
  refine congrArg₂ (fun (a : Fin 31) (b : S1x1x128x128.Idx) => tile f (buckets x1 a) b) (Fin.ext ?_) (funext fun a => Fin.ext ?_)
  · exact ((v 1).trans (congrArg (k.val + ·) x1')).symm
  · match a with
    | ⟨0, _⟩ => exact Nat.lt_one_iff.mp (x 0).isLt
    | ⟨1, _⟩ => exact x1'
    | ⟨2, _⟩ => exact ((v 2).trans (Nat.zero_add _)).symm
    | ⟨3, _⟩ => exact ((v 3).trans (Nat.zero_add _)).symm

/-- The pieces of the passes before any one agree with the block's function. -/
theorem pieces_agree (c : Dev nD) (i : grid0.Coords) (arg1 : Memref sig .tc .smem S4x32 .f32) (harg1 : arg1.IsWhole)
    (arg2 : Memref sig .tc .vmem S31x128x128 .i32) (harg2 : arg2.IsWhole) (arg3 : Memref sig .tc .vmem S1x31x128x128 .f32) (harg3 : arg3.IsWhole)
    (x0 : Vec Ideal S4x32 .f32) (x1 : Vec Ideal S31x128x128 .i32) (arg0 : BitVec 32) :
    ∀ n : Nat, n ≤ k0_t1_loop.trips → ∀ p ∈ pb_k0_t1 Variants.none c none i arg1 harg1 arg2 harg2 arg3 harg3 arg0 (harg1.unread x0) (harg2.unread x1) n,
      ∀ x : p.1.shape.Idx, p.2 x = blockOut (fun j => x0 (ix2 (i 0) j)) x1 (p.1.emb x)
  | 0, _, p, hp => absurd hp List.not_mem_nil
  | n + 1, hn, p, hp => by
    rw [show n + 1 = (⟨n, hn⟩ : Fin k0_t1_loop.trips).val + 1 from rfl, pb_k0_t1_succ, pass_pieces] at hp
    rcases List.mem_append.mp hp with h | h
    · obtain rfl := List.mem_singleton.mp h
      exact pass_agrees (fun j => x0 (ix2 (i 0) j)) x1 ⟨n, hn⟩
    · exact pieces_agree c i arg1 harg1 arg2 harg2 arg3 harg3 x0 x1 arg0 n (Nat.le_of_succ_le hn) p h

/-- What the body leaves in the result's block. -/
theorem out_block (c : Dev nD) (i : grid0.Coords) (arg1 : Memref sig .tc .smem S4x32 .f32) (harg1 : arg1.IsWhole)
    (arg2 : Memref sig .tc .vmem S31x128x128 .i32) (harg2 : arg2.IsWhole) (arg3 : Memref sig .tc .vmem S1x31x128x128 .f32) (harg3 : arg3.IsWhole)
    (x0 : Vec Ideal S4x32 .f32) (x1 : Vec Ideal S31x128x128 .i32) (y : S1x31x128x128.Idx) :
    out0_A_2 c i arg1 harg1 arg2 harg2 arg3 harg3 x0 x1 y = blockOut (fun j => x0 (ix2 (i 0) j)) x1 y := by
  unfold out0_A_2
  rw [View.read_writes_junk_apply_eq_canon]
  refine View.canon_apply_of_pieces (blockOut (fun j => x0 (ix2 (i 0) j)) x1) _ ?_ y (cover0_A_2 c i arg1 harg1 arg2 harg2 arg3 harg3 x0 x1 y)
  unfold kernelRun0_A
  exact pieces_agree c i arg1 harg1 arg2 harg2 arg3 harg3 x0 x1 _ _ (by decide)

/-- The shape relation the precondition's broadcasts take. -/
instance pre_facts : Cert.Pre_buckets_in_range.Facts where
  bcast_S_S31x128x128 := by decide

/-- A word that the two comparisons place between 0 and 31 is the word of such a number. -/
theorem bucket_of_cmp (v : BitVec 32) (h0 : IntOp.cmpi CmpIPredicate.sge v 0#32 = 1#1) (h1 : IntOp.cmpi CmpIPredicate.slt v 32#32 = 1#1) :
    ∃ d : Fin 32, v = BitVec.ofNat 32 d.val := by
  have b (q : Bool) (h : BitVec.ofBool q = 1#1) : q = true := by cases q <;> first | rfl | exact absurd h (by decide)
  have g0 : 0 ≤ v.toInt := BitVec.sle_iff_toInt_le.mp (b _ h0)
  have g1 : v.toInt < 32 := BitVec.slt_iff_toInt_lt.mp (b _ h1)
  refine ⟨⟨v.toInt.toNat, by omega⟩, ?_⟩
  rw [← BitVec.ofInt_natCast, Int.toNat_of_nonneg g0, BitVec.ofInt_toInt]

/-- The precondition says that every bucket is one of the table's. -/
theorem bucket_of_pre (x0 : FVec Ideal S4x32 .f32) (x1 : IVec S31x128x128 32)
    (h0 : (Cert.Pre_buckets_in_range.fn (F := Ideal) x0 x1).1 = fun _ => 1#1) (h1 : (Cert.Pre_buckets_in_range.fn (F := Ideal) x0 x1).2 = fun _ => 1#1)
    (k : Fin 31) (a b : Fin 128) : ∃ d : Fin 32, x1 (ix3 k a b) = BitVec.ofNat 32 d.val :=
  bucket_of_cmp _ (congrFun h0 (ix3 k a b)) (congrFun h1 (ix3 k a b))

section Reference
open Cert.RefT5Ideal Cert.RefT5Ideal.Gen Cert.RefT5Ideal.Read

/-- The index of a gathered entry lies at its tile, row and column. -/
theorem place0 (h : Fin 4) (k : Fin 31) (a b : Fin 128) : ((gather_S4x32_S31x128x128x1_S4x31x128x128_0_1_n_n_1_3_41).siIdx (ix4 h k a b) (0 : Fin 1) 0).val = k.val := by
  refine (congrArg Fin.val (dif_neg (show ¬ ((0 : Fin 4).val = 3) by decide))).trans ?_
  unfold GatherDims.siCoord
  exact congrArg (fun d => (ix4 h k a b d).val) (show _ = (1 : Fin 4) by decide)

/-- The index of a gathered entry: its row. -/
theorem place1 (h : Fin 4) (k : Fin 31) (a b : Fin 128) : ((gather_S4x32_S31x128x128x1_S4x31x128x128_0_1_n_n_1_3_41).siIdx (ix4 h k a b) (0 : Fin 1) 1).val = a.val := by
  refine (congrArg Fin.val (dif_neg (show ¬ ((1 : Fin 4).val = 3) by decide))).trans ?_
  unfold GatherDims.siCoord
  exact congrArg (fun d => (ix4 h k a b d).val) (show _ = (2 : Fin 4) by decide)

/-- The index of a gathered entry: its column. -/
theorem place2 (h : Fin 4) (k : Fin 31) (a b : Fin 128) : ((gather_S4x32_S31x128x128x1_S4x31x128x128_0_1_n_n_1_3_41).siIdx (ix4 h k a b) (0 : Fin 1) 2).val = b.val := by
  refine (congrArg Fin.val (dif_neg (show ¬ ((2 : Fin 4).val = 3) by decide))).trans ?_
  unfold GatherDims.siCoord
  exact congrArg (fun d => (ix4 h k a b d).val) (show _ = (3 : Fin 4) by decide)

/-- The index of a gathered entry. -/
theorem place (h : Fin 4) (k : Fin 31) (a b : Fin 128) : (gather_S4x32_S31x128x128x1_S4x31x128x128_0_1_n_n_1_3_41).siIdx (ix4 h k a b) (0 : Fin 1) = ix4 k a b 0 := by
  funext d; refine Fin.ext ?_
  match d with
  | ⟨0, _⟩ => exact place0 h k a b
  | ⟨1, _⟩ => exact place1 h k a b
  | ⟨2, _⟩ => exact place2 h k a b
  | ⟨3, _⟩ => exact (congrArg Fin.val (dif_pos (show ((3 : Fin 4).val = 3) by decide))).trans rfl

/-- The gather of the table's entries. -/
theorem gather_entries (x : (⟨S4x32, .f32⟩ : BufTy).Contents (Elt Ideal)) (v : IVec S31x128x128x1 32) (h : Fin 4) (k : Fin 31) (a b : Fin 128) :
    Host.gather gather_S4x32_S31x128x128x1_S4x31x128x128_0_1_n_n_1_3_41 x v (ix4 h k a b) = x (ix2 h ⟨min (v (ix4 k a b 0)).toInt.toNat 31, by omega⟩) := by
  unfold Host.gather
  refine congrArg x (funext fun d => Fin.ext ?_)
  unfold GatherDims.operandIdx
  match d with
  | ⟨0, _⟩ =>
    have s : (gather_S4x32_S31x128x128x1_S4x31x128x128_0_1_n_n_1_3_41).start (ix4 h k a b) v 0 = 0 := by
      unfold GatherDims.start
      rw [dif_neg (by decide)]
    have o : (gather_S4x32_S31x128x128x1_S4x31x128x128_0_1_n_n_1_3_41).offCoord (ix4 h k a b) 0 = h.val := by
      unfold GatherDims.offCoord
      rw [dif_pos (by decide)]
      rfl
    exact (congrArg₂ (fun a b => a + 0 + b) s o).trans (Nat.zero_add _)
  | ⟨1, _⟩ =>
    have s : (gather_S4x32_S31x128x128x1_S4x31x128x128_0_1_n_n_1_3_41).start (ix4 h k a b) v 1 = min (v ((gather_S4x32_S31x128x128x1_S4x31x128x128_0_1_n_n_1_3_41).siIdx (ix4 h k a b) (0 : Fin 1))).toInt.toNat 31 := by
      unfold GatherDims.start
      rw [dif_pos (by decide)]
      rfl
    exact s.trans (congrArg (fun z => min (v z).toInt.toNat 31) (place h k a b))

/-- A bucket that is one of the table's passes the reference's index arithmetic unchanged. -/
theorem bucket_index : ∀ d : Fin 32, min (Scalar.select (IntOp.cmpi CmpIPredicate.slt (BitVec.ofNat 32 d.val) 0#32)
    (IntOp.addi (BitVec.ofNat 32 d.val) 32#32) (BitVec.ofNat 32 d.val)).toInt.toNat 31 = d.val := by decide +kernel

/-- An entry of the reference's result. -/
theorem ref_result (x0 : (⟨S4x32, .f32⟩ : BufTy).Contents (Elt Ideal)) (x1 : (⟨S31x128x128, .i32⟩ : BufTy).Contents (Elt Ideal))
    (h : Fin 4) (k : Fin 31) (a b : Fin 128) (d : Fin 32) (e : x1 (ix3 k a b) = BitVec.ofNat 32 d.val) :
    val_main_v6 (F := Ideal) x0 x1 (ix4 h k a b) = x0 (ix2 h d) := by
  unfold val_main_v6
  refine (gather_entries x0 _ h k a b).trans (congrArg (fun z => x0 (ix2 h z)) (Fin.ext ?_))
  refine Eq.trans ?_ (bucket_index d)
  rw [← e]
  refine congrArg (fun z : BitVec 32 => min z.toInt.toNat 31) ?_
  pointwise [val_main_v5, val_main_v4, val_main_v3, val_main_v2, val_main_v1, val_main_v0, val_main_c, val_main_c_0]

end Reference

variable (m : (ℓ : Loc nD τ sig) → Buf (Elt Ideal) ℓ) (c : Dev nD)

/-- Every window's block index at grid point `t`, the head. -/
theorem idx_val : ∀ t : Fin cfg0.N, win0_0.index t = ![0, 0] ∧ win0_1.index t = ![0, 0, 0] ∧ win0_2.index t = ![t.val, 0, 0, 0] :=
  (by decide +kernel : ∀ t : Fin grid0.N, _)

/-- The grid's coordinate is the head. -/
theorem coords_val : ∀ t : Fin cfg0.N, (grid0.coords t 0).val = t.val :=
  (by decide +kernel : ∀ t : Fin grid0.N, _)

/-- The table as the body reads it. -/
theorem table_block (t : Fin cfg0.N) (h : Fin 4) (d : Fin 32) : iblk m c 0 t (ix2 h d) = m ((c : Thread nD τ).loc main_arg0) (ix2 h d) := by
  blk_point [iblk, V, idx_val t]

/-- The buckets as the body reads them. -/
theorem bucket_block (t : Fin cfg0.N) (k : Fin 31) (a b : Fin 128) : iblk m c 1 t (ix3 k a b) = m ((c : Thread nD τ).loc main_arg1) (ix3 k a b) := by
  blk_point [iblk, V, idx_val t]

variable (hb : ∀ (k : Fin 31) (a b : Fin 128), ∃ d : Fin 32, m ((c : Thread nD τ).loc main_arg1) (ix3 k a b) = BitVec.ofNat 32 d.val)

include hb in
/-- The block stored at grid point `t` is the reference's result at the positions the block covers. -/
theorem point (t : Fin cfg0.N) (y) : outsAt0 m c t y
    = Cert.RefT5Ideal.Read.val_main_v6 (F := Ideal) (m ((c : Thread nD τ).loc main_arg0)) (m ((c : Thread nD τ).loc main_arg1))
        (((cfg0.win 2).blk t).view.emb y) := by
  obtain ⟨d, hd⟩ := hb (y 1) (y 2) (y 3)
  have e : ((cfg0.win 2).blk t).view.emb y = ix4 (⟨t.val, t.isLt⟩ : Fin 4) (y 1) (y 2) (y 3) := by
    blk_ext [idx_val t]
  rw [e]
  refine Eq.trans ?_ (ref_result _ _ (⟨t.val, t.isLt⟩ : Fin 4) (y 1) (y 2) (y 3) d hd).symm
  unfold outsAt0
  refine (out_block _ _ _ _ _ _ _ _ _ _ y).trans ?_
  unfold blockOut
  refine (tile_apply _ _ (y 2) (y 3) d ((buckets_apply _ (y 1) (y 2) (y 3)).trans ((bucket_block m c t _ _ _).trans hd))).trans ?_
  refine (table_block m c t _ d).trans (congrArg (fun h => m ((c : Thread nD τ).loc main_arg0) (ix2 h d)) (Fin.ext ?_))
  exact coords_val t

include hb in
/-- The result array after the run is the reference's result, for buckets of the table. -/
theorem final : (dats m 0 c).arrAt 2 (cfgs 0).N
    = Cert.RefT5Ideal.Read.val_main_v6 (F := Ideal) (m ((c : Thread nD τ).loc main_arg0)) (m ((c : Thread nD τ).loc main_arg1)) := by
  refine (dats m 0 c).arrAt_eq_of_covers 2 _ (by decide +kernel) fun t hf y => ?_
  blk_simp; rw [after0_2]
  exact point m c hb t y

end Cert.T5Ideal.Value
end
-- ==== Proof.LruScan.lean ====
module
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)

namespace Cert.LruIdeal.Value

/-- The recurrence from zero: after step n the state is a n times the state before plus u n. -/
def state (a u : ℕ → EReal) : ℕ → EReal
  | 0 => 0
  | n + 1 => a n * state a u n + u n

/-- The pair (A, U) carries the state at s to the state at e, with a factor that is finite and not negative. -/
def Carries (a u : ℕ → EReal) (s e : ℕ) (A U : EReal) : Prop :=
  U + A * state a u s = state a u e ∧ 0 ≤ A ∧ A ≠ ⊤

/-- One step carries the state to the next. -/
theorem carries_one (a u : ℕ → EReal) (n : ℕ) (h0 : 0 ≤ a n) (h1 : a n ≠ ⊤) : Carries a u n (n + 1) (a n) (u n) :=
  ⟨add_comm _ _, h0, h1⟩

/-- Two pairs that follow each other carry the state over both. -/
theorem carries_comp (a u : ℕ → EReal) (s k e : ℕ) (A U A' U' : EReal) (h' : Carries a u s k A' U') (h : Carries a u k e A U) :
    Carries a u s e (A * A') (A * U' + U) := by
  obtain ⟨e', p', t'⟩ := h'
  obtain ⟨e0, p, t⟩ := h
  refine ⟨?_, mul_nonneg p p', ?_⟩
  · rw [← e0, ← e', EReal.left_distrib_of_nonneg_of_ne_top p t, mul_assoc, add_comm (A * U') U, add_assoc]
  · lift A to ℝ using ⟨t, ne_bot_of_le_ne_bot (by simp) p⟩
    lift A' to ℝ using ⟨t', ne_bot_of_le_ne_bot (by simp) p'⟩
    exact EReal.coe_ne_top (A * A')

/-- Doubling within a tile of eight rows: rows that have one d rows before take that row's pair too. -/
theorem carries_double (a u : ℕ → EReal) (b d : ℕ) (A U : ℕ → EReal) (hd : 0 < d)
    (h : ∀ r, r < 8 → Carries a u (b + (r + 1 - d)) (b + r + 1) (A r) (U r)) :
    ∀ r, r < 8 → Carries a u (b + (r + 1 - 2 * d)) (b + r + 1) (if d ≤ r then A r * A (r - d) else A r) (if d ≤ r then A r * U (r - d) + U r else U r) := by
  intro r hr
  by_cases c : d ≤ r
  · rw [if_pos c, if_pos c]
    have h1 := h (r - d) (by omega)
    rw [show b + (r - d + 1 - d) = b + (r + 1 - 2 * d) by omega, show b + (r - d) + 1 = b + (r + 1 - d) by omega] at h1
    exact carries_comp a u _ _ _ _ _ _ _ h1 (h r hr)
  · rw [if_neg c, if_neg c]
    have h1 := h r hr
    rwa [show b + (r + 1 - d) = b + (r + 1 - 2 * d) by omega] at h1

/-- The carried states of the tiles: the state at every eighth step. -/
theorem carry_state (a u : ℕ → EReal) (A U c : ℕ → EReal) (n : ℕ) (h0 : c 0 = 0) (hs : ∀ j, j < n → c (j + 1) = U j + A j * c j)
    (h : ∀ j, j < n → Carries a u (8 * j) (8 * j + 8) (A j) (U j)) : ∀ j, j ≤ n → c j = state a u (8 * j)
  | 0, _ => h0
  | j + 1, hj => by
    rw [hs j hj, carry_state a u A U c n h0 hs h j (Nat.le_of_succ_le hj)]
    exact (h j hj).1

/-- The exponential of a number that isn't +∞ is a factor that is finite and not negative. -/
theorem exp_factor (x : EReal) (h : x ≠ ⊤) : 0 ≤ Ideal.exp x ∧ Ideal.exp x ≠ ⊤ := by
  induction x with
  | bot => exact ⟨le_refl _, EReal.zero_ne_top⟩
  | top => exact absurd rfl h
  | coe r => exact ⟨EReal.coe_nonneg.mpr (Real.exp_nonneg r), EReal.coe_ne_top _⟩

/-- The sigmoid isn't negative. -/
theorem sigmoid_nonneg (x : EReal) : 0 ≤ Ideal.logistic x := by
  have e : ∀ y : EReal, 0 ≤ Ideal.exp y := fun y => by
    induction y with
    | bot => exact le_refl _
    | top => exact le_top
    | coe r => exact EReal.coe_nonneg.mpr (Real.exp_nonneg r)
  unfold Ideal.logistic Ideal.div
  have p : (0 : EReal) ≤ 1 + Ideal.exp (-x) := add_nonneg zero_le_one (e _)
  split
  · rw [if_pos zero_lt_one]; exact le_top
  · rw [one_mul]; exact EReal.inv_nonneg_of_nonneg p

/-- The softplus isn't negative. -/
theorem softplus_nonneg (x y : EReal) : 0 ≤ max x 0 + Ideal.log1p (Ideal.exp y) := by
  refine add_nonneg (le_max_right _ _) ?_
  unfold Ideal.log1p
  induction y with
  | bot => show 0 ≤ Ideal.log (1 + 0); rw [add_zero]; show (0 : EReal) ≤ if (1 : ℝ) ≤ 0 then ⊥ else ((Real.log 1 : ℝ) : EReal); rw [if_neg (by norm_num), Real.log_one]; exact le_refl _
  | top => show 0 ≤ Ideal.log (1 + ⊤); rw [show (1 : EReal) + ⊤ = ⊤ from EReal.coe_add_top 1]; exact le_top
  | coe r =>
    show 0 ≤ Ideal.log (((1 : ℝ) : EReal) + (Real.exp r : ℝ))
    rw [← EReal.coe_add]
    show (0 : EReal) ≤ if 1 + Real.exp r ≤ 0 then ⊥ else ((Real.log (1 + Real.exp r) : ℝ) : EReal)
    have := Real.exp_pos r
    rw [if_neg (by linarith)]
    exact EReal.coe_nonneg.mpr (Real.log_nonneg (by linarith))

/-- A negative multiple of two numbers that aren't negative isn't +∞. -/
theorem log_decay_ne_top (s g : EReal) (hs : 0 ≤ s) (hg : 0 ≤ g) : ((-8 : ℝ) : EReal) * s * g ≠ ⊤ := by
  have n : ((-8 : ℝ) : EReal) * s ≤ 0 := by
    rw [show ((-8 : ℝ) : EReal) = -((8 : ℝ) : EReal) from rfl, EReal.neg_mul]
    exact EReal.neg_le_zero.mpr (mul_nonneg (EReal.coe_nonneg.mpr (by norm_num)) hs)
  have n' : ((-8 : ℝ) : EReal) * s * g ≤ 0 := by
    have := mul_nonneg (EReal.neg_nonneg.mpr n) hg
    rw [EReal.neg_mul] at this
    exact EReal.neg_nonneg.mp this
  exact ne_top_of_le_ne_top EReal.zero_ne_top n'

/-- The normalizer by the hyperbolic tangent is one minus the square of the decay. -/
theorem tanh_form (x : EReal) (h : x ≠ ⊤) :
    Ideal.div (((-2 : ℝ) : EReal) * Ideal.tanh x) (((1 : ℝ) : EReal) - Ideal.tanh x) = -(Ideal.exp (((2 : ℝ) : EReal) * x) - ((1 : ℝ) : EReal)) := by
  induction x with
  | top => exact absurd rfl h
  | bot =>
    rw [EReal.coe_mul_bot_of_pos (by norm_num)]
    show Ideal.div (((-2 : ℝ) : EReal) * ((-1 : ℝ) : EReal)) (((1 : ℝ) : EReal) - ((-1 : ℝ) : EReal)) = -(((0 : ℝ) : EReal) - ((1 : ℝ) : EReal))
    rw [← EReal.coe_mul, ← EReal.coe_sub, ← EReal.coe_sub, ← EReal.coe_neg]
    unfold Ideal.div
    rw [if_neg (by norm_num), ← EReal.coe_inv, ← EReal.coe_mul]
    norm_num
  | coe r =>
    show Ideal.div (((-2 : ℝ) : EReal) * ((Real.tanh r : ℝ) : EReal)) (((1 : ℝ) : EReal) - ((Real.tanh r : ℝ) : EReal)) = -(Ideal.exp (((2 : ℝ) : EReal) * (r : EReal)) - ((1 : ℝ) : EReal))
    rw [← EReal.coe_mul, ← EReal.coe_mul, ← EReal.coe_sub]
    show _ = -(((Real.exp (2 * r) : ℝ) : EReal) - ((1 : ℝ) : EReal))
    rw [← EReal.coe_sub, ← EReal.coe_neg]
    have t : 1 - Real.tanh r ≠ 0 := by have := Real.tanh_lt_one r; linarith
    unfold Ideal.div
    rw [if_neg (by exact_mod_cast t), ← EReal.coe_inv, ← EReal.coe_mul]
    refine congrArg _ ?_
    rw [← div_eq_mul_inv, div_eq_iff t, Real.tanh_eq_sinh_div_cosh, Real.sinh_eq, Real.cosh_eq]
    have p := Real.exp_pos r
    have q := Real.exp_pos (-r)
    have pq : Real.exp r * Real.exp (-r) = 1 := by rw [← Real.exp_add]; simp
    have e2 : Real.exp (2 * r) = Real.exp r * Real.exp r := by rw [← Real.exp_add]; ring_nf
    rw [e2]
    field_simp
    nlinarith [pq]

end Cert.LruIdeal.Value
end
-- ==== Proof.LruTile.lean ====
module
public import proofs.«01_k».proof.Proof.Gen.LruIdeal.Skeleton
public import proofs.«01_k».proof.Proof.LruScan
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)

namespace Cert.LruIdeal.Value
open Cert.LruIdeal Cert.LruIdeal.Gen

/-- The rows whose number within their tile is at least d. -/
def later (d : BitVec 32) : IVec S256x256 1 := cmpi .sge k0_pay24 (broadcast S256x256 d)

/-- The rows whose number within their tile is less than d. -/
def earlier (d : BitVec 32) : IVec S256x256 1 := cmpi .slt k0_pay24 (broadcast S256x256 d)

/-- One doubling of the factors. -/
def doubleA (c : IVec S256x256 1) (d : BitVec 32) (a : FVec Ideal S256x256 .f32) : FVec Ideal S256x256 .f32 :=
  select c (mulf a (dynamicRotate 0 d none a rotates_S256x256_d0)) a

/-- One doubling of the summands. -/
def doubleU (c : IVec S256x256 1) (d : BitVec 32) (a u : FVec Ideal S256x256 .f32) : FVec Ideal S256x256 .f32 :=
  select c (addf (mulf a (dynamicRotate 0 d none u rotates_S256x256_d0)) u) u

/-- An array's entry in a row, the row given as a number. -/
def cell (v : FVec Ideal S256x256 .f32) (n : ℕ) (w : Fin 256) : EReal := v (ix2 (⟨n % 256, Nat.mod_lt _ (by decide)⟩ : Fin 256) w)

/-- A row's number within its tile. -/
theorem row_number (ρ w : Fin 256) : k0_pay24 (ix2 ρ w) = BitVec.ofNat 32 (ρ.val % 8) := by
  unfold k0_pay24
  pointwise
  clear w
  revert ρ
  decide +kernel

/-- Which rows have one 1 rows before them in their tile. -/
theorem mask_fwd1 (ρ w : Fin 256) : later 1#32 (ix2 ρ w) = if 1 ≤ ρ.val % 8 then 1#1 else 0#1 := by
  unfold later
  pointwise
  rw [row_number ρ w]
  exact (by decide +kernel : ∀ ρ : Fin 256, Scalar.cmpi .sge (BitVec.ofNat 32 (ρ.val % 8)) 1#32 = if 1 ≤ ρ.val % 8 then 1#1 else 0#1) ρ

/-- A factor after the doubling by 1: of rows that have one 1 rows before them in their tile. -/
theorem factor_fwd1 (a : FVec Ideal S256x256 .f32) (n : ℕ) (hn : n < 256) (w : Fin 256) : cell (doubleA (later 1#32) 1#32 a) n w
    = if 1 ≤ n % 8 then cell a n w * cell a (n - 1) w else cell a n w := by
  unfold cell doubleA
  pointwise
  rw [mask_fwd1 _ w]
  by_cases c : 1 ≤ n % 8
  · rw [if_pos (show 1 ≤ n % 256 % 8 by omega), if_pos c]
    exact congrArg (fun k => a (ix2 (⟨n % 256, Nat.mod_lt _ (by decide)⟩ : Fin 256) w) * a (ix2 k w)) (Fin.ext (by show (n % 256 + 255) % 256 = (n - 1) % 256; omega))
  · rw [if_neg (show ¬ 1 ≤ n % 256 % 8 by omega), if_neg c]
    rfl

/-- A summand after the doubling by 1. -/
theorem summand_fwd1 (a u : FVec Ideal S256x256 .f32) (n : ℕ) (hn : n < 256) (w : Fin 256) : cell (doubleU (later 1#32) 1#32 a u) n w
    = if 1 ≤ n % 8 then cell a n w * cell u (n - 1) w + cell u n w else cell u n w := by
  unfold cell doubleU
  pointwise
  rw [mask_fwd1 _ w]
  by_cases c : 1 ≤ n % 8
  · rw [if_pos (show 1 ≤ n % 256 % 8 by omega), if_pos c]
    exact congrArg (fun k => a (ix2 (⟨n % 256, Nat.mod_lt _ (by decide)⟩ : Fin 256) w) * u (ix2 k w) + u (ix2 (⟨n % 256, Nat.mod_lt _ (by decide)⟩ : Fin 256) w)) (Fin.ext (by show (n % 256 + 255) % 256 = (n - 1) % 256; omega))
  · rw [if_neg (show ¬ 1 ≤ n % 256 % 8 by omega), if_neg c]
    rfl

/-- Which rows have one 2 rows before them in their tile. -/
theorem mask_fwd2 (ρ w : Fin 256) : later 2#32 (ix2 ρ w) = if 2 ≤ ρ.val % 8 then 1#1 else 0#1 := by
  unfold later
  pointwise
  rw [row_number ρ w]
  exact (by decide +kernel : ∀ ρ : Fin 256, Scalar.cmpi .sge (BitVec.ofNat 32 (ρ.val % 8)) 2#32 = if 2 ≤ ρ.val % 8 then 1#1 else 0#1) ρ

/-- A factor after the doubling by 2: of rows that have one 2 rows before them in their tile. -/
theorem factor_fwd2 (a : FVec Ideal S256x256 .f32) (n : ℕ) (hn : n < 256) (w : Fin 256) : cell (doubleA (later 2#32) 2#32 a) n w
    = if 2 ≤ n % 8 then cell a n w * cell a (n - 2) w else cell a n w := by
  unfold cell doubleA
  pointwise
  rw [mask_fwd2 _ w]
  by_cases c : 2 ≤ n % 8
  · rw [if_pos (show 2 ≤ n % 256 % 8 by omega), if_pos c]
    exact congrArg (fun k => a (ix2 (⟨n % 256, Nat.mod_lt _ (by decide)⟩ : Fin 256) w) * a (ix2 k w)) (Fin.ext (by show (n % 256 + 254) % 256 = (n - 2) % 256; omega))
  · rw [if_neg (show ¬ 2 ≤ n % 256 % 8 by omega), if_neg c]
    rfl

/-- A summand after the doubling by 2. -/
theorem summand_fwd2 (a u : FVec Ideal S256x256 .f32) (n : ℕ) (hn : n < 256) (w : Fin 256) : cell (doubleU (later 2#32) 2#32 a u) n w
    = if 2 ≤ n % 8 then cell a n w * cell u (n - 2) w + cell u n w else cell u n w := by
  unfold cell doubleU
  pointwise
  rw [mask_fwd2 _ w]
  by_cases c : 2 ≤ n % 8
  · rw [if_pos (show 2 ≤ n % 256 % 8 by omega), if_pos c]
    exact congrArg (fun k => a (ix2 (⟨n % 256, Nat.mod_lt _ (by decide)⟩ : Fin 256) w) * u (ix2 k w) + u (ix2 (⟨n % 256, Nat.mod_lt _ (by decide)⟩ : Fin 256) w)) (Fin.ext (by show (n % 256 + 254) % 256 = (n - 2) % 256; omega))
  · rw [if_neg (show ¬ 2 ≤ n % 256 % 8 by omega), if_neg c]
    rfl

/-- Which rows have one 4 rows before them in their tile. -/
theorem mask_fwd4 (ρ w : Fin 256) : later 4#32 (ix2 ρ w) = if 4 ≤ ρ.val % 8 then 1#1 else 0#1 := by
  unfold later
  pointwise
  rw [row_number ρ w]
  exact (by decide +kernel : ∀ ρ : Fin 256, Scalar.cmpi .sge (BitVec.ofNat 32 (ρ.val % 8)) 4#32 = if 4 ≤ ρ.val % 8 then 1#1 else 0#1) ρ

/-- A factor after the doubling by 4: of rows that have one 4 rows before them in their tile. -/
theorem factor_fwd4 (a : FVec Ideal S256x256 .f32) (n : ℕ) (hn : n < 256) (w : Fin 256) : cell (doubleA (later 4#32) 4#32 a) n w
    = if 4 ≤ n % 8 then cell a n w * cell a (n - 4) w else cell a n w := by
  unfold cell doubleA
  pointwise
  rw [mask_fwd4 _ w]
  by_cases c : 4 ≤ n % 8
  · rw [if_pos (show 4 ≤ n % 256 % 8 by omega), if_pos c]
    exact congrArg (fun k => a (ix2 (⟨n % 256, Nat.mod_lt _ (by decide)⟩ : Fin 256) w) * a (ix2 k w)) (Fin.ext (by show (n % 256 + 252) % 256 = (n - 4) % 256; omega))
  · rw [if_neg (show ¬ 4 ≤ n % 256 % 8 by omega), if_neg c]
    rfl

/-- A summand after the doubling by 4. -/
theorem summand_fwd4 (a u : FVec Ideal S256x256 .f32) (n : ℕ) (hn : n < 256) (w : Fin 256) : cell (doubleU (later 4#32) 4#32 a u) n w
    = if 4 ≤ n % 8 then cell a n w * cell u (n - 4) w + cell u n w else cell u n w := by
  unfold cell doubleU
  pointwise
  rw [mask_fwd4 _ w]
  by_cases c : 4 ≤ n % 8
  · rw [if_pos (show 4 ≤ n % 256 % 8 by omega), if_pos c]
    exact congrArg (fun k => a (ix2 (⟨n % 256, Nat.mod_lt _ (by decide)⟩ : Fin 256) w) * u (ix2 k w) + u (ix2 (⟨n % 256, Nat.mod_lt _ (by decide)⟩ : Fin 256) w)) (Fin.ext (by show (n % 256 + 252) % 256 = (n - 4) % 256; omega))
  · rw [if_neg (show ¬ 4 ≤ n % 256 % 8 by omega), if_neg c]
    rfl

/-- Which rows have one 1 rows after them in their tile. -/
theorem mask_back1 (ρ w : Fin 256) : earlier 7#32 (ix2 ρ w) = if ρ.val % 8 < 7 then 1#1 else 0#1 := by
  unfold earlier
  pointwise
  rw [row_number ρ w]
  exact (by decide +kernel : ∀ ρ : Fin 256, Scalar.cmpi .slt (BitVec.ofNat 32 (ρ.val % 8)) 7#32 = if ρ.val % 8 < 7 then 1#1 else 0#1) ρ

/-- A factor after the doubling by 1: of rows that have one 1 rows after them in their tile. -/
theorem factor_back1 (a : FVec Ideal S256x256 .f32) (n : ℕ) (hn : n < 256) (w : Fin 256) : cell (doubleA (earlier 7#32) 255#32 a) n w
    = if n % 8 < 7 then cell a n w * cell a (n + 1) w else cell a n w := by
  unfold cell doubleA
  pointwise
  rw [mask_back1 _ w]
  by_cases c : n % 8 < 7
  · rw [if_pos (show n % 256 % 8 < 7 by omega), if_pos c]
    exact congrArg (fun k => a (ix2 (⟨n % 256, Nat.mod_lt _ (by decide)⟩ : Fin 256) w) * a (ix2 k w)) (Fin.ext (by show (n % 256 + 1) % 256 = (n + 1) % 256; omega))
  · rw [if_neg (show ¬ n % 256 % 8 < 7 by omega), if_neg c]
    rfl

/-- A summand after the doubling by 1. -/
theorem summand_back1 (a u : FVec Ideal S256x256 .f32) (n : ℕ) (hn : n < 256) (w : Fin 256) : cell (doubleU (earlier 7#32) 255#32 a u) n w
    = if n % 8 < 7 then cell a n w * cell u (n + 1) w + cell u n w else cell u n w := by
  unfold cell doubleU
  pointwise
  rw [mask_back1 _ w]
  by_cases c : n % 8 < 7
  · rw [if_pos (show n % 256 % 8 < 7 by omega), if_pos c]
    exact congrArg (fun k => a (ix2 (⟨n % 256, Nat.mod_lt _ (by decide)⟩ : Fin 256) w) * u (ix2 k w) + u (ix2 (⟨n % 256, Nat.mod_lt _ (by decide)⟩ : Fin 256) w)) (Fin.ext (by show (n % 256 + 1) % 256 = (n + 1) % 256; omega))
  · rw [if_neg (show ¬ n % 256 % 8 < 7 by omega), if_neg c]
    rfl

/-- Which rows have one 2 rows after them in their tile. -/
theorem mask_back2 (ρ w : Fin 256) : earlier 6#32 (ix2 ρ w) = if ρ.val % 8 < 6 then 1#1 else 0#1 := by
  unfold earlier
  pointwise
  rw [row_number ρ w]
  exact (by decide +kernel : ∀ ρ : Fin 256, Scalar.cmpi .slt (BitVec.ofNat 32 (ρ.val % 8)) 6#32 = if ρ.val % 8 < 6 then 1#1 else 0#1) ρ

/-- A factor after the doubling by 2: of rows that have one 2 rows after them in their tile. -/
theorem factor_back2 (a : FVec Ideal S256x256 .f32) (n : ℕ) (hn : n < 256) (w : Fin 256) : cell (doubleA (earlier 6#32) 254#32 a) n w
    = if n % 8 < 6 then cell a n w * cell a (n + 2) w else cell a n w := by
  unfold cell doubleA
  pointwise
  rw [mask_back2 _ w]
  by_cases c : n % 8 < 6
  · rw [if_pos (show n % 256 % 8 < 6 by omega), if_pos c]
    exact congrArg (fun k => a (ix2 (⟨n % 256, Nat.mod_lt _ (by decide)⟩ : Fin 256) w) * a (ix2 k w)) (Fin.ext (by show (n % 256 + 2) % 256 = (n + 2) % 256; omega))
  · rw [if_neg (show ¬ n % 256 % 8 < 6 by omega), if_neg c]
    rfl

/-- A summand after the doubling by 2. -/
theorem summand_back2 (a u : FVec Ideal S256x256 .f32) (n : ℕ) (hn : n < 256) (w : Fin 256) : cell (doubleU (earlier 6#32) 254#32 a u) n w
    = if n % 8 < 6 then cell a n w * cell u (n + 2) w + cell u n w else cell u n w := by
  unfold cell doubleU
  pointwise
  rw [mask_back2 _ w]
  by_cases c : n % 8 < 6
  · rw [if_pos (show n % 256 % 8 < 6 by omega), if_pos c]
    exact congrArg (fun k => a (ix2 (⟨n % 256, Nat.mod_lt _ (by decide)⟩ : Fin 256) w) * u (ix2 k w) + u (ix2 (⟨n % 256, Nat.mod_lt _ (by decide)⟩ : Fin 256) w)) (Fin.ext (by show (n % 256 + 2) % 256 = (n + 2) % 256; omega))
  · rw [if_neg (show ¬ n % 256 % 8 < 6 by omega), if_neg c]
    rfl

/-- Which rows have one 4 rows after them in their tile. -/
theorem mask_back4 (ρ w : Fin 256) : earlier 4#32 (ix2 ρ w) = if ρ.val % 8 < 4 then 1#1 else 0#1 := by
  unfold earlier
  pointwise
  rw [row_number ρ w]
  exact (by decide +kernel : ∀ ρ : Fin 256, Scalar.cmpi .slt (BitVec.ofNat 32 (ρ.val % 8)) 4#32 = if ρ.val % 8 < 4 then 1#1 else 0#1) ρ

/-- A factor after the doubling by 4: of rows that have one 4 rows after them in their tile. -/
theorem factor_back4 (a : FVec Ideal S256x256 .f32) (n : ℕ) (hn : n < 256) (w : Fin 256) : cell (doubleA (earlier 4#32) 252#32 a) n w
    = if n % 8 < 4 then cell a n w * cell a (n + 4) w else cell a n w := by
  unfold cell doubleA
  pointwise
  rw [mask_back4 _ w]
  by_cases c : n % 8 < 4
  · rw [if_pos (show n % 256 % 8 < 4 by omega), if_pos c]
    exact congrArg (fun k => a (ix2 (⟨n % 256, Nat.mod_lt _ (by decide)⟩ : Fin 256) w) * a (ix2 k w)) (Fin.ext (by show (n % 256 + 4) % 256 = (n + 4) % 256; omega))
  · rw [if_neg (show ¬ n % 256 % 8 < 4 by omega), if_neg c]
    rfl

/-- A summand after the doubling by 4. -/
theorem summand_back4 (a u : FVec Ideal S256x256 .f32) (n : ℕ) (hn : n < 256) (w : Fin 256) : cell (doubleU (earlier 4#32) 252#32 a u) n w
    = if n % 8 < 4 then cell a n w * cell u (n + 4) w + cell u n w else cell u n w := by
  unfold cell doubleU
  pointwise
  rw [mask_back4 _ w]
  by_cases c : n % 8 < 4
  · rw [if_pos (show n % 256 % 8 < 4 by omega), if_pos c]
    exact congrArg (fun k => a (ix2 (⟨n % 256, Nat.mod_lt _ (by decide)⟩ : Fin 256) w) * u (ix2 k w) + u (ix2 (⟨n % 256, Nat.mod_lt _ (by decide)⟩ : Fin 256) w)) (Fin.ext (by show (n % 256 + 4) % 256 = (n + 4) % 256; omega))
  · rw [if_neg (show ¬ n % 256 % 8 < 4 by omega), if_neg c]
    rfl

/-- The factors after the three doublings, in the forward direction. -/
def fwdA (a : FVec Ideal S256x256 .f32) : FVec Ideal S256x256 .f32 :=
  doubleA (later 4#32) 4#32 (doubleA (later 2#32) 2#32 (doubleA (later 1#32) 1#32 a))

/-- The summands after the three doublings, in the forward direction. -/
def fwdU (a u : FVec Ideal S256x256 .f32) : FVec Ideal S256x256 .f32 :=
  doubleU (later 4#32) 4#32 (doubleA (later 2#32) 2#32 (doubleA (later 1#32) 1#32 a)) (doubleU (later 2#32) 2#32 (doubleA (later 1#32) 1#32 a) (doubleU (later 1#32) 1#32 a u))

/-- The doubling by 1 of a tile, forward: twice as many steps. -/
theorem tile_fwd1 (a u : ℕ → EReal) (A U : FVec Ideal S256x256 .f32) (w : Fin 256) (b j : ℕ) (hj : j < 32)
    (h : ∀ r, r < 8 → Carries a u (b + (r + 1 - 1)) (b + r + 1) (cell A (8 * j + r) w) (cell U (8 * j + r) w)) :
    ∀ r, r < 8 → Carries a u (b + (r + 1 - 2)) (b + r + 1) (cell (doubleA (later 1#32) 1#32 A) (8 * j + r) w) (cell (doubleU (later 1#32) 1#32 A U) (8 * j + r) w) := by
  intro r hr
  have e := carries_double a u b 1 (fun r => cell A (8 * j + r) w) (fun r => cell U (8 * j + r) w) (by decide) h r hr
  rw [factor_fwd1 A _ (by omega) w, summand_fwd1 A U _ (by omega) w]
  by_cases c : 1 ≤ r
  · rw [if_pos c, if_pos c] at e
    rw [if_pos (by omega), if_pos (by omega)]
    rw [show 8 * j + r - 1 = 8 * j + (r - 1) by omega]
    exact e
  · rw [if_neg c, if_neg c] at e
    rw [if_neg (by omega), if_neg (by omega)]
    exact e

/-- The doubling by 2 of a tile, forward: twice as many steps. -/
theorem tile_fwd2 (a u : ℕ → EReal) (A U : FVec Ideal S256x256 .f32) (w : Fin 256) (b j : ℕ) (hj : j < 32)
    (h : ∀ r, r < 8 → Carries a u (b + (r + 1 - 2)) (b + r + 1) (cell A (8 * j + r) w) (cell U (8 * j + r) w)) :
    ∀ r, r < 8 → Carries a u (b + (r + 1 - 4)) (b + r + 1) (cell (doubleA (later 2#32) 2#32 A) (8 * j + r) w) (cell (doubleU (later 2#32) 2#32 A U) (8 * j + r) w) := by
  intro r hr
  have e := carries_double a u b 2 (fun r => cell A (8 * j + r) w) (fun r => cell U (8 * j + r) w) (by decide) h r hr
  rw [factor_fwd2 A _ (by omega) w, summand_fwd2 A U _ (by omega) w]
  by_cases c : 2 ≤ r
  · rw [if_pos c, if_pos c] at e
    rw [if_pos (by omega), if_pos (by omega)]
    rw [show 8 * j + r - 2 = 8 * j + (r - 2) by omega]
    exact e
  · rw [if_neg c, if_neg c] at e
    rw [if_neg (by omega), if_neg (by omega)]
    exact e

/-- The doubling by 4 of a tile, forward: twice as many steps. -/
theorem tile_fwd4 (a u : ℕ → EReal) (A U : FVec Ideal S256x256 .f32) (w : Fin 256) (b j : ℕ) (hj : j < 32)
    (h : ∀ r, r < 8 → Carries a u (b + (r + 1 - 4)) (b + r + 1) (cell A (8 * j + r) w) (cell U (8 * j + r) w)) :
    ∀ r, r < 8 → Carries a u (b + (r + 1 - 8)) (b + r + 1) (cell (doubleA (later 4#32) 4#32 A) (8 * j + r) w) (cell (doubleU (later 4#32) 4#32 A U) (8 * j + r) w) := by
  intro r hr
  have e := carries_double a u b 4 (fun r => cell A (8 * j + r) w) (fun r => cell U (8 * j + r) w) (by decide) h r hr
  rw [factor_fwd4 A _ (by omega) w, summand_fwd4 A U _ (by omega) w]
  by_cases c : 4 ≤ r
  · rw [if_pos c, if_pos c] at e
    rw [if_pos (by omega), if_pos (by omega)]
    rw [show 8 * j + r - 4 = 8 * j + (r - 4) by omega]
    exact e
  · rw [if_neg c, if_neg c] at e
    rw [if_neg (by omega), if_neg (by omega)]
    exact e

/-- A tile after the three doublings, forward: every row carries the state from the tile's start. -/
theorem tile_fwd (a u : ℕ → EReal) (A U : FVec Ideal S256x256 .f32) (w : Fin 256) (b j : ℕ) (hj : j < 32)
    (h : ∀ r, r < 8 → Carries a u (b + r) (b + r + 1) (cell A (8 * j + r) w) (cell U (8 * j + r) w)) (r : ℕ) (hr : r < 8) :
    Carries a u b (b + r + 1) (cell (fwdA A) (8 * j + r) w) (cell (fwdU A U) (8 * j + r) w) := by
  have h1 := tile_fwd4 a u _ _ w b j hj (tile_fwd2 a u _ _ w b j hj (tile_fwd1 a u A U w b j hj fun r hr => by
    rw [show r + 1 - 1 = r from rfl]; exact h r hr)) r hr
  rw [show r + 1 - 8 = 0 by omega, Nat.add_zero] at h1
  exact h1

/-- The factors after the three doublings, in the backward direction. -/
def backA (a : FVec Ideal S256x256 .f32) : FVec Ideal S256x256 .f32 :=
  doubleA (earlier 4#32) 252#32 (doubleA (earlier 6#32) 254#32 (doubleA (earlier 7#32) 255#32 a))

/-- The summands after the three doublings, in the backward direction. -/
def backU (a u : FVec Ideal S256x256 .f32) : FVec Ideal S256x256 .f32 :=
  doubleU (earlier 4#32) 252#32 (doubleA (earlier 6#32) 254#32 (doubleA (earlier 7#32) 255#32 a)) (doubleU (earlier 6#32) 254#32 (doubleA (earlier 7#32) 255#32 a) (doubleU (earlier 7#32) 255#32 a u))

/-- The doubling by 1 of a tile, backward: twice as many steps. -/
theorem tile_back1 (a u : ℕ → EReal) (A U : FVec Ideal S256x256 .f32) (w : Fin 256) (b j : ℕ) (hj : j < 32)
    (h : ∀ r, r < 8 → Carries a u (b + (r + 1 - 1)) (b + r + 1) (cell A (8 * j + (7 - r)) w) (cell U (8 * j + (7 - r)) w)) :
    ∀ r, r < 8 → Carries a u (b + (r + 1 - 2)) (b + r + 1) (cell (doubleA (earlier 7#32) 255#32 A) (8 * j + (7 - r)) w) (cell (doubleU (earlier 7#32) 255#32 A U) (8 * j + (7 - r)) w) := by
  intro r hr
  have e := carries_double a u b 1 (fun r => cell A (8 * j + (7 - r)) w) (fun r => cell U (8 * j + (7 - r)) w) (by decide) h r hr
  rw [factor_back1 A _ (by omega) w, summand_back1 A U _ (by omega) w]
  by_cases c : 1 ≤ r
  · rw [if_pos c, if_pos c] at e
    rw [if_pos (by omega), if_pos (by omega)]
    rw [show 8 * j + (7 - r) + 1 = 8 * j + (7 - (r - 1)) by omega]
    exact e
  · rw [if_neg c, if_neg c] at e
    rw [if_neg (by omega), if_neg (by omega)]
    exact e

/-- The doubling by 2 of a tile, backward: twice as many steps. -/
theorem tile_back2 (a u : ℕ → EReal) (A U : FVec Ideal S256x256 .f32) (w : Fin 256) (b j : ℕ) (hj : j < 32)
    (h : ∀ r, r < 8 → Carries a u (b + (r + 1 - 2)) (b + r + 1) (cell A (8 * j + (7 - r)) w) (cell U (8 * j + (7 - r)) w)) :
    ∀ r, r < 8 → Carries a u (b + (r + 1 - 4)) (b + r + 1) (cell (doubleA (earlier 6#32) 254#32 A) (8 * j + (7 - r)) w) (cell (doubleU (earlier 6#32) 254#32 A U) (8 * j + (7 - r)) w) := by
  intro r hr
  have e := carries_double a u b 2 (fun r => cell A (8 * j + (7 - r)) w) (fun r => cell U (8 * j + (7 - r)) w) (by decide) h r hr
  rw [factor_back2 A _ (by omega) w, summand_back2 A U _ (by omega) w]
  by_cases c : 2 ≤ r
  · rw [if_pos c, if_pos c] at e
    rw [if_pos (by omega), if_pos (by omega)]
    rw [show 8 * j + (7 - r) + 2 = 8 * j + (7 - (r - 2)) by omega]
    exact e
  · rw [if_neg c, if_neg c] at e
    rw [if_neg (by omega), if_neg (by omega)]
    exact e

/-- The doubling by 4 of a tile, backward: twice as many steps. -/
theorem tile_back4 (a u : ℕ → EReal) (A U : FVec Ideal S256x256 .f32) (w : Fin 256) (b j : ℕ) (hj : j < 32)
    (h : ∀ r, r < 8 → Carries a u (b + (r + 1 - 4)) (b + r + 1) (cell A (8 * j + (7 - r)) w) (cell U (8 * j + (7 - r)) w)) :
    ∀ r, r < 8 → Carries a u (b + (r + 1 - 8)) (b + r + 1) (cell (doubleA (earlier 4#32) 252#32 A) (8 * j + (7 - r)) w) (cell (doubleU (earlier 4#32) 252#32 A U) (8 * j + (7 - r)) w) := by
  intro r hr
  have e := carries_double a u b 4 (fun r => cell A (8 * j + (7 - r)) w) (fun r => cell U (8 * j + (7 - r)) w) (by decide) h r hr
  rw [factor_back4 A _ (by omega) w, summand_back4 A U _ (by omega) w]
  by_cases c : 4 ≤ r
  · rw [if_pos c, if_pos c] at e
    rw [if_pos (by omega), if_pos (by omega)]
    rw [show 8 * j + (7 - r) + 4 = 8 * j + (7 - (r - 4)) by omega]
    exact e
  · rw [if_neg c, if_neg c] at e
    rw [if_neg (by omega), if_neg (by omega)]
    exact e

/-- A tile after the three doublings, backward: every row carries the state from the tile's start. -/
theorem tile_back (a u : ℕ → EReal) (A U : FVec Ideal S256x256 .f32) (w : Fin 256) (b j : ℕ) (hj : j < 32)
    (h : ∀ r, r < 8 → Carries a u (b + r) (b + r + 1) (cell A (8 * j + (7 - r)) w) (cell U (8 * j + (7 - r)) w)) (r : ℕ) (hr : r < 8) :
    Carries a u b (b + r + 1) (cell (backA A) (8 * j + (7 - r)) w) (cell (backU A U) (8 * j + (7 - r)) w) := by
  have h1 := tile_back4 a u _ _ w b j hj (tile_back2 a u _ _ w b j hj (tile_back1 a u A U w b j hj fun r hr => by
    rw [show r + 1 - 1 = r from rfl]; exact h r hr)) r hr
  rw [show r + 1 - 8 = 0 by omega, Nat.add_zero] at h1
  exact h1

end Cert.LruIdeal.Value
end
-- ==== Proof.LruLoop.lean ====
module
public import proofs.«01_k».proof.Proof.Gen.LruIdeal.Frame
public import proofs.«01_k».proof.Proof.LruTile
public import Idealize.ShloMosaic.Lib.Pipeline.ValueKit
public import Idealize.ShloMosaic.Lib.WholeRead
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)

namespace Cert.LruIdeal.Value
open Cert.LruIdeal Cert.LruIdeal.Gen

/-- A buffer after a loop whose every pass stores one rectangle: the passes' rectangles cover it and each agrees with one
    function of the buffer's indices, so the buffer reads as that function. -/
theorem read_blocks {s : Shape} {e : EltTy} (v : View sig .tc .vmem s e) (f : v.ty.Contents (Elt Ideal))
    (T : ℕ) (P : ℕ → List (View.Piece (Elt Ideal) s e)) (pc : Fin T → View.Piece (Elt Ideal) s e) (h0 : P 0 = []) (hs : ∀ k : Fin T, P (k.val + 1) = [pc k] ++ P k.val)
    (G : s.Idx → Elt Ideal e) (agree : ∀ k : Fin T, ∀ x, (pc k).2 x = G ((pc k).1.emb x)) (cov : ∀ y, ∃ k, y ∈ (pc k).1.set) (L : List (View.Piece (Elt Ideal) s e)) :
    v.read (Elt Ideal) (v.writes (Elt Ideal) f (P T ++ L)) = G := by
  have only : ∀ n, n ≤ T → ∀ p ∈ P n, ∃ k, p = pc k := by
    intro n
    induction n with
    | zero => intro _ p hp; rw [h0] at hp; exact absurd hp List.not_mem_nil
    | succ n ih =>
      intro hn p hp
      rw [hs ⟨n, hn⟩] at hp
      rcases List.mem_append.mp hp with h | h
      · exact ⟨_, List.mem_singleton.mp h⟩
      · exact ih (Nat.le_of_succ_le hn) p h
  have all : ∀ n, n ≤ T → ∀ k : Fin T, k.val < n → pc k ∈ P n := by
    intro n
    induction n with
    | zero => intro _ k hk; exact absurd hk (Nat.not_lt_zero _)
    | succ n ih =>
      intro hn k hk
      rw [hs ⟨n, hn⟩]
      rcases Nat.lt_succ_iff_lt_or_eq.mp hk with h | h
      · exact List.mem_append_right _ (ih (Nat.le_of_succ_le hn) k h)
      · exact List.mem_append_left _ (List.mem_singleton.mpr (congrArg pc (Fin.ext h)))
  funext y
  rw [View.writes_append]
  refine View.read_writes_apply_of_pieces v _ G (P T) (fun p hp => ?_) y ?_
  · obtain ⟨k, rfl⟩ := only T (le_refl T) p hp
    exact agree k
  · obtain ⟨k, hk⟩ := cov y
    exact ⟨pc k, all T (le_refl T) k k.isLt, hk⟩

/-- The gates' inputs of a chunk: the product with the weights, plus the bias. -/
def gateIn (xs : Vec Ideal S256x256 .f32) (w : Vec Ideal S1x256x512 .bf16) (b : Vec Ideal S1x1x512 .f32) : FVec Ideal S256x512 .f32 := k0_pay3 xs w b

/-- A chunk's log decays. -/
def logDecay (s : FVec Ideal S1x256 .f32) (xs : Vec Ideal S256x256 .f32) (w : Vec Ideal S1x256x512 .bf16) (b : Vec Ideal S1x1x512 .f32) : FVec Ideal S256x256 .f32 :=
  mulf (broadcastTo S256x256 s broadcasts_S1x256_S256x256) (logistic (extractStridedSlice S256x256 ![0, 0] (gateIn xs w b) slices_S256x512_o0_0_S256x256))

/-- A chunk's decays. -/
def decay (s : FVec Ideal S1x256 .f32) (xs : Vec Ideal S256x256 .f32) (w : Vec Ideal S1x256x512 .bf16) (b : Vec Ideal S1x1x512 .f32) : FVec Ideal S256x256 .f32 :=
  exp (logDecay s xs w b)

/-- A chunk's inputs to the recurrence. -/
def drive (s : FVec Ideal S1x256 .f32) (xs : Vec Ideal S256x256 .f32) (w : Vec Ideal S1x256x512 .bf16) (b : Vec Ideal S1x1x512 .f32) : FVec Ideal S256x256 .f32 :=
  mulf (mulf (sqrt (divf (mulf (broadcast S256x256 (Scalar.ofBits (F := Ideal) .f32 0xC0000000#32)) (tanh (logDecay s xs w b)))
    (subf (broadcast S256x256 (Scalar.ofBits (F := Ideal) .f32 0x3F800000#32)) (tanh (logDecay s xs w b)))))
    (logistic (extractStridedSlice S256x256 ![0, 256] (gateIn xs w b) slices_S256x512_o0_256_S256x256))) xs

/-- Row number n of a tile-by-tile array, as the chunk's two-dimensional array has it. -/
theorem tiles_apply (v : FVec Ideal S256x256 .f32) (j : Fin 32) (r : Fin 8) (w : Fin 256) :
    shapeCast S32x8x256 (shapeCast S32x8x256 v shapeCasts_S256x256_S32x8x256) shapeCasts_S32x8x256_S32x8x256 (ix3 j r w) = cell v (8 * j.val + r.val) w := by
  unfold cell
  pointwise
  exact congrArg (fun k => v (ix2 k w)) (Fin.ext (by have := j.isLt; have := r.isLt; show j.val * 8 + r.val = (8 * j.val + r.val) % 256; omega))

end Cert.LruIdeal.Value
end
-- ==== Proof.LruForward.lean ====
module
public import proofs.«01_k».proof.Proof.Gen.LruIdeal.Frame
public import proofs.«01_k».proof.Proof.LruLoop
public import Idealize.ShloMosaic.Lib.Pipeline.ValueKit
public import Idealize.ShloMosaic.Lib.WholeRead
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)

namespace Cert.LruIdeal.Value
open Cert.LruIdeal Cert.LruIdeal.Gen

/-- A chunk of the convolved rows, for the forward direction. -/
def fwdRows (xc : Vec Ideal S2048x256 .f32) (k : Fin k0_t1_loop.trips) : Vec Ideal S256x256 .f32 :=
  fun j => xc ((Rect.unit (s := S2048x256) (k0_off1 k) S256x256.size (k0_off1_inb k)).toLoadRect.idx j)

/-- The forward direction's weights. -/
def fwdWeights (x4 : Vec Ideal S1x256x1024 .bf16) : Vec Ideal S1x256x512 .bf16 :=
  fun j => x4 ((Rect.unit (s := S1x256x1024) ![0, 0, 0] S1x256x512.size inb_S1x256x1024_S1x256x512_0_0_0).toLoadRect.idx j)

/-- The forward direction's biases. -/
def fwdBias (x5 : Vec Ideal S1x1x1024 .f32) : Vec Ideal S1x1x512 .f32 :=
  fun j => x5 ((Rect.unit (s := S1x1x1024) ![0, 0, 0] S1x1x512.size inb_S1x1x1024_S1x1x512_0_0_0).toLoadRect.idx j)

/-- A chunk's factors after the doublings. -/
def fwdFactor (s : FVec Ideal S1x256 .f32) (xc : Vec Ideal S2048x256 .f32) (x4 : Vec Ideal S1x256x1024 .bf16) (x5 : Vec Ideal S1x1x1024 .f32) (k : Fin k0_t1_loop.trips) : FVec Ideal S256x256 .f32 :=
  fwdA (decay s (fwdRows xc k) (fwdWeights x4) (fwdBias x5))

/-- A chunk's summands after the doublings. -/
def fwdSummand (s : FVec Ideal S1x256 .f32) (xc : Vec Ideal S2048x256 .f32) (x4 : Vec Ideal S1x256x1024 .bf16) (x5 : Vec Ideal S1x1x1024 .f32) (k : Fin k0_t1_loop.trips) : FVec Ideal S256x256 .f32 :=
  fwdU (decay s (fwdRows xc k) (fwdWeights x4) (fwdBias x5)) (drive s (fwdRows xc k) (fwdWeights x4) (fwdBias x5))

/-- A chunk's factors, tile by tile. -/
def fwdFactorTiles (s : FVec Ideal S1x256 .f32) (xc : Vec Ideal S2048x256 .f32) (x4 : Vec Ideal S1x256x1024 .bf16) (x5 : Vec Ideal S1x1x1024 .f32) (k : Fin k0_t1_loop.trips) : FVec Ideal S32x8x256 .f32 :=
  shapeCast S32x8x256 (shapeCast S32x8x256 (fwdFactor s xc x4 x5 k) shapeCasts_S256x256_S32x8x256) shapeCasts_S32x8x256_S32x8x256

/-- A chunk's summands, tile by tile. -/
def fwdSummandTiles (s : FVec Ideal S1x256 .f32) (xc : Vec Ideal S2048x256 .f32) (x4 : Vec Ideal S1x256x1024 .bf16) (x5 : Vec Ideal S1x1x1024 .f32) (k : Fin k0_t1_loop.trips) : FVec Ideal S32x8x256 .f32 :=
  shapeCast S32x8x256 (shapeCast S32x8x256 (fwdSummand s xc x4 x5 k) shapeCasts_S256x256_S32x8x256) shapeCasts_S32x8x256_S32x8x256

/-- The factors the first loop stores are the doubled decays. -/
theorem fwd_payload_factor (s : FVec Ideal S1x256 .f32) (xs : Vec Ideal S256x256 .f32) (w : Vec Ideal S1x256x512 .bf16) (b : Vec Ideal S1x1x512 .f32) :
    k0_pay31 k0_pay24 (k0_pay8 k0_pay24 s xs w b) (k0_pay9 k0_pay24 s xs w b) (k0_pay10 k0_pay24)
      = shapeCast S32x8x256 (shapeCast S32x8x256 (fwdA (decay s xs w b)) shapeCasts_S256x256_S32x8x256) shapeCasts_S32x8x256_S32x8x256 := rfl

/-- The summands the first loop stores are the doubled inputs. -/
theorem fwd_payload_summand (s : FVec Ideal S1x256 .f32) (xs : Vec Ideal S256x256 .f32) (w : Vec Ideal S1x256x512 .bf16) (b : Vec Ideal S1x1x512 .f32) :
    k0_pay32 k0_pay24 (k0_pay7 k0_pay24 s xs w b) (k0_pay8 k0_pay24 s xs w b) (k0_pay9 k0_pay24 s xs w b) (k0_pay10 k0_pay24) (k0_pay11 k0_pay24 s xs w b)
      = shapeCast S32x8x256 (shapeCast S32x8x256 (fwdU (decay s xs w b) (drive s xs w b)) shapeCasts_S256x256_S32x8x256) shapeCasts_S32x8x256_S32x8x256 := rfl

/-- What one pass of the forward chunk loop stores: the chunk's factors and summands. -/
theorem fwd_chunk_pieces (c : Dev nD) (i : grid0.Coords)
    (arg2 : Memref sig .tc .vmem S1x2048x256 .f32) (harg2 : arg2.IsWhole)
    (arg3 : Memref sig .tc .vmem S1x2048x256 .f32) (harg3 : arg3.IsWhole)
    (arg4 : Memref sig .tc .vmem S4x256 .f32) (harg4 : arg4.IsWhole)
    (arg5 : Memref sig .tc .vmem S1x256 .f32) (harg5 : arg5.IsWhole)
    (arg6 : Memref sig .tc .vmem S1x256x1024 .bf16) (harg6 : arg6.IsWhole)
    (arg7 : Memref sig .tc .vmem S1x1x1024 .f32) (harg7 : arg7.IsWhole)
    (arg8 : Memref sig .tc .vmem S2x256 .f32) (harg8 : arg8.IsWhole)
    (arg9 : Memref sig .tc .vmem S1x2048x256 .bf16) (harg9 : arg9.IsWhole)
    (arg10 : Memref sig .tc .vmem S2048x256 .f32) (harg10 : arg10.IsWhole)
    (arg11 : Memref sig .tc .vmem S256x8x256 .f32) (harg11 : arg11.IsWhole)
    (arg12 : Memref sig .tc .vmem S256x8x256 .f32) (harg12 : arg12.IsWhole)
    (arg13 : Memref sig .tc .vmem S256x1x256 .f32) (harg13 : arg13.IsWhole)
    (arg14 : Memref sig .tc .vmem S256x8x256 .f32) (harg14 : arg14.IsWhole)
    (s : FVec Ideal S1x256 .f32) (z : FVec Ideal S256x8x256 .f32) (xc : Vec Ideal S2048x256 .f32) (x4 : Vec Ideal S1x256x1024 .bf16) (x5 : Vec Ideal S1x1x1024 .f32)
    (X : arg10.view.ty.Contents (Elt Ideal)) (hX : arg10.view.read (Elt Ideal) X = xc) (k : Fin k0_t1_loop.trips) :
    tripL_k0_t1 Variants.none c none i arg2 harg2 arg3 harg3 arg4 harg4 arg5 harg5 arg6 harg6 arg7 harg7 arg8 harg8 arg9 harg9 arg10 harg10 arg11 harg11 arg12 harg12 arg13 harg13 arg14 harg14 k0_pay24 s z (harg6.unread x4) (harg7.unread x5) X k
      = ([⟨Rect.unit (s := S256x8x256) (k0_off2 k) S32x8x256.size (k0_off2_inb k), fwdFactorTiles s xc x4 x5 k⟩],
         [⟨Rect.unit (s := S256x8x256) (k0_off2 k) S32x8x256.size (k0_off2_inb k), fwdSummandTiles s xc x4 x5 k⟩]) := by
  have h1 : View.readAt (Elt Ideal) arg10.view (Rect.unit (s := S2048x256) (k0_off1 k) S256x256.size (k0_off1_inb k)).toLoadRect X = fwdRows xc k :=
    funext fun j => congrFun hX _
  have h2 : View.readAt (Elt Ideal) arg6.view (Rect.unit (s := S1x256x1024) ![0, 0, 0] S1x256x512.size inb_S1x256x1024_S1x256x512_0_0_0).toLoadRect (harg6.unread x4) = fwdWeights x4 :=
    funext fun j => harg6.readAt_unread x4 _ j
  have h3 : View.readAt (Elt Ideal) arg7.view (Rect.unit (s := S1x1x1024) ![0, 0, 0] S1x1x512.size inb_S1x1x1024_S1x1x512_0_0_0).toLoadRect (harg7.unread x5) = fwdBias x5 :=
    funext fun j => harg7.readAt_unread x5 _ j
  unfold fwdFactorTiles fwdSummandTiles fwdFactor fwdSummand
  rw [← fwd_payload_factor, ← fwd_payload_summand, ← h1, ← h2, ← h3]
  unfold tripL_k0_t1 trip_k0_t1
  rfl

/-- Which tiles a pass of the chunk loop stores. -/
theorem fwd_off_out : ∀ k : Fin k0_t1_loop.trips, k0_off2 k = ![32 * k.val, 0, 0] := by decide +kernel

/-- Which rows a pass of the chunk loop reads. -/
theorem fwd_off_rows : ∀ k : Fin k0_t1_loop.trips, k0_off1 k = ![256 * k.val, 0] := by decide +kernel

/-- All tiles' factors, as one function of the tile, the row and the lane. -/
def fwdFactors (s : FVec Ideal S1x256 .f32) (xc : Vec Ideal S2048x256 .f32) (x4 : Vec Ideal S1x256x1024 .bf16) (x5 : Vec Ideal S1x1x1024 .f32) (y : S256x8x256.Idx) : Elt Ideal .f32 :=
  cell (fwdFactor s xc x4 x5 (⟨(y 0).val / 32, (Nat.div_lt_iff_lt_mul (by decide)).mpr (y 0).isLt⟩ : Fin 8)) (8 * ((y 0).val % 32) + (y 1).val) (y 2)

/-- All tiles' summands, as one function of the tile, the row and the lane. -/
def fwdSummands (s : FVec Ideal S1x256 .f32) (xc : Vec Ideal S2048x256 .f32) (x4 : Vec Ideal S1x256x1024 .bf16) (x5 : Vec Ideal S1x1x1024 .f32) (y : S256x8x256.Idx) : Elt Ideal .f32 :=
  cell (fwdSummand s xc x4 x5 (⟨(y 0).val / 32, (Nat.div_lt_iff_lt_mul (by decide)).mpr (y 0).isLt⟩ : Fin 8)) (8 * ((y 0).val % 32) + (y 1).val) (y 2)

/-- A pass's tiles are where its number says. -/
theorem fwd_tiles_at (v : Fin 8 → FVec Ideal S256x256 .f32) (k : Fin k0_t1_loop.trips) (x : S32x8x256.Idx) :
    shapeCast S32x8x256 (shapeCast S32x8x256 (v k) shapeCasts_S256x256_S32x8x256) shapeCasts_S32x8x256_S32x8x256 x
      = (fun y : S256x8x256.Idx => cell (v (⟨(y 0).val / 32, (Nat.div_lt_iff_lt_mul (by decide)).mpr (y 0).isLt⟩ : Fin 8)) (8 * ((y 0).val % 32) + (y 1).val) (y 2))
          ((Rect.unit (s := S256x8x256) (k0_off2 k) S32x8x256.size (k0_off2_inb k)).emb x) := by
  have hx : (x 0).val < 32 := (x 0).isLt
  have e0 : ((Rect.unit (s := S256x8x256) (k0_off2 k) S32x8x256.size (k0_off2_inb k)).emb x 0).val = 32 * k.val + (x 0).val :=
    (ValueKit.rect_emb_unit_val (s := S256x8x256) (k0_off2 k) S32x8x256.size (k0_off2_inb k) x 0).trans (congrArg (· + (x 0).val) (congrFun (fwd_off_out k) 0))
  have e1 : ((Rect.unit (s := S256x8x256) (k0_off2 k) S32x8x256.size (k0_off2_inb k)).emb x 1).val = (x 1).val :=
    (ValueKit.rect_emb_unit_val (s := S256x8x256) (k0_off2 k) S32x8x256.size (k0_off2_inb k) x 1).trans ((congrArg (· + (x 1).val) (congrFun (fwd_off_out k) 1)).trans (Nat.zero_add _))
  have e2 : ((Rect.unit (s := S256x8x256) (k0_off2 k) S32x8x256.size (k0_off2_inb k)).emb x 2).val = (x 2).val :=
    (ValueKit.rect_emb_unit_val (s := S256x8x256) (k0_off2 k) S32x8x256.size (k0_off2_inb k) x 2).trans ((congrArg (· + (x 2).val) (congrFun (fwd_off_out k) 2)).trans (Nat.zero_add _))
  have q : (⟨((Rect.unit (s := S256x8x256) (k0_off2 k) S32x8x256.size (k0_off2_inb k)).emb x 0).val / 32, (Nat.div_lt_iff_lt_mul (by decide)).mpr ((Rect.unit (s := S256x8x256) (k0_off2 k) S32x8x256.size (k0_off2_inb k)).emb x 0).isLt⟩ : Fin 8) = k :=
    Fin.ext (by show _ / 32 = k.val; omega)
  have hy : x = ix3 (x 0) (x 1) (x 2) := by funext a; match a with | ⟨0, _⟩ => rfl | ⟨1, _⟩ => rfl | ⟨2, _⟩ => rfl
  show _ = cell (v _) (8 * (_ % 32) + _) _
  rw [q, e1, e0, show (32 * k.val + (x 0).val) % 32 = (x 0).val by omega]
  refine (congrArg _ hy).trans ((tiles_apply (v k) (x 0) (x 1) (x 2)).trans (congrArg (cell (v k) _) (Fin.ext e2.symm)))

/-- Every tile is stored by a pass. -/
theorem fwd_tiles_cover (y : S256x8x256.Idx) : ∃ k : Fin k0_t1_loop.trips, y ∈ (Rect.unit (s := S256x8x256) (k0_off2 k) S32x8x256.size (k0_off2_inb k)).set := by
  have hy : (y 0).val < 256 := (y 0).isLt
  have hy1 : (y 1).val < 8 := (y 1).isLt
  have hy2 : (y 2).val < 256 := (y 2).isLt
  let k : Fin k0_t1_loop.trips := (⟨(y 0).val / 32, by omega⟩ : Fin 8)
  refine ⟨k, Rect.mem_set_unit.mpr ?_⟩
  intro a
  rw [fwd_off_out k]
  match a with
  | ⟨0, _⟩ => show 32 * ((y 0).val / 32) ≤ (y 0).val ∧ (y 0).val < 32 * ((y 0).val / 32) + 32; omega
  | ⟨1, _⟩ => show 0 ≤ (y 1).val ∧ (y 1).val < 0 + 8; omega
  | ⟨2, _⟩ => show 0 ≤ (y 2).val ∧ (y 2).val < 0 + 256; omega

/-- After the chunk loop, the buffer of factors holds all tiles' factors. -/
theorem fwd_factors (c : Dev nD) (i : grid0.Coords)
    (arg2 : Memref sig .tc .vmem S1x2048x256 .f32) (harg2 : arg2.IsWhole)
    (arg3 : Memref sig .tc .vmem S1x2048x256 .f32) (harg3 : arg3.IsWhole)
    (arg4 : Memref sig .tc .vmem S4x256 .f32) (harg4 : arg4.IsWhole)
    (arg5 : Memref sig .tc .vmem S1x256 .f32) (harg5 : arg5.IsWhole)
    (arg6 : Memref sig .tc .vmem S1x256x1024 .bf16) (harg6 : arg6.IsWhole)
    (arg7 : Memref sig .tc .vmem S1x1x1024 .f32) (harg7 : arg7.IsWhole)
    (arg8 : Memref sig .tc .vmem S2x256 .f32) (harg8 : arg8.IsWhole)
    (arg9 : Memref sig .tc .vmem S1x2048x256 .bf16) (harg9 : arg9.IsWhole)
    (arg10 : Memref sig .tc .vmem S2048x256 .f32) (harg10 : arg10.IsWhole)
    (arg11 : Memref sig .tc .vmem S256x8x256 .f32) (harg11 : arg11.IsWhole)
    (arg12 : Memref sig .tc .vmem S256x8x256 .f32) (harg12 : arg12.IsWhole)
    (arg13 : Memref sig .tc .vmem S256x1x256 .f32) (harg13 : arg13.IsWhole)
    (arg14 : Memref sig .tc .vmem S256x8x256 .f32) (harg14 : arg14.IsWhole)
    (s : FVec Ideal S1x256 .f32) (z : FVec Ideal S256x8x256 .f32) (xc : Vec Ideal S2048x256 .f32) (x4 : Vec Ideal S1x256x1024 .bf16) (x5 : Vec Ideal S1x1x1024 .f32)
    (X : arg10.view.ty.Contents (Elt Ideal)) (hX : arg10.view.read (Elt Ideal) X = xc) (f : arg11.view.ty.Contents (Elt Ideal)) (L : List (View.Piece (Elt Ideal) S256x8x256 .f32)) :
    arg11.view.read (Elt Ideal) (arg11.view.writes (Elt Ideal) f ((pb_k0_t1 Variants.none c none i arg2 harg2 arg3 harg3 arg4 harg4 arg5 harg5 arg6 harg6 arg7 harg7 arg8 harg8 arg9 harg9 arg10 harg10 arg11 harg11 arg12 harg12 arg13 harg13 arg14 harg14 k0_pay24 s z (harg6.unread x4) (harg7.unread x5) X k0_t1_loop.trips).1 ++ L))
      = fwdFactors s xc x4 x5 :=
  read_blocks arg11.view f k0_t1_loop.trips (fun n => (pb_k0_t1 Variants.none c none i arg2 harg2 arg3 harg3 arg4 harg4 arg5 harg5 arg6 harg6 arg7 harg7 arg8 harg8 arg9 harg9 arg10 harg10 arg11 harg11 arg12 harg12 arg13 harg13 arg14 harg14 k0_pay24 s z (harg6.unread x4) (harg7.unread x5) X n).1)
    (fun k => ⟨Rect.unit (s := S256x8x256) (k0_off2 k) S32x8x256.size (k0_off2_inb k), fwdFactorTiles s xc x4 x5 k⟩) rfl
    (fun k => by
      show (pb_k0_t1 Variants.none c none i arg2 harg2 arg3 harg3 arg4 harg4 arg5 harg5 arg6 harg6 arg7 harg7 arg8 harg8 arg9 harg9 arg10 harg10 arg11 harg11 arg12 harg12 arg13 harg13 arg14 harg14 k0_pay24 s z (harg6.unread x4) (harg7.unread x5) X (k.val + 1)).1 = _
      rw [pb_k0_t1_succ, fwd_chunk_pieces c i arg2 harg2 arg3 harg3 arg4 harg4 arg5 harg5 arg6 harg6 arg7 harg7 arg8 harg8 arg9 harg9 arg10 harg10 arg11 harg11 arg12 harg12 arg13 harg13 arg14 harg14 s z xc x4 x5 X hX k])
    (fwdFactors s xc x4 x5) (fun k x => fwd_tiles_at (fwdFactor s xc x4 x5) k x) fwd_tiles_cover L

/-- After the chunk loop, the buffer of summands holds all tiles' summands. -/
theorem fwd_summands (c : Dev nD) (i : grid0.Coords)
    (arg2 : Memref sig .tc .vmem S1x2048x256 .f32) (harg2 : arg2.IsWhole)
    (arg3 : Memref sig .tc .vmem S1x2048x256 .f32) (harg3 : arg3.IsWhole)
    (arg4 : Memref sig .tc .vmem S4x256 .f32) (harg4 : arg4.IsWhole)
    (arg5 : Memref sig .tc .vmem S1x256 .f32) (harg5 : arg5.IsWhole)
    (arg6 : Memref sig .tc .vmem S1x256x1024 .bf16) (harg6 : arg6.IsWhole)
    (arg7 : Memref sig .tc .vmem S1x1x1024 .f32) (harg7 : arg7.IsWhole)
    (arg8 : Memref sig .tc .vmem S2x256 .f32) (harg8 : arg8.IsWhole)
    (arg9 : Memref sig .tc .vmem S1x2048x256 .bf16) (harg9 : arg9.IsWhole)
    (arg10 : Memref sig .tc .vmem S2048x256 .f32) (harg10 : arg10.IsWhole)
    (arg11 : Memref sig .tc .vmem S256x8x256 .f32) (harg11 : arg11.IsWhole)
    (arg12 : Memref sig .tc .vmem S256x8x256 .f32) (harg12 : arg12.IsWhole)
    (arg13 : Memref sig .tc .vmem S256x1x256 .f32) (harg13 : arg13.IsWhole)
    (arg14 : Memref sig .tc .vmem S256x8x256 .f32) (harg14 : arg14.IsWhole)
    (s : FVec Ideal S1x256 .f32) (z : FVec Ideal S256x8x256 .f32) (xc : Vec Ideal S2048x256 .f32) (x4 : Vec Ideal S1x256x1024 .bf16) (x5 : Vec Ideal S1x1x1024 .f32)
    (X : arg10.view.ty.Contents (Elt Ideal)) (hX : arg10.view.read (Elt Ideal) X = xc) (f : arg12.view.ty.Contents (Elt Ideal)) (L : List (View.Piece (Elt Ideal) S256x8x256 .f32)) :
    arg12.view.read (Elt Ideal) (arg12.view.writes (Elt Ideal) f ((pb_k0_t1 Variants.none c none i arg2 harg2 arg3 harg3 arg4 harg4 arg5 harg5 arg6 harg6 arg7 harg7 arg8 harg8 arg9 harg9 arg10 harg10 arg11 harg11 arg12 harg12 arg13 harg13 arg14 harg14 k0_pay24 s z (harg6.unread x4) (harg7.unread x5) X k0_t1_loop.trips).2 ++ L))
      = fwdSummands s xc x4 x5 :=
  read_blocks arg12.view f k0_t1_loop.trips (fun n => (pb_k0_t1 Variants.none c none i arg2 harg2 arg3 harg3 arg4 harg4 arg5 harg5 arg6 harg6 arg7 harg7 arg8 harg8 arg9 harg9 arg10 harg10 arg11 harg11 arg12 harg12 arg13 harg13 arg14 harg14 k0_pay24 s z (harg6.unread x4) (harg7.unread x5) X n).2)
    (fun k => ⟨Rect.unit (s := S256x8x256) (k0_off2 k) S32x8x256.size (k0_off2_inb k), fwdSummandTiles s xc x4 x5 k⟩) rfl
    (fun k => by
      show (pb_k0_t1 Variants.none c none i arg2 harg2 arg3 harg3 arg4 harg4 arg5 harg5 arg6 harg6 arg7 harg7 arg8 harg8 arg9 harg9 arg10 harg10 arg11 harg11 arg12 harg12 arg13 harg13 arg14 harg14 k0_pay24 s z (harg6.unread x4) (harg7.unread x5) X (k.val + 1)).2 = _
      rw [pb_k0_t1_succ, fwd_chunk_pieces c i arg2 harg2 arg3 harg3 arg4 harg4 arg5 harg5 arg6 harg6 arg7 harg7 arg8 harg8 arg9 harg9 arg10 harg10 arg11 harg11 arg12 harg12 arg13 harg13 arg14 harg14 s z xc x4 x5 X hX k])
    (fwdSummands s xc x4 x5) (fun k x => fwd_tiles_at (fwdSummand s xc x4 x5) k x) fwd_tiles_cover L

/-- A tile's last row in the forward direction, as the carry loop reads it. -/
def fwdLast (v : Vec Ideal S256x8x256 .f32) (k : Fin k0_t2_loop.trips) : Vec Ideal S1x1x256 .f32 :=
  fun j => v ((Rect.unit (s := S256x8x256) (k0_off4 k) S1x1x256.size (k0_off4_inb k)).toLoadRect.idx j)

/-- The carried row before each pass of the carry loop. -/
def fwdCarry (a u : Vec Ideal S256x8x256 .f32) : ℕ → FVec Ideal S1x256 .f32
  | 0 => k0_pay34
  | n + 1 => if h : n < k0_t2_loop.trips then k0_pay36 (fwdCarry a u n) (fwdLast u ⟨n, h⟩) (fwdLast a ⟨n, h⟩) else fwdCarry a u n

/-- One pass of the carry loop: the row it hands on, and the one it stores. -/
theorem fwd_carry_trip (c : Dev nD) (i : grid0.Coords)
    (arg2 : Memref sig .tc .vmem S1x2048x256 .f32) (harg2 : arg2.IsWhole)
    (arg3 : Memref sig .tc .vmem S1x2048x256 .f32) (harg3 : arg3.IsWhole)
    (arg4 : Memref sig .tc .vmem S4x256 .f32) (harg4 : arg4.IsWhole)
    (arg5 : Memref sig .tc .vmem S1x256 .f32) (harg5 : arg5.IsWhole)
    (arg6 : Memref sig .tc .vmem S1x256x1024 .bf16) (harg6 : arg6.IsWhole)
    (arg7 : Memref sig .tc .vmem S1x1x1024 .f32) (harg7 : arg7.IsWhole)
    (arg8 : Memref sig .tc .vmem S2x256 .f32) (harg8 : arg8.IsWhole)
    (arg9 : Memref sig .tc .vmem S1x2048x256 .bf16) (harg9 : arg9.IsWhole)
    (arg10 : Memref sig .tc .vmem S2048x256 .f32) (harg10 : arg10.IsWhole)
    (arg11 : Memref sig .tc .vmem S256x8x256 .f32) (harg11 : arg11.IsWhole)
    (arg12 : Memref sig .tc .vmem S256x8x256 .f32) (harg12 : arg12.IsWhole)
    (arg13 : Memref sig .tc .vmem S256x1x256 .f32) (harg13 : arg13.IsWhole)
    (arg14 : Memref sig .tc .vmem S256x8x256 .f32) (harg14 : arg14.IsWhole)
    (s : FVec Ideal S1x256 .f32) (z : FVec Ideal S256x8x256 .f32) (a u : Vec Ideal S256x8x256 .f32)
    (XA : arg11.view.ty.Contents (Elt Ideal)) (hA : arg11.view.read (Elt Ideal) XA = a) (XU : arg12.view.ty.Contents (Elt Ideal)) (hU : arg12.view.read (Elt Ideal) XU = u)
    (k : Fin k0_t2_loop.trips) (acc : FVec Ideal S1x256 .f32) :
    tripR_k0_t2 Variants.none c none i arg2 harg2 arg3 harg3 arg4 harg4 arg5 harg5 arg6 harg6 arg7 harg7 arg8 harg8 arg9 harg9 arg10 harg10 arg11 harg11 arg12 harg12 arg13 harg13 arg14 harg14 k0_pay24 s z XA XU k acc = k0_pay36 acc (fwdLast u k) (fwdLast a k)
      ∧ tripL_k0_t2 Variants.none c none i arg2 harg2 arg3 harg3 arg4 harg4 arg5 harg5 arg6 harg6 arg7 harg7 arg8 harg8 arg9 harg9 arg10 harg10 arg11 harg11 arg12 harg12 arg13 harg13 arg14 harg14 k0_pay24 s z XA XU k acc = [⟨Rect.unit (s := S256x1x256) (k0_off3 k) S1x1x256.size (k0_off3_inb k), k0_pay35 acc⟩] := by
  have h1 : View.readAt (Elt Ideal) arg11.view (Rect.unit (s := S256x8x256) (k0_off4 k) S1x1x256.size (k0_off4_inb k)).toLoadRect XA = fwdLast a k :=
    funext fun j => congrFun hA _
  have h2 : View.readAt (Elt Ideal) arg12.view (Rect.unit (s := S256x8x256) (k0_off4 k) S1x1x256.size (k0_off4_inb k)).toLoadRect XU = fwdLast u k :=
    funext fun j => congrFun hU _
  rw [← h1, ← h2]
  unfold tripR_k0_t2 tripL_k0_t2 trip_k0_t2
  exact ⟨rfl, rfl⟩

/-- The carried row before each pass. -/
theorem fwd_carried (c : Dev nD) (i : grid0.Coords)
    (arg2 : Memref sig .tc .vmem S1x2048x256 .f32) (harg2 : arg2.IsWhole)
    (arg3 : Memref sig .tc .vmem S1x2048x256 .f32) (harg3 : arg3.IsWhole)
    (arg4 : Memref sig .tc .vmem S4x256 .f32) (harg4 : arg4.IsWhole)
    (arg5 : Memref sig .tc .vmem S1x256 .f32) (harg5 : arg5.IsWhole)
    (arg6 : Memref sig .tc .vmem S1x256x1024 .bf16) (harg6 : arg6.IsWhole)
    (arg7 : Memref sig .tc .vmem S1x1x1024 .f32) (harg7 : arg7.IsWhole)
    (arg8 : Memref sig .tc .vmem S2x256 .f32) (harg8 : arg8.IsWhole)
    (arg9 : Memref sig .tc .vmem S1x2048x256 .bf16) (harg9 : arg9.IsWhole)
    (arg10 : Memref sig .tc .vmem S2048x256 .f32) (harg10 : arg10.IsWhole)
    (arg11 : Memref sig .tc .vmem S256x8x256 .f32) (harg11 : arg11.IsWhole)
    (arg12 : Memref sig .tc .vmem S256x8x256 .f32) (harg12 : arg12.IsWhole)
    (arg13 : Memref sig .tc .vmem S256x1x256 .f32) (harg13 : arg13.IsWhole)
    (arg14 : Memref sig .tc .vmem S256x8x256 .f32) (harg14 : arg14.IsWhole)
    (s : FVec Ideal S1x256 .f32) (z : FVec Ideal S256x8x256 .f32) (a u : Vec Ideal S256x8x256 .f32)
    (XA : arg11.view.ty.Contents (Elt Ideal)) (hA : arg11.view.read (Elt Ideal) XA = a) (XU : arg12.view.ty.Contents (Elt Ideal)) (hU : arg12.view.read (Elt Ideal) XU = u) :
    ∀ n, n ≤ k0_t2_loop.trips → (st_k0_t2 Variants.none c none i arg2 harg2 arg3 harg3 arg4 harg4 arg5 harg5 arg6 harg6 arg7 harg7 arg8 harg8 arg9 harg9 arg10 harg10 arg11 harg11 arg12 harg12 arg13 harg13 arg14 harg14 k0_pay24 s z XA XU k0_pay34 n).1 = fwdCarry a u n
  | 0, _ => rfl
  | n + 1, hn => by
    rw [show n + 1 = (⟨n, hn⟩ : Fin k0_t2_loop.trips).val + 1 from rfl, st_k0_t2_succ]
    show tripR_k0_t2 Variants.none c none i arg2 harg2 arg3 harg3 arg4 harg4 arg5 harg5 arg6 harg6 arg7 harg7 arg8 harg8 arg9 harg9 arg10 harg10 arg11 harg11 arg12 harg12 arg13 harg13 arg14 harg14 k0_pay24 s z XA XU ⟨n, hn⟩ _ = _
    rw [(fwd_carry_trip c i arg2 harg2 arg3 harg3 arg4 harg4 arg5 harg5 arg6 harg6 arg7 harg7 arg8 harg8 arg9 harg9 arg10 harg10 arg11 harg11 arg12 harg12 arg13 harg13 arg14 harg14 s z a u XA hA XU hU ⟨n, hn⟩ _).1, fwd_carried c i arg2 harg2 arg3 harg3 arg4 harg4 arg5 harg5 arg6 harg6 arg7 harg7 arg8 harg8 arg9 harg9 arg10 harg10 arg11 harg11 arg12 harg12 arg13 harg13 arg14 harg14 s z a u XA hA XU hU n (Nat.le_of_succ_le hn)]
    show _ = fwdCarry a u (n + 1)
    rw [fwdCarry]
    rw [dif_pos (show n < k0_t2_loop.trips from hn)]

/-- Which tile a pass of the carry loop stores. -/
theorem fwd_off_carry : ∀ k : Fin k0_t2_loop.trips, k0_off3 k = ![k.val, 0, 0] := by decide +kernel

/-- Which row a pass of the carry loop reads. -/
theorem fwd_off_last : ∀ k : Fin k0_t2_loop.trips, k0_off4 k = ![k.val, 7, 0] := by decide +kernel

/-- All tiles' carried rows, as one function of the tile and the lane. -/
def fwdCarries (a u : Vec Ideal S256x8x256 .f32) (y : S256x1x256.Idx) : Elt Ideal .f32 := fwdCarry a u ((y 0).val) (ix2 0 (y 2))

/-- After the carry loop, the buffer of carried rows holds each tile's. -/
theorem fwd_carries (c : Dev nD) (i : grid0.Coords)
    (arg2 : Memref sig .tc .vmem S1x2048x256 .f32) (harg2 : arg2.IsWhole)
    (arg3 : Memref sig .tc .vmem S1x2048x256 .f32) (harg3 : arg3.IsWhole)
    (arg4 : Memref sig .tc .vmem S4x256 .f32) (harg4 : arg4.IsWhole)
    (arg5 : Memref sig .tc .vmem S1x256 .f32) (harg5 : arg5.IsWhole)
    (arg6 : Memref sig .tc .vmem S1x256x1024 .bf16) (harg6 : arg6.IsWhole)
    (arg7 : Memref sig .tc .vmem S1x1x1024 .f32) (harg7 : arg7.IsWhole)
    (arg8 : Memref sig .tc .vmem S2x256 .f32) (harg8 : arg8.IsWhole)
    (arg9 : Memref sig .tc .vmem S1x2048x256 .bf16) (harg9 : arg9.IsWhole)
    (arg10 : Memref sig .tc .vmem S2048x256 .f32) (harg10 : arg10.IsWhole)
    (arg11 : Memref sig .tc .vmem S256x8x256 .f32) (harg11 : arg11.IsWhole)
    (arg12 : Memref sig .tc .vmem S256x8x256 .f32) (harg12 : arg12.IsWhole)
    (arg13 : Memref sig .tc .vmem S256x1x256 .f32) (harg13 : arg13.IsWhole)
    (arg14 : Memref sig .tc .vmem S256x8x256 .f32) (harg14 : arg14.IsWhole)
    (s : FVec Ideal S1x256 .f32) (z : FVec Ideal S256x8x256 .f32) (a u : Vec Ideal S256x8x256 .f32)
    (XA : arg11.view.ty.Contents (Elt Ideal)) (hA : arg11.view.read (Elt Ideal) XA = a) (XU : arg12.view.ty.Contents (Elt Ideal)) (hU : arg12.view.read (Elt Ideal) XU = u)
    (f : arg13.view.ty.Contents (Elt Ideal)) (L : List (View.Piece (Elt Ideal) S256x1x256 .f32)) :
    arg13.view.read (Elt Ideal) (arg13.view.writes (Elt Ideal) f ((st_k0_t2 Variants.none c none i arg2 harg2 arg3 harg3 arg4 harg4 arg5 harg5 arg6 harg6 arg7 harg7 arg8 harg8 arg9 harg9 arg10 harg10 arg11 harg11 arg12 harg12 arg13 harg13 arg14 harg14 k0_pay24 s z XA XU k0_pay34 k0_t2_loop.trips).2 ++ L))
      = fwdCarries a u := by
  refine read_blocks arg13.view f k0_t2_loop.trips (fun n => (st_k0_t2 Variants.none c none i arg2 harg2 arg3 harg3 arg4 harg4 arg5 harg5 arg6 harg6 arg7 harg7 arg8 harg8 arg9 harg9 arg10 harg10 arg11 harg11 arg12 harg12 arg13 harg13 arg14 harg14 k0_pay24 s z XA XU k0_pay34 n).2)
    (fun k => ⟨Rect.unit (s := S256x1x256) (k0_off3 k) S1x1x256.size (k0_off3_inb k), k0_pay35 (fwdCarry a u k.val)⟩) rfl
    (fun k => ?_) (fwdCarries a u) (fun k x => ?_) (fun y => ?_) L
  · show (st_k0_t2 Variants.none c none i arg2 harg2 arg3 harg3 arg4 harg4 arg5 harg5 arg6 harg6 arg7 harg7 arg8 harg8 arg9 harg9 arg10 harg10 arg11 harg11 arg12 harg12 arg13 harg13 arg14 harg14 k0_pay24 s z XA XU k0_pay34 (k.val + 1)).2 = _
    rw [st_k0_t2_succ]
    show tripL_k0_t2 Variants.none c none i arg2 harg2 arg3 harg3 arg4 harg4 arg5 harg5 arg6 harg6 arg7 harg7 arg8 harg8 arg9 harg9 arg10 harg10 arg11 harg11 arg12 harg12 arg13 harg13 arg14 harg14 k0_pay24 s z XA XU k _ ++ _ = _
    rw [(fwd_carry_trip c i arg2 harg2 arg3 harg3 arg4 harg4 arg5 harg5 arg6 harg6 arg7 harg7 arg8 harg8 arg9 harg9 arg10 harg10 arg11 harg11 arg12 harg12 arg13 harg13 arg14 harg14 s z a u XA hA XU hU k _).2, fwd_carried c i arg2 harg2 arg3 harg3 arg4 harg4 arg5 harg5 arg6 harg6 arg7 harg7 arg8 harg8 arg9 harg9 arg10 harg10 arg11 harg11 arg12 harg12 arg13 harg13 arg14 harg14 s z a u XA hA XU hU k.val (Nat.le_of_lt k.isLt)]
  · have e0 : ((Rect.unit (s := S256x1x256) (k0_off3 k) S1x1x256.size (k0_off3_inb k)).emb x 0).val = k.val + (x 0).val :=
      (ValueKit.rect_emb_unit_val (s := S256x1x256) (k0_off3 k) S1x1x256.size (k0_off3_inb k) x 0).trans (congrArg (· + (x 0).val) (congrFun (fwd_off_carry k) 0))
    have e2 : ((Rect.unit (s := S256x1x256) (k0_off3 k) S1x1x256.size (k0_off3_inb k)).emb x 2).val = (x 2).val :=
      (ValueKit.rect_emb_unit_val (s := S256x1x256) (k0_off3 k) S1x1x256.size (k0_off3_inb k) x 2).trans ((congrArg (· + (x 2).val) (congrFun (fwd_off_carry k) 2)).trans (Nat.zero_add _))
    have hx0 : (x 0).val < 1 := (x 0).isLt
    have hk : k.val < 256 := k.isLt
    have hy : x = ix3 (x 0) (x 1) (x 2) := by funext a; match a with | ⟨0, _⟩ => rfl | ⟨1, _⟩ => rfl | ⟨2, _⟩ => rfl
    show k0_pay35 (fwdCarry a u k.val) x = fwdCarry a u (((Rect.unit (s := S256x1x256) (k0_off3 k) S1x1x256.size (k0_off3_inb k)).emb x 0).val) (ix2 0 _)
    rw [show ((Rect.unit (s := S256x1x256) (k0_off3 k) S1x1x256.size (k0_off3_inb k)).emb x 0).val = k.val by omega]
    have p : k0_pay35 (fwdCarry a u k.val) (ix3 (x 0) (x 1) (x 2)) = fwdCarry a u k.val (ix2 0 (x 2)) := by
      unfold k0_pay35
      pointwise
    exact (congrArg _ hy).trans (p.trans (congrArg (fun l => fwdCarry a u k.val (ix2 0 l)) (Fin.ext e2.symm)))
  · have hy : (y 0).val < 256 := (y 0).isLt
    have hy1 : (y 1).val < 1 := (y 1).isLt
    have hy2 : (y 2).val < 256 := (y 2).isLt
    let k : Fin k0_t2_loop.trips := (⟨(y 0).val, by omega⟩ : Fin 256)
    refine ⟨k, ?_⟩
    show y ∈ (Rect.unit (s := S256x1x256) (k0_off3 k) S1x1x256.size (k0_off3_inb k)).set
    refine Rect.mem_set_unit.mpr ?_
    intro a
    rw [fwd_off_carry k]
    match a with
    | ⟨0, _⟩ => show ((y 0).val) ≤ (y 0).val ∧ (y 0).val < ((y 0).val) + 1; omega
    | ⟨1, _⟩ => show 0 ≤ (y 1).val ∧ (y 1).val < 0 + 1; omega
    | ⟨2, _⟩ => show 0 ≤ (y 2).val ∧ (y 2).val < 0 + 256; omega

end Cert.LruIdeal.Value
end
-- ==== Proof.LruBackward.lean ====
module
public import proofs.«01_k».proof.Proof.Gen.LruIdeal.Frame
public import proofs.«01_k».proof.Proof.LruLoop
public import Idealize.ShloMosaic.Lib.Pipeline.ValueKit
public import Idealize.ShloMosaic.Lib.WholeRead
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)

namespace Cert.LruIdeal.Value
open Cert.LruIdeal Cert.LruIdeal.Gen

/-- A chunk of the convolved rows, for the backward direction. -/
def backRows (xc : Vec Ideal S2048x256 .f32) (k : Fin k0_t3_loop.trips) : Vec Ideal S256x256 .f32 :=
  fun j => xc ((Rect.unit (s := S2048x256) (k0_off5 k) S256x256.size (k0_off5_inb k)).toLoadRect.idx j)

/-- The backward direction's weights. -/
def backWeights (x4 : Vec Ideal S1x256x1024 .bf16) : Vec Ideal S1x256x512 .bf16 :=
  fun j => x4 ((Rect.unit (s := S1x256x1024) ![0, 0, 512] S1x256x512.size inb_S1x256x1024_S1x256x512_0_0_512).toLoadRect.idx j)

/-- The backward direction's biases. -/
def backBias (x5 : Vec Ideal S1x1x1024 .f32) : Vec Ideal S1x1x512 .f32 :=
  fun j => x5 ((Rect.unit (s := S1x1x1024) ![0, 0, 512] S1x1x512.size inb_S1x1x1024_S1x1x512_0_0_512).toLoadRect.idx j)

/-- A chunk's factors after the doublings. -/
def backFactor (s : FVec Ideal S1x256 .f32) (xc : Vec Ideal S2048x256 .f32) (x4 : Vec Ideal S1x256x1024 .bf16) (x5 : Vec Ideal S1x1x1024 .f32) (k : Fin k0_t3_loop.trips) : FVec Ideal S256x256 .f32 :=
  backA (decay s (backRows xc k) (backWeights x4) (backBias x5))

/-- A chunk's summands after the doublings. -/
def backSummand (s : FVec Ideal S1x256 .f32) (xc : Vec Ideal S2048x256 .f32) (x4 : Vec Ideal S1x256x1024 .bf16) (x5 : Vec Ideal S1x1x1024 .f32) (k : Fin k0_t3_loop.trips) : FVec Ideal S256x256 .f32 :=
  backU (decay s (backRows xc k) (backWeights x4) (backBias x5)) (drive s (backRows xc k) (backWeights x4) (backBias x5))

/-- A chunk's factors, tile by tile. -/
def backFactorTiles (s : FVec Ideal S1x256 .f32) (xc : Vec Ideal S2048x256 .f32) (x4 : Vec Ideal S1x256x1024 .bf16) (x5 : Vec Ideal S1x1x1024 .f32) (k : Fin k0_t3_loop.trips) : FVec Ideal S32x8x256 .f32 :=
  shapeCast S32x8x256 (shapeCast S32x8x256 (backFactor s xc x4 x5 k) shapeCasts_S256x256_S32x8x256) shapeCasts_S32x8x256_S32x8x256

/-- A chunk's summands, tile by tile. -/
def backSummandTiles (s : FVec Ideal S1x256 .f32) (xc : Vec Ideal S2048x256 .f32) (x4 : Vec Ideal S1x256x1024 .bf16) (x5 : Vec Ideal S1x1x1024 .f32) (k : Fin k0_t3_loop.trips) : FVec Ideal S32x8x256 .f32 :=
  shapeCast S32x8x256 (shapeCast S32x8x256 (backSummand s xc x4 x5 k) shapeCasts_S256x256_S32x8x256) shapeCasts_S32x8x256_S32x8x256

/-- The factors the first loop stores are the doubled decays. -/
theorem back_payload_factor (s : FVec Ideal S1x256 .f32) (xs : Vec Ideal S256x256 .f32) (w : Vec Ideal S1x256x512 .bf16) (b : Vec Ideal S1x1x512 .f32) :
    k0_pay45 k0_pay24 (k0_pay17 k0_pay24 s xs w b) (k0_pay18 k0_pay24 s xs w b) (k0_pay19 k0_pay24)
      = shapeCast S32x8x256 (shapeCast S32x8x256 (backA (decay s xs w b)) shapeCasts_S256x256_S32x8x256) shapeCasts_S32x8x256_S32x8x256 := rfl

/-- The summands the first loop stores are the doubled inputs. -/
theorem back_payload_summand (s : FVec Ideal S1x256 .f32) (xs : Vec Ideal S256x256 .f32) (w : Vec Ideal S1x256x512 .bf16) (b : Vec Ideal S1x1x512 .f32) :
    k0_pay46 k0_pay24 (k0_pay16 k0_pay24 s xs w b) (k0_pay17 k0_pay24 s xs w b) (k0_pay18 k0_pay24 s xs w b) (k0_pay19 k0_pay24) (k0_pay20 k0_pay24 s xs w b)
      = shapeCast S32x8x256 (shapeCast S32x8x256 (backU (decay s xs w b) (drive s xs w b)) shapeCasts_S256x256_S32x8x256) shapeCasts_S32x8x256_S32x8x256 := rfl

/-- What one pass of the backward chunk loop stores: the chunk's factors and summands. -/
theorem back_chunk_pieces (c : Dev nD) (i : grid0.Coords)
    (arg2 : Memref sig .tc .vmem S1x2048x256 .f32) (harg2 : arg2.IsWhole)
    (arg3 : Memref sig .tc .vmem S1x2048x256 .f32) (harg3 : arg3.IsWhole)
    (arg4 : Memref sig .tc .vmem S4x256 .f32) (harg4 : arg4.IsWhole)
    (arg5 : Memref sig .tc .vmem S1x256 .f32) (harg5 : arg5.IsWhole)
    (arg6 : Memref sig .tc .vmem S1x256x1024 .bf16) (harg6 : arg6.IsWhole)
    (arg7 : Memref sig .tc .vmem S1x1x1024 .f32) (harg7 : arg7.IsWhole)
    (arg8 : Memref sig .tc .vmem S2x256 .f32) (harg8 : arg8.IsWhole)
    (arg9 : Memref sig .tc .vmem S1x2048x256 .bf16) (harg9 : arg9.IsWhole)
    (arg10 : Memref sig .tc .vmem S2048x256 .f32) (harg10 : arg10.IsWhole)
    (arg11 : Memref sig .tc .vmem S256x8x256 .f32) (harg11 : arg11.IsWhole)
    (arg12 : Memref sig .tc .vmem S256x8x256 .f32) (harg12 : arg12.IsWhole)
    (arg13 : Memref sig .tc .vmem S256x1x256 .f32) (harg13 : arg13.IsWhole)
    (arg14 : Memref sig .tc .vmem S256x8x256 .f32) (harg14 : arg14.IsWhole)
    (l : Vec Ideal S1x256 .f32) (l1 l2 : FVec Ideal S1x256 .f32) (xc : Vec Ideal S2048x256 .f32) (x4 : Vec Ideal S1x256x1024 .bf16) (x5 : Vec Ideal S1x1x1024 .f32)
    (X : arg10.view.ty.Contents (Elt Ideal)) (hX : arg10.view.read (Elt Ideal) X = xc) (k : Fin k0_t3_loop.trips) :
    tripL_k0_t3 Variants.none c none i arg2 harg2 arg3 harg3 arg4 harg4 arg5 harg5 arg6 harg6 arg7 harg7 arg8 harg8 arg9 harg9 arg10 harg10 arg11 harg11 arg12 harg12 arg13 harg13 arg14 harg14 k0_pay24 l l1 l2 (harg6.unread x4) (harg7.unread x5) X k
      = ([⟨Rect.unit (s := S256x8x256) (k0_off6 k) S32x8x256.size (k0_off6_inb k), backFactorTiles (k0_pay40 l l1 l2) xc x4 x5 k⟩],
         [⟨Rect.unit (s := S256x8x256) (k0_off6 k) S32x8x256.size (k0_off6_inb k), backSummandTiles (k0_pay40 l l1 l2) xc x4 x5 k⟩]) := by
  have h1 : View.readAt (Elt Ideal) arg10.view (Rect.unit (s := S2048x256) (k0_off5 k) S256x256.size (k0_off5_inb k)).toLoadRect X = backRows xc k :=
    funext fun j => congrFun hX _
  have h2 : View.readAt (Elt Ideal) arg6.view (Rect.unit (s := S1x256x1024) ![0, 0, 512] S1x256x512.size inb_S1x256x1024_S1x256x512_0_0_512).toLoadRect (harg6.unread x4) = backWeights x4 :=
    funext fun j => harg6.readAt_unread x4 _ j
  have h3 : View.readAt (Elt Ideal) arg7.view (Rect.unit (s := S1x1x1024) ![0, 0, 512] S1x1x512.size inb_S1x1x1024_S1x1x512_0_0_512).toLoadRect (harg7.unread x5) = backBias x5 :=
    funext fun j => harg7.readAt_unread x5 _ j
  unfold backFactorTiles backSummandTiles backFactor backSummand
  rw [← back_payload_factor, ← back_payload_summand, ← h1, ← h2, ← h3]
  unfold tripL_k0_t3 trip_k0_t3
  rfl

/-- Which tiles a pass of the chunk loop stores. -/
theorem back_off_out : ∀ k : Fin k0_t3_loop.trips, k0_off6 k = ![32 * k.val, 0, 0] := by decide +kernel

/-- Which rows a pass of the chunk loop reads. -/
theorem back_off_rows : ∀ k : Fin k0_t3_loop.trips, k0_off5 k = ![256 * k.val, 0] := by decide +kernel

/-- All tiles' factors, as one function of the tile, the row and the lane. -/
def backFactors (s : FVec Ideal S1x256 .f32) (xc : Vec Ideal S2048x256 .f32) (x4 : Vec Ideal S1x256x1024 .bf16) (x5 : Vec Ideal S1x1x1024 .f32) (y : S256x8x256.Idx) : Elt Ideal .f32 :=
  cell (backFactor s xc x4 x5 (⟨(y 0).val / 32, (Nat.div_lt_iff_lt_mul (by decide)).mpr (y 0).isLt⟩ : Fin 8)) (8 * ((y 0).val % 32) + (y 1).val) (y 2)

/-- All tiles' summands, as one function of the tile, the row and the lane. -/
def backSummands (s : FVec Ideal S1x256 .f32) (xc : Vec Ideal S2048x256 .f32) (x4 : Vec Ideal S1x256x1024 .bf16) (x5 : Vec Ideal S1x1x1024 .f32) (y : S256x8x256.Idx) : Elt Ideal .f32 :=
  cell (backSummand s xc x4 x5 (⟨(y 0).val / 32, (Nat.div_lt_iff_lt_mul (by decide)).mpr (y 0).isLt⟩ : Fin 8)) (8 * ((y 0).val % 32) + (y 1).val) (y 2)

/-- A pass's tiles are where its number says. -/
theorem back_tiles_at (v : Fin 8 → FVec Ideal S256x256 .f32) (k : Fin k0_t3_loop.trips) (x : S32x8x256.Idx) :
    shapeCast S32x8x256 (shapeCast S32x8x256 (v k) shapeCasts_S256x256_S32x8x256) shapeCasts_S32x8x256_S32x8x256 x
      = (fun y : S256x8x256.Idx => cell (v (⟨(y 0).val / 32, (Nat.div_lt_iff_lt_mul (by decide)).mpr (y 0).isLt⟩ : Fin 8)) (8 * ((y 0).val % 32) + (y 1).val) (y 2))
          ((Rect.unit (s := S256x8x256) (k0_off6 k) S32x8x256.size (k0_off6_inb k)).emb x) := by
  have hx : (x 0).val < 32 := (x 0).isLt
  have e0 : ((Rect.unit (s := S256x8x256) (k0_off6 k) S32x8x256.size (k0_off6_inb k)).emb x 0).val = 32 * k.val + (x 0).val :=
    (ValueKit.rect_emb_unit_val (s := S256x8x256) (k0_off6 k) S32x8x256.size (k0_off6_inb k) x 0).trans (congrArg (· + (x 0).val) (congrFun (back_off_out k) 0))
  have e1 : ((Rect.unit (s := S256x8x256) (k0_off6 k) S32x8x256.size (k0_off6_inb k)).emb x 1).val = (x 1).val :=
    (ValueKit.rect_emb_unit_val (s := S256x8x256) (k0_off6 k) S32x8x256.size (k0_off6_inb k) x 1).trans ((congrArg (· + (x 1).val) (congrFun (back_off_out k) 1)).trans (Nat.zero_add _))
  have e2 : ((Rect.unit (s := S256x8x256) (k0_off6 k) S32x8x256.size (k0_off6_inb k)).emb x 2).val = (x 2).val :=
    (ValueKit.rect_emb_unit_val (s := S256x8x256) (k0_off6 k) S32x8x256.size (k0_off6_inb k) x 2).trans ((congrArg (· + (x 2).val) (congrFun (back_off_out k) 2)).trans (Nat.zero_add _))
  have q : (⟨((Rect.unit (s := S256x8x256) (k0_off6 k) S32x8x256.size (k0_off6_inb k)).emb x 0).val / 32, (Nat.div_lt_iff_lt_mul (by decide)).mpr ((Rect.unit (s := S256x8x256) (k0_off6 k) S32x8x256.size (k0_off6_inb k)).emb x 0).isLt⟩ : Fin 8) = k :=
    Fin.ext (by show _ / 32 = k.val; omega)
  have hy : x = ix3 (x 0) (x 1) (x 2) := by funext a; match a with | ⟨0, _⟩ => rfl | ⟨1, _⟩ => rfl | ⟨2, _⟩ => rfl
  show _ = cell (v _) (8 * (_ % 32) + _) _
  rw [q, e1, e0, show (32 * k.val + (x 0).val) % 32 = (x 0).val by omega]
  refine (congrArg _ hy).trans ((tiles_apply (v k) (x 0) (x 1) (x 2)).trans (congrArg (cell (v k) _) (Fin.ext e2.symm)))

/-- Every tile is stored by a pass. -/
theorem back_tiles_cover (y : S256x8x256.Idx) : ∃ k : Fin k0_t3_loop.trips, y ∈ (Rect.unit (s := S256x8x256) (k0_off6 k) S32x8x256.size (k0_off6_inb k)).set := by
  have hy : (y 0).val < 256 := (y 0).isLt
  have hy1 : (y 1).val < 8 := (y 1).isLt
  have hy2 : (y 2).val < 256 := (y 2).isLt
  let k : Fin k0_t3_loop.trips := (⟨(y 0).val / 32, by omega⟩ : Fin 8)
  refine ⟨k, Rect.mem_set_unit.mpr ?_⟩
  intro a
  rw [back_off_out k]
  match a with
  | ⟨0, _⟩ => show 32 * ((y 0).val / 32) ≤ (y 0).val ∧ (y 0).val < 32 * ((y 0).val / 32) + 32; omega
  | ⟨1, _⟩ => show 0 ≤ (y 1).val ∧ (y 1).val < 0 + 8; omega
  | ⟨2, _⟩ => show 0 ≤ (y 2).val ∧ (y 2).val < 0 + 256; omega

/-- After the chunk loop, the buffer of factors holds all tiles' factors. -/
theorem back_factors (c : Dev nD) (i : grid0.Coords)
    (arg2 : Memref sig .tc .vmem S1x2048x256 .f32) (harg2 : arg2.IsWhole)
    (arg3 : Memref sig .tc .vmem S1x2048x256 .f32) (harg3 : arg3.IsWhole)
    (arg4 : Memref sig .tc .vmem S4x256 .f32) (harg4 : arg4.IsWhole)
    (arg5 : Memref sig .tc .vmem S1x256 .f32) (harg5 : arg5.IsWhole)
    (arg6 : Memref sig .tc .vmem S1x256x1024 .bf16) (harg6 : arg6.IsWhole)
    (arg7 : Memref sig .tc .vmem S1x1x1024 .f32) (harg7 : arg7.IsWhole)
    (arg8 : Memref sig .tc .vmem S2x256 .f32) (harg8 : arg8.IsWhole)
    (arg9 : Memref sig .tc .vmem S1x2048x256 .bf16) (harg9 : arg9.IsWhole)
    (arg10 : Memref sig .tc .vmem S2048x256 .f32) (harg10 : arg10.IsWhole)
    (arg11 : Memref sig .tc .vmem S256x8x256 .f32) (harg11 : arg11.IsWhole)
    (arg12 : Memref sig .tc .vmem S256x8x256 .f32) (harg12 : arg12.IsWhole)
    (arg13 : Memref sig .tc .vmem S256x1x256 .f32) (harg13 : arg13.IsWhole)
    (arg14 : Memref sig .tc .vmem S256x8x256 .f32) (harg14 : arg14.IsWhole)
    (l : Vec Ideal S1x256 .f32) (l1 l2 : FVec Ideal S1x256 .f32) (xc : Vec Ideal S2048x256 .f32) (x4 : Vec Ideal S1x256x1024 .bf16) (x5 : Vec Ideal S1x1x1024 .f32)
    (X : arg10.view.ty.Contents (Elt Ideal)) (hX : arg10.view.read (Elt Ideal) X = xc) (f : arg11.view.ty.Contents (Elt Ideal)) (L : List (View.Piece (Elt Ideal) S256x8x256 .f32)) :
    arg11.view.read (Elt Ideal) (arg11.view.writes (Elt Ideal) f ((pb_k0_t3 Variants.none c none i arg2 harg2 arg3 harg3 arg4 harg4 arg5 harg5 arg6 harg6 arg7 harg7 arg8 harg8 arg9 harg9 arg10 harg10 arg11 harg11 arg12 harg12 arg13 harg13 arg14 harg14 k0_pay24 l l1 l2 (harg6.unread x4) (harg7.unread x5) X k0_t3_loop.trips).1 ++ L))
      = backFactors (k0_pay40 l l1 l2) xc x4 x5 :=
  read_blocks arg11.view f k0_t3_loop.trips (fun n => (pb_k0_t3 Variants.none c none i arg2 harg2 arg3 harg3 arg4 harg4 arg5 harg5 arg6 harg6 arg7 harg7 arg8 harg8 arg9 harg9 arg10 harg10 arg11 harg11 arg12 harg12 arg13 harg13 arg14 harg14 k0_pay24 l l1 l2 (harg6.unread x4) (harg7.unread x5) X n).1)
    (fun k => ⟨Rect.unit (s := S256x8x256) (k0_off6 k) S32x8x256.size (k0_off6_inb k), backFactorTiles (k0_pay40 l l1 l2) xc x4 x5 k⟩) rfl
    (fun k => by
      show (pb_k0_t3 Variants.none c none i arg2 harg2 arg3 harg3 arg4 harg4 arg5 harg5 arg6 harg6 arg7 harg7 arg8 harg8 arg9 harg9 arg10 harg10 arg11 harg11 arg12 harg12 arg13 harg13 arg14 harg14 k0_pay24 l l1 l2 (harg6.unread x4) (harg7.unread x5) X (k.val + 1)).1 = _
      rw [pb_k0_t3_succ, back_chunk_pieces c i arg2 harg2 arg3 harg3 arg4 harg4 arg5 harg5 arg6 harg6 arg7 harg7 arg8 harg8 arg9 harg9 arg10 harg10 arg11 harg11 arg12 harg12 arg13 harg13 arg14 harg14 l l1 l2 xc x4 x5 X hX k])
    (backFactors (k0_pay40 l l1 l2) xc x4 x5) (fun k x => back_tiles_at (backFactor (k0_pay40 l l1 l2) xc x4 x5) k x) back_tiles_cover L

/-- After the chunk loop, the buffer of summands holds all tiles' summands. -/
theorem back_summands (c : Dev nD) (i : grid0.Coords)
    (arg2 : Memref sig .tc .vmem S1x2048x256 .f32) (harg2 : arg2.IsWhole)
    (arg3 : Memref sig .tc .vmem S1x2048x256 .f32) (harg3 : arg3.IsWhole)
    (arg4 : Memref sig .tc .vmem S4x256 .f32) (harg4 : arg4.IsWhole)
    (arg5 : Memref sig .tc .vmem S1x256 .f32) (harg5 : arg5.IsWhole)
    (arg6 : Memref sig .tc .vmem S1x256x1024 .bf16) (harg6 : arg6.IsWhole)
    (arg7 : Memref sig .tc .vmem S1x1x1024 .f32) (harg7 : arg7.IsWhole)
    (arg8 : Memref sig .tc .vmem S2x256 .f32) (harg8 : arg8.IsWhole)
    (arg9 : Memref sig .tc .vmem S1x2048x256 .bf16) (harg9 : arg9.IsWhole)
    (arg10 : Memref sig .tc .vmem S2048x256 .f32) (harg10 : arg10.IsWhole)
    (arg11 : Memref sig .tc .vmem S256x8x256 .f32) (harg11 : arg11.IsWhole)
    (arg12 : Memref sig .tc .vmem S256x8x256 .f32) (harg12 : arg12.IsWhole)
    (arg13 : Memref sig .tc .vmem S256x1x256 .f32) (harg13 : arg13.IsWhole)
    (arg14 : Memref sig .tc .vmem S256x8x256 .f32) (harg14 : arg14.IsWhole)
    (l : Vec Ideal S1x256 .f32) (l1 l2 : FVec Ideal S1x256 .f32) (xc : Vec Ideal S2048x256 .f32) (x4 : Vec Ideal S1x256x1024 .bf16) (x5 : Vec Ideal S1x1x1024 .f32)
    (X : arg10.view.ty.Contents (Elt Ideal)) (hX : arg10.view.read (Elt Ideal) X = xc) (f : arg12.view.ty.Contents (Elt Ideal)) (L : List (View.Piece (Elt Ideal) S256x8x256 .f32)) :
    arg12.view.read (Elt Ideal) (arg12.view.writes (Elt Ideal) f ((pb_k0_t3 Variants.none c none i arg2 harg2 arg3 harg3 arg4 harg4 arg5 harg5 arg6 harg6 arg7 harg7 arg8 harg8 arg9 harg9 arg10 harg10 arg11 harg11 arg12 harg12 arg13 harg13 arg14 harg14 k0_pay24 l l1 l2 (harg6.unread x4) (harg7.unread x5) X k0_t3_loop.trips).2 ++ L))
      = backSummands (k0_pay40 l l1 l2) xc x4 x5 :=
  read_blocks arg12.view f k0_t3_loop.trips (fun n => (pb_k0_t3 Variants.none c none i arg2 harg2 arg3 harg3 arg4 harg4 arg5 harg5 arg6 harg6 arg7 harg7 arg8 harg8 arg9 harg9 arg10 harg10 arg11 harg11 arg12 harg12 arg13 harg13 arg14 harg14 k0_pay24 l l1 l2 (harg6.unread x4) (harg7.unread x5) X n).2)
    (fun k => ⟨Rect.unit (s := S256x8x256) (k0_off6 k) S32x8x256.size (k0_off6_inb k), backSummandTiles (k0_pay40 l l1 l2) xc x4 x5 k⟩) rfl
    (fun k => by
      show (pb_k0_t3 Variants.none c none i arg2 harg2 arg3 harg3 arg4 harg4 arg5 harg5 arg6 harg6 arg7 harg7 arg8 harg8 arg9 harg9 arg10 harg10 arg11 harg11 arg12 harg12 arg13 harg13 arg14 harg14 k0_pay24 l l1 l2 (harg6.unread x4) (harg7.unread x5) X (k.val + 1)).2 = _
      rw [pb_k0_t3_succ, back_chunk_pieces c i arg2 harg2 arg3 harg3 arg4 harg4 arg5 harg5 arg6 harg6 arg7 harg7 arg8 harg8 arg9 harg9 arg10 harg10 arg11 harg11 arg12 harg12 arg13 harg13 arg14 harg14 l l1 l2 xc x4 x5 X hX k])
    (backSummands (k0_pay40 l l1 l2) xc x4 x5) (fun k x => back_tiles_at (backSummand (k0_pay40 l l1 l2) xc x4 x5) k x) back_tiles_cover L

/-- A tile's last row in the backward direction, as the carry loop reads it. -/
def backLast (v : Vec Ideal S256x8x256 .f32) (k : Fin k0_t4_loop.trips) : Vec Ideal S1x1x256 .f32 :=
  fun j => v ((Rect.unit (s := S256x8x256) (k0_off8 k) S1x1x256.size (k0_off8_inb k)).toLoadRect.idx j)

/-- The carried row before each pass of the carry loop. -/
def backCarry (a u : Vec Ideal S256x8x256 .f32) : ℕ → FVec Ideal S1x256 .f32
  | 0 => k0_pay48
  | n + 1 => if h : n < k0_t4_loop.trips then k0_pay50 (backCarry a u n) (backLast u ⟨n, h⟩) (backLast a ⟨n, h⟩) else backCarry a u n

/-- One pass of the carry loop: the row it hands on, and the one it stores. -/
theorem back_carry_trip (c : Dev nD) (i : grid0.Coords)
    (arg2 : Memref sig .tc .vmem S1x2048x256 .f32) (harg2 : arg2.IsWhole)
    (arg3 : Memref sig .tc .vmem S1x2048x256 .f32) (harg3 : arg3.IsWhole)
    (arg4 : Memref sig .tc .vmem S4x256 .f32) (harg4 : arg4.IsWhole)
    (arg5 : Memref sig .tc .vmem S1x256 .f32) (harg5 : arg5.IsWhole)
    (arg6 : Memref sig .tc .vmem S1x256x1024 .bf16) (harg6 : arg6.IsWhole)
    (arg7 : Memref sig .tc .vmem S1x1x1024 .f32) (harg7 : arg7.IsWhole)
    (arg8 : Memref sig .tc .vmem S2x256 .f32) (harg8 : arg8.IsWhole)
    (arg9 : Memref sig .tc .vmem S1x2048x256 .bf16) (harg9 : arg9.IsWhole)
    (arg10 : Memref sig .tc .vmem S2048x256 .f32) (harg10 : arg10.IsWhole)
    (arg11 : Memref sig .tc .vmem S256x8x256 .f32) (harg11 : arg11.IsWhole)
    (arg12 : Memref sig .tc .vmem S256x8x256 .f32) (harg12 : arg12.IsWhole)
    (arg13 : Memref sig .tc .vmem S256x1x256 .f32) (harg13 : arg13.IsWhole)
    (arg14 : Memref sig .tc .vmem S256x8x256 .f32) (harg14 : arg14.IsWhole)
    (l : Vec Ideal S1x256 .f32) (l1 l2 : FVec Ideal S1x256 .f32) (a u : Vec Ideal S256x8x256 .f32)
    (XA : arg11.view.ty.Contents (Elt Ideal)) (hA : arg11.view.read (Elt Ideal) XA = a) (XU : arg12.view.ty.Contents (Elt Ideal)) (hU : arg12.view.read (Elt Ideal) XU = u)
    (k : Fin k0_t4_loop.trips) (acc : FVec Ideal S1x256 .f32) :
    tripR_k0_t4 Variants.none c none i arg2 harg2 arg3 harg3 arg4 harg4 arg5 harg5 arg6 harg6 arg7 harg7 arg8 harg8 arg9 harg9 arg10 harg10 arg11 harg11 arg12 harg12 arg13 harg13 arg14 harg14 k0_pay24 l l1 l2 XA XU k acc = k0_pay50 acc (backLast u k) (backLast a k)
      ∧ tripL_k0_t4 Variants.none c none i arg2 harg2 arg3 harg3 arg4 harg4 arg5 harg5 arg6 harg6 arg7 harg7 arg8 harg8 arg9 harg9 arg10 harg10 arg11 harg11 arg12 harg12 arg13 harg13 arg14 harg14 k0_pay24 l l1 l2 XA XU k acc = [⟨Rect.unit (s := S256x1x256) (k0_off7 k) S1x1x256.size (k0_off7_inb k), k0_pay49 acc⟩] := by
  have h1 : View.readAt (Elt Ideal) arg11.view (Rect.unit (s := S256x8x256) (k0_off8 k) S1x1x256.size (k0_off8_inb k)).toLoadRect XA = backLast a k :=
    funext fun j => congrFun hA _
  have h2 : View.readAt (Elt Ideal) arg12.view (Rect.unit (s := S256x8x256) (k0_off8 k) S1x1x256.size (k0_off8_inb k)).toLoadRect XU = backLast u k :=
    funext fun j => congrFun hU _
  rw [← h1, ← h2]
  unfold tripR_k0_t4 tripL_k0_t4 trip_k0_t4
  exact ⟨rfl, rfl⟩

/-- The carried row before each pass. -/
theorem back_carried (c : Dev nD) (i : grid0.Coords)
    (arg2 : Memref sig .tc .vmem S1x2048x256 .f32) (harg2 : arg2.IsWhole)
    (arg3 : Memref sig .tc .vmem S1x2048x256 .f32) (harg3 : arg3.IsWhole)
    (arg4 : Memref sig .tc .vmem S4x256 .f32) (harg4 : arg4.IsWhole)
    (arg5 : Memref sig .tc .vmem S1x256 .f32) (harg5 : arg5.IsWhole)
    (arg6 : Memref sig .tc .vmem S1x256x1024 .bf16) (harg6 : arg6.IsWhole)
    (arg7 : Memref sig .tc .vmem S1x1x1024 .f32) (harg7 : arg7.IsWhole)
    (arg8 : Memref sig .tc .vmem S2x256 .f32) (harg8 : arg8.IsWhole)
    (arg9 : Memref sig .tc .vmem S1x2048x256 .bf16) (harg9 : arg9.IsWhole)
    (arg10 : Memref sig .tc .vmem S2048x256 .f32) (harg10 : arg10.IsWhole)
    (arg11 : Memref sig .tc .vmem S256x8x256 .f32) (harg11 : arg11.IsWhole)
    (arg12 : Memref sig .tc .vmem S256x8x256 .f32) (harg12 : arg12.IsWhole)
    (arg13 : Memref sig .tc .vmem S256x1x256 .f32) (harg13 : arg13.IsWhole)
    (arg14 : Memref sig .tc .vmem S256x8x256 .f32) (harg14 : arg14.IsWhole)
    (l : Vec Ideal S1x256 .f32) (l1 l2 : FVec Ideal S1x256 .f32) (a u : Vec Ideal S256x8x256 .f32)
    (XA : arg11.view.ty.Contents (Elt Ideal)) (hA : arg11.view.read (Elt Ideal) XA = a) (XU : arg12.view.ty.Contents (Elt Ideal)) (hU : arg12.view.read (Elt Ideal) XU = u) :
    ∀ n, n ≤ k0_t4_loop.trips → (st_k0_t4 Variants.none c none i arg2 harg2 arg3 harg3 arg4 harg4 arg5 harg5 arg6 harg6 arg7 harg7 arg8 harg8 arg9 harg9 arg10 harg10 arg11 harg11 arg12 harg12 arg13 harg13 arg14 harg14 k0_pay24 l l1 l2 XA XU k0_pay48 n).1 = backCarry a u n
  | 0, _ => rfl
  | n + 1, hn => by
    rw [show n + 1 = (⟨n, hn⟩ : Fin k0_t4_loop.trips).val + 1 from rfl, st_k0_t4_succ]
    show tripR_k0_t4 Variants.none c none i arg2 harg2 arg3 harg3 arg4 harg4 arg5 harg5 arg6 harg6 arg7 harg7 arg8 harg8 arg9 harg9 arg10 harg10 arg11 harg11 arg12 harg12 arg13 harg13 arg14 harg14 k0_pay24 l l1 l2 XA XU ⟨n, hn⟩ _ = _
    rw [(back_carry_trip c i arg2 harg2 arg3 harg3 arg4 harg4 arg5 harg5 arg6 harg6 arg7 harg7 arg8 harg8 arg9 harg9 arg10 harg10 arg11 harg11 arg12 harg12 arg13 harg13 arg14 harg14 l l1 l2 a u XA hA XU hU ⟨n, hn⟩ _).1, back_carried c i arg2 harg2 arg3 harg3 arg4 harg4 arg5 harg5 arg6 harg6 arg7 harg7 arg8 harg8 arg9 harg9 arg10 harg10 arg11 harg11 arg12 harg12 arg13 harg13 arg14 harg14 l l1 l2 a u XA hA XU hU n (Nat.le_of_succ_le hn)]
    show _ = backCarry a u (n + 1)
    rw [backCarry]
    rw [dif_pos (show n < k0_t4_loop.trips from hn)]

/-- Which tile a pass of the carry loop stores. -/
theorem back_off_carry : ∀ k : Fin k0_t4_loop.trips, k0_off7 k = ![255 - k.val, 0, 0] := by decide +kernel

/-- Which row a pass of the carry loop reads. -/
theorem back_off_last : ∀ k : Fin k0_t4_loop.trips, k0_off8 k = ![255 - k.val, 0, 0] := by decide +kernel

/-- All tiles' carried rows, as one function of the tile and the lane. -/
def backCarries (a u : Vec Ideal S256x8x256 .f32) (y : S256x1x256.Idx) : Elt Ideal .f32 := backCarry a u (255 - (y 0).val) (ix2 0 (y 2))

/-- After the carry loop, the buffer of carried rows holds each tile's. -/
theorem back_carries (c : Dev nD) (i : grid0.Coords)
    (arg2 : Memref sig .tc .vmem S1x2048x256 .f32) (harg2 : arg2.IsWhole)
    (arg3 : Memref sig .tc .vmem S1x2048x256 .f32) (harg3 : arg3.IsWhole)
    (arg4 : Memref sig .tc .vmem S4x256 .f32) (harg4 : arg4.IsWhole)
    (arg5 : Memref sig .tc .vmem S1x256 .f32) (harg5 : arg5.IsWhole)
    (arg6 : Memref sig .tc .vmem S1x256x1024 .bf16) (harg6 : arg6.IsWhole)
    (arg7 : Memref sig .tc .vmem S1x1x1024 .f32) (harg7 : arg7.IsWhole)
    (arg8 : Memref sig .tc .vmem S2x256 .f32) (harg8 : arg8.IsWhole)
    (arg9 : Memref sig .tc .vmem S1x2048x256 .bf16) (harg9 : arg9.IsWhole)
    (arg10 : Memref sig .tc .vmem S2048x256 .f32) (harg10 : arg10.IsWhole)
    (arg11 : Memref sig .tc .vmem S256x8x256 .f32) (harg11 : arg11.IsWhole)
    (arg12 : Memref sig .tc .vmem S256x8x256 .f32) (harg12 : arg12.IsWhole)
    (arg13 : Memref sig .tc .vmem S256x1x256 .f32) (harg13 : arg13.IsWhole)
    (arg14 : Memref sig .tc .vmem S256x8x256 .f32) (harg14 : arg14.IsWhole)
    (l : Vec Ideal S1x256 .f32) (l1 l2 : FVec Ideal S1x256 .f32) (a u : Vec Ideal S256x8x256 .f32)
    (XA : arg11.view.ty.Contents (Elt Ideal)) (hA : arg11.view.read (Elt Ideal) XA = a) (XU : arg12.view.ty.Contents (Elt Ideal)) (hU : arg12.view.read (Elt Ideal) XU = u)
    (f : arg13.view.ty.Contents (Elt Ideal)) (L : List (View.Piece (Elt Ideal) S256x1x256 .f32)) :
    arg13.view.read (Elt Ideal) (arg13.view.writes (Elt Ideal) f ((st_k0_t4 Variants.none c none i arg2 harg2 arg3 harg3 arg4 harg4 arg5 harg5 arg6 harg6 arg7 harg7 arg8 harg8 arg9 harg9 arg10 harg10 arg11 harg11 arg12 harg12 arg13 harg13 arg14 harg14 k0_pay24 l l1 l2 XA XU k0_pay48 k0_t4_loop.trips).2 ++ L))
      = backCarries a u := by
  refine read_blocks arg13.view f k0_t4_loop.trips (fun n => (st_k0_t4 Variants.none c none i arg2 harg2 arg3 harg3 arg4 harg4 arg5 harg5 arg6 harg6 arg7 harg7 arg8 harg8 arg9 harg9 arg10 harg10 arg11 harg11 arg12 harg12 arg13 harg13 arg14 harg14 k0_pay24 l l1 l2 XA XU k0_pay48 n).2)
    (fun k => ⟨Rect.unit (s := S256x1x256) (k0_off7 k) S1x1x256.size (k0_off7_inb k), k0_pay49 (backCarry a u k.val)⟩) rfl
    (fun k => ?_) (backCarries a u) (fun k x => ?_) (fun y => ?_) L
  · show (st_k0_t4 Variants.none c none i arg2 harg2 arg3 harg3 arg4 harg4 arg5 harg5 arg6 harg6 arg7 harg7 arg8 harg8 arg9 harg9 arg10 harg10 arg11 harg11 arg12 harg12 arg13 harg13 arg14 harg14 k0_pay24 l l1 l2 XA XU k0_pay48 (k.val + 1)).2 = _
    rw [st_k0_t4_succ]
    show tripL_k0_t4 Variants.none c none i arg2 harg2 arg3 harg3 arg4 harg4 arg5 harg5 arg6 harg6 arg7 harg7 arg8 harg8 arg9 harg9 arg10 harg10 arg11 harg11 arg12 harg12 arg13 harg13 arg14 harg14 k0_pay24 l l1 l2 XA XU k _ ++ _ = _
    rw [(back_carry_trip c i arg2 harg2 arg3 harg3 arg4 harg4 arg5 harg5 arg6 harg6 arg7 harg7 arg8 harg8 arg9 harg9 arg10 harg10 arg11 harg11 arg12 harg12 arg13 harg13 arg14 harg14 l l1 l2 a u XA hA XU hU k _).2, back_carried c i arg2 harg2 arg3 harg3 arg4 harg4 arg5 harg5 arg6 harg6 arg7 harg7 arg8 harg8 arg9 harg9 arg10 harg10 arg11 harg11 arg12 harg12 arg13 harg13 arg14 harg14 l l1 l2 a u XA hA XU hU k.val (Nat.le_of_lt k.isLt)]
  · have e0 : ((Rect.unit (s := S256x1x256) (k0_off7 k) S1x1x256.size (k0_off7_inb k)).emb x 0).val = 255 - k.val + (x 0).val :=
      (ValueKit.rect_emb_unit_val (s := S256x1x256) (k0_off7 k) S1x1x256.size (k0_off7_inb k) x 0).trans (congrArg (· + (x 0).val) (congrFun (back_off_carry k) 0))
    have e2 : ((Rect.unit (s := S256x1x256) (k0_off7 k) S1x1x256.size (k0_off7_inb k)).emb x 2).val = (x 2).val :=
      (ValueKit.rect_emb_unit_val (s := S256x1x256) (k0_off7 k) S1x1x256.size (k0_off7_inb k) x 2).trans ((congrArg (· + (x 2).val) (congrFun (back_off_carry k) 2)).trans (Nat.zero_add _))
    have hx0 : (x 0).val < 1 := (x 0).isLt
    have hk : k.val < 256 := k.isLt
    have hy : x = ix3 (x 0) (x 1) (x 2) := by funext a; match a with | ⟨0, _⟩ => rfl | ⟨1, _⟩ => rfl | ⟨2, _⟩ => rfl
    show k0_pay49 (backCarry a u k.val) x = backCarry a u (255 - ((Rect.unit (s := S256x1x256) (k0_off7 k) S1x1x256.size (k0_off7_inb k)).emb x 0).val) (ix2 0 _)
    rw [show 255 - ((Rect.unit (s := S256x1x256) (k0_off7 k) S1x1x256.size (k0_off7_inb k)).emb x 0).val = k.val by omega]
    have p : k0_pay49 (backCarry a u k.val) (ix3 (x 0) (x 1) (x 2)) = backCarry a u k.val (ix2 0 (x 2)) := by
      unfold k0_pay49
      pointwise
    exact (congrArg _ hy).trans (p.trans (congrArg (fun l => backCarry a u k.val (ix2 0 l)) (Fin.ext e2.symm)))
  · have hy : (y 0).val < 256 := (y 0).isLt
    have hy1 : (y 1).val < 1 := (y 1).isLt
    have hy2 : (y 2).val < 256 := (y 2).isLt
    let k : Fin k0_t4_loop.trips := (⟨255 - (y 0).val, by omega⟩ : Fin 256)
    refine ⟨k, ?_⟩
    show y ∈ (Rect.unit (s := S256x1x256) (k0_off7 k) S1x1x256.size (k0_off7_inb k)).set
    refine Rect.mem_set_unit.mpr ?_
    intro a
    rw [back_off_carry k]
    match a with
    | ⟨0, _⟩ => show 255 - (255 - (y 0).val) ≤ (y 0).val ∧ (y 0).val < 255 - (255 - (y 0).val) + 1; omega
    | ⟨1, _⟩ => show 0 ≤ (y 1).val ∧ (y 1).val < 0 + 1; omega
    | ⟨2, _⟩ => show 0 ≤ (y 2).val ∧ (y 2).val < 0 + 256; omega

end Cert.LruIdeal.Value
end
-- ==== Proof.LruBlock.lean ====
module
public import proofs.«01_k».proof.Proof.Gen.LruIdeal.Frame
public import proofs.«01_k».proof.Proof.LruForward
public import proofs.«01_k».proof.Proof.LruBackward
public import Idealize.ShloMosaic.Lib.Pipeline.ValueKit
public import Idealize.ShloMosaic.Lib.WholeRead
public import Idealize.ShloMosaic.Lib.Pointwise
public import Idealize.ShloMosaic.Lib.VecWindow
public import Idealize.ShloMosaic.Lib.Claim
@[expose] public section
set_option maxRecDepth 16384
noncomputable section
open Idealize.ShloMosaic Idealize.ShloMosaic.TcCoe Idealize.SL.Sem
open Idealize.ShloMosaic.Pipeline (Dat)

namespace Cert.LruIdeal.Value
open Cert.LruIdeal Cert.LruIdeal.Gen

/-- Row number n of the taps. -/
def tap (x2 : Vec Ideal S4x256 .f32) (n : ℕ) (h : ∀ a, (![n, 0] : Fin 2 → ℕ) a + S1x256.size a ≤ S4x256.size a) : Vec Ideal S1x256 .f32 :=
  fun j => x2 ((Rect.unit (s := S4x256) ![n, 0] S1x256.size h).toLoadRect.idx j)

/-- The convolved rows of a block. -/
def convRows (x0 : Vec Ideal S1x2048x256 .f32) (x2 : Vec Ideal S4x256 .f32) (x3 : Vec Ideal S1x256 .f32) : FVec Ideal S2048x256 .f32 :=
  k0_pay23 (k0_pay21 x0 (tap x2 0 inb_S4x256_S1x256_0_0) (tap x2 1 inb_S4x256_S1x256_1_0) (tap x2 2 inb_S4x256_S1x256_2_0) (tap x2 3 inb_S4x256_S1x256_3_0)) (k0_pay22 x3)

/-- A direction's row of the decay parameter. -/
def lamRow (x6 : Vec Ideal S2x256 .f32) (n : ℕ) (h : ∀ a, (![n, 0] : Fin 2 → ℕ) a + S1x256.size a ≤ S2x256.size a) : Vec Ideal S1x256 .f32 :=
  fun j => x6 ((Rect.unit (s := S2x256) ![n, 0] S1x256.size h).toLoadRect.idx j)

/-- The forward direction's decay rates. -/
def rateF (x6 : Vec Ideal S2x256 .f32) : FVec Ideal S1x256 .f32 := k0_pay25 (lamRow x6 0 inb_S2x256_S1x256_0_0)

/-- The backward direction's decay rates. -/
def rateB (x6 : Vec Ideal S2x256 .f32) : FVec Ideal S1x256 .f32 :=
  k0_pay40 (lamRow x6 1 inb_S2x256_S1x256_1_0) (k0_pay38 (lamRow x6 1 inb_S2x256_S1x256_1_0)) k0_pay39

/-- A covering load of a whole buffer reads what the buffer holds. -/
theorem load_whole {s : Shape} {e : EltTy} (v : View sig .tc .vmem s e) {off : Fin s.rank → ℕ} (inb : ∀ a, off a + s.size a ≤ s.size a)
    (L : List (View.Piece (Elt Ideal) s e)) (G : s.Idx → Elt Ideal e) (h : v.read (Elt Ideal) (v.writes (Elt Ideal) v.junk L) = G) :
    v.readCov L (Rect.unit off s.size inb).toLoadRect = G :=
  (View.readAt_full v _ inb).trans h

section
variable (c : Dev nD) (i : grid0.Coords)
    (arg2 : Memref sig .tc .vmem S1x2048x256 .f32) (harg2 : arg2.IsWhole)
    (arg3 : Memref sig .tc .vmem S1x2048x256 .f32) (harg3 : arg3.IsWhole)
    (arg4 : Memref sig .tc .vmem S4x256 .f32) (harg4 : arg4.IsWhole)
    (arg5 : Memref sig .tc .vmem S1x256 .f32) (harg5 : arg5.IsWhole)
    (arg6 : Memref sig .tc .vmem S1x256x1024 .bf16) (harg6 : arg6.IsWhole)
    (arg7 : Memref sig .tc .vmem S1x1x1024 .f32) (harg7 : arg7.IsWhole)
    (arg8 : Memref sig .tc .vmem S2x256 .f32) (harg8 : arg8.IsWhole)
    (arg9 : Memref sig .tc .vmem S1x2048x256 .bf16) (harg9 : arg9.IsWhole)
    (arg10 : Memref sig .tc .vmem S2048x256 .f32) (harg10 : arg10.IsWhole)
    (arg11 : Memref sig .tc .vmem S256x8x256 .f32) (harg11 : arg11.IsWhole)
    (arg12 : Memref sig .tc .vmem S256x8x256 .f32) (harg12 : arg12.IsWhole)
    (arg13 : Memref sig .tc .vmem S256x1x256 .f32) (harg13 : arg13.IsWhole)
    (arg14 : Memref sig .tc .vmem S256x8x256 .f32) (harg14 : arg14.IsWhole)
    (x0 x1 : Vec Ideal S1x2048x256 .f32) (x2 : Vec Ideal S4x256 .f32) (x3 : Vec Ideal S1x256 .f32) (x4 : Vec Ideal S1x256x1024 .bf16) (x5 : Vec Ideal S1x1x1024 .f32) (x6 : Vec Ideal S2x256 .f32)

/-- The buffer of convolved rows. -/
theorem rows_read : arg10.view.read (Elt Ideal) (arg10.view.writes (Elt Ideal) arg10.view.junk (kernelRun0_A.sl.HS0_1 c arg2 harg2 arg4 harg4 arg5 harg5 x0 x2 x3)) = convRows x0 x2 x3 := by
  have e0 : View.readAt (Elt Ideal) arg2.view (Rect.unit (s := S1x2048x256) ![0, 0, 0] S1x2048x256.size inb_S1x2048x256_S1x2048x256_0_0_0).toLoadRect (harg2.unread x0) = x0 :=
    (View.readAt_full _ _ _).trans (harg2.read_unread x0)
  have e3 : View.readAt (Elt Ideal) arg5.view (Rect.unit (s := S1x256) ![0, 0] S1x256.size inb_S1x256_S1x256_0_0).toLoadRect (harg5.unread x3) = x3 :=
    (View.readAt_full _ _ _).trans (harg5.read_unread x3)
  have t (n : ℕ) (h : ∀ a, (![n, 0] : Fin 2 → ℕ) a + S1x256.size a ≤ S4x256.size a) :
      View.readAt (Elt Ideal) arg4.view (Rect.unit (s := S4x256) ![n, 0] S1x256.size h).toLoadRect (harg4.unread x2) = tap x2 n h :=
    funext fun j => harg4.readAt_unread x2 _ j
  unfold kernelRun0_A.sl.HS0_1 kernelRun0_A.sl.r kernelRun0_A.sl.r_1 convRows
  rw [View.read_writes_full, e0, e3, t, t, t, t]

/-- The forward decay rates, as loaded. -/
theorem rate_f : kernelRun0_A.sl.r_2 c arg8 harg8 x6 = rateF x6 := by
  have t : View.readAt (Elt Ideal) arg8.view (Rect.unit (s := S2x256) ![0, 0] S1x256.size inb_S2x256_S1x256_0_0).toLoadRect (harg8.unread x6) = lamRow x6 0 inb_S2x256_S1x256_0_0 :=
    funext fun j => harg8.readAt_unread x6 _ j
  unfold kernelRun0_A.sl.r_2 rateF
  rw [t]

/-- The backward decay rates, as loaded. -/
theorem rate_b : k0_pay40 (kernelRun0_A.sl.r_3 c arg8 harg8 x6) (kernelRun0_A.sl.r_4 c arg8 harg8 x6) k0_pay39 = rateB x6 := by
  have t : View.readAt (Elt Ideal) arg8.view (Rect.unit (s := S2x256) ![1, 0] S1x256.size inb_S2x256_S1x256_1_0).toLoadRect (harg8.unread x6) = lamRow x6 1 inb_S2x256_S1x256_1_0 :=
    funext fun j => harg8.readAt_unread x6 _ j
  unfold kernelRun0_A.sl.r_3 kernelRun0_A.sl.r_4 rateB
  rw [t]

/-- The forward summands, as loaded. -/
theorem u_f : kernelRun0_A.sl.v86 c i arg2 harg2 arg3 harg3 arg4 harg4 arg5 harg5 arg6 harg6 arg7 harg7 arg8 harg8 arg9 harg9 arg10 harg10 arg11 harg11 arg12 harg12 arg13 harg13 arg14 harg14 x0 x2 x3 x4 x5 x6 = fwdSummands (rateF x6) (convRows x0 x2 x3) x4 x5 := by
  rw [← rate_f c arg8 harg8 x6]
  unfold kernelRun0_A.sl.v86
  exact load_whole _ _ _ _ (fwd_summands c i arg2 harg2 arg3 harg3 arg4 harg4 arg5 harg5 arg6 harg6 arg7 harg7 arg8 harg8 arg9 harg9 arg10 harg10 arg11 harg11 arg12 harg12 arg13 harg13 arg14 harg14 _ _ _ x4 x5 _ (rows_read c arg2 harg2 arg4 harg4 arg5 harg5 arg10 x0 x2 x3) _ _)

/-- The forward factors, as loaded. -/
theorem a_f : kernelRun0_A.sl.v87 c i arg2 harg2 arg3 harg3 arg4 harg4 arg5 harg5 arg6 harg6 arg7 harg7 arg8 harg8 arg9 harg9 arg10 harg10 arg11 harg11 arg12 harg12 arg13 harg13 arg14 harg14 x0 x2 x3 x4 x5 x6 = fwdFactors (rateF x6) (convRows x0 x2 x3) x4 x5 := by
  rw [← rate_f c arg8 harg8 x6]
  unfold kernelRun0_A.sl.v87
  exact load_whole _ _ _ _ (fwd_factors c i arg2 harg2 arg3 harg3 arg4 harg4 arg5 harg5 arg6 harg6 arg7 harg7 arg8 harg8 arg9 harg9 arg10 harg10 arg11 harg11 arg12 harg12 arg13 harg13 arg14 harg14 _ _ _ x4 x5 _ (rows_read c arg2 harg2 arg4 harg4 arg5 harg5 arg10 x0 x2 x3) _ _)

/-- The forward carried rows, as loaded. -/
theorem c_f : kernelRun0_A.sl.v88 c i arg2 harg2 arg3 harg3 arg4 harg4 arg5 harg5 arg6 harg6 arg7 harg7 arg8 harg8 arg9 harg9 arg10 harg10 arg11 harg11 arg12 harg12 arg13 harg13 arg14 harg14 x0 x2 x3 x4 x5 x6 = fwdCarries (fwdFactors (rateF x6) (convRows x0 x2 x3) x4 x5) (fwdSummands (rateF x6) (convRows x0 x2 x3) x4 x5) := by
  rw [← rate_f c arg8 harg8 x6]
  unfold kernelRun0_A.sl.v88
  exact load_whole _ _ _ _ (fwd_carries c i arg2 harg2 arg3 harg3 arg4 harg4 arg5 harg5 arg6 harg6 arg7 harg7 arg8 harg8 arg9 harg9 arg10 harg10 arg11 harg11 arg12 harg12 arg13 harg13 arg14 harg14 _ _ _ _ _ (fwd_factors c i arg2 harg2 arg3 harg3 arg4 harg4 arg5 harg5 arg6 harg6 arg7 harg7 arg8 harg8 arg9 harg9 arg10 harg10 arg11 harg11 arg12 harg12 arg13 harg13 arg14 harg14 _ _ _ x4 x5 _ (rows_read c arg2 harg2 arg4 harg4 arg5 harg5 arg10 x0 x2 x3) _ _) _ (fwd_summands c i arg2 harg2 arg3 harg3 arg4 harg4 arg5 harg5 arg6 harg6 arg7 harg7 arg8 harg8 arg9 harg9 arg10 harg10 arg11 harg11 arg12 harg12 arg13 harg13 arg14 harg14 _ _ _ x4 x5 _ (rows_read c arg2 harg2 arg4 harg4 arg5 harg5 arg10 x0 x2 x3) _ _) _ _)

/-- The backward summands, as loaded. -/
theorem u_b : kernelRun0_A.sl.v124 c i arg2 harg2 arg3 harg3 arg4 harg4 arg5 harg5 arg6 harg6 arg7 harg7 arg8 harg8 arg9 harg9 arg10 harg10 arg11 harg11 arg12 harg12 arg13 harg13 arg14 harg14 x0 x2 x3 x4 x5 x6 = backSummands (rateB x6) (convRows x0 x2 x3) x4 x5 := by
  rw [← rate_b c arg8 harg8 x6]
  unfold kernelRun0_A.sl.v124
  exact load_whole _ _ _ _ (back_summands c i arg2 harg2 arg3 harg3 arg4 harg4 arg5 harg5 arg6 harg6 arg7 harg7 arg8 harg8 arg9 harg9 arg10 harg10 arg11 harg11 arg12 harg12 arg13 harg13 arg14 harg14 _ _ _ _ x4 x5 _ (rows_read c arg2 harg2 arg4 harg4 arg5 harg5 arg10 x0 x2 x3) _ _)

/-- The backward factors, as loaded. -/
theorem a_b : kernelRun0_A.sl.v125 c i arg2 harg2 arg3 harg3 arg4 harg4 arg5 harg5 arg6 harg6 arg7 harg7 arg8 harg8 arg9 harg9 arg10 harg10 arg11 harg11 arg12 harg12 arg13 harg13 arg14 harg14 x0 x2 x3 x4 x5 x6 = backFactors (rateB x6) (convRows x0 x2 x3) x4 x5 := by
  rw [← rate_b c arg8 harg8 x6]
  unfold kernelRun0_A.sl.v125
  exact load_whole _ _ _ _ (back_factors c i arg2 harg2 arg3 harg3 arg4 harg4 arg5 harg5 arg6 harg6 arg7 harg7 arg8 harg8 arg9 harg9 arg10 harg10 arg11 harg11 arg12 harg12 arg13 harg13 arg14 harg14 _ _ _ _ x4 x5 _ (rows_read c arg2 harg2 arg4 harg4 arg5 harg5 arg10 x0 x2 x3) _ _)

/-- The backward carried rows, as loaded. -/
theorem c_b : kernelRun0_A.sl.v126 c i arg2 harg2 arg3 harg3 arg4 harg4 arg5 harg5 arg6 harg6 arg7 harg7 arg8 harg8 arg9 harg9 arg10 harg10 arg11 harg11 arg12 harg12 arg13 harg13 arg14 harg14 x0 x2 x3 x4 x5 x6 = backCarries (backFactors (rateB x6) (convRows x0 x2 x3) x4 x5) (backSummands (rateB x6) (convRows x0 x2 x3) x4 x5) := by
  rw [← rate_b c arg8 harg8 x6]
  unfold kernelRun0_A.sl.v126
  exact load_whole _ _ _ _ (back_carries c i arg2 harg2 arg3 harg3 arg4 harg4 arg5 harg5 arg6 harg6 arg7 harg7 arg8 harg8 arg9 harg9 arg10 harg10 arg11 harg11 arg12 harg12 arg13 harg13 arg14 harg14 _ _ _ _ _ _ (back_factors c i arg2 harg2 arg3 harg3 arg4 harg4 arg5 harg5 arg6 harg6 arg7 harg7 arg8 harg8 arg9 harg9 arg10 harg10 arg11 harg11 arg12 harg12 arg13 harg13 arg14 harg14 _ _ _ _ x4 x5 _ (rows_read c arg2 harg2 arg4 harg4 arg5 harg5 arg10 x0 x2 x3) _ _) _ (back_summands c i arg2 harg2 arg3 harg3 arg4 harg4 arg5 harg5 arg6 harg6 arg7 harg7 arg8 harg8 arg9 harg9 arg10 harg10 arg11 harg11 arg12 harg12 arg13 harg13 arg14 harg14 _ _ _ _ x4 x5 _ (rows_read c arg2 harg2 arg4 harg4 arg5 harg5 arg10 x0 x2 x3) _ _) _ _)

end

/-- The sum of both directions' states, tile by tile. -/
def bothStates (xc : FVec Ideal S2048x256 .f32) (x4 : Vec Ideal S1x256x1024 .bf16) (x5 : Vec Ideal S1x1x1024 .f32) (x6 : Vec Ideal S2x256 .f32) : FVec Ideal S256x8x256 .f32 :=
  k0_pay1 (backSummands (rateB x6) xc x4 x5) (backFactors (rateB x6) xc x4 x5) (backCarries (backFactors (rateB x6) xc x4 x5) (backSummands (rateB x6) xc x4 x5))
    (k0_pay37 (fwdSummands (rateF x6) xc x4 x5) (fwdFactors (rateF x6) xc x4 x5) (fwdCarries (fwdFactors (rateF x6) xc x4 x5) (fwdSummands (rateF x6) xc x4 x5)))

/-- What a grid point's body leaves in the result's window. -/
theorem out_block (c : Dev nD) (i : grid0.Coords)
    (arg2 : Memref sig .tc .vmem S1x2048x256 .f32) (harg2 : arg2.IsWhole)
    (arg3 : Memref sig .tc .vmem S1x2048x256 .f32) (harg3 : arg3.IsWhole)
    (arg4 : Memref sig .tc .vmem S4x256 .f32) (harg4 : arg4.IsWhole)
    (arg5 : Memref sig .tc .vmem S1x256 .f32) (harg5 : arg5.IsWhole)
    (arg6 : Memref sig .tc .vmem S1x256x1024 .bf16) (harg6 : arg6.IsWhole)
    (arg7 : Memref sig .tc .vmem S1x1x1024 .f32) (harg7 : arg7.IsWhole)
    (arg8 : Memref sig .tc .vmem S2x256 .f32) (harg8 : arg8.IsWhole)
    (arg9 : Memref sig .tc .vmem S1x2048x256 .bf16) (harg9 : arg9.IsWhole)
    (arg10 : Memref sig .tc .vmem S2048x256 .f32) (harg10 : arg10.IsWhole)
    (arg11 : Memref sig .tc .vmem S256x8x256 .f32) (harg11 : arg11.IsWhole)
    (arg12 : Memref sig .tc .vmem S256x8x256 .f32) (harg12 : arg12.IsWhole)
    (arg13 : Memref sig .tc .vmem S256x1x256 .f32) (harg13 : arg13.IsWhole)
    (arg14 : Memref sig .tc .vmem S256x8x256 .f32) (harg14 : arg14.IsWhole)
    (x0 x1 : Vec Ideal S1x2048x256 .f32) (x2 : Vec Ideal S4x256 .f32) (x3 : Vec Ideal S1x256 .f32) (x4 : Vec Ideal S1x256x1024 .bf16) (x5 : Vec Ideal S1x1x1024 .f32) (x6 : Vec Ideal S2x256 .f32) (y : S1x2048x256.Idx) :
    out0_A_7 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y = k0_pay2 (bothStates (convRows x0 x2 x3) x4 x5 x6) x1 y := by
  have e1 : View.readAt (Elt Ideal) arg3.view (Rect.unit (s := S1x2048x256) ![0, 0, 0] S1x2048x256.size inb_S1x2048x256_S1x2048x256_0_0_0).toLoadRect (harg3.unread x1) = x1 :=
    (View.readAt_full _ _ _).trans (harg3.read_unread x1)
  have r1 : kernelRun0_A.sl.v130 c i arg2 harg2 arg3 harg3 arg4 harg4 arg5 harg5 arg6 harg6 arg7 harg7 arg8 harg8 arg9 harg9 arg10 harg10 arg11 harg11 arg12 harg12 arg13 harg13 arg14 harg14 x0 x2 x3 x4 x5 x6 = k0_pay37 (kernelRun0_A.sl.v86 c i arg2 harg2 arg3 harg3 arg4 harg4 arg5 harg5 arg6 harg6 arg7 harg7 arg8 harg8 arg9 harg9 arg10 harg10 arg11 harg11 arg12 harg12 arg13 harg13 arg14 harg14 x0 x2 x3 x4 x5 x6) (kernelRun0_A.sl.v87 c i arg2 harg2 arg3 harg3 arg4 harg4 arg5 harg5 arg6 harg6 arg7 harg7 arg8 harg8 arg9 harg9 arg10 harg10 arg11 harg11 arg12 harg12 arg13 harg13 arg14 harg14 x0 x2 x3 x4 x5 x6) (kernelRun0_A.sl.v88 c i arg2 harg2 arg3 harg3 arg4 harg4 arg5 harg5 arg6 harg6 arg7 harg7 arg8 harg8 arg9 harg9 arg10 harg10 arg11 harg11 arg12 harg12 arg13 harg13 arg14 harg14 x0 x2 x3 x4 x5 x6) := by
    unfold kernelRun0_A.sl.v130 kernelRun0_A.sl.HS4_1
    exact load_whole _ _ _ _ (View.read_writes_full _ _ _ _ _)
  have r2 : kernelRun0_A.sl.v135 c i arg2 harg2 arg3 harg3 arg4 harg4 arg5 harg5 arg6 harg6 arg7 harg7 arg8 harg8 arg9 harg9 arg10 harg10 arg11 harg11 arg12 harg12 arg13 harg13 arg14 harg14 x0 x2 x3 x4 x5 x6 = bothStates (convRows x0 x2 x3) x4 x5 x6 := by
    unfold kernelRun0_A.sl.v135 kernelRun0_A.sl.HS4_2
    refine load_whole _ _ _ _ ((View.read_writes_full _ _ _ _ _).trans ?_)
    rw [r1, u_f, a_f, c_f, u_b, a_b, c_b]
    rfl
  rw [← r2]
  refine Eq.trans ?_ (congrArg (fun z => k0_pay2 (kernelRun0_A.sl.v135 c i arg2 harg2 arg3 harg3 arg4 harg4 arg5 harg5 arg6 harg6 arg7 harg7 arg8 harg8 arg9 harg9 arg10 harg10 arg11 harg11 arg12 harg12 arg13 harg13 arg14 harg14 x0 x2 x3 x4 x5 x6) z y) e1)
  unfold out0_A_7 kernelRun0_A
  exact congrFun (View.read_writes_full _ _ _ _ _) y

end Cert.LruIdeal.Value
end
-- ==== Proof.LruGate.lean ====
module
public import proofs.«01_k».proof.Proof.Gen.LruIdeal.Frame
public import proofs.«01_k».proof.Proof.LruBlock
public import Idealize.ShloMosaic.Lib.Pipeline.ValueKit
public import Idealize.ShloMosaic.Lib.WholeRead
public import Idealize.ShloMosaic.Lib.Pointwise
public import Idealize.ShloMosaic.Lib.IdealHost
public import Idealize.ShloMosaic.Lib.Claim
@[expose] public section
set_option maxRecDepth 16384
noncomputable section
open Idealize.ShloMosaic Idealize.ShloMosaic.TcCoe Idealize.SL.Sem
open Idealize.ShloMosaic.Pipeline (Dat)

open scoped BigOperators
namespace Cert.LruIdeal.Value
open Cert.LruIdeal Cert.LruIdeal.Gen

/-- The gates' input at a row and a column. -/
def gateVal (xc : Vec Ideal S2048x256 .f32) (x4 : Vec Ideal S1x256x1024 .bf16) (x5 : Vec Ideal S1x1x1024 .f32) (p : Fin 2048) (l : Fin 1024) : EReal :=
  (∑ q : Fin 256, xc (ix2 p q) * x4 (ix3 0 q l)) + x5 (ix3 0 0 l)

/-- The log decay at a row and a lane, with the direction's first column. -/
def logVal (s : FVec Ideal S1x256 .f32) (xc : Vec Ideal S2048x256 .f32) (x4 : Vec Ideal S1x256x1024 .bf16) (x5 : Vec Ideal S1x1x1024 .f32) (o : Fin 513) (p : Fin 2048) (w : Fin 256) : EReal :=
  s (ix2 0 w) * Ideal.logistic (gateVal xc x4 x5 p ⟨o.val + w.val, by omega⟩)

/-- The recurrence's input at a row and a lane. -/
def driveVal (s : FVec Ideal S1x256 .f32) (xc : Vec Ideal S2048x256 .f32) (x4 : Vec Ideal S1x256x1024 .bf16) (x5 : Vec Ideal S1x1x1024 .f32) (o : Fin 513) (p : Fin 2048) (w : Fin 256) : EReal :=
  Ideal.sqrt (Ideal.div (((-2 : ℝ) : EReal) * Ideal.tanh (logVal s xc x4 x5 o p w)) (((1 : ℝ) : EReal) - Ideal.tanh (logVal s xc x4 x5 o p w)))
    * Ideal.logistic (gateVal xc x4 x5 p ⟨o.val + 256 + w.val, by omega⟩) * xc (ix2 p w)

/-- The word of minus two. -/
theorem word_m2 : Ideal.ofBits FTy.f32 0xC0000000#32 = ((-2 : ℝ) : EReal) := by
  simp [Ideal.ofBits, Ideal.ieee, -EReal.coe_mul]; norm_num

/-- The word of two. -/
theorem word_2 : Ideal.ofBits FTy.f32 0x40000000#32 = ((2 : ℝ) : EReal) := by
  simp [Ideal.ofBits, Ideal.ieee, -EReal.coe_mul]; norm_num

/-- The word of minus eight. -/
theorem word_m8 : Ideal.ofBits FTy.f32 0xC1000000#32 = ((-8 : ℝ) : EReal) := by
  simp [Ideal.ofBits, Ideal.ieee, -EReal.coe_mul]; norm_num

/-- The word of one. -/
theorem word_1 : Ideal.ofBits FTy.f32 0x3F800000#32 = ((1 : ℝ) : EReal) := Ideal.ofBits_one_f32.trans EReal.coe_one.symm

/-- A chunk's gate inputs at a row and a column. -/
theorem gateIn_at (xs : Vec Ideal S256x256 .f32) (W : Vec Ideal S1x256x512 .bf16) (b : Vec Ideal S1x1x512 .f32) (ρ : Fin 256) (l : Fin 512) :
    gateIn xs W b (ix2 ρ l) = (∑ q : Fin 256, xs (ix2 ρ q) * W (ix3 0 q l)) + b (ix3 0 0 l) := by
  unfold gateIn
  pointwise [k0_pay3]

/-- A chunk's log decays at a row and a lane. -/
theorem logDecay_at (s : FVec Ideal S1x256 .f32) (xs : Vec Ideal S256x256 .f32) (W : Vec Ideal S1x256x512 .bf16) (b : Vec Ideal S1x1x512 .f32) (ρ w : Fin 256) :
    logDecay s xs W b (ix2 ρ w) = s (ix2 0 w) * Ideal.logistic (gateIn xs W b (ix2 ρ ⟨w.val, by omega⟩)) := by
  pointwise [logDecay]

/-- A chunk's inputs at a row and a lane. -/
theorem drive_at (s : FVec Ideal S1x256 .f32) (xs : Vec Ideal S256x256 .f32) (W : Vec Ideal S1x256x512 .bf16) (b : Vec Ideal S1x1x512 .f32) (ρ w : Fin 256) :
    drive s xs W b (ix2 ρ w)
      = Ideal.sqrt (Ideal.div (Ideal.ofBits FTy.f32 0xC0000000#32 * Ideal.tanh (logDecay s xs W b (ix2 ρ w))) (Ideal.ofBits FTy.f32 0x3F800000#32 - Ideal.tanh (logDecay s xs W b (ix2 ρ w))))
          * Ideal.logistic (gateIn xs W b (ix2 ρ ⟨256 + w.val, by omega⟩)) * xs (ix2 ρ w) := by
  pointwise [drive]

end Cert.LruIdeal.Value
end
-- ==== Proof.LruStateF.lean ====
module
public import proofs.«01_k».proof.Proof.Gen.LruIdeal.Frame
public import proofs.«01_k».proof.Proof.LruGate
public import Idealize.ShloMosaic.Lib.Pipeline.ValueKit
public import Idealize.ShloMosaic.Lib.WholeRead
public import Idealize.ShloMosaic.Lib.Pointwise
public import Idealize.ShloMosaic.Lib.IdealHost
public import Idealize.ShloMosaic.Lib.Claim
@[expose] public section
set_option maxRecDepth 16384
noncomputable section
open Idealize.ShloMosaic Idealize.ShloMosaic.TcCoe Idealize.SL.Sem
open Idealize.ShloMosaic.Pipeline (Dat)

open scoped BigOperators
namespace Cert.LruIdeal.Value
open Cert.LruIdeal Cert.LruIdeal.Gen

/-- The forward direction's first column of the gates. -/
def fwdCol : Fin 513 := ⟨0, by decide⟩

/-- A chunk's rows are the block's. -/
theorem fwdRows_at (xc : Vec Ideal S2048x256 .f32) (k : Fin k0_t1_loop.trips) (ρ q : Fin 256) (p : Fin 2048) (hp : p.val = 256 * k.val + ρ.val) : fwdRows xc k (ix2 ρ q) = xc (ix2 p q) := by
  unfold fwdRows
  refine congrArg xc (funext fun a => Fin.ext ?_)
  refine (ValueKit.rect_emb_unit_val (s := S2048x256) (k0_off1 k) S256x256.size (k0_off1_inb k) (ix2 ρ q) a).trans ((congrArg (· + ((ix2 ρ q : S256x256.Idx) a).val) (congrFun (fwd_off_rows k) a)).trans ?_)
  match a with
  | ⟨0, _⟩ => exact hp.symm
  | ⟨1, _⟩ => exact Nat.zero_add _

/-- The direction's weights are the block's from its first column on. -/
theorem fwdWeights_at (x4 : Vec Ideal S1x256x1024 .bf16) (q : Fin 256) (l : Fin 512) (l' : Fin 1024) (h : l'.val = 0 + l.val) : fwdWeights x4 (ix3 0 q l) = x4 (ix3 0 q l') := by
  unfold fwdWeights
  refine congrArg x4 (funext fun a => Fin.ext ?_)
  refine (ValueKit.rect_emb_unit_val (s := S1x256x1024) ![0, 0, 0] S1x256x512.size inb_S1x256x1024_S1x256x512_0_0_0 (ix3 0 q l) a).trans ?_
  match a with
  | ⟨0, _⟩ => rfl
  | ⟨1, _⟩ => exact Nat.zero_add _
  | ⟨2, _⟩ => exact h.symm

/-- The direction's biases are the block's from its first column on. -/
theorem fwdBias_at (x5 : Vec Ideal S1x1x1024 .f32) (l : Fin 512) (l' : Fin 1024) (h : l'.val = 0 + l.val) : fwdBias x5 (ix3 0 0 l) = x5 (ix3 0 0 l') := by
  unfold fwdBias
  refine congrArg x5 (funext fun a => Fin.ext ?_)
  refine (ValueKit.rect_emb_unit_val (s := S1x1x1024) ![0, 0, 0] S1x1x512.size inb_S1x1x1024_S1x1x512_0_0_0 (ix3 0 0 l) a).trans ?_
  match a with
  | ⟨0, _⟩ => rfl
  | ⟨1, _⟩ => rfl
  | ⟨2, _⟩ => exact h.symm

/-- A chunk's gate inputs, in the block's own rows and columns. -/
theorem fwd_gate (xc : Vec Ideal S2048x256 .f32) (x4 : Vec Ideal S1x256x1024 .bf16) (x5 : Vec Ideal S1x1x1024 .f32) (k : Fin k0_t1_loop.trips) (ρ : Fin 256) (p : Fin 2048) (hp : p.val = 256 * k.val + ρ.val)
    (l : Fin 512) (l' : Fin 1024) (h : l'.val = 0 + l.val) : gateIn (fwdRows xc k) (fwdWeights x4) (fwdBias x5) (ix2 ρ l) = gateVal xc x4 x5 p l' := by
  rw [gateIn_at, fwdBias_at x5 l l' h]
  unfold gateVal
  refine congrArg (· + x5 (ix3 0 0 l')) (Finset.sum_congr rfl fun q _ => ?_)
  rw [fwdRows_at xc k ρ q p hp, fwdWeights_at x4 q l l' h]

/-- A chunk's log decays, in the block's own rows. -/
theorem fwd_log (s : FVec Ideal S1x256 .f32) (xc : Vec Ideal S2048x256 .f32) (x4 : Vec Ideal S1x256x1024 .bf16) (x5 : Vec Ideal S1x1x1024 .f32) (k : Fin k0_t1_loop.trips) (ρ w : Fin 256) (p : Fin 2048) (hp : p.val = 256 * k.val + ρ.val) :
    logDecay s (fwdRows xc k) (fwdWeights x4) (fwdBias x5) (ix2 ρ w) = logVal s xc x4 x5 fwdCol p w := by
  rw [logDecay_at, fwd_gate xc x4 x5 k ρ p hp _ ⟨0 + w.val, by omega⟩ rfl]
  rfl

/-- A chunk's inputs, in the block's own rows. -/
theorem fwd_drive (s : FVec Ideal S1x256 .f32) (xc : Vec Ideal S2048x256 .f32) (x4 : Vec Ideal S1x256x1024 .bf16) (x5 : Vec Ideal S1x1x1024 .f32) (k : Fin k0_t1_loop.trips) (ρ w : Fin 256) (p : Fin 2048) (hp : p.val = 256 * k.val + ρ.val) :
    drive s (fwdRows xc k) (fwdWeights x4) (fwdBias x5) (ix2 ρ w) = driveVal s xc x4 x5 fwdCol p w := by
  rw [drive_at, fwd_log s xc x4 x5 k ρ w p hp, fwdRows_at xc k ρ w p hp, fwd_gate xc x4 x5 k ρ p hp _ ⟨0 + 256 + w.val, by omega⟩ (Nat.add_assoc _ _ _), word_m2, word_1]
  rfl

/-- The decays of a lane, in the forward direction's time. -/
def fwdDecays (s : FVec Ideal S1x256 .f32) (xc : Vec Ideal S2048x256 .f32) (x4 : Vec Ideal S1x256x1024 .bf16) (x5 : Vec Ideal S1x1x1024 .f32) (w : Fin 256) (n : ℕ) : EReal := Ideal.exp (logVal s xc x4 x5 fwdCol (⟨n % 2048, Nat.mod_lt _ (by decide)⟩ : Fin 2048) w)

/-- The inputs of a lane, in the forward direction's time. -/
def fwdInputs (s : FVec Ideal S1x256 .f32) (xc : Vec Ideal S2048x256 .f32) (x4 : Vec Ideal S1x256x1024 .bf16) (x5 : Vec Ideal S1x1x1024 .f32) (w : Fin 256) (n : ℕ) : EReal := driveVal s xc x4 x5 fwdCol (⟨n % 2048, Nat.mod_lt _ (by decide)⟩ : Fin 2048) w

section
variable (s : FVec Ideal S1x256 .f32) (xc : Vec Ideal S2048x256 .f32) (x4 : Vec Ideal S1x256x1024 .bf16) (x5 : Vec Ideal S1x1x1024 .f32) (w : Fin 256) (fin : ∀ p, logVal s xc x4 x5 fwdCol p w ≠ ⊤)
include fin

/-- The stored factors and summands carry a tile's first state to each of its rows. -/
theorem fwd_tile_carries (J : Fin 256) (r : ℕ) (hr : r < 8) :
    Carries (fwdDecays s xc x4 x5 w) (fwdInputs s xc x4 x5 w) (8 * J.val) (8 * J.val + r + 1)
      (fwdFactors s xc x4 x5 (ix3 J (⟨r, by omega⟩ : Fin 8) w)) (fwdSummands s xc x4 x5 (ix3 J (⟨r, by omega⟩ : Fin 8) w)) := by
  have hJ := J.isLt
  let k : Fin k0_t1_loop.trips := (⟨J.val / 32, by omega⟩ : Fin 8)
  have hk : k.val = J.val / 32 := rfl
  refine tile_fwd _ _ (decay s (fwdRows xc k) (fwdWeights x4) (fwdBias x5)) (drive s (fwdRows xc k) (fwdWeights x4) (fwdBias x5)) w (8 * J.val) (J.val % 32) (Nat.mod_lt _ (by decide)) (fun r hr => ?_) r hr
  have hp : ((⟨(8 * J.val + r) % 2048, Nat.mod_lt _ (by decide)⟩ : Fin 2048)).val = 256 * k.val + ((8 * (J.val % 32) + r) % 256) := by
    show (8 * J.val + r) % 2048 = _
    rw [hk]
    omega
  have eA : cell (decay s (fwdRows xc k) (fwdWeights x4) (fwdBias x5)) (8 * (J.val % 32) + r) w = fwdDecays s xc x4 x5 w (8 * J.val + r) :=
    congrArg Ideal.exp (fwd_log s xc x4 x5 k ⟨(8 * (J.val % 32) + r) % 256, Nat.mod_lt _ (by decide)⟩ w _ hp)
  have eU : cell (drive s (fwdRows xc k) (fwdWeights x4) (fwdBias x5)) (8 * (J.val % 32) + r) w = fwdInputs s xc x4 x5 w (8 * J.val + r) :=
    fwd_drive s xc x4 x5 k ⟨(8 * (J.val % 32) + r) % 256, Nat.mod_lt _ (by decide)⟩ w _ hp
  rw [eA, eU]
  exact carries_one _ _ _ (exp_factor _ (fin _)).1 (exp_factor _ (fin _)).2

omit fin in
/-- A tile's last row, at a lane. -/
theorem fwdLast_at (v : Vec Ideal S256x8x256 .f32) (k : Fin k0_t2_loop.trips) (w : Fin 256) (J : Fin 256) (h : J.val = k.val) : fwdLast v k (ix3 0 0 w) = v (ix3 J (7 : Fin 8) w) := by
  unfold fwdLast
  refine congrArg v (funext fun a => Fin.ext ?_)
  refine (ValueKit.rect_emb_unit_val (s := S256x8x256) (k0_off4 k) S1x1x256.size (k0_off4_inb k) (ix3 0 0 w) a).trans ((congrArg (· + ((ix3 0 0 w : S1x1x256.Idx) a).val) (congrFun (fwd_off_last k) a)).trans ?_)
  match a with
  | ⟨0, _⟩ => exact h.symm
  | ⟨1, _⟩ => rfl
  | ⟨2, _⟩ => exact Nat.zero_add _

omit fin in
/-- One pass of the carry loop at a lane. -/
theorem fwd_pass (acc : FVec Ideal S1x256 .f32) (u a : Vec Ideal S1x1x256 .f32) (w : Fin 256) : k0_pay36 acc u a (ix2 0 w) = u (ix3 0 0 w) + a (ix3 0 0 w) * acc (ix2 0 w) := by
  pointwise [k0_pay36]

omit fin in
/-- The first carried row is zero. -/
theorem fwd_first (w : Fin 256) : k0_pay34 (F := Ideal) (ix2 0 w) = 0 := by
  pointwise [k0_pay34]

/-- The carried rows are the states between the tiles. -/
theorem fwd_carry_state (J : ℕ) (hJ : J ≤ 256) :
    fwdCarry (fwdFactors s xc x4 x5) (fwdSummands s xc x4 x5) J (ix2 0 w) = state (fwdDecays s xc x4 x5 w) (fwdInputs s xc x4 x5 w) (8 * J) := by
  refine carry_state (fwdDecays s xc x4 x5 w) (fwdInputs s xc x4 x5 w)
    (fun j => fwdFactors s xc x4 x5 (ix3 (⟨j % 256, by omega⟩ : Fin 256) (7 : Fin 8) w)) (fun j => fwdSummands s xc x4 x5 (ix3 (⟨j % 256, by omega⟩ : Fin 256) (7 : Fin 8) w))
    (fun j => fwdCarry (fwdFactors s xc x4 x5) (fwdSummands s xc x4 x5) j (ix2 0 w)) 256 (fwd_first w) (fun j hj => ?_) (fun j hj => ?_) J hJ
  · show fwdCarry _ _ (j + 1) (ix2 0 w) = _
    rw [fwdCarry, dif_pos (show j < k0_t2_loop.trips from hj), fwd_pass,
      fwdLast_at _ ⟨j, hj⟩ w ⟨j % 256, by omega⟩ (by show j % 256 = j; omega), fwdLast_at _ ⟨j, hj⟩ w ⟨j % 256, by omega⟩ (by show j % 256 = j; omega)]
  · have h := fwd_tile_carries s xc x4 x5 w fin ⟨j % 256, by omega⟩ 7 (by decide)
    rw [show (⟨j % 256, by omega⟩ : Fin 256).val = j by show (j % 256) = j; omega] at h
    exact h

/-- A tile's rows are the states after them. -/
theorem fwd_state (J : Fin 256) (r : ℕ) (hr : r < 8) :
    fwdSummands s xc x4 x5 (ix3 J (⟨r, by omega⟩ : Fin 8) w) + fwdFactors s xc x4 x5 (ix3 J (⟨r, by omega⟩ : Fin 8) w) * fwdCarries (fwdFactors s xc x4 x5) (fwdSummands s xc x4 x5) (ix3 J 0 w)
      = state (fwdDecays s xc x4 x5 w) (fwdInputs s xc x4 x5 w) (8 * J.val + r + 1) := by
  have h := (fwd_tile_carries s xc x4 x5 w fin J r hr).1
  rw [← fwd_carry_state s xc x4 x5 w fin J.val (by omega)] at h
  exact h

end

end Cert.LruIdeal.Value
end
-- ==== Proof.LruStateB.lean ====
module
public import proofs.«01_k».proof.Proof.Gen.LruIdeal.Frame
public import proofs.«01_k».proof.Proof.LruGate
public import Idealize.ShloMosaic.Lib.Pipeline.ValueKit
public import Idealize.ShloMosaic.Lib.WholeRead
public import Idealize.ShloMosaic.Lib.Pointwise
public import Idealize.ShloMosaic.Lib.IdealHost
public import Idealize.ShloMosaic.Lib.Claim
@[expose] public section
set_option maxRecDepth 16384
noncomputable section
open Idealize.ShloMosaic Idealize.ShloMosaic.TcCoe Idealize.SL.Sem
open Idealize.ShloMosaic.Pipeline (Dat)

open scoped BigOperators
namespace Cert.LruIdeal.Value
open Cert.LruIdeal Cert.LruIdeal.Gen

/-- The backward direction's first column of the gates. -/
def backCol : Fin 513 := ⟨512, by decide⟩

/-- A chunk's rows are the block's. -/
theorem backRows_at (xc : Vec Ideal S2048x256 .f32) (k : Fin k0_t3_loop.trips) (ρ q : Fin 256) (p : Fin 2048) (hp : p.val = 256 * k.val + ρ.val) : backRows xc k (ix2 ρ q) = xc (ix2 p q) := by
  unfold backRows
  refine congrArg xc (funext fun a => Fin.ext ?_)
  refine (ValueKit.rect_emb_unit_val (s := S2048x256) (k0_off5 k) S256x256.size (k0_off5_inb k) (ix2 ρ q) a).trans ((congrArg (· + ((ix2 ρ q : S256x256.Idx) a).val) (congrFun (back_off_rows k) a)).trans ?_)
  match a with
  | ⟨0, _⟩ => exact hp.symm
  | ⟨1, _⟩ => exact Nat.zero_add _

/-- The direction's weights are the block's from its first column on. -/
theorem backWeights_at (x4 : Vec Ideal S1x256x1024 .bf16) (q : Fin 256) (l : Fin 512) (l' : Fin 1024) (h : l'.val = 512 + l.val) : backWeights x4 (ix3 0 q l) = x4 (ix3 0 q l') := by
  unfold backWeights
  refine congrArg x4 (funext fun a => Fin.ext ?_)
  refine (ValueKit.rect_emb_unit_val (s := S1x256x1024) ![0, 0, 512] S1x256x512.size inb_S1x256x1024_S1x256x512_0_0_512 (ix3 0 q l) a).trans ?_
  match a with
  | ⟨0, _⟩ => rfl
  | ⟨1, _⟩ => exact Nat.zero_add _
  | ⟨2, _⟩ => exact h.symm

/-- The direction's biases are the block's from its first column on. -/
theorem backBias_at (x5 : Vec Ideal S1x1x1024 .f32) (l : Fin 512) (l' : Fin 1024) (h : l'.val = 512 + l.val) : backBias x5 (ix3 0 0 l) = x5 (ix3 0 0 l') := by
  unfold backBias
  refine congrArg x5 (funext fun a => Fin.ext ?_)
  refine (ValueKit.rect_emb_unit_val (s := S1x1x1024) ![0, 0, 512] S1x1x512.size inb_S1x1x1024_S1x1x512_0_0_512 (ix3 0 0 l) a).trans ?_
  match a with
  | ⟨0, _⟩ => rfl
  | ⟨1, _⟩ => rfl
  | ⟨2, _⟩ => exact h.symm

/-- A chunk's gate inputs, in the block's own rows and columns. -/
theorem back_gate (xc : Vec Ideal S2048x256 .f32) (x4 : Vec Ideal S1x256x1024 .bf16) (x5 : Vec Ideal S1x1x1024 .f32) (k : Fin k0_t3_loop.trips) (ρ : Fin 256) (p : Fin 2048) (hp : p.val = 256 * k.val + ρ.val)
    (l : Fin 512) (l' : Fin 1024) (h : l'.val = 512 + l.val) : gateIn (backRows xc k) (backWeights x4) (backBias x5) (ix2 ρ l) = gateVal xc x4 x5 p l' := by
  rw [gateIn_at, backBias_at x5 l l' h]
  unfold gateVal
  refine congrArg (· + x5 (ix3 0 0 l')) (Finset.sum_congr rfl fun q _ => ?_)
  rw [backRows_at xc k ρ q p hp, backWeights_at x4 q l l' h]

/-- A chunk's log decays, in the block's own rows. -/
theorem back_log (s : FVec Ideal S1x256 .f32) (xc : Vec Ideal S2048x256 .f32) (x4 : Vec Ideal S1x256x1024 .bf16) (x5 : Vec Ideal S1x1x1024 .f32) (k : Fin k0_t3_loop.trips) (ρ w : Fin 256) (p : Fin 2048) (hp : p.val = 256 * k.val + ρ.val) :
    logDecay s (backRows xc k) (backWeights x4) (backBias x5) (ix2 ρ w) = logVal s xc x4 x5 backCol p w := by
  rw [logDecay_at, back_gate xc x4 x5 k ρ p hp _ ⟨512 + w.val, by omega⟩ rfl]
  rfl

/-- A chunk's inputs, in the block's own rows. -/
theorem back_drive (s : FVec Ideal S1x256 .f32) (xc : Vec Ideal S2048x256 .f32) (x4 : Vec Ideal S1x256x1024 .bf16) (x5 : Vec Ideal S1x1x1024 .f32) (k : Fin k0_t3_loop.trips) (ρ w : Fin 256) (p : Fin 2048) (hp : p.val = 256 * k.val + ρ.val) :
    drive s (backRows xc k) (backWeights x4) (backBias x5) (ix2 ρ w) = driveVal s xc x4 x5 backCol p w := by
  rw [drive_at, back_log s xc x4 x5 k ρ w p hp, backRows_at xc k ρ w p hp, back_gate xc x4 x5 k ρ p hp _ ⟨512 + 256 + w.val, by omega⟩ (Nat.add_assoc _ _ _), word_m2, word_1]
  rfl

/-- The decays of a lane, in the backward direction's time. -/
def backDecays (s : FVec Ideal S1x256 .f32) (xc : Vec Ideal S2048x256 .f32) (x4 : Vec Ideal S1x256x1024 .bf16) (x5 : Vec Ideal S1x1x1024 .f32) (w : Fin 256) (n : ℕ) : EReal := Ideal.exp (logVal s xc x4 x5 backCol (⟨2047 - n, by omega⟩ : Fin 2048) w)

/-- The inputs of a lane, in the backward direction's time. -/
def backInputs (s : FVec Ideal S1x256 .f32) (xc : Vec Ideal S2048x256 .f32) (x4 : Vec Ideal S1x256x1024 .bf16) (x5 : Vec Ideal S1x1x1024 .f32) (w : Fin 256) (n : ℕ) : EReal := driveVal s xc x4 x5 backCol (⟨2047 - n, by omega⟩ : Fin 2048) w

section
variable (s : FVec Ideal S1x256 .f32) (xc : Vec Ideal S2048x256 .f32) (x4 : Vec Ideal S1x256x1024 .bf16) (x5 : Vec Ideal S1x1x1024 .f32) (w : Fin 256) (fin : ∀ p, logVal s xc x4 x5 backCol p w ≠ ⊤)
include fin

/-- The stored factors and summands carry a tile's first state to each of its rows. -/
theorem back_tile_carries (J : Fin 256) (r : ℕ) (hr : r < 8) :
    Carries (backDecays s xc x4 x5 w) (backInputs s xc x4 x5 w) (8 * (255 - J.val)) (8 * (255 - J.val) + r + 1)
      (backFactors s xc x4 x5 (ix3 J (⟨(7 - r), by omega⟩ : Fin 8) w)) (backSummands s xc x4 x5 (ix3 J (⟨(7 - r), by omega⟩ : Fin 8) w)) := by
  have hJ := J.isLt
  let k : Fin k0_t3_loop.trips := (⟨J.val / 32, by omega⟩ : Fin 8)
  have hk : k.val = J.val / 32 := rfl
  refine tile_back _ _ (decay s (backRows xc k) (backWeights x4) (backBias x5)) (drive s (backRows xc k) (backWeights x4) (backBias x5)) w (8 * (255 - J.val)) (J.val % 32) (Nat.mod_lt _ (by decide)) (fun r hr => ?_) r hr
  have hp : ((⟨2047 - (8 * (255 - J.val) + r), by omega⟩ : Fin 2048)).val = 256 * k.val + ((8 * (J.val % 32) + (7 - r)) % 256) := by
    show 2047 - (8 * (255 - J.val) + r) = _
    rw [hk]
    omega
  have eA : cell (decay s (backRows xc k) (backWeights x4) (backBias x5)) (8 * (J.val % 32) + (7 - r)) w = backDecays s xc x4 x5 w (8 * (255 - J.val) + r) :=
    congrArg Ideal.exp (back_log s xc x4 x5 k ⟨(8 * (J.val % 32) + (7 - r)) % 256, Nat.mod_lt _ (by decide)⟩ w _ hp)
  have eU : cell (drive s (backRows xc k) (backWeights x4) (backBias x5)) (8 * (J.val % 32) + (7 - r)) w = backInputs s xc x4 x5 w (8 * (255 - J.val) + r) :=
    back_drive s xc x4 x5 k ⟨(8 * (J.val % 32) + (7 - r)) % 256, Nat.mod_lt _ (by decide)⟩ w _ hp
  rw [eA, eU]
  exact carries_one _ _ _ (exp_factor _ (fin _)).1 (exp_factor _ (fin _)).2

omit fin in
/-- A tile's last row, at a lane. -/
theorem backLast_at (v : Vec Ideal S256x8x256 .f32) (k : Fin k0_t4_loop.trips) (w : Fin 256) (J : Fin 256) (h : J.val = (255 - k.val)) : backLast v k (ix3 0 0 w) = v (ix3 J (0 : Fin 8) w) := by
  unfold backLast
  refine congrArg v (funext fun a => Fin.ext ?_)
  refine (ValueKit.rect_emb_unit_val (s := S256x8x256) (k0_off8 k) S1x1x256.size (k0_off8_inb k) (ix3 0 0 w) a).trans ((congrArg (· + ((ix3 0 0 w : S1x1x256.Idx) a).val) (congrFun (back_off_last k) a)).trans ?_)
  match a with
  | ⟨0, _⟩ => exact h.symm
  | ⟨1, _⟩ => rfl
  | ⟨2, _⟩ => exact Nat.zero_add _

omit fin in
/-- One pass of the carry loop at a lane. -/
theorem back_pass (acc : FVec Ideal S1x256 .f32) (u a : Vec Ideal S1x1x256 .f32) (w : Fin 256) : k0_pay50 acc u a (ix2 0 w) = u (ix3 0 0 w) + a (ix3 0 0 w) * acc (ix2 0 w) := by
  pointwise [k0_pay50]

omit fin in
/-- The first carried row is zero. -/
theorem back_first (w : Fin 256) : k0_pay48 (F := Ideal) (ix2 0 w) = 0 := by
  pointwise [k0_pay48]

/-- The carried rows are the states between the tiles. -/
theorem back_carry_state (J : ℕ) (hJ : J ≤ 256) :
    backCarry (backFactors s xc x4 x5) (backSummands s xc x4 x5) J (ix2 0 w) = state (backDecays s xc x4 x5 w) (backInputs s xc x4 x5 w) (8 * J) := by
  refine carry_state (backDecays s xc x4 x5 w) (backInputs s xc x4 x5 w)
    (fun j => backFactors s xc x4 x5 (ix3 (⟨255 - j, by omega⟩ : Fin 256) (0 : Fin 8) w)) (fun j => backSummands s xc x4 x5 (ix3 (⟨255 - j, by omega⟩ : Fin 256) (0 : Fin 8) w))
    (fun j => backCarry (backFactors s xc x4 x5) (backSummands s xc x4 x5) j (ix2 0 w)) 256 (back_first w) (fun j hj => ?_) (fun j hj => ?_) J hJ
  · show backCarry _ _ (j + 1) (ix2 0 w) = _
    rw [backCarry, dif_pos (show j < k0_t4_loop.trips from hj), back_pass,
      backLast_at _ ⟨j, hj⟩ w ⟨255 - j, by omega⟩ (by show 255 - j = (255 - j); omega), backLast_at _ ⟨j, hj⟩ w ⟨255 - j, by omega⟩ (by show 255 - j = (255 - j); omega)]
  · have h := back_tile_carries s xc x4 x5 w fin ⟨255 - j, by omega⟩ 7 (by decide)
    rw [show (255 - (⟨255 - j, by omega⟩ : Fin 256).val) = j by show (255 - (255 - j)) = j; omega] at h
    exact h

/-- A tile's rows are the states after them. -/
theorem back_state (J : Fin 256) (r : ℕ) (hr : r < 8) :
    backSummands s xc x4 x5 (ix3 J (⟨(7 - r), by omega⟩ : Fin 8) w) + backFactors s xc x4 x5 (ix3 J (⟨(7 - r), by omega⟩ : Fin 8) w) * backCarries (backFactors s xc x4 x5) (backSummands s xc x4 x5) (ix3 J 0 w)
      = state (backDecays s xc x4 x5 w) (backInputs s xc x4 x5 w) (8 * (255 - J.val) + r + 1) := by
  have h := (back_tile_carries s xc x4 x5 w fin J r hr).1
  rw [← back_carry_state s xc x4 x5 w fin (255 - J.val) (by omega)] at h
  exact h

end

end Cert.LruIdeal.Value
end
-- ==== Proof.LruKernel.lean ====
module
public import proofs.«01_k».proof.Proof.Gen.LruIdeal.Frame
public import proofs.«01_k».proof.Proof.LruStateF
public import proofs.«01_k».proof.Proof.LruStateB
public import Idealize.ShloMosaic.Lib.Pipeline.ValueKit
public import Idealize.ShloMosaic.Lib.WholeRead
public import Idealize.ShloMosaic.Lib.Pointwise
public import Idealize.ShloMosaic.Lib.IdealHost
public import Idealize.ShloMosaic.Lib.Claim
public import Idealize.ShloMosaic.Lib.WordCmp
@[expose] public section
set_option maxRecDepth 16384
noncomputable section
open Idealize.ShloMosaic Idealize.ShloMosaic.TcCoe Idealize.SL.Sem
open Idealize.ShloMosaic.Pipeline (Dat)

open scoped BigOperators
namespace Cert.LruIdeal.Value
open Cert.LruIdeal Cert.LruIdeal.Gen

/-- A row of the block, zero outside, counted from two rows before it. -/
def shiftedRow (x0 : Vec Ideal S1x2048x256 .f32) (n : ℕ) (w : Fin 256) : EReal :=
  if 2 ≤ n ∧ n < 2050 then x0 (ix3 0 (⟨(n - 2) % 2048, Nat.mod_lt _ (by decide)⟩ : Fin 2048) w) else 0

/-- A tap at a lane. -/
theorem tap_at (x2 : Vec Ideal S4x256 .f32) (n : ℕ) (hn : n < 4) (h : ∀ a, (![n, 0] : Fin 2 → ℕ) a + S1x256.size a ≤ S4x256.size a) (w : Fin 256) : tap x2 n h (ix2 0 w) = x2 (ix2 ⟨n, hn⟩ w) := by
  unfold tap
  refine congrArg x2 (funext fun a => Fin.ext ?_)
  refine (ValueKit.rect_emb_unit_val (s := S4x256) ![n, 0] S1x256.size h (ix2 0 w) a).trans ?_
  fin_cases a
  · rfl
  · exact Nat.zero_add _

/-- A row of the decay parameter at a lane. -/
theorem lamRow_at (x6 : Vec Ideal S2x256 .f32) (n : ℕ) (hn : n < 2) (h : ∀ a, (![n, 0] : Fin 2 → ℕ) a + S1x256.size a ≤ S2x256.size a) (w : Fin 256) : lamRow x6 n h (ix2 0 w) = x6 (ix2 ⟨n, hn⟩ w) := by
  unfold lamRow
  refine congrArg x6 (funext fun a => Fin.ext ?_)
  refine (ValueKit.rect_emb_unit_val (s := S2x256) ![n, 0] S1x256.size h (ix2 0 w) a).trans ?_
  fin_cases a
  · rfl
  · exact Nat.zero_add _

/-- A masked product is the product with a masked entry. -/
theorem masked_at (c : BitVec 1) (P : Prop) [Decidable P] (hc : c = BitVec.ofBool (decide P)) (k : EReal) (f : Fin 2048 → EReal) (i : Fin 2048) (n : ℕ) (hP : P ↔ 2 ≤ n ∧ n < 2050) (hi : P → i.val = (n - 2) % 2048) :
    Scalar.select c (k * f i) 0 = k * if 2 ≤ n ∧ n < 2050 then f ⟨(n - 2) % 2048, Nat.mod_lt _ (by decide)⟩ else 0 := by
  by_cases h : P
  · rw [hc, decide_eq_true h, if_pos (hP.mp h)]
    exact congrArg (k * f ·) (Fin.ext (hi h))
  · rw [hc, decide_eq_false h, if_neg (fun q => h (hP.mpr q)), mul_zero]
    rfl

/-- The convolved rows of a block. -/
theorem convRows_at (x0 : Vec Ideal S1x2048x256 .f32) (x2 : Vec Ideal S4x256 .f32) (x3 : Vec Ideal S1x256 .f32) (p : Fin 2048) (w : Fin 256) :
    convRows x0 x2 x3 (ix2 p w)
      = x2 (ix2 0 w) * shiftedRow x0 p.val w + x2 (ix2 1 w) * shiftedRow x0 (p.val + 1) w + x2 (ix2 2 w) * shiftedRow x0 (p.val + 2) w + x2 (ix2 3 w) * shiftedRow x0 (p.val + 3) w + x3 (ix2 0 w) := by
  unfold convRows
  pointwise [k0_pay23, k0_pay22, k0_pay21]
  rw [tap_at x2 0 (by decide), tap_at x2 1 (by decide), tap_at x2 2 (by decide), tap_at x2 3 (by decide)]
  have hp := p.isLt
  refine congrArg (· + x3 (ix2 0 w)) (congrArg₂ (· + ·) (congrArg₂ (· + ·) (congrArg₂ (· + ·) ?_ ?_) ?_) ?_)
  · exact masked_at _ (2 ≤ p.val) (WordCmp.cmpi_sge_ofNat (w := 32) (by omega) (by decide)) (x2 (ix2 0 w)) (fun k : Fin 2048 => x0 (ix3 0 k w)) _ _ (by omega) (by intro _; show (p.val + 2048 - 2) % 2048 = _; omega)
  · exact masked_at _ (1 ≤ p.val) (WordCmp.cmpi_sge_ofNat (w := 32) (by omega) (by decide)) (x2 (ix2 1 w)) (fun k : Fin 2048 => x0 (ix3 0 k w)) _ _ (by omega) (by intro _; show (p.val + 2048 - 1) % 2048 = _; omega)
  · refine congrArg (x2 (ix2 2 w) * ·) ?_
    unfold shiftedRow
    rw [if_pos (by omega)]
    exact congrArg (fun k : Fin 2048 => x0 (ix3 0 k w)) (Fin.ext (by show p.val = (p.val + 2 - 2) % 2048; omega))
  · exact masked_at _ (p.val < 2047) (WordCmp.cmpi_slt_ofNat (w := 32) (by omega) (by decide)) (x2 (ix2 3 w)) (fun k : Fin 2048 => x0 (ix3 0 k w)) _ _ (by omega) (by intro _; show (p.val + 2048 - 2047) % 2048 = _; omega)

/-- The forward decay rate of a lane. -/
theorem rateF_at (x6 : Vec Ideal S2x256 .f32) (w : Fin 256) :
    rateF x6 (ix2 0 w) = ((-8 : ℝ) : EReal) * (max (-x6 (ix2 0 w)) 0 + Ideal.log1p (Ideal.exp (-FloatOps.absf (F := Ideal) (φ := .f32) (x6 (ix2 0 w))))) := by
  rw [← word_m8]
  unfold rateF
  pointwise [k0_pay25]
  rw [lamRow_at x6 0 (by decide)]
  simp only [zero_sub]
  rfl

/-- The backward decay rate of a lane. -/
theorem rateB_at (x6 : Vec Ideal S2x256 .f32) (w : Fin 256) :
    rateB x6 (ix2 0 w) = ((-8 : ℝ) : EReal) * (max (-x6 (ix2 1 w)) 0 + Ideal.log1p (Ideal.exp (-FloatOps.absf (F := Ideal) (φ := .f32) (x6 (ix2 1 w))))) := by
  rw [← word_m8]
  unfold rateB
  pointwise [k0_pay40, k0_pay38, k0_pay39]
  rw [lamRow_at x6 1 (by decide)]
  simp only [zero_sub]
  rfl

/-- The two directions' states at a tile's row, with the carried rows. -/
theorem bothStates_at (xc : FVec Ideal S2048x256 .f32) (x4 : Vec Ideal S1x256x1024 .bf16) (x5 : Vec Ideal S1x1x1024 .f32) (x6 : Vec Ideal S2x256 .f32) (w : Fin 256)
    (finF : ∀ p, logVal (rateF x6) xc x4 x5 fwdCol p w ≠ ⊤) (finB : ∀ p, logVal (rateB x6) xc x4 x5 backCol p w ≠ ⊤) (J : Fin 256) (r : Fin 8) :
    bothStates xc x4 x5 x6 (ix3 J r w)
      = state (fwdDecays (rateF x6) xc x4 x5 w) (fwdInputs (rateF x6) xc x4 x5 w) (8 * J.val + r.val + 1)
        + state (backDecays (rateB x6) xc x4 x5 w) (backInputs (rateB x6) xc x4 x5 w) (8 * (255 - J.val) + (7 - r.val) + 1) := by
  have hr := r.isLt
  have hf := fwd_state (rateF x6) xc x4 x5 w finF J r.val hr
  have hb := back_state (rateB x6) xc x4 x5 w finB J (7 - r.val) (by omega)
  rw [show (⟨7 - (7 - r.val), by omega⟩ : Fin 8) = r from Fin.ext (by show 7 - (7 - r.val) = r.val; omega)] at hb
  rw [← hf, ← hb]
  unfold bothStates
  pointwise [k0_pay1, k0_pay37]

/-- A block's result at a row and a lane. -/
theorem block_at (H : Vec Ideal S256x8x256 .f32) (x1 : Vec Ideal S1x2048x256 .f32) (p : Fin 2048) (w : Fin 256) :
    k0_pay2 H x1 (ix3 0 p w) = H (ix3 ⟨p.val / 8, by omega⟩ ⟨p.val % 8, Nat.mod_lt _ (by decide)⟩ w) * (x1 (ix3 0 p w) * Ideal.logistic (x1 (ix3 0 p w))) := by
  pointwise [k0_pay2]

end Cert.LruIdeal.Value
end
-- ==== Proof.LruHost.lean ====
module
public import proofs.«01_k».proof.Proof.LruKernel
public import Idealize.ShloMosaic.Lib.Pipeline.ValueKit
public import Idealize.ShloMosaic.Lib.Pointwise
public import Idealize.ShloMosaic.Lib.IdealHost
public import Idealize.ShloMosaic.Lib.WordCmp
public import Idealize.ShloMosaic.Lib.StableHlo.RunRead
public import Idealize.ShloMosaic.Lib.Claim
@[expose] public section
set_option maxRecDepth 16384
noncomputable section
open Idealize.ShloMosaic Idealize.ShloMosaic.TcCoe Idealize.SL.Sem
open Idealize.ShloMosaic.Pipeline (Dat)

open scoped BigOperators
open Idealize.ShloMosaic.StableHlo
namespace Cert.LruIdeal.Value
open Cert.LruIdeal Cert.LruIdeal.Gen

/-- The identity matrix of order four. -/
def unit4 : FVec Ideal S4x4 .f32 := uitofp .f32 (cmpi .eq (addi (iotaInDim S4x4 32 0) (broadcastInDim S4x4 ![] bcast_S_S4x4 (constantI S_ 32 0#32))) (iotaInDim S4x4 32 1))

/-- Entries picked under the same condition. -/
theorem pick (P : Prop) [Decidable P] (x y : EReal) (h : P → x = y) : x * (if P then 1 else 0) = y * (if P then 1 else 0) := by
  by_cases p : P
  · rw [h p]
  · rw [if_neg p, mul_zero, mul_zero]

/-- An entry of the identity matrix. -/
theorem unit_entry (x y : ℕ) (hx : x < 4) (hy : y < 4) : (FloatOps.uitofp FTy.f32 (IntOp.cmpi CmpIPredicate.eq (IntOp.addi (BitVec.ofNat 32 x) 0#32) (BitVec.ofNat 32 y)) : Ideal FTy.f32) = if x = y then 1 else 0 := by
  have e : IntOp.addi (BitVec.ofNat 32 x) 0#32 = BitVec.ofNat 32 x := BitVec.add_zero _
  rw [e, WordCmp.cmpi_eq_eq]
  by_cases h : x = y
  · rw [if_pos h, decide_eq_true (congrArg _ h)]
    show ((((BitVec.ofBool true).toNat : ℕ) : ℝ) : EReal) = 1
    simp
  · rw [if_neg h, decide_eq_false fun q => h ((WordCmp.ofNat_eq_ofNat_iff (by omega) (by omega)).mp q)]
    show ((((BitVec.ofBool false).toNat : ℕ) : ℝ) : EReal) = 0
    simp

/-- The dense blocks of direction 0's weights. -/
def dense0 (w : FVec Ideal S2x8x64x64 .f32) : FVec Ideal S2x256x256 .f32 :=
  shapeCast _ (mulf (broadcastInDim S2x4x64x4x64 ![0, 1, 2, 3, 4] bcast_S2x4x64x1x64_S2x4x64x4x64_0_1_2_3_4 (broadcastInDim S2x4x64x1x64 ![0, 1, 2, 4] bcast_S2x4x64x64_S2x4x64x1x64_0_1_2_4 (shapeCast S2x4x64x64 (shapeCast S8x64x64 (extractStridedSlice S1x8x64x64 ![0, 0, 0, 0] w slices_S2x8x64x64_S1x8x64x64_0_0_0_0) shapeCasts_S1x8x64x64_S8x64x64) shapeCasts_S8x64x64_S2x4x64x64)))
    (broadcastInDim S2x4x64x4x64 ![0, 1, 2, 3, 4] bcast_S1x4x1x4x1_S2x4x64x4x64_0_1_2_3_4 (broadcastInDim S1x4x1x4x1 ![1, 2, 3, 4] bcast_S4x1x4x1_S1x4x1x4x1_1_2_3_4 (broadcastInDim S4x1x4x1 ![0, 2] bcast_S4x4_S4x1x4x1_0_2 unit4)))) shapeCasts_S2x4x64x4x64_S2x256x256

/-- Direction 0's biases in two halves. -/
def bias0 (b : FVec Ideal S2x512 .f32) : FVec Ideal S2x1x256 .f32 :=
  shapeCast _ (shapeCast S512 (extractStridedSlice S1x512 ![0, 0] b slices_S2x512_S1x512_0_0) shapeCasts_S1x512_S512) shapeCasts_S512_S2x1x256

/-- A dense block at a row and a column. -/
theorem dense0_at (w : FVec Ideal S2x8x64x64 .f32) (g : Fin 2) (q o : Fin 256) :
    dense0 w (ix3 g q o) = w (ix4 0 ⟨4 * g.val + o.val / 64, by omega⟩ ⟨q.val % 64, Nat.mod_lt _ (by decide)⟩ ⟨o.val % 64, Nat.mod_lt _ (by decide)⟩) * (if q.val / 64 = o.val / 64 then 1 else 0) := by
  unfold dense0 unit4
  pointwise
  refine (congrArg (w _ * ·) (unit_entry (q.val / 64) (o.val / 64) (by omega) (by omega))).trans ?_
  refine pick _ _ _ fun h => congrArg (fun k : Fin 8 => w (ix4 0 k ⟨q.val % 64, Nat.mod_lt _ (by decide)⟩ ⟨o.val % 64, Nat.mod_lt _ (by decide)⟩)) (Fin.ext ?_)
  show g.val * 4 + q.val / 64 = 4 * g.val + o.val / 64
  omega

/-- A bias at a lane of its half. -/
theorem bias0_at (b : FVec Ideal S2x512 .f32) (g : Fin 2) (w : Fin 256) :
    bias0 b (ix3 g 0 w) = b (ix2 0 ⟨256 * g.val + w.val, by omega⟩) := by
  unfold bias0
  pointwise
  exact congrArg (fun k : Fin 512 => b (ix2 0 k)) (Fin.ext (congrArg (· + w.val) (Nat.mul_comm _ _)))

/-- The dense blocks of direction 1's weights. -/
def dense1 (w : FVec Ideal S2x8x64x64 .f32) : FVec Ideal S2x256x256 .f32 :=
  shapeCast _ (mulf (broadcastInDim S2x4x64x4x64 ![0, 1, 2, 3, 4] bcast_S2x4x64x1x64_S2x4x64x4x64_0_1_2_3_4 (broadcastInDim S2x4x64x1x64 ![0, 1, 2, 4] bcast_S2x4x64x64_S2x4x64x1x64_0_1_2_4 (shapeCast S2x4x64x64 (shapeCast S8x64x64 (extractStridedSlice S1x8x64x64 ![1, 0, 0, 0] w slices_S2x8x64x64_S1x8x64x64_1_0_0_0) shapeCasts_S1x8x64x64_S8x64x64) shapeCasts_S8x64x64_S2x4x64x64)))
    (broadcastInDim S2x4x64x4x64 ![0, 1, 2, 3, 4] bcast_S1x4x1x4x1_S2x4x64x4x64_0_1_2_3_4 (broadcastInDim S1x4x1x4x1 ![1, 2, 3, 4] bcast_S4x1x4x1_S1x4x1x4x1_1_2_3_4 (broadcastInDim S4x1x4x1 ![0, 2] bcast_S4x4_S4x1x4x1_0_2 unit4)))) shapeCasts_S2x4x64x4x64_S2x256x256

/-- Direction 1's biases in two halves. -/
def bias1 (b : FVec Ideal S2x512 .f32) : FVec Ideal S2x1x256 .f32 :=
  shapeCast _ (shapeCast S512 (extractStridedSlice S1x512 ![1, 0] b slices_S2x512_S1x512_1_0) shapeCasts_S1x512_S512) shapeCasts_S512_S2x1x256

/-- A dense block at a row and a column. -/
theorem dense1_at (w : FVec Ideal S2x8x64x64 .f32) (g : Fin 2) (q o : Fin 256) :
    dense1 w (ix3 g q o) = w (ix4 1 ⟨4 * g.val + o.val / 64, by omega⟩ ⟨q.val % 64, Nat.mod_lt _ (by decide)⟩ ⟨o.val % 64, Nat.mod_lt _ (by decide)⟩) * (if q.val / 64 = o.val / 64 then 1 else 0) := by
  unfold dense1 unit4
  pointwise
  refine (congrArg (w _ * ·) (unit_entry (q.val / 64) (o.val / 64) (by omega) (by omega))).trans ?_
  refine pick _ _ _ fun h => congrArg (fun k : Fin 8 => w (ix4 1 k ⟨q.val % 64, Nat.mod_lt _ (by decide)⟩ ⟨o.val % 64, Nat.mod_lt _ (by decide)⟩)) (Fin.ext ?_)
  show g.val * 4 + q.val / 64 = 4 * g.val + o.val / 64
  omega

/-- A bias at a lane of its half. -/
theorem bias1_at (b : FVec Ideal S2x512 .f32) (g : Fin 2) (w : Fin 256) :
    bias1 b (ix3 g 0 w) = b (ix2 1 ⟨256 * g.val + w.val, by omega⟩) := by
  unfold bias1
  pointwise
  exact congrArg (fun k : Fin 512 => b (ix2 1 k)) (Fin.ext (congrArg (· + w.val) (Nat.mul_comm _ _)))

/-- All the gates' weights side by side. -/
def weights (w v : FVec Ideal S2x8x64x64 .f32) : FVec Ideal S2x256x1024 .bf16 :=
  truncf .bf16 (concatenate S2x256x1024 2 [⟨S2x256x256, dense0 w⟩, ⟨S2x256x256, dense0 v⟩, ⟨S2x256x256, dense1 w⟩, ⟨S2x256x256, dense1 v⟩] concatenates_S2x256x256_S2x256x256_S2x256x256_S2x256x256_S2x256x1024_d2) bitsLt_bf16_f32

/-- All the gates' biases side by side. -/
def biases (b d : FVec Ideal S2x512 .f32) : FVec Ideal S2x1x1024 .f32 :=
  concatenate S2x1x1024 2 [⟨S2x1x256, bias0 b⟩, ⟨S2x1x256, bias0 d⟩, ⟨S2x1x256, bias1 b⟩, ⟨S2x1x256, bias1 d⟩] concatenates_S2x1x256_S2x1x256_S2x1x256_S2x1x256_S2x1x1024_d2

/-- A sum over a dense block's rows is the sum over the block's own. -/
theorem block_sum (n : Fin 4) (f : Fin 256 → EReal) (k : Fin 64 → EReal) :
    (∑ q : Fin 256, f q * (k ⟨q.val % 64, Nat.mod_lt _ (by decide)⟩ * (if q.val / 64 = n.val then 1 else 0))) = ∑ q : Fin 64, k q * f ⟨64 * n.val + q.val, by omega⟩ := by
  refine (Finset.sum_of_injOn (fun q : Fin 64 => (⟨64 * n.val + q.val, by omega⟩ : Fin 256)) ?_ ?_ ?_ ?_).symm
  · intro a _ b _ h
    have := congrArg Fin.val h
    exact Fin.ext (by simpa using this)
  · intro a _
    simp
  · intro q _ h
    rw [if_neg, mul_zero, mul_zero]
    intro e
    exact h ⟨⟨q.val % 64, Nat.mod_lt _ (by decide)⟩, by simp, Fin.ext (by show 64 * n.val + q.val % 64 = q.val; omega)⟩
  · intro q _
    have e1 : (64 * n.val + q.val) / 64 = n.val := by omega
    have e2 : (64 * n.val + q.val) % 64 = q.val := by omega
    simp only [e1, e2, if_true, mul_one]
    exact mul_comm _ _

variable (m : (ℓ : Loc nD τ sig) → Buf (Elt Ideal) ℓ) (c : Dev nD)

/-- The weights' array before the call. -/
theorem host_weights : V m c (Pipeline.arrRef spec0 4) = weights (m ((c : Thread nD τ).loc main_arg3)) (m ((c : Thread nD τ).loc main_arg5)) := by
  unfold V
  show StableHlo.after hostOps0 (fun b => m (c, b)) (Proc.devRef .tc main_v78) = _
  after_reads_simp
  try rfl

/-- The biases' array before the call. -/
theorem host_biases : V m c (Pipeline.arrRef spec0 5) = biases (m ((c : Thread nD τ).loc main_arg4)) (m ((c : Thread nD τ).loc main_arg6)) := by
  unfold V
  show StableHlo.after hostOps0 (fun b => m (c, b)) (Proc.devRef .tc main_v77) = _
  after_reads_simp
  try rfl

/-- The convolution's bias row before the call. -/
theorem host_conv : V m c (Pipeline.arrRef spec0 3) = shapeCast S1x512 (m ((c : Thread nD τ).loc main_arg2)) shapeCasts_S512_S1x512 := by
  unfold V
  show StableHlo.after hostOps0 (fun b => m (c, b)) (Proc.devRef .tc main_v79) = _
  after_reads_simp
  try rfl

/-- Every window's block index at grid point `t`: batch entry `t / 2`, half of the lanes `t % 2`. -/
theorem idx_val : ∀ t : Fin cfg0.N, win0_0.index t = ![t.val / 2, 0, 2 + t.val % 2]
    ∧ win0_1.index t = ![t.val / 2, 0, 4 + t.val % 2]
    ∧ win0_2.index t = ![0, t.val % 2]
    ∧ win0_3.index t = ![0, t.val % 2]
    ∧ win0_4.index t = ![t.val % 2, 0, 0]
    ∧ win0_5.index t = ![t.val % 2, 0, 0]
    ∧ win0_6.index t = ![0, t.val % 2]
    ∧ win0_7.index t = ![t.val / 2, 0, t.val % 2] :=
  (by decide +kernel : ∀ t : Fin grid0.N, _)

/-- The half of the lanes of grid point `t`. -/
def half (t : Fin cfg0.N) : Fin 2 := ⟨t.val % 2, by omega⟩

/-- The batch entry of grid point `t`. -/
def batch (t : Fin cfg0.N) : Fin 16 := ⟨t.val / 2, by have h : t.val < 32 := t.isLt; omega⟩

/-- The block of rows. -/
theorem row_block (t : Fin cfg0.N) (p : Fin 2048) (w : Fin 256) : iblk m c 0 t (ix3 0 p w)
    = m ((c : Thread nD τ).loc main_arg0) (ix3 (batch t) p ⟨512 + (256 * (half t).val + w.val), by omega⟩) := by
  blk_point [iblk, V, idx_val t]
  all_goals (simp only [half, batch]; try omega)

/-- The block of gate lanes. -/
theorem gate_block (t : Fin cfg0.N) (p : Fin 2048) (w : Fin 256) : iblk m c 1 t (ix3 0 p w)
    = m ((c : Thread nD τ).loc main_arg0) (ix3 (batch t) p ⟨1024 + (256 * (half t).val + w.val), by omega⟩) := by
  blk_point [iblk, V, idx_val t]
  all_goals (simp only [half, batch]; try omega)

/-- The block of taps. -/
theorem tap_block (t : Fin cfg0.N) (n : Fin 4) (w : Fin 256) : iblk m c 2 t (ix2 n w)
    = m ((c : Thread nD τ).loc main_arg1) (ix2 n ⟨256 * (half t).val + w.val, by omega⟩) := by
  blk_point [iblk, V, idx_val t]
  all_goals (simp only [half, batch]; try omega)

/-- The block of decay parameters. -/
theorem lam_block (t : Fin cfg0.N) (n : Fin 2) (w : Fin 256) : iblk m c 6 t (ix2 n w)
    = m ((c : Thread nD τ).loc main_arg7) (ix2 n ⟨256 * (half t).val + w.val, by omega⟩) := by
  blk_point [iblk, V, idx_val t]
  all_goals (simp only [half, batch]; try omega)

/-- The block of the convolution's biases. -/
theorem conv_block (t : Fin cfg0.N) (w : Fin 256) : iblk m c 3 t (ix2 0 w)
    = m ((c : Thread nD τ).loc main_arg2) (ix1 ⟨256 * (half t).val + w.val, by omega⟩) := by
  have e : shapeCast S1x512 (m ((c : Thread nD τ).loc main_arg2)) shapeCasts_S512_S1x512 (ix2 0 ⟨256 * (half t).val + w.val, by omega⟩) = m ((c : Thread nD τ).loc main_arg2) (ix1 ⟨256 * (half t).val + w.val, by omega⟩) := by
    pointwise
  rw [← e]
  show ((cfg0.win 3).blk t).view.read (Elt Ideal) (V m c (Pipeline.arrRef spec0 3)) (ix2 0 w) = _
  rw [host_conv]
  generalize shapeCast S1x512 (m ((c : Thread nD τ).loc main_arg2)) shapeCasts_S512_S1x512 = Z
  blk_point [idx_val t]
  all_goals (simp only [half, batch]; try omega)

/-- The block of weights. -/
theorem weight_block (t : Fin cfg0.N) (q : Fin 256) (o : Fin 1024) : iblk m c 4 t (ix3 0 q o)
    = weights (m ((c : Thread nD τ).loc main_arg3)) (m ((c : Thread nD τ).loc main_arg5)) (ix3 (half t) q o) := by
  show ((cfg0.win 4).blk t).view.read (Elt Ideal) (V m c (Pipeline.arrRef spec0 4)) (ix3 0 q o) = _
  rw [host_weights]
  generalize weights (m ((c : Thread nD τ).loc main_arg3)) (m ((c : Thread nD τ).loc main_arg5)) = Z
  blk_point [idx_val t]
  all_goals (simp only [half, batch]; try omega)

/-- The block of biases. -/
theorem bias_block (t : Fin cfg0.N) (o : Fin 1024) : iblk m c 5 t (ix3 0 0 o)
    = biases (m ((c : Thread nD τ).loc main_arg4)) (m ((c : Thread nD τ).loc main_arg6)) (ix3 (half t) 0 o) := by
  show ((cfg0.win 5).blk t).view.read (Elt Ideal) (V m c (Pipeline.arrRef spec0 5)) (ix3 0 0 o) = _
  rw [host_biases]
  generalize biases (m ((c : Thread nD τ).loc main_arg4)) (m ((c : Thread nD τ).loc main_arg6)) = Z
  blk_point [idx_val t]
  all_goals (simp only [half, batch]; try omega)

/-- The weights' columns from 0 on. -/
theorem weights0_at (w v : FVec Ideal S2x8x64x64 .f32) (g : Fin 2) (q o : Fin 256) : weights w v (ix3 g q ⟨0 + o.val, by omega⟩) = dense0 w (ix3 g q o) := by
  unfold weights
  generalize dense0 w = d0
  generalize dense1 w = d1
  generalize dense0 v = e0
  generalize dense1 v = e1
  pointwise

/-- The biases' columns from 0 on. -/
theorem biases0_at (b d : FVec Ideal S2x512 .f32) (g : Fin 2) (o : Fin 256) : biases b d (ix3 g 0 ⟨0 + o.val, by omega⟩) = bias0 b (ix3 g 0 o) := by
  unfold biases
  generalize bias0 b = d0
  generalize bias1 b = d1
  generalize bias0 d = e0
  generalize bias1 d = e1
  pointwise

/-- The weights' columns from 256 on. -/
theorem weights1_at (w v : FVec Ideal S2x8x64x64 .f32) (g : Fin 2) (q o : Fin 256) : weights w v (ix3 g q ⟨256 + o.val, by omega⟩) = dense0 v (ix3 g q o) := by
  unfold weights
  generalize dense0 w = d0
  generalize dense1 w = d1
  generalize dense0 v = e0
  generalize dense1 v = e1
  pointwise

/-- The biases' columns from 256 on. -/
theorem biases1_at (b d : FVec Ideal S2x512 .f32) (g : Fin 2) (o : Fin 256) : biases b d (ix3 g 0 ⟨256 + o.val, by omega⟩) = bias0 d (ix3 g 0 o) := by
  unfold biases
  generalize bias0 b = d0
  generalize bias1 b = d1
  generalize bias0 d = e0
  generalize bias1 d = e1
  pointwise

/-- The weights' columns from 512 on. -/
theorem weights2_at (w v : FVec Ideal S2x8x64x64 .f32) (g : Fin 2) (q o : Fin 256) : weights w v (ix3 g q ⟨512 + o.val, by omega⟩) = dense1 w (ix3 g q o) := by
  unfold weights
  generalize dense0 w = d0
  generalize dense1 w = d1
  generalize dense0 v = e0
  generalize dense1 v = e1
  pointwise
  rw [dif_neg (by omega), dif_neg (by omega), dif_pos (by omega)]
  exact congrArg (fun k : Fin 256 => d1 (ix3 g q k)) (Fin.ext (by show 512 + o.val - 256 - 256 = o.val; omega))

/-- The biases' columns from 512 on. -/
theorem biases2_at (b d : FVec Ideal S2x512 .f32) (g : Fin 2) (o : Fin 256) : biases b d (ix3 g 0 ⟨512 + o.val, by omega⟩) = bias1 b (ix3 g 0 o) := by
  unfold biases
  generalize bias0 b = d0
  generalize bias1 b = d1
  generalize bias0 d = e0
  generalize bias1 d = e1
  pointwise
  rw [dif_neg (by omega), dif_neg (by omega), dif_pos (by omega)]
  exact congrArg (fun k : Fin 256 => d1 (ix3 g 0 k)) (Fin.ext (by show 512 + o.val - 256 - 256 = o.val; omega))

/-- The weights' columns from 768 on. -/
theorem weights3_at (w v : FVec Ideal S2x8x64x64 .f32) (g : Fin 2) (q o : Fin 256) : weights w v (ix3 g q ⟨768 + o.val, by omega⟩) = dense1 v (ix3 g q o) := by
  unfold weights
  generalize dense0 w = d0
  generalize dense1 w = d1
  generalize dense0 v = e0
  generalize dense1 v = e1
  pointwise
  rw [dif_neg (by omega), dif_neg (by omega), dif_neg (by omega)]
  exact congrArg (fun k : Fin 256 => e1 (ix3 g q k)) (Fin.ext (by show 768 + o.val - 256 - 256 - 256 = o.val; omega))

/-- The biases' columns from 768 on. -/
theorem biases3_at (b d : FVec Ideal S2x512 .f32) (g : Fin 2) (o : Fin 256) : biases b d (ix3 g 0 ⟨768 + o.val, by omega⟩) = bias1 d (ix3 g 0 o) := by
  unfold biases
  generalize bias0 b = d0
  generalize bias1 b = d1
  generalize bias0 d = e0
  generalize bias1 d = e1
  pointwise
  rw [dif_neg (by omega), dif_neg (by omega), dif_neg (by omega)]
  exact congrArg (fun k : Fin 256 => e1 (ix3 g 0 k)) (Fin.ext (by show 768 + o.val - 256 - 256 - 256 = o.val; omega))

end Cert.LruIdeal.Value
end
-- ==== Proof.LruParts.lean ====
module
public import proofs.«01_k».proof.Proof.Gen.RefLruIdeal.Run
@[expose] public section
set_option maxRecDepth 16384
noncomputable section
open Idealize.ShloMosaic Idealize.ShloMosaic.TcCoe Idealize.SL.Sem
open Idealize.ShloMosaic.Pipeline (Dat)

open Idealize.ShloMosaic.StableHlo
namespace Cert.RefLruIdeal.Value
open Cert.RefLruIdeal Cert.RefLruIdeal.Gen

variable {F : FTy → Type} [FloatOps F]

/-- The convolved rows, of the first three arguments. -/
def convolved (arg0 : (⟨S16x2048x1536, .f32⟩ : BufTy).Contents (Elt F)) (arg1 : (⟨S4x512, .f32⟩ : BufTy).Contents (Elt F)) (arg2 : (⟨S512, .f32⟩ : BufTy).Contents (Elt F)) : (⟨S16x2048x512, .f32⟩ : BufTy).Contents (Elt F) :=
  addf (addf (addf (addf (mulf (broadcastInDim S16x2048x512 ![0, 1, 2] bcast_S1x1x512_S16x2048x512_0_1_2 (broadcastInDim S1x1x512 ![2] bcast_S512_S1x1x512_2 (shapeCast _ (extractStridedSlice S1x512 ![0, 0] arg1 slices_S4x512_S1x512_0_0) shapeCasts_S1x512_S512 : (⟨S512, .f32⟩ : BufTy).Contents (Elt F)))) (extractStridedSlice S16x2048x512 ![0, 0, 0] (pad S16x2051x512 ![0, 2, 0] ![0, 1, 0] ![0, 0, 0] (extractStridedSlice S16x2048x512 ![0, 0, 512] arg0 slices_S16x2048x1536_S16x2048x512_0_0_512) (sitofp .f32 (constantI S_ 32 0#32)) pads_S16x2048x512_S16x2051x512_000_210_000 h_S_) slices_S16x2051x512_S16x2048x512_0_0_0)) (mulf (broadcastInDim S16x2048x512 ![0, 1, 2] bcast_S1x1x512_S16x2048x512_0_1_2 (broadcastInDim S1x1x512 ![2] bcast_S512_S1x1x512_2 (shapeCast _ (extractStridedSlice S1x512 ![1, 0] arg1 slices_S4x512_S1x512_1_0) shapeCasts_S1x512_S512 : (⟨S512, .f32⟩ : BufTy).Contents (Elt F)))) (extractStridedSlice S16x2048x512 ![0, 1, 0] (pad S16x2051x512 ![0, 2, 0] ![0, 1, 0] ![0, 0, 0] (extractStridedSlice S16x2048x512 ![0, 0, 512] arg0 slices_S16x2048x1536_S16x2048x512_0_0_512) (sitofp .f32 (constantI S_ 32 0#32)) pads_S16x2048x512_S16x2051x512_000_210_000 h_S_) slices_S16x2051x512_S16x2048x512_0_1_0))) (mulf (broadcastInDim S16x2048x512 ![0, 1, 2] bcast_S1x1x512_S16x2048x512_0_1_2 (broadcastInDim S1x1x512 ![2] bcast_S512_S1x1x512_2 (shapeCast _ (extractStridedSlice S1x512 ![2, 0] arg1 slices_S4x512_S1x512_2_0) shapeCasts_S1x512_S512 : (⟨S512, .f32⟩ : BufTy).Contents (Elt F)))) (extractStridedSlice S16x2048x512 ![0, 2, 0] (pad S16x2051x512 ![0, 2, 0] ![0, 1, 0] ![0, 0, 0] (extractStridedSlice S16x2048x512 ![0, 0, 512] arg0 slices_S16x2048x1536_S16x2048x512_0_0_512) (sitofp .f32 (constantI S_ 32 0#32)) pads_S16x2048x512_S16x2051x512_000_210_000 h_S_) slices_S16x2051x512_S16x2048x512_0_2_0))) (mulf (broadcastInDim S16x2048x512 ![0, 1, 2] bcast_S1x1x512_S16x2048x512_0_1_2 (broadcastInDim S1x1x512 ![2] bcast_S512_S1x1x512_2 (shapeCast _ (extractStridedSlice S1x512 ![3, 0] arg1 slices_S4x512_S1x512_3_0) shapeCasts_S1x512_S512 : (⟨S512, .f32⟩ : BufTy).Contents (Elt F)))) (extractStridedSlice S16x2048x512 ![0, 3, 0] (pad S16x2051x512 ![0, 2, 0] ![0, 1, 0] ![0, 0, 0] (extractStridedSlice S16x2048x512 ![0, 0, 512] arg0 slices_S16x2048x1536_S16x2048x512_0_0_512) (sitofp .f32 (constantI S_ 32 0#32)) pads_S16x2048x512_S16x2051x512_000_210_000 h_S_) slices_S16x2051x512_S16x2048x512_0_3_0))) (broadcastInDim S16x2048x512 ![0, 1, 2] bcast_S1x1x512_S16x2048x512_0_1_2 (broadcastInDim S1x1x512 ![2] bcast_S512_S1x1x512_2 arg2))

/-- The input gate before its sigmoid. -/
def gateInput (arg5 : (⟨S2x8x64x64, .f32⟩ : BufTy).Contents (Elt F)) (arg6 : (⟨S2x512, .f32⟩ : BufTy).Contents (Elt F)) (xc : (⟨S16x2048x512, .f32⟩ : BufTy).Contents (Elt F)) : (⟨S2x16x2048x512, .f32⟩ : BufTy).Contents (Elt F) :=
  addf (shapeCast _ (transpose S2x16x2048x8x64 [1, 3, 4, 0, 2] (Host.dotGeneral dot_S2x8x64x64_S16x2048x8x64_S8x2x64x16x2048_2_3_03_01_1_2 none arg5 (shapeCast _ xc shapeCasts_S16x2048x512_S16x2048x8x64 : (⟨S16x2048x8x64, .f32⟩ : BufTy).Contents (Elt F))) transposes_S8x2x64x16x2048_S2x16x2048x8x64_1_3_4_0_2) shapeCasts_S2x16x2048x8x64_S2x16x2048x512 : (⟨S2x16x2048x512, .f32⟩ : BufTy).Contents (Elt F)) (broadcastInDim S2x16x2048x512 ![0, 1, 2, 3] bcast_S2x1x1x512_S2x16x2048x512_0_1_2_3 (broadcastInDim S2x1x1x512 ![0, 3] bcast_S2x512_S2x1x1x512_0_3 arg6))

/-- Minus eight times the decay gate. -/
def eightGate (arg3 : (⟨S2x8x64x64, .f32⟩ : BufTy).Contents (Elt F)) (arg4 : (⟨S2x512, .f32⟩ : BufTy).Contents (Elt F)) (xc : (⟨S16x2048x512, .f32⟩ : BufTy).Contents (Elt F)) : (⟨S2x16x2048x512, .f32⟩ : BufTy).Contents (Elt F) :=
  mulf (broadcastInDim S2x16x2048x512 ![] bcast_S_S2x16x2048x512 (constant S_ .f32 0xC1000000#32)) (Host.divf (broadcastInDim S2x16x2048x512 ![] bcast_S_S2x16x2048x512 (constant S_ .f32 0x3F800000#32)) (addf (broadcastInDim S2x16x2048x512 ![] bcast_S_S2x16x2048x512 (constant S_ .f32 0x3F800000#32)) (Host.exp (Host.negf (addf (shapeCast _ (transpose S2x16x2048x8x64 [1, 3, 4, 0, 2] (Host.dotGeneral dot_S2x8x64x64_S16x2048x8x64_S8x2x64x16x2048_2_3_03_01_1_2 none arg3 (shapeCast _ xc shapeCasts_S16x2048x512_S16x2048x8x64 : (⟨S16x2048x8x64, .f32⟩ : BufTy).Contents (Elt F))) transposes_S8x2x64x16x2048_S2x16x2048x8x64_1_3_4_0_2) shapeCasts_S2x16x2048x8x64_S2x16x2048x512 : (⟨S2x16x2048x512, .f32⟩ : BufTy).Contents (Elt F)) (broadcastInDim S2x16x2048x512 ![0, 1, 2, 3] bcast_S2x1x1x512_S2x16x2048x512_0_1_2_3 (broadcastInDim S2x1x1x512 ![0, 3] bcast_S2x512_S2x1x1x512_0_3 arg4)))))))

/-- The softplus of an array. -/
def softplus (x : (⟨S2x512, .f32⟩ : BufTy).Contents (Elt F)) : (⟨S2x512, .f32⟩ : BufTy).Contents (Elt F) :=
  select (cmpf .une (subf x (broadcastInDim S2x512 ![] bcast_S_S2x512 (constant S_ .f32 0x00000000#32))) (subf x (broadcastInDim S2x512 ![] bcast_S_S2x512 (constant S_ .f32 0x00000000#32)))) (addf x (broadcastInDim S2x512 ![] bcast_S_S2x512 (constant S_ .f32 0x00000000#32))) (addf (maximumf x (broadcastInDim S2x512 ![] bcast_S_S2x512 (constant S_ .f32 0x00000000#32))) (Host.log1p (Host.exp (Host.negf (Host.absf (subf x (broadcastInDim S2x512 ![] bcast_S_S2x512 (constant S_ .f32 0x00000000#32))))))))

/-- The log decays. -/
def logDecays (g : (⟨S2x16x2048x512, .f32⟩ : BufTy).Contents (Elt F)) (s : (⟨S2x512, .f32⟩ : BufTy).Contents (Elt F)) : (⟨S2x16x2048x512, .f32⟩ : BufTy).Contents (Elt F) :=
  mulf g (broadcastInDim S2x16x2048x512 ![0, 1, 2, 3] bcast_S2x1x1x512_S2x16x2048x512_0_1_2_3 (broadcastInDim S2x1x1x512 ![0, 3] bcast_S2x512_S2x1x1x512_0_3 s))

/-- The inputs of the recurrence. -/
def inputs (l : (⟨S2x16x2048x512, .f32⟩ : BufTy).Contents (Elt F)) (z : (⟨S2x16x2048x512, .f32⟩ : BufTy).Contents (Elt F)) (xc : (⟨S16x2048x512, .f32⟩ : BufTy).Contents (Elt F)) : (⟨S2x16x2048x512, .f32⟩ : BufTy).Contents (Elt F) :=
  mulf (mulf (Host.sqrt (Host.negf (Host.expm1 (mulf (broadcastInDim S2x16x2048x512 ![] bcast_S_S2x16x2048x512 (constant S_ .f32 0x40000000#32)) l)))) (Host.divf (broadcastInDim S2x16x2048x512 ![] bcast_S_S2x16x2048x512 (constant S_ .f32 0x3F800000#32)) (addf (broadcastInDim S2x16x2048x512 ![] bcast_S_S2x16x2048x512 (constant S_ .f32 0x3F800000#32)) (Host.exp (Host.negf z))))) (broadcastInDim S2x16x2048x512 ![0, 1, 2, 3] bcast_S1x16x2048x512_S2x16x2048x512_0_1_2_3 (broadcastInDim S1x16x2048x512 ![1, 2, 3] bcast_S16x2048x512_S1x16x2048x512_1_2_3 xc))

/-- Both directions in the order of their own time. -/
def inTime (v : (⟨S2x16x2048x512, .f32⟩ : BufTy).Contents (Elt F)) : (⟨S2048x2x16x512, .f32⟩ : BufTy).Contents (Elt F) :=
  transpose S2048x2x16x512 [2, 0, 1, 3] (concatenate S2x16x2048x512 0 [⟨S1x16x2048x512, (broadcastInDim S1x16x2048x512 ![1, 2, 3] bcast_S16x2048x512_S1x16x2048x512_1_2_3 (shapeCast _ (extractStridedSlice S1x16x2048x512 ![0, 0, 0, 0] v slices_S2x16x2048x512_S1x16x2048x512_0_0_0_0) shapeCasts_S1x16x2048x512_S16x2048x512 : (⟨S16x2048x512, .f32⟩ : BufTy).Contents (Elt F)))⟩, ⟨S1x16x2048x512, (broadcastInDim S1x16x2048x512 ![1, 2, 3] bcast_S16x2048x512_S1x16x2048x512_1_2_3 (shapeCast _ (Host.reverse [2] (extractStridedSlice S1x16x2048x512 ![1, 0, 0, 0] v slices_S2x16x2048x512_S1x16x2048x512_1_0_0_0)) shapeCasts_S1x16x2048x512_S16x2048x512 : (⟨S16x2048x512, .f32⟩ : BufTy).Contents (Elt F)))⟩] concatenates_S1x16x2048x512_S1x16x2048x512_S2x16x2048x512_d0) transposes_S2x16x2048x512_S2048x2x16x512_2_0_1_3

/-- The convolved rows after the first operations. -/
theorem conv_v31 (V : Valuation τ sig (Elt F)) : after (hostOps0_2.take 30) (after hostOps0_1 (after hostOps0 V)) (Proc.devRef .tc main_v31) = convolved (V (Proc.devRef .tc main_arg0)) (V (Proc.devRef .tc main_arg1)) (V (Proc.devRef .tc main_arg2)) := by
  simp only [List.take_succ_cons, List.take_zero, List.drop_succ_cons, List.drop_zero]
  after_reads_simp
  try rfl

/-- The first operations keep this argument. -/
theorem conv_arg3 (V : Valuation τ sig (Elt F)) : after (hostOps0_2.take 30) (after hostOps0_1 (after hostOps0 V)) (Proc.devRef .tc main_arg3) = (V (Proc.devRef .tc main_arg3)) := by
  simp only [List.take_succ_cons, List.take_zero, List.drop_succ_cons, List.drop_zero]
  after_reads_simp
  try rfl

/-- The first operations keep this argument. -/
theorem conv_arg4 (V : Valuation τ sig (Elt F)) : after (hostOps0_2.take 30) (after hostOps0_1 (after hostOps0 V)) (Proc.devRef .tc main_arg4) = (V (Proc.devRef .tc main_arg4)) := by
  simp only [List.take_succ_cons, List.take_zero, List.drop_succ_cons, List.drop_zero]
  after_reads_simp
  try rfl

/-- The first operations keep this argument. -/
theorem conv_arg5 (V : Valuation τ sig (Elt F)) : after (hostOps0_2.take 30) (after hostOps0_1 (after hostOps0 V)) (Proc.devRef .tc main_arg5) = (V (Proc.devRef .tc main_arg5)) := by
  simp only [List.take_succ_cons, List.take_zero, List.drop_succ_cons, List.drop_zero]
  after_reads_simp
  try rfl

/-- The first operations keep this argument. -/
theorem conv_arg6 (V : Valuation τ sig (Elt F)) : after (hostOps0_2.take 30) (after hostOps0_1 (after hostOps0 V)) (Proc.devRef .tc main_arg6) = (V (Proc.devRef .tc main_arg6)) := by
  simp only [List.take_succ_cons, List.take_zero, List.drop_succ_cons, List.drop_zero]
  after_reads_simp
  try rfl

/-- The first operations keep this argument. -/
theorem conv_arg7 (V : Valuation τ sig (Elt F)) : after (hostOps0_2.take 30) (after hostOps0_1 (after hostOps0 V)) (Proc.devRef .tc main_arg7) = (V (Proc.devRef .tc main_arg7)) := by
  simp only [List.take_succ_cons, List.take_zero, List.drop_succ_cons, List.drop_zero]
  after_reads_simp
  try rfl

/-- The decay gate after the gates. -/
theorem gates_v52 (V : Valuation τ sig (Elt F)) : after (hostOps0_2.drop 30) V (Proc.devRef .tc main_v52) = eightGate (V (Proc.devRef .tc main_arg3)) (V (Proc.devRef .tc main_arg4)) (V (Proc.devRef .tc main_v31)) := by
  simp only [List.take_succ_cons, List.take_zero, List.drop_succ_cons, List.drop_zero]
  after_reads_simp
  try rfl

/-- The input gate after the gates. -/
theorem gates_v44 (V : Valuation τ sig (Elt F)) : after (hostOps0_2.drop 30) V (Proc.devRef .tc main_v44) = gateInput (V (Proc.devRef .tc main_arg5)) (V (Proc.devRef .tc main_arg6)) (V (Proc.devRef .tc main_v31)) := by
  simp only [List.take_succ_cons, List.take_zero, List.drop_succ_cons, List.drop_zero]
  after_reads_simp
  try rfl

/-- The gates keep the convolved rows. -/
theorem gates_v31 (V : Valuation τ sig (Elt F)) : after (hostOps0_2.drop 30) V (Proc.devRef .tc main_v31) = (V (Proc.devRef .tc main_v31)) := by
  simp only [List.take_succ_cons, List.take_zero, List.drop_succ_cons, List.drop_zero]
  after_reads_simp
  try rfl

/-- The negated decay parameter. -/
theorem gates_v53 (V : Valuation τ sig (Elt F)) : after (hostOps0_2.drop 30) V (Proc.devRef .tc main_v53) = Host.negf (V (Proc.devRef .tc main_arg7)) := by
  simp only [List.take_succ_cons, List.take_zero, List.drop_succ_cons, List.drop_zero]
  after_reads_simp
  try rfl

/-- The softplus. -/
theorem soft_v54 (V : Valuation τ sig (Elt F)) : after hostOps0_3 V (Proc.devRef .tc main_v54) = softplus (V (Proc.devRef .tc main_v53)) := by
  skip
  after_reads_simp
  try rfl

/-- The softplus keeps this value. -/
theorem soft_v52 (V : Valuation τ sig (Elt F)) : after hostOps0_3 V (Proc.devRef .tc main_v52) = (V (Proc.devRef .tc main_v52)) := by
  skip
  after_reads_simp
  try rfl

/-- The softplus keeps this value. -/
theorem soft_v44 (V : Valuation τ sig (Elt F)) : after hostOps0_3 V (Proc.devRef .tc main_v44) = (V (Proc.devRef .tc main_v44)) := by
  skip
  after_reads_simp
  try rfl

/-- The softplus keeps this value. -/
theorem soft_v31 (V : Valuation τ sig (Elt F)) : after hostOps0_3 V (Proc.devRef .tc main_v31) = (V (Proc.devRef .tc main_v31)) := by
  skip
  after_reads_simp
  try rfl

/-- The decays entering the loop. -/
theorem last_decay (V : Valuation τ sig (Elt F)) : after hostOps0_4 V (Proc.devRef .tc main_v94_0) = inTime (Host.exp (logDecays (V (Proc.devRef .tc main_v52)) (V (Proc.devRef .tc main_v54)))) := by
  skip
  after_reads_simp
  try rfl

/-- The inputs entering the loop. -/
theorem last_input (V : Valuation τ sig (Elt F)) : after hostOps0_4 V (Proc.devRef .tc main_v94_1) = inTime (inputs (logDecays (V (Proc.devRef .tc main_v52)) (V (Proc.devRef .tc main_v54))) (V (Proc.devRef .tc main_v44)) (V (Proc.devRef .tc main_v31))) := by
  skip
  after_reads_simp
  try rfl

/-- The number of steps done, entering the loop. -/
theorem last_count (V : Valuation τ sig (Elt F)) : after hostOps0_4 V (Proc.devRef .tc main_v94_2) = constantI S_ 32 0#32 := by
  skip
  after_reads_simp
  try rfl

/-- The state entering the loop. -/
theorem last_state (V : Valuation τ sig (Elt F)) : after hostOps0_4 V (Proc.devRef .tc main_v94_3) = broadcastInDim S2x16x512 ![] bcast_S_S2x16x512 (constant S_ .f32 0x00000000#32) := by
  skip
  after_reads_simp
  try rfl

/-- The operations before the loop, as the parts above. -/
theorem entry_parts (m : (ℓ : Loc nD τ sig) → Buf (Elt F) ℓ) (c : Dev nD) (V : Valuation τ sig (Elt F)) :
    afterL preI V = after hostOps0_4 (after hostOps0_3 (after (hostOps0_2.drop 30) (after (hostOps0_2.take 30) (after hostOps0_1 (after hostOps0 V))))) := by
  have e (X : Valuation τ sig (Elt F)) : after hostOps0_2 X = after (hostOps0_2.drop 30) (after (hostOps0_2.take 30) X) := by
    conv_lhs => rw [← List.take_append_drop 30 hostOps0_2, after_append]
  exact congrArg (fun X => after hostOps0_4 (after hostOps0_3 X)) (e _)

end Cert.RefLruIdeal.Value
end
-- ==== Proof.LruRun.lean ====
module
public import proofs.«01_k».proof.Proof.LruParts
public import proofs.«01_k».proof.Proof.LruScan
public import Idealize.ShloMosaic.Lib.Pipeline.ValueKit
public import Idealize.ShloMosaic.Lib.Pointwise
public import Idealize.ShloMosaic.Lib.WordCmp
public import Idealize.ShloMosaic.Lib.IdealHost
@[expose] public section
set_option maxRecDepth 16384
noncomputable section
open Idealize.ShloMosaic Idealize.ShloMosaic.TcCoe Idealize.SL.Sem
open Idealize.ShloMosaic.Pipeline (Dat)

open Idealize.ShloMosaic.StableHlo Idealize.ShloMosaic.Host
open Cert.LruIdeal.Value (state)
namespace Cert.RefLruIdeal.Value
open Cert.RefLruIdeal Cert.RefLruIdeal.Gen

/-- Where a step's number puts a window. -/
theorem start_at (n : ℕ) (hn : n < 2048) (a : Fin 4) : (fun k => (((![constantI S_ 32 (BitVec.ofNat 32 n), constantI S_ 32 0#32, constantI S_ 32 0#32, constantI S_ 32 0#32] : Fin 4 → (⟨S_, .i32⟩ : BufTy).Contents (Elt Ideal))) k (Shape.Idx.first h_S_)).toInt) a = ((![n, 0, 0, 0] : Fin 4 → ℕ) a : Int) := by
  have e : ((BitVec.ofNat 32 n).toInt) = n := by
    rw [BitVec.toInt_eq_toNat_of_lt (by rw [BitVec.toNat_ofNat]; omega), BitVec.toNat_ofNat, Nat.mod_eq_of_lt (by omega)]
  match a with
  | ⟨0, _⟩ => exact e
  | ⟨1, _⟩ => rfl
  | ⟨2, _⟩ => rfl
  | ⟨3, _⟩ => rfl

/-- The window lies inside. -/
theorem slices_at (n : ℕ) (hn : n < 2048) : S2048x2x16x512.Slices ![n, 0, 0, 0] S1x2x16x512 := by
  refine ⟨rfl, fun a => ?_⟩
  match a with
  | ⟨0, _⟩ => show n + 1 ≤ 2048; omega
  | ⟨1, _⟩ => show 0 + 2 ≤ 2; omega
  | ⟨2, _⟩ => show 0 + 16 ≤ 16; omega
  | ⟨3, _⟩ => show 0 + 512 ≤ 512; omega

/-- A slice at a step's number reads that step's entry. -/
theorem slice_at (a : Vec Ideal S2048x2x16x512 .f32) (n : ℕ) (hn : n < 2048) (r : Fin 2) (b : Fin 16) (v : Fin 512) :
    shapeCast S2x16x512 (Host.dynamicSlice S1x2x16x512 a (fun k => (((![constantI S_ 32 (BitVec.ofNat 32 n), constantI S_ 32 0#32, constantI S_ 32 0#32, constantI S_ 32 0#32] : Fin 4 → (⟨S_, .i32⟩ : BufTy).Contents (Elt Ideal))) k (Shape.Idx.first h_S_)).toInt) sliceFits_S2048x2x16x512_S1x2x16x512) shapeCasts_S1x2x16x512_S2x16x512 (ix3 r b v)
      = a (ix4 ⟨n, hn⟩ r b v) := by
  rw [WordCmp.dynamicSlice_eq_extract _ _ _ _ ![n, 0, 0, 0] (slices_at n hn) (start_at n hn)]
  pointwise

/-- An update at a step's number writes that step's entry and keeps the others. -/
theorem update_at (h : Vec Ideal S2048x2x16x512 .f32) (x : Vec Ideal S2x16x512 .f32) (n : ℕ) (hn : n < 2048) (t : Fin 2048) (r : Fin 2) (b : Fin 16) (v : Fin 512) :
    Host.dynamicUpdateSlice h (broadcastInDim S1x2x16x512 ![1, 2, 3] bcast_S2x16x512_S1x2x16x512_1_2_3 x) (fun k => (((![constantI S_ 32 (BitVec.ofNat 32 n), constantI S_ 32 0#32, constantI S_ 32 0#32, constantI S_ 32 0#32] : Fin 4 → (⟨S_, .i32⟩ : BufTy).Contents (Elt Ideal))) k (Shape.Idx.first h_S_)).toInt) updateFits_S2048x2x16x512_S1x2x16x512 (ix4 t r b v)
      = if t.val = n then x (ix3 r b v) else h (ix4 t r b v) := by
  rw [WordCmp.dynamicUpdateSlice_eq_update _ _ _ _ ![n, 0, 0, 0] (slices_at n hn) (start_at n hn)]
  pointwise
  by_cases e : t.val = n
  · rw [dif_pos ⟨by omega, by omega⟩, if_pos e]
  · rw [dif_neg (by omega), if_neg e]

/-- One lane's decays, in steps of the loop. -/
def laneDecay (D : Vec Ideal S2048x2x16x512 .f32) (r : Fin 2) (b : Fin 16) (v : Fin 512) (n : ℕ) : EReal := D (ix4 (⟨n % 2048, Nat.mod_lt _ (by decide)⟩ : Fin 2048) r b v)

/-- What the loop keeps: the decays and inputs, the step's number, the state, and the states before it. -/
structure Kept (D E : Vec Ideal S2048x2x16x512 .f32) (V : Valuation τ sig (Elt Ideal)) (n : ℕ) : Prop where
  decay : V (Proc.devRef .tc main_v94_0) = D
  input : V (Proc.devRef .tc main_v94_1) = E
  count : V (Proc.devRef .tc main_v94_2) = constantI S_ 32 (BitVec.ofNat 32 n)
  now : ∀ r b v, V (Proc.devRef .tc main_v94_3) (ix3 r b v : S2x16x512.Idx) = state (laneDecay D r b v) (laneDecay E r b v) n
  past : ∀ (t : Fin 2048), t.val < n → ∀ r b v, V (Proc.devRef .tc main_v94_4) (ix4 t r b v : S2048x2x16x512.Idx) = state (laneDecay D r b v) (laneDecay E r b v) (t.val + 1)

/-- One step's state. -/
theorem step_state (D E : Vec Ideal S2048x2x16x512 .f32) (V : Valuation τ sig (Elt Ideal)) (n : ℕ) (hn : n < 2048) (h : Kept D E V n) (r : Fin 2) (b : Fin 16) (v : Fin 512) :
    res_main_while0b_v109 V (ix3 r b v : S2x16x512.Idx) = state (laneDecay D r b v) (laneDecay E r b v) (n + 1) := by
  unfold res_main_while0b_v109
  rw [h.decay, h.input, h.count]
  refine (congrArg₂ (· + ·) (congrArg₂ (· * ·) (slice_at D n hn r b v) (h.now r b v)) (slice_at E n hn r b v)).trans ?_
  show _ = laneDecay D r b v n * state (laneDecay D r b v) (laneDecay E r b v) n + laneDecay E r b v n
  have q : (⟨n % 2048, Nat.mod_lt _ (by decide)⟩ : Fin 2048) = ⟨n, hn⟩ := Fin.ext (Nat.mod_eq_of_lt hn)
  unfold laneDecay
  rw [q]

/-- One step keeps it. -/
theorem step_kept (D E : Vec Ideal S2048x2x16x512 .f32) (V : Valuation τ sig (Elt Ideal)) (n : ℕ) (hn : n < 2048) (h : Kept D E V n) : Kept D E (STEP V) (n + 1) where
  decay := (STEP_main_v94_0 V).trans h.decay
  input := (STEP_main_v94_1 V).trans h.input
  count := by
    rw [STEP_main_v94_2]
    unfold step_main_v94_2
    rw [h.count]
    funext y
    show BitVec.ofNat 32 n + 1#32 = BitVec.ofNat 32 (n + 1)
    exact (BitVec.ofNat_add n 1).symm
  now := fun r b v => by
    rw [STEP_main_v94_3]
    exact step_state D E V n hn h r b v
  past := fun t ht r b v => by
    rw [STEP_main_v94_4]
    unfold step_main_v94_4
    rw [h.count]
    refine (update_at _ _ n hn t r b v).trans ?_
    by_cases e : t.val = n
    · rw [if_pos e, e]
      exact step_state D E V n hn h r b v
    · rw [if_neg e]
      exact h.past t (by omega) r b v

/-- All steps keep it. -/
theorem steps_kept (D E : Vec Ideal S2048x2x16x512 .f32) (V : Valuation τ sig (Elt Ideal)) (h : Kept D E V 0) : ∀ n, n ≤ 2048 → Kept D E (STEP^[n] V) n
  | 0, _ => h
  | n + 1, hn => by
    rw [Function.iterate_succ_apply']
    exact step_kept D E _ n hn (steps_kept D E V h n (Nat.le_of_succ_le hn))

end Cert.RefLruIdeal.Value
end
-- ==== Proof.LruReference.lean ====
module
public import proofs.«01_k».proof.Proof.LruRun
public import proofs.«01_k».proof.Proof.LruGate
public import Idealize.ShloMosaic.Lib.Pipeline.ValueKit
public import Idealize.ShloMosaic.Lib.Pointwise
public import Idealize.ShloMosaic.Lib.IdealHost
@[expose] public section
set_option maxRecDepth 16384
noncomputable section
open Idealize.ShloMosaic Idealize.ShloMosaic.TcCoe Idealize.SL.Sem
open Idealize.ShloMosaic.Pipeline (Dat)

open scoped BigOperators
open Idealize.ShloMosaic.StableHlo
open Cert.LruIdeal.Value (state word_1 word_2 word_m8)
namespace Cert.RefLruIdeal.Value
open Cert.RefLruIdeal Cert.RefLruIdeal.Gen

/-- The row at distance j − 2, zero outside. -/
def shifted (a0 : Vec Ideal S16x2048x1536 .f32) (b : Fin 16) (n : ℕ) (v : Fin 512) : EReal :=
  if 2 ≤ n ∧ n < 2050 then a0 (ix3 b (⟨(n - 2) % 2048, Nat.mod_lt _ (by decide)⟩ : Fin 2048) ⟨512 + v.val, by omega⟩) else 0

/-- The integer zero as a value. -/
theorem zero_word : (FloatOps.sitofp FTy.f32 (0#32) : Ideal FTy.f32) = 0 := by
  show (((BitVec.toInt (0#32) : ℤ) : ℝ) : EReal) = 0
  simp

/-- Two ways to write the entry two rows back. -/
theorem dif_shift (f : Fin 2048 → EReal) (m n : ℕ) (e : m = n) :
    (if h : 2 ≤ m ∧ m - 2 < 2048 then f ⟨m - 2, h.2⟩ else 0) = if 2 ≤ n ∧ n < 2050 then f ⟨(n - 2) % 2048, Nat.mod_lt _ (by decide)⟩ else 0 := by
  subst e
  by_cases h : 2 ≤ m ∧ m - 2 < 2048
  · rw [dif_pos h, if_pos ⟨h.1, by omega⟩]
    exact congrArg f (Fin.ext (Nat.mod_eq_of_lt h.2).symm)
  · rw [dif_neg h, if_neg (by omega)]

/-- The convolved rows. -/
theorem convolved_at (a0 : Vec Ideal S16x2048x1536 .f32) (a1 : Vec Ideal S4x512 .f32) (a2 : Vec Ideal S512 .f32) (b : Fin 16) (p : Fin 2048) (v : Fin 512) :
    convolved (F := Ideal) a0 a1 a2 (ix3 b p v)
      = a1 (ix2 0 v) * shifted a0 b p.val v + a1 (ix2 1 v) * shifted a0 b (p.val + 1) v + a1 (ix2 2 v) * shifted a0 b (p.val + 2) v + a1 (ix2 3 v) * shifted a0 b (p.val + 3) v + a2 (ix1 v) := by
  have z : (FloatOps.sitofp FTy.f32 (0#32) : Ideal FTy.f32) = 0 := zero_word
  pointwise [convolved]
  rw [z]
  have g := fun m n e => dif_shift (fun k : Fin 2048 => a0 (ix3 b k ⟨512 + v.val, by omega⟩)) m n e
  refine congrArg (· + a2 (ix1 v)) (congrArg₂ (· + ·) (congrArg₂ (· + ·) (congrArg₂ (· + ·) ?_ ?_) ?_) ?_)
  · exact congrArg (a1 (ix2 0 v) * ·) (g _ _ rfl)
  · exact congrArg (a1 (ix2 1 v) * ·) (g _ _ (Nat.add_comm _ _))
  · refine congrArg (a1 (ix2 2 v) * ·) ?_
    have hp := p.isLt
    refine Eq.trans ?_ (g (p.val + 2) _ rfl)
    rw [dif_pos (by omega)]
    rfl
  · exact congrArg (a1 (ix2 3 v) * ·) (g _ _ (Nat.add_comm _ _))

/-- A gate's input: the block product plus the bias. -/
theorem gateInput_at (w : Vec Ideal S2x8x64x64 .f32) (bb : Vec Ideal S2x512 .f32) (xc : Vec Ideal S16x2048x512 .f32) (r : Fin 2) (b : Fin 16) (p : Fin 2048) (n : Fin 8) (d : Fin 64) :
    gateInput (F := Ideal) w bb xc (ix4 r b p ⟨64 * n.val + d.val, by omega⟩)
      = (∑ q : Fin 64, w (ix4 r n q d) * xc (ix3 b p ⟨64 * n.val + q.val, by omega⟩)) + bb (ix2 r ⟨64 * n.val + d.val, by omega⟩) := by
  pointwise [gateInput]
  refine congrArg (· + bb _) (Finset.sum_congr rfl fun q _ => congrArg (w (ix4 r n q d) * ·) (congrArg (fun k : Fin 512 => xc (ix3 b p k)) (Fin.ext ?_)))
  show n.val * 64 + q.val = 64 * n.val + q.val
  omega

/-- The softplus of the negated decay parameter. -/
theorem softplus_at (x : Vec Ideal S2x512 .f32) (r : Fin 2) (v : Fin 512) :
    softplus (F := Ideal) (Host.negf (F := Ideal) (φ := .f32) x) (ix2 r v) = max (-x (ix2 r v)) 0 + Ideal.log1p (Ideal.exp (-FloatOps.absf (F := Ideal) (φ := .f32) (-x (ix2 r v)))) := by
  pointwise [softplus]
  exact if_neg fun h => h rfl

/-- The log decay. -/
theorem logDecays_at (w : Vec Ideal S2x8x64x64 .f32) (bb : Vec Ideal S2x512 .f32) (xc : Vec Ideal S16x2048x512 .f32) (s : Vec Ideal S2x512 .f32) (r : Fin 2) (b : Fin 16) (p : Fin 2048) (v : Fin 512) :
    logDecays (F := Ideal) (eightGate w bb xc) s (ix4 r b p v) = ((-8 : ℝ) : EReal) * Ideal.logistic (gateInput (F := Ideal) w bb xc (ix4 r b p v)) * s (ix2 r v) := by
  rw [← word_m8]
  have e : eightGate (F := Ideal) w bb xc (ix4 r b p v) = Ideal.ofBits FTy.f32 0xC1000000#32 * Ideal.div (Ideal.ofBits FTy.f32 0x3F800000#32) (Ideal.ofBits FTy.f32 0x3F800000#32 + Ideal.exp (-gateInput (F := Ideal) w bb xc (ix4 r b p v))) := rfl
  pointwise [logDecays]
  rw [e, word_1]
  rfl

/-- The recurrence's input. -/
theorem inputs_at (l z : Vec Ideal S2x16x2048x512 .f32) (xc : Vec Ideal S16x2048x512 .f32) (r : Fin 2) (b : Fin 16) (p : Fin 2048) (v : Fin 512) :
    inputs (F := Ideal) l z xc (ix4 r b p v) = Ideal.sqrt (-(Ideal.exp (((2 : ℝ) : EReal) * l (ix4 r b p v)) - ((1 : ℝ) : EReal))) * Ideal.logistic (z (ix4 r b p v)) * xc (ix3 b p v) := by
  rw [← word_2]
  pointwise [inputs]
  rfl

/-- The first direction in its own time. -/
theorem inTime_0 (x : Vec Ideal S2x16x2048x512 .f32) (b : Fin 16) (p : Fin 2048) (v : Fin 512) : inTime (F := Ideal) x (ix4 p 0 b v) = x (ix4 0 b p v) := by
  pointwise [inTime]

/-- The second direction in its own time. -/
theorem inTime_1 (x : Vec Ideal S2x16x2048x512 .f32) (b : Fin 16) (p : Fin 2048) (v : Fin 512) : inTime (F := Ideal) x (ix4 p 1 b v) = x (ix4 1 b ⟨2047 - p.val, by omega⟩ v) := by
  pointwise [inTime]
  refine congrArg (fun k : Fin 2048 => x (ix4 1 b k v)) (Fin.ext ?_)
  show 2048 - (p.val + 1) = 2047 - p.val
  omega

/-- The result, of the states and the gate lanes. -/
theorem out_at (V : Valuation τ sig (Elt Ideal)) (h : Vec Ideal S2048x2x16x512 .f32) (x : Vec Ideal S16x2048x1536 .f32) (hh : V (Proc.devRef .tc main_v94_4) = h) (hx : V (Proc.devRef .tc main_arg0) = x) (b : Fin 16) (p : Fin 2048) (v : Fin 512) :
    out_main_v105 V (ix3 b p v : S16x2048x512.Idx) = (h (ix4 p 0 b v) + h (ix4 (⟨2047 - p.val, by omega⟩ : Fin 2048) 1 b v))
      * (x (ix3 b p ⟨1024 + v.val, by omega⟩) * Ideal.logistic (x (ix3 b p ⟨1024 + v.val, by omega⟩))) := by
  unfold out_main_v105
  rw [hh, hx]
  pointwise
  have e : (p.rev : Fin 2048) = ⟨2047 - p.val, by omega⟩ := Fin.ext (by show 2048 - (p.val + 1) = 2047 - p.val; omega)
  rw [← e]
  rfl

end Cert.RefLruIdeal.Value
end
-- ==== Proof.LruValue.lean ====
module
public import proofs.«01_k».proof.Proof.LruHost
public import proofs.«01_k».proof.Proof.LruReference
public import Idealize.ShloMosaic.Lib.Pipeline.ValueKit
public import Idealize.ShloMosaic.Lib.Pointwise
public import Idealize.ShloMosaic.Lib.IdealHost
public import Idealize.ShloMosaic.Lib.Claim
@[expose] public section
set_option maxRecDepth 16384
noncomputable section
open Idealize.ShloMosaic Idealize.ShloMosaic.TcCoe Idealize.SL.Sem
open Idealize.ShloMosaic.Pipeline (Dat)

open scoped BigOperators
open Idealize.ShloMosaic.StableHlo
namespace Cert.RefLruIdeal.Value
open Cert.RefLruIdeal Cert.RefLruIdeal.Gen
open Cert.LruIdeal.Value (state)

section Result
variable (a0 : Vec Ideal S16x2048x1536 .f32) (a1 : Vec Ideal S4x512 .f32) (a2 : Vec Ideal S512 .f32) (a3 : Vec Ideal S2x8x64x64 .f32) (a4 : Vec Ideal S2x512 .f32) (a5 : Vec Ideal S2x8x64x64 .f32) (a6 : Vec Ideal S2x512 .f32) (a7 : Vec Ideal S2x512 .f32)

/-- The log decays, of the arguments. -/
def logs : Vec Ideal S2x16x2048x512 .f32 := logDecays (F := Ideal) (eightGate a3 a4 (convolved a0 a1 a2)) (softplus (Host.negf (F := Ideal) (φ := .f32) a7))

/-- The recurrence's inputs, of the arguments. -/
def drives : Vec Ideal S2x16x2048x512 .f32 := inputs (F := Ideal) (logs a0 a1 a2 a3 a4 a7) (gateInput a5 a6 (convolved a0 a1 a2)) (convolved a0 a1 a2)

/-- The decays in their own time. -/
def decays : Vec Ideal S2048x2x16x512 .f32 := inTime (F := Ideal) (Host.exp (F := Ideal) (φ := .f32) (logs a0 a1 a2 a3 a4 a7))

/-- The inputs in their own time. -/
def timed : Vec Ideal S2048x2x16x512 .f32 := inTime (F := Ideal) (drives a0 a1 a2 a3 a4 a5 a6 a7)

/-- The state of a direction at a time. -/
def past (r : Fin 2) (b : Fin 16) (v : Fin 512) (n : ℕ) : EReal := state (laneDecay (decays a0 a1 a2 a3 a4 a7) r b v) (laneDecay (timed a0 a1 a2 a3 a4 a5 a6 a7) r b v) n

/-- The result, entry by entry. -/
def result : Vec Ideal S16x2048x512 .bf16 := fun i =>
  (past a0 a1 a2 a3 a4 a5 a6 a7 0 (i 0) (i 2) ((i 1).val + 1) + past a0 a1 a2 a3 a4 a5 a6 a7 1 (i 0) (i 2) (2047 - (i 1).val + 1))
    * (a0 (ix3 (i 0) (i 1) ⟨1024 + (i 2).val, by have h : (i 2).val < 512 := (i 2).isLt; omega⟩) * Ideal.logistic (a0 (ix3 (i 0) (i 1) ⟨1024 + (i 2).val, by have h : (i 2).val < 512 := (i 2).isLt; omega⟩)))

end Result

variable (m : (ℓ : Loc nD τ sig) → Buf (Elt Ideal) ℓ) (c : Dev nD)

/-- What the loop finds and starts from. -/
theorem kept_entry : Kept (decays (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))) (timed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (entryContents preI m c) 0 where
  decay := by
    unfold entryContents
    rw [entry_parts m c, last_decay, soft_v52, soft_v54, gates_v52, gates_v53, conv_v31, conv_arg3, conv_arg4, conv_arg7]
    rfl
  input := by
    unfold entryContents
    rw [entry_parts m c, last_input, soft_v52, soft_v54, soft_v44, soft_v31, gates_v52, gates_v53, gates_v44, gates_v31, conv_v31, conv_arg3, conv_arg4, conv_arg5, conv_arg6, conv_arg7]
    rfl
  count := by
    unfold entryContents
    rw [entry_parts m c, last_count]
  now := fun r b v => by
    unfold entryContents
    rw [entry_parts m c, last_state]
    exact Ideal.ofBits_zero_f32
  past := fun t ht => absurd ht (Nat.not_lt_zero _)

/-- The run's result is the result of the arguments. -/
theorem ref_result : out_main_v105 (STEP^[2048] (entryContents preI m c)) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have k := steps_kept _ _ _ (kept_entry m c) 2048 (le_refl _)
  funext i
  obtain ⟨b, p, v, rfl⟩ : ∃ b p v, i = (ix3 b p v : S16x2048x512.Idx) := ⟨i 0, i 1, i 2, by funext a; fin_cases a <;> rfl⟩
  refine (out_at _ _ _ rfl (iter_main_arg0 m c 2048) b p v).trans ?_
  rw [k.past p (by omega), k.past ⟨2047 - p.val, by omega⟩ (by show 2047 - p.val < 2048; omega)]
  rfl

/-- Every run ends with the result of the arguments, and the arguments as they were. -/
theorem run_result (ρ : Dev nD → PrngReg) : θ_run (defs (F := Ideal)) (onTc (τ := τ) (main (F := Ideal))) ⟨m, fun _ => 0, ρ⟩ fun r => ∀ c : Dev nD,
    r.2.mem ((c.tc : Thread nD τ).loc main_v105) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (ref_result m c), (h c).2⟩) (run m ρ)

end Cert.RefLruIdeal.Value

namespace Cert.LruIdeal.Value
open Cert.LruIdeal Cert.LruIdeal.Gen
open Cert.RefLruIdeal.Value (shifted convolved gateInput logs drives decays timed past result laneDecay)

/-- Recurrences with the same decays and inputs have the same states. -/
theorem state_congr (a u a' u' : ℕ → EReal) (n : ℕ) (h : ∀ k, k < n → a k = a' k ∧ u k = u' k) : state a u n = state a' u' n := by
  induction n with
  | zero => rfl
  | succ n ih =>
    show a n * state a u n + u n = a' n * state a' u' n + u' n
    rw [ih fun k hk => h k (by omega), (h n (by omega)).1, (h n (by omega)).2]

/-- The absolute value of a negated number. -/
theorem absf_neg (x : EReal) : (FloatOps.absf (F := Ideal) (φ := .f32) (-x) : EReal) = FloatOps.absf (F := Ideal) (φ := .f32) x := by
  show max (-x) (- -x) = max x (-x)
  rw [neg_neg, max_comm]

variable (m : (ℓ : Loc nD τ sig) → Buf (Elt Ideal) ℓ) (c : Dev nD)

/-- The lane of the whole array. -/
def lane (t : Fin cfg0.N) (w : Fin 256) : Fin 512 := ⟨256 * (half t).val + w.val, by omega⟩

/-- The block's convolved rows. -/
def rows (t : Fin cfg0.N) : FVec Ideal S2048x256 .f32 := convRows (iblk m c 0 t) (iblk m c 2 t) (iblk m c 3 t)

/-- The reference's convolved rows. -/
def allRows : Vec Ideal S16x2048x512 .f32 := convolved (F := Ideal) (m ((c : Thread nD τ).loc main_arg0)) (m ((c : Thread nD τ).loc main_arg1)) (m ((c : Thread nD τ).loc main_arg2))

/-- A block's shifted row is the array's. -/
theorem shifted_block (t : Fin cfg0.N) (n : ℕ) (w : Fin 256) : shiftedRow (iblk m c 0 t) n w = shifted (m ((c : Thread nD τ).loc main_arg0)) (batch t) n (lane t w) := by
  unfold shiftedRow shifted
  rw [row_block]
  rfl

/-- The block's convolved rows are the reference's. -/
theorem rows_at (t : Fin cfg0.N) (p : Fin 2048) (w : Fin 256) : rows m c t (ix2 p w) = allRows m c (ix3 (batch t) p (lane t w)) := by
  unfold rows allRows
  rw [convRows_at, shifted_block, shifted_block, shifted_block, shifted_block, tap_block, tap_block, tap_block, tap_block, conv_block]
  exact (Cert.RefLruIdeal.Value.convolved_at (m ((c : Thread nD τ).loc main_arg0)) (m ((c : Thread nD τ).loc main_arg1)) (m ((c : Thread nD τ).loc main_arg2)) (batch t) p (lane t w)).symm

/-- The reference's gate, in the form of a dense block. -/
theorem gate_form (W : Vec Ideal S2x8x64x64 .f32) (B : Vec Ideal S2x512 .f32) (X : Vec Ideal S16x2048x512 .f32) (r : Fin 2) (t : Fin cfg0.N) (p : Fin 2048) (w : Fin 256) :
    (∑ q : Fin 256, X (ix3 (batch t) p (lane t q)) * (W (ix4 r ⟨4 * (half t).val + w.val / 64, by omega⟩ ⟨q.val % 64, Nat.mod_lt _ (by decide)⟩ ⟨w.val % 64, Nat.mod_lt _ (by decide)⟩) * (if q.val / 64 = w.val / 64 then 1 else 0))) + B (ix2 r (lane t w))
      = gateInput (F := Ideal) W B X (ix4 r (batch t) p (lane t w)) := by
  have hh := (half t).isLt
  have hw := w.isLt
  have e : lane t w = ⟨64 * (4 * (half t).val + w.val / 64) + w.val % 64, by omega⟩ := Fin.ext (by show 256 * (half t).val + w.val = 64 * (4 * (half t).val + w.val / 64) + w.val % 64; omega)
  have g := Cert.RefLruIdeal.Value.gateInput_at W B X r (batch t) p ⟨4 * (half t).val + w.val / 64, by omega⟩ ⟨w.val % 64, Nat.mod_lt _ (by decide)⟩
  have s := block_sum ⟨w.val / 64, by omega⟩ (fun q => X (ix3 (batch t) p (lane t q))) (fun q => W (ix4 r ⟨4 * (half t).val + w.val / 64, by omega⟩ q ⟨w.val % 64, Nat.mod_lt _ (by decide)⟩))
  rw [e]
  refine Eq.trans ?_ g.symm
  refine congrArg (· + B _) (s.trans (Finset.sum_congr rfl fun q _ => congrArg (W _ * ·) (congrArg (fun k : Fin 512 => X (ix3 (batch t) p k)) (Fin.ext ?_))))
  show 256 * (half t).val + (64 * (w.val / 64) + q.val) = 64 * (4 * (half t).val + w.val / 64) + q.val
  omega

/-- The gate of the columns from 0 on. -/
theorem gate0_at (t : Fin cfg0.N) (p : Fin 2048) (w : Fin 256) : gateVal (rows m c t) (iblk m c 4 t) (iblk m c 5 t) p ⟨0 + w.val, by omega⟩
    = gateInput (F := Ideal) (m ((c : Thread nD τ).loc main_arg3)) (m ((c : Thread nD τ).loc main_arg4)) (allRows m c) (ix4 0 (batch t) p (lane t w)) := by
  refine Eq.trans ?_ (gate_form (m ((c : Thread nD τ).loc main_arg3)) (m ((c : Thread nD τ).loc main_arg4)) (allRows m c) 0 t p w)
  unfold gateVal
  refine congrArg₂ (· + ·) (Finset.sum_congr rfl fun q _ => congrArg₂ (· * ·) (rows_at m c t p q) ?_) ?_
  · rw [weight_block, weights0_at, dense0_at]
  · rw [bias_block, biases0_at, bias0_at]
    rfl

/-- The gate of the columns from 256 on. -/
theorem gate1_at (t : Fin cfg0.N) (p : Fin 2048) (w : Fin 256) : gateVal (rows m c t) (iblk m c 4 t) (iblk m c 5 t) p ⟨256 + w.val, by omega⟩
    = gateInput (F := Ideal) (m ((c : Thread nD τ).loc main_arg5)) (m ((c : Thread nD τ).loc main_arg6)) (allRows m c) (ix4 0 (batch t) p (lane t w)) := by
  refine Eq.trans ?_ (gate_form (m ((c : Thread nD τ).loc main_arg5)) (m ((c : Thread nD τ).loc main_arg6)) (allRows m c) 0 t p w)
  unfold gateVal
  refine congrArg₂ (· + ·) (Finset.sum_congr rfl fun q _ => congrArg₂ (· * ·) (rows_at m c t p q) ?_) ?_
  · rw [weight_block, weights1_at, dense0_at]
  · rw [bias_block, biases1_at, bias0_at]
    rfl

/-- The gate of the columns from 512 on. -/
theorem gate2_at (t : Fin cfg0.N) (p : Fin 2048) (w : Fin 256) : gateVal (rows m c t) (iblk m c 4 t) (iblk m c 5 t) p ⟨512 + w.val, by omega⟩
    = gateInput (F := Ideal) (m ((c : Thread nD τ).loc main_arg3)) (m ((c : Thread nD τ).loc main_arg4)) (allRows m c) (ix4 1 (batch t) p (lane t w)) := by
  refine Eq.trans ?_ (gate_form (m ((c : Thread nD τ).loc main_arg3)) (m ((c : Thread nD τ).loc main_arg4)) (allRows m c) 1 t p w)
  unfold gateVal
  refine congrArg₂ (· + ·) (Finset.sum_congr rfl fun q _ => congrArg₂ (· * ·) (rows_at m c t p q) ?_) ?_
  · rw [weight_block, weights2_at, dense1_at]
  · rw [bias_block, biases2_at, bias1_at]
    rfl

/-- The gate of the columns from 768 on. -/
theorem gate3_at (t : Fin cfg0.N) (p : Fin 2048) (w : Fin 256) : gateVal (rows m c t) (iblk m c 4 t) (iblk m c 5 t) p ⟨768 + w.val, by omega⟩
    = gateInput (F := Ideal) (m ((c : Thread nD τ).loc main_arg5)) (m ((c : Thread nD τ).loc main_arg6)) (allRows m c) (ix4 1 (batch t) p (lane t w)) := by
  refine Eq.trans ?_ (gate_form (m ((c : Thread nD τ).loc main_arg5)) (m ((c : Thread nD τ).loc main_arg6)) (allRows m c) 1 t p w)
  unfold gateVal
  refine congrArg₂ (· + ·) (Finset.sum_congr rfl fun q _ => congrArg₂ (· * ·) (rows_at m c t p q) ?_) ?_
  · rw [weight_block, weights3_at, dense1_at]
  · rw [bias_block, biases3_at, bias1_at]
    rfl

/-- The log decays of this direction are the reference's. -/
theorem fwd_logs (t : Fin cfg0.N) (p : Fin 2048) (w : Fin 256) : logVal (rateF (iblk m c 6 t)) (rows m c t) (iblk m c 4 t) (iblk m c 5 t) fwdCol p w
    = logs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (ix4 0 (batch t) p (lane t w)) := by
  refine Eq.trans ?_ (Cert.RefLruIdeal.Value.logDecays_at _ _ _ _ 0 (batch t) p (lane t w)).symm
  rw [Cert.RefLruIdeal.Value.softplus_at, absf_neg]
  refine Eq.trans ?_ (mul_right_comm _ _ _)
  refine congrArg₂ (· * ·) ?_ (congrArg Ideal.logistic ?_)
  · rw [rateF_at, lam_block]
    rfl
  · refine Eq.trans (congrArg (gateVal _ _ _ p) (Fin.ext ?_)) (gate0_at m c t p w)
    show 0 + w.val = 0 + w.val
    rfl

/-- The log decays of this direction are never above every number. -/
theorem fwd_fin (t : Fin cfg0.N) (w : Fin 256) (p : Fin 2048) : logVal (rateF (iblk m c 6 t)) (rows m c t) (iblk m c 4 t) (iblk m c 5 t) fwdCol p w ≠ ⊤ := by
  unfold logVal
  rw [rateF_at]
  exact log_decay_ne_top _ _ (softplus_nonneg _ _) (sigmoid_nonneg _)

/-- The inputs of this direction are the reference's. -/
theorem fwd_drives (t : Fin cfg0.N) (p : Fin 2048) (w : Fin 256) : driveVal (rateF (iblk m c 6 t)) (rows m c t) (iblk m c 4 t) (iblk m c 5 t) fwdCol p w
    = drives (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix4 0 (batch t) p (lane t w)) := by
  refine Eq.trans ?_ (Cert.RefLruIdeal.Value.inputs_at _ _ _ 0 (batch t) p (lane t w)).symm
  unfold driveVal
  rw [tanh_form _ (fwd_fin m c t w p), fwd_logs]
  refine congrArg₂ (· * ·) (congrArg (_ * ·) (congrArg Ideal.logistic ?_)) (rows_at m c t p w)
  exact gate1_at m c t p w

/-- The log decays of this direction are the reference's. -/
theorem back_logs (t : Fin cfg0.N) (p : Fin 2048) (w : Fin 256) : logVal (rateB (iblk m c 6 t)) (rows m c t) (iblk m c 4 t) (iblk m c 5 t) backCol p w
    = logs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (ix4 1 (batch t) p (lane t w)) := by
  refine Eq.trans ?_ (Cert.RefLruIdeal.Value.logDecays_at _ _ _ _ 1 (batch t) p (lane t w)).symm
  rw [Cert.RefLruIdeal.Value.softplus_at, absf_neg]
  refine Eq.trans ?_ (mul_right_comm _ _ _)
  refine congrArg₂ (· * ·) ?_ (congrArg Ideal.logistic ?_)
  · rw [rateB_at, lam_block]
    rfl
  · exact gate2_at m c t p w

/-- The log decays of this direction are never above every number. -/
theorem back_fin (t : Fin cfg0.N) (w : Fin 256) (p : Fin 2048) : logVal (rateB (iblk m c 6 t)) (rows m c t) (iblk m c 4 t) (iblk m c 5 t) backCol p w ≠ ⊤ := by
  unfold logVal
  rw [rateB_at]
  exact log_decay_ne_top _ _ (softplus_nonneg _ _) (sigmoid_nonneg _)

/-- The inputs of this direction are the reference's. -/
theorem back_drives (t : Fin cfg0.N) (p : Fin 2048) (w : Fin 256) : driveVal (rateB (iblk m c 6 t)) (rows m c t) (iblk m c 4 t) (iblk m c 5 t) backCol p w
    = drives (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix4 1 (batch t) p (lane t w)) := by
  refine Eq.trans ?_ (Cert.RefLruIdeal.Value.inputs_at _ _ _ 1 (batch t) p (lane t w)).symm
  unfold driveVal
  rw [tanh_form _ (back_fin m c t w p), back_logs]
  refine congrArg₂ (· * ·) (congrArg (_ * ·) (congrArg Ideal.logistic ?_)) (rows_at m c t p w)
  exact gate3_at m c t p w

/-- The forward states are the reference's. -/
theorem fwd_past (t : Fin cfg0.N) (w : Fin 256) (n : ℕ) : state (fwdDecays (rateF (iblk m c 6 t)) (rows m c t) (iblk m c 4 t) (iblk m c 5 t) w) (fwdInputs (rateF (iblk m c 6 t)) (rows m c t) (iblk m c 4 t) (iblk m c 5 t) w) n
    = past (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) 0 (batch t) (lane t w) n := by
  refine state_congr _ _ _ _ n fun k _ => ⟨?_, ?_⟩
  · refine Eq.trans (congrArg Ideal.exp (fwd_logs m c t _ w)) ?_
    exact (Cert.RefLruIdeal.Value.inTime_0 (Host.exp (F := Ideal) (φ := .f32) (logs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)))) (batch t) _ (lane t w)).symm
  · refine Eq.trans (fwd_drives m c t _ w) ?_
    exact (Cert.RefLruIdeal.Value.inTime_0 _ (batch t) _ (lane t w)).symm

/-- The backward states are the reference's. -/
theorem back_past (t : Fin cfg0.N) (w : Fin 256) (n : ℕ) (hn : n ≤ 2048) : state (backDecays (rateB (iblk m c 6 t)) (rows m c t) (iblk m c 4 t) (iblk m c 5 t) w) (backInputs (rateB (iblk m c 6 t)) (rows m c t) (iblk m c 4 t) (iblk m c 5 t) w) n
    = past (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) 1 (batch t) (lane t w) n := by
  refine state_congr _ _ _ _ n fun k hk => ?_
  have e : (⟨2047 - k, by omega⟩ : Fin 2048) = ⟨2047 - k % 2048, by omega⟩ := Fin.ext (by show 2047 - k = 2047 - k % 2048; omega)
  refine ⟨?_, ?_⟩
  · refine Eq.trans (congrArg Ideal.exp (back_logs m c t _ w)) ?_
    rw [e]
    exact (Cert.RefLruIdeal.Value.inTime_1 (Host.exp (F := Ideal) (φ := .f32) (logs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)))) (batch t) (⟨k % 2048, Nat.mod_lt _ (by decide)⟩ : Fin 2048) (lane t w)).symm
  · refine Eq.trans (back_drives m c t _ w) ?_
    rw [e]
    exact (Cert.RefLruIdeal.Value.inTime_1 _ (batch t) (⟨k % 2048, Nat.mod_lt _ (by decide)⟩ : Fin 2048) (lane t w)).symm

/-- An entry of a block is the reference's. -/
theorem entry (t : Fin cfg0.N) (p : Fin 2048) (w : Fin 256) : k0_pay2 (bothStates (rows m c t) (iblk m c 4 t) (iblk m c 5 t) (iblk m c 6 t)) (iblk m c 1 t) (ix3 0 p w)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 (batch t) p (lane t w)) := by
  have hp := p.isLt
  rw [block_at, bothStates_at _ _ _ _ _ (fwd_fin m c t w) (back_fin m c t w), fwd_past, back_past _ _ _ _ _ (by omega), gate_block]
  have e1 : 8 * (p.val / 8) + p.val % 8 + 1 = p.val + 1 := by omega
  have e2 : 8 * (255 - p.val / 8) + (7 - p.val % 8) + 1 = 2047 - p.val + 1 := by omega
  simp only [e1, e2]
  rfl

/-- The block stored at grid point `t` is the reference's result at the positions the block covers. -/
theorem point (t : Fin cfg0.N) (y) : outsAt0 m c t y = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 7).blk t).view.emb y) := by
  unfold outsAt0
  refine (out_block _ _ _ _ _ _ _ _ _ _ _ _ _ _ _ _ _ _ _ _ _ _ _ _ _ _ _ _ _ _ _ _ _ _ _ y).trans ?_
  obtain ⟨p, w, rfl⟩ : ∃ p w, y = (ix3 0 p w : S1x2048x256.Idx) := ⟨y 1, y 2, by funext a; fin_cases a; exacts [Fin.ext (by have h : (y 0).val < 1 := (y 0).isLt; show (y 0).val = 0; omega), rfl, rfl]⟩
  refine (entry m c t p w).trans ?_
  refine congrArg _ ?_
  blk_ext [iblk, V, idx_val t]
  all_goals (simp only [half, batch, lane]; try omega)

/-- The result array after the run is the reference's result. -/
theorem final : (dats m 0 c).arrAt 7 (cfgs 0).N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 7 _ (by decide +kernel) fun t hf y => ?_
  blk_simp; rw [after0_7]
  exact point m c t y

/-- The same for arguments that agree with the memory. -/
theorem final_args (b0 : Vec Ideal Cert.RefLruIdeal.S16x2048x1536 .f32) (b1 : Vec Ideal Cert.RefLruIdeal.S4x512 .f32) (b2 : Vec Ideal Cert.RefLruIdeal.S512 .f32) (b3 : Vec Ideal Cert.RefLruIdeal.S2x8x64x64 .f32) (b4 : Vec Ideal Cert.RefLruIdeal.S2x512 .f32) (b5 : Vec Ideal Cert.RefLruIdeal.S2x8x64x64 .f32) (b6 : Vec Ideal Cert.RefLruIdeal.S2x512 .f32) (b7 : Vec Ideal Cert.RefLruIdeal.S2x512 .f32)
    (h : b0 = (m ((c : Thread nD τ).loc main_arg0)) ∧ b1 = (m ((c : Thread nD τ).loc main_arg1)) ∧ b2 = (m ((c : Thread nD τ).loc main_arg2)) ∧ b3 = (m ((c : Thread nD τ).loc main_arg3)) ∧ b4 = (m ((c : Thread nD τ).loc main_arg4)) ∧ b5 = (m ((c : Thread nD τ).loc main_arg5)) ∧ b6 = (m ((c : Thread nD τ).loc main_arg6)) ∧ b7 = (m ((c : Thread nD τ).loc main_arg7))) :
    result b0 b1 b2 b3 b4 b5 b6 b7 = (dats m 0 c).arrAt 7 (cfgs 0).N := by
  obtain ⟨e0, e1, e2, e3, e4, e5, e6, e7⟩ := h
  rw [e0, e1, e2, e3, e4, e5, e6, e7]
  exact (final m c).symm

end Cert.LruIdeal.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.InEven
public import proofs.«01_k».proof.Proof.Gen.InEven.Skeleton
public import proofs.«01_k».proof.Proof.Gen.InEven.Launch
public import proofs.«01_k».proof.Proof.Gen.InEven.Points
public import proofs.«01_k».proof.Proof.Gen.InEven.Frame
public import proofs.«01_k».proof.Proof.Gen.InEvenIdeal
public import proofs.«01_k».proof.Proof.Gen.InEvenIdeal.Skeleton
public import proofs.«01_k».proof.Proof.Gen.InEvenIdeal.Launch
public import proofs.«01_k».proof.Proof.Gen.InEvenIdeal.Points
public import proofs.«01_k».proof.Proof.Gen.InEvenIdeal.Frame
public import proofs.«01_k».proof.Proof.Gen.RefInEvenIdeal
public import proofs.«01_k».proof.Proof.Gen.InOdd
public import proofs.«01_k».proof.Proof.Gen.InOdd.Skeleton
public import proofs.«01_k».proof.Proof.Gen.InOdd.Launch
public import proofs.«01_k».proof.Proof.Gen.InOdd.Points
public import proofs.«01_k».proof.Proof.Gen.InOdd.Frame
public import proofs.«01_k».proof.Proof.Gen.InOddIdeal
public import proofs.«01_k».proof.Proof.Gen.InOddIdeal.Skeleton
public import proofs.«01_k».proof.Proof.Gen.InOddIdeal.Launch
public import proofs.«01_k».proof.Proof.Gen.InOddIdeal.Points
public import proofs.«01_k».proof.Proof.Gen.InOddIdeal.Frame
public import proofs.«01_k».proof.Proof.Gen.RefInOddIdeal
public import proofs.«01_k».proof.Proof.Gen.OutEven
public import proofs.«01_k».proof.Proof.Gen.OutEven.Skeleton
public import proofs.«01_k».proof.Proof.Gen.OutEven.Launch
public import proofs.«01_k».proof.Proof.Gen.OutEven.Points
public import proofs.«01_k».proof.Proof.Gen.OutEven.Frame
public import proofs.«01_k».proof.Proof.Gen.OutEvenIdeal
public import proofs.«01_k».proof.Proof.Gen.OutEvenIdeal.Skeleton
public import proofs.«01_k».proof.Proof.Gen.OutEvenIdeal.Launch
public import proofs.«01_k».proof.Proof.Gen.OutEvenIdeal.Points
public import proofs.«01_k».proof.Proof.Gen.OutEvenIdeal.Frame
public import proofs.«01_k».proof.Proof.Gen.RefOutEvenIdeal
public import proofs.«01_k».proof.Proof.Gen.OutOdd
public import proofs.«01_k».proof.Proof.Gen.OutOdd.Skeleton
public import proofs.«01_k».proof.Proof.Gen.OutOdd.Launch
public import proofs.«01_k».proof.Proof.Gen.OutOdd.Points
public import proofs.«01_k».proof.Proof.Gen.OutOdd.Frame
public import proofs.«01_k».proof.Proof.Gen.OutOddIdeal
public import proofs.«01_k».proof.Proof.Gen.OutOddIdeal.Skeleton
public import proofs.«01_k».proof.Proof.Gen.OutOddIdeal.Launch
public import proofs.«01_k».proof.Proof.Gen.OutOddIdeal.Points
public import proofs.«01_k».proof.Proof.Gen.OutOddIdeal.Frame
public import proofs.«01_k».proof.Proof.Gen.RefOutOddIdeal
public import proofs.«01_k».proof.Proof.Gen.OutLast
public import proofs.«01_k».proof.Proof.Gen.OutLast.Skeleton
public import proofs.«01_k».proof.Proof.Gen.OutLast.Launch
public import proofs.«01_k».proof.Proof.Gen.OutLast.Points
public import proofs.«01_k».proof.Proof.Gen.OutLast.Frame
public import proofs.«01_k».proof.Proof.Gen.OutLastIdeal
public import proofs.«01_k».proof.Proof.Gen.OutLastIdeal.Skeleton
public import proofs.«01_k».proof.Proof.Gen.OutLastIdeal.Launch
public import proofs.«01_k».proof.Proof.Gen.OutLastIdeal.Points
public import proofs.«01_k».proof.Proof.Gen.OutLastIdeal.Frame
public import proofs.«01_k».proof.Proof.Gen.RefOutLastIdeal
public import proofs.«01_k».proof.Proof.Gen.ReferenceIdeal.Run
public import proofs.«01_k».proof.Proof.Gen.ReferenceIdeal.Read
public import proofs.«01_k».proof.Proof.Gen.RefInEvenIdeal.Run
public import proofs.«01_k».proof.Proof.Gen.RefInEvenIdeal.Read
public import proofs.«01_k».proof.Proof.Gen.RefInOddIdeal.Run
public import proofs.«01_k».proof.Proof.Gen.RefInOddIdeal.Read
public import proofs.«01_k».proof.Proof.Gen.RefOutEvenIdeal.Run
public import proofs.«01_k».proof.Proof.Gen.RefOutEvenIdeal.Read
public import proofs.«01_k».proof.Proof.Gen.RefOutOddIdeal.Run
public import proofs.«01_k».proof.Proof.Gen.RefOutOddIdeal.Read
public import proofs.«01_k».proof.Proof.Gen.RefOutLastIdeal.Run
public import proofs.«01_k».proof.Proof.Gen.RefOutLastIdeal.Read
public import proofs.«01_k».proof.Proof.InEvenValue
public import proofs.«01_k».proof.Proof.InOddValue
public import proofs.«01_k».proof.Proof.OutEvenValue
public import proofs.«01_k».proof.Proof.OutOddValue
public import proofs.«01_k».proof.Proof.Gen.Na
public import proofs.«01_k».proof.Proof.Gen.Na.Skeleton
public import proofs.«01_k».proof.Proof.Gen.Na.Loops
public import proofs.«01_k».proof.Proof.Gen.Na.Launch
public import proofs.«01_k».proof.Proof.Gen.Na.Points
public import proofs.«01_k».proof.Proof.Gen.Na.Frame
public import proofs.«01_k».proof.Proof.Gen.NaIdeal
public import proofs.«01_k».proof.Proof.Gen.NaIdeal.Skeleton
public import proofs.«01_k».proof.Proof.Gen.NaIdeal.Loops
public import proofs.«01_k».proof.Proof.Gen.NaIdeal.Launch
public import proofs.«01_k».proof.Proof.Gen.NaIdeal.Points
public import proofs.«01_k».proof.Proof.Gen.NaIdeal.Frame
public import proofs.«01_k».proof.Proof.Gen.RefNaIdeal
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.RefAdaIdeal
public import proofs.«01_k».proof.Proof.Gen.RefNaIdeal.Run
public import proofs.«01_k».proof.Proof.Gen.RefNaIdeal.Read
public import proofs.«01_k».proof.Proof.Gen.RefAdaIdeal.Run
public import proofs.«01_k».proof.Proof.Gen.RefAdaIdeal.Read
public import proofs.«01_k».proof.Proof.Gen.Rpb
public import proofs.«01_k».proof.Proof.Gen.Rpb.Skeleton
public import proofs.«01_k».proof.Proof.Gen.Rpb.Launch
public import proofs.«01_k».proof.Proof.Gen.Rpb.Points
public import proofs.«01_k».proof.Proof.Gen.Rpb.Frame
public import proofs.«01_k».proof.Proof.Gen.RpbIdeal
public import proofs.«01_k».proof.Proof.Gen.RpbIdeal.Skeleton
public import proofs.«01_k».proof.Proof.Gen.RpbIdeal.Launch
public import proofs.«01_k».proof.Proof.Gen.RpbIdeal.Points
public import proofs.«01_k».proof.Proof.Gen.RpbIdeal.Frame
public import proofs.«01_k».proof.Proof.Gen.Lru.Frame
public import proofs.«01_k».proof.Proof.Gen.LruIdeal.Frame
public import proofs.«01_k».proof.Proof.Gen.RefLruIdeal.Run
public import proofs.«01_k».proof.Proof.Gen.T5
public import proofs.«01_k».proof.Proof.Gen.T5.Skeleton
public import proofs.«01_k».proof.Proof.Gen.T5.Loops
public import proofs.«01_k».proof.Proof.Gen.T5.Launch
public import proofs.«01_k».proof.Proof.Gen.T5.Points
public import proofs.«01_k».proof.Proof.Gen.T5.Frame
public import proofs.«01_k».proof.Proof.Gen.T5Ideal
public import proofs.«01_k».proof.Proof.Gen.T5Ideal.Skeleton
public import proofs.«01_k».proof.Proof.Gen.T5Ideal.Loops
public import proofs.«01_k».proof.Proof.Gen.T5Ideal.Launch
public import proofs.«01_k».proof.Proof.Gen.T5Ideal.Points
public import proofs.«01_k».proof.Proof.Gen.T5Ideal.Frame
public import proofs.«01_k».proof.Proof.Gen.RefRpbIdeal
public import proofs.«01_k».proof.Proof.Gen.RefRpbIdeal.Run
public import proofs.«01_k».proof.Proof.Gen.RefRpbIdeal.Read
public import proofs.«01_k».proof.Proof.Gen.RefT5Ideal
public import proofs.«01_k».proof.Proof.Gen.RefT5Ideal.Run
public import proofs.«01_k».proof.Proof.Gen.RefT5Ideal.Read
public import proofs.«01_k».proof.Proof.OutLastValue
public import proofs.«01_k».proof.Proof.KernelValue
public import proofs.«01_k».proof.Proof.Precondition
public import proofs.«01_k».proof.Proof.NaValue
public import proofs.«01_k».proof.Proof.NaPrecondition
public import proofs.«01_k».proof.Proof.AdaValue
public import proofs.«01_k».proof.Proof.RpbValue
public import proofs.«01_k».proof.Proof.T5Value
public import proofs.«01_k».proof.Proof.LruValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/- conjunct 1 of `Cert.Claim`. -/
theorem quiescent_Kernel : Cert.quiescent_Kernel := by
  intro m g _
  exact Cert.Kernel.Gen.frame m g

/- conjunct 2 of `Cert.Claim`. -/
theorem quiescent_KernelIdeal : Cert.quiescent_KernelIdeal := by
  intro m g _
  exact Cert.KernelIdeal.Gen.frame m g

/- conjunct 3 of `Cert.Claim`. -/
theorem quiescent_KernelIdeal_pre_scores_finite : Cert.quiescent_KernelIdeal_pre_scores_finite := by
  intro m g _
  exact Cert.KernelIdeal.Gen.frame m g

/- conjunct 4 of `Cert.Claim`. -/
theorem quiescent_ReferenceIdeal : Cert.quiescent_ReferenceIdeal := by
  intro m g _
  exact (θ_run _ _ _).mono (fun r h => ⟨fun c => (h c).2, sem_eq_zero_of_no_sems (by decide) r.2⟩)
    (Cert.ReferenceIdeal.Value.run m g)

/- conjunct 5 of `Cert.Claim`. -/
theorem quiescent_ReferenceIdeal_pre_scores_finite : Cert.quiescent_ReferenceIdeal_pre_scores_finite := by
  intro m g _
  exact (θ_run _ _ _).mono (fun r h => ⟨fun c => (h c).2, sem_eq_zero_of_no_sems (by decide) r.2⟩)
    (Cert.ReferenceIdeal.Value.run m g)

/- conjunct 6 of `Cert.Claim`. -/
theorem quiescent_InEven : Cert.quiescent_InEven := by
  intro m g _
  exact Cert.InEven.Gen.frame m g

/- conjunct 7 of `Cert.Claim`. -/
theorem quiescent_InEvenIdeal : Cert.quiescent_InEvenIdeal := by
  intro m g _
  exact Cert.InEvenIdeal.Gen.frame m g

/- conjunct 8 of `Cert.Claim`. -/
theorem quiescent_RefInEvenIdeal : Cert.quiescent_RefInEvenIdeal := by
  intro m g _
  exact (θ_run _ _ _).mono (fun r h => ⟨fun c => (h c).2.2, sem_eq_zero_of_no_sems (by decide) r.2⟩)
    (Cert.RefInEvenIdeal.Value.run m g)

/- conjunct 9 of `Cert.Claim`. -/
theorem quiescent_InOdd : Cert.quiescent_InOdd := by
  intro m g _
  exact Cert.InOdd.Gen.frame m g

/- conjunct 10 of `Cert.Claim`. -/
theorem quiescent_InOddIdeal : Cert.quiescent_InOddIdeal := by
  intro m g _
  exact Cert.InOddIdeal.Gen.frame m g

/- conjunct 11 of `Cert.Claim`. -/
theorem quiescent_RefInOddIdeal : Cert.quiescent_RefInOddIdeal := by
  intro m g _
  exact (θ_run _ _ _).mono (fun r h => ⟨fun c => (h c).2.2, sem_eq_zero_of_no_sems (by decide) r.2⟩)
    (Cert.RefInOddIdeal.Value.run m g)

/- conjunct 12 of `Cert.Claim`. -/
theorem quiescent_OutEven : Cert.quiescent_OutEven := by
  intro m g _
  exact Cert.OutEven.Gen.frame m g

/- conjunct 13 of `Cert.Claim`. -/
theorem quiescent_OutEvenIdeal : Cert.quiescent_OutEvenIdeal := by
  intro m g _
  exact Cert.OutEvenIdeal.Gen.frame m g

/- conjunct 14 of `Cert.Claim`. -/
theorem quiescent_RefOutEvenIdeal : Cert.quiescent_RefOutEvenIdeal := by
  intro m g _
  exact (θ_run _ _ _).mono (fun r h => ⟨fun c => (h c).2, sem_eq_zero_of_no_sems (by decide) r.2⟩)
    (Cert.RefOutEvenIdeal.Value.run m g)

/- conjunct 15 of `Cert.Claim`. -/
theorem quiescent_OutOdd : Cert.quiescent_OutOdd := by
  intro m g _
  exact Cert.OutOdd.Gen.frame m g

/- conjunct 16 of `Cert.Claim`. -/
theorem quiescent_OutOddIdeal : Cert.quiescent_OutOddIdeal := by
  intro m g _
  exact Cert.OutOddIdeal.Gen.frame m g

/- conjunct 17 of `Cert.Claim`. -/
theorem quiescent_RefOutOddIdeal : Cert.quiescent_RefOutOddIdeal := by
  intro m g _
  exact (θ_run _ _ _).mono (fun r h => ⟨fun c => (h c).2, sem_eq_zero_of_no_sems (by decide) r.2⟩)
    (Cert.RefOutOddIdeal.Value.run m g)

/- conjunct 18 of `Cert.Claim`. -/
theorem quiescent_OutLast : Cert.quiescent_OutLast := by
  intro m g _
  exact Cert.OutLast.Gen.frame m g

/- conjunct 19 of `Cert.Claim`. -/
theorem quiescent_OutLastIdeal : Cert.quiescent_OutLastIdeal := by
  intro m g _
  exact Cert.OutLastIdeal.Gen.frame m g

/- conjunct 20 of `Cert.Claim`. -/
theorem quiescent_RefOutLastIdeal : Cert.quiescent_RefOutLastIdeal := by
  intro m g _
  exact (θ_run _ _ _).mono (fun r h => ⟨fun c => (h c).2, sem_eq_zero_of_no_sems (by decide) r.2⟩)
    (Cert.RefOutLastIdeal.Value.run m g)

/- conjunct 21 of `Cert.Claim`. -/
theorem quiescent_Na : Cert.quiescent_Na := by
  intro m g _
  exact Cert.Na.Gen.frame m g

/- conjunct 22 of `Cert.Claim`. -/
theorem quiescent_NaIdeal : Cert.quiescent_NaIdeal := by
  intro m g _
  exact Cert.NaIdeal.Gen.frame m g

/- conjunct 23 of `Cert.Claim`. -/
theorem quiescent_NaIdeal_pre_na_scores_finite : Cert.quiescent_NaIdeal_pre_na_scores_finite := by
  intro m g _
  exact Cert.NaIdeal.Gen.frame m g

/- conjunct 24 of `Cert.Claim`. -/
theorem quiescent_RefNaIdeal : Cert.quiescent_RefNaIdeal := by
  intro m g _
  exact (θ_run _ _ _).mono (fun r h => ⟨fun c => (h c).2, sem_eq_zero_of_no_sems (by decide) r.2⟩)
    (Cert.RefNaIdeal.Value.run m g)

/- conjunct 25 of `Cert.Claim`. -/
theorem quiescent_RefNaIdeal_pre_na_scores_finite : Cert.quiescent_RefNaIdeal_pre_na_scores_finite := by
  intro m g _
  exact (θ_run _ _ _).mono (fun r h => ⟨fun c => (h c).2, sem_eq_zero_of_no_sems (by decide) r.2⟩)
    (Cert.RefNaIdeal.Value.run m g)

/- conjunct 26 of `Cert.Claim`. -/
theorem quiescent_Ada : Cert.quiescent_Ada := by
  intro m g _
  exact Cert.Ada.Gen.frame m g

/- conjunct 27 of `Cert.Claim`. -/
theorem quiescent_AdaIdeal : Cert.quiescent_AdaIdeal := by
  intro m g _
  exact Cert.AdaIdeal.Gen.frame m g

/- conjunct 28 of `Cert.Claim`. -/
theorem quiescent_RefAdaIdeal : Cert.quiescent_RefAdaIdeal := by
  intro m g _
  exact (θ_run _ _ _).mono (fun r h => ⟨fun c => (h c).2, sem_eq_zero_of_no_sems (by decide) r.2⟩)
    (Cert.RefAdaIdeal.Value.run m g)

/- conjunct 29 of `Cert.Claim`. -/
theorem quiescent_Rpb : Cert.quiescent_Rpb := by
  intro m g _
  exact Cert.Rpb.Gen.frame m g

/- conjunct 30 of `Cert.Claim`. -/
theorem quiescent_RpbIdeal : Cert.quiescent_RpbIdeal := by
  intro m g _
  exact Cert.RpbIdeal.Gen.frame m g

/- conjunct 31 of `Cert.Claim`. -/
theorem quiescent_RefRpbIdeal : Cert.quiescent_RefRpbIdeal := by
  intro m g _
  exact (θ_run _ _ _).mono (fun r h => ⟨fun c => (h c).2, sem_eq_zero_of_no_sems (by decide) r.2⟩)
    (Cert.RefRpbIdeal.Value.run m g)

/- conjunct 32 of `Cert.Claim`. -/
theorem quiescent_T5 : Cert.quiescent_T5 := by
  intro m g _
  exact Cert.T5.Gen.frame m g

/- conjunct 33 of `Cert.Claim`. -/
theorem quiescent_T5Ideal : Cert.quiescent_T5Ideal := by
  intro m g _
  exact Cert.T5Ideal.Gen.frame m g

/- conjunct 34 of `Cert.Claim`. -/
theorem quiescent_T5Ideal_pre_buckets_in_range : Cert.quiescent_T5Ideal_pre_buckets_in_range := by
  intro m g _
  exact Cert.T5Ideal.Gen.frame m g

/- conjunct 35 of `Cert.Claim`. -/
theorem quiescent_RefT5Ideal : Cert.quiescent_RefT5Ideal := by
  intro m g _
  exact (θ_run _ _ _).mono (fun r h => ⟨fun c => (h c).2, sem_eq_zero_of_no_sems (by decide) r.2⟩)
    (Cert.RefT5Ideal.Value.run m g)

/- conjunct 36 of `Cert.Claim`. -/
theorem quiescent_RefT5Ideal_pre_buckets_in_range : Cert.quiescent_RefT5Ideal_pre_buckets_in_range := by
  intro m g _
  exact (θ_run _ _ _).mono (fun r h => ⟨fun c => (h c).2, sem_eq_zero_of_no_sems (by decide) r.2⟩)
    (Cert.RefT5Ideal.Value.run m g)

/- conjunct 37 of `Cert.Claim`. -/
theorem quiescent_Lru : Cert.quiescent_Lru := by
  intro m g _
  exact Cert.Lru.Gen.frame m g

/- conjunct 38 of `Cert.Claim`. -/
theorem quiescent_LruIdeal : Cert.quiescent_LruIdeal := by
  intro m g _
  exact Cert.LruIdeal.Gen.frame m g

/- conjunct 39 of `Cert.Claim`. -/
theorem quiescent_RefLruIdeal : Cert.quiescent_RefLruIdeal := by
  intro m g _
  exact (θ_run _ _ _).mono (fun r h => ⟨fun c => (h c).2, sem_eq_zero_of_no_sems (by decide) r.2⟩)
    (Cert.RefLruIdeal.Value.run m g)

/- conjunct 40 of `Cert.Claim`. -/
theorem preserves_Kernel_KernelIdeal : Cert.preserves_Kernel_KernelIdeal := trivial

/- conjunct 41 of `Cert.Claim`. -/
theorem algebraic_KernelIdeal_ReferenceIdeal_pre_scores_finite :
    Cert.algebraic_KernelIdeal_ReferenceIdeal_pre_scores_finite := by
  pair_intro
  · run_from Cert.KernelIdeal.Gen.run_main m g
  · run_from Cert.ReferenceIdeal.Value.run m' g'
    obtain ⟨e0, e1, e2, e3, e4⟩ := hagree c
    rw [← e4]
    refine (Cert.ReferenceIdeal.Read.val_main_v102_eq (StableHlo.launchContents m' c)).trans ?_
    refine Eq.trans ?_ (Cert.KernelIdeal.Value.final m c
      (Cert.KernelIdeal.Value.queries_keys_finite _ _ _ _ _ (hpre c).1)
      (Cert.KernelIdeal.Value.tiles_finite _ _ _ _ _ (hpre c).2)).symm
    rw [← e0, ← e1, ← e2, ← e3, ← e4]

/- conjunct 42 of `Cert.Claim`. -/
theorem preserves_InEven_InEvenIdeal : Cert.preserves_InEven_InEvenIdeal := trivial

/- conjunct 43 of `Cert.Claim`. -/
theorem algebraic_InEvenIdeal_RefInEvenIdeal : Cert.algebraic_InEvenIdeal_RefInEvenIdeal := by
  pair_intro
  · run_from Cert.InEvenIdeal.Gen.run_main m g
  · run_from Cert.RefInEvenIdeal.Value.run m' g'
    · exact (Cert.InEvenIdeal.Value.final4 m c).symm
    · exact (Cert.InEvenIdeal.Value.final5 m c).symm

/- conjunct 44 of `Cert.Claim`. -/
theorem preserves_InOdd_InOddIdeal : Cert.preserves_InOdd_InOddIdeal := trivial

/- conjunct 45 of `Cert.Claim`. -/
theorem algebraic_InOddIdeal_RefInOddIdeal : Cert.algebraic_InOddIdeal_RefInOddIdeal := by
  pair_intro
  · run_from Cert.InOddIdeal.Gen.run_main m g
  · run_from Cert.RefInOddIdeal.Value.run m' g'
    · exact (Cert.InOddIdeal.Value.final4 m c).symm
    · exact (Cert.InOddIdeal.Value.final5 m c).symm

/- conjunct 46 of `Cert.Claim`. -/
theorem preserves_OutEven_OutEvenIdeal : Cert.preserves_OutEven_OutEvenIdeal := trivial

/- conjunct 47 of `Cert.Claim`. -/
theorem algebraic_OutEvenIdeal_RefOutEvenIdeal : Cert.algebraic_OutEvenIdeal_RefOutEvenIdeal := by
  pair_intro
  · run_from Cert.OutEvenIdeal.Gen.run_main m g
  · run_from Cert.RefOutEvenIdeal.Value.run m' g'
    exact (Cert.OutEvenIdeal.Value.final m c).symm

/- conjunct 48 of `Cert.Claim`. -/
theorem preserves_OutOdd_OutOddIdeal : Cert.preserves_OutOdd_OutOddIdeal := trivial

/- conjunct 49 of `Cert.Claim`. -/
theorem algebraic_OutOddIdeal_RefOutOddIdeal : Cert.algebraic_OutOddIdeal_RefOutOddIdeal := by
  pair_intro
  · run_from Cert.OutOddIdeal.Gen.run_main m g
  · run_from Cert.RefOutOddIdeal.Value.run m' g'
    exact (Cert.OutOddIdeal.Value.final m c).symm

/- conjunct 50 of `Cert.Claim`. -/
theorem preserves_OutLast_OutLastIdeal : Cert.preserves_OutLast_OutLastIdeal := trivial

/- conjunct 51 of `Cert.Claim`. -/
theorem algebraic_OutLastIdeal_RefOutLastIdeal : Cert.algebraic_OutLastIdeal_RefOutLastIdeal := by
  pair_intro
  · run_from Cert.OutLastIdeal.Gen.run_main m g
  · run_from Cert.RefOutLastIdeal.Value.run m' g'
    exact (Cert.OutLastIdeal.Value.final m c).symm

/- conjunct 52 of `Cert.Claim`. -/
theorem preserves_Na_NaIdeal : Cert.preserves_Na_NaIdeal := trivial

/- conjunct 53 of `Cert.Claim`. -/
theorem algebraic_NaIdeal_RefNaIdeal_pre_na_scores_finite :
    Cert.algebraic_NaIdeal_RefNaIdeal_pre_na_scores_finite := by
  pair_intro
  · run_from Cert.NaIdeal.Gen.run_main m g
  · run_from Cert.RefNaIdeal.Value.run m' g'
    obtain ⟨e0, e1, e2⟩ := hagree c
    refine (Cert.RefNaIdeal.Read.val_main_v64_eq m' c).trans ?_
    refine Eq.trans ?_ (Cert.NaIdeal.Value.final m c
      (Cert.NaIdeal.Value.queries_keys_finite _ _ _ (hpre c).1)
      (Cert.NaIdeal.Value.bias_proper _ _ _ (hpre c).2.1 (hpre c).2.2)).symm
    rw [← e0, ← e1, ← e2]

/- conjunct 54 of `Cert.Claim`. -/
theorem preserves_Ada_AdaIdeal : Cert.preserves_Ada_AdaIdeal := trivial

/- conjunct 55 of `Cert.Claim`. -/
theorem algebraic_AdaIdeal_RefAdaIdeal : Cert.algebraic_AdaIdeal_RefAdaIdeal := by
  pair_intro
  · run_from Cert.AdaIdeal.Gen.run_main m g
  · run_from Cert.RefAdaIdeal.Value.run m' g'
    obtain ⟨e0, e1, e2⟩ := hagree c
    refine (Cert.RefAdaIdeal.Read.val_main_v5_eq _ _ _).trans ?_
    refine Eq.trans ?_ (Cert.AdaIdeal.Value.final m c).symm
    rw [← e0, ← e1, ← e2]

/- conjunct 56 of `Cert.Claim`. -/
theorem preserves_Rpb_RpbIdeal : Cert.preserves_Rpb_RpbIdeal := trivial

/- conjunct 57 of `Cert.Claim`. -/
theorem algebraic_RpbIdeal_RefRpbIdeal : Cert.algebraic_RpbIdeal_RefRpbIdeal := by
  pair_intro
  · run_from Cert.RpbIdeal.Gen.run_main m g
  · run_from Cert.RefRpbIdeal.Value.run m' g'
    have e0 := hagree c
    refine (Cert.RefRpbIdeal.Read.val_main_v18_eq _).trans ?_
    refine Eq.trans ?_ (Cert.RpbIdeal.Value.final m c).symm
    rw [← e0]

/- conjunct 58 of `Cert.Claim`. -/
theorem preserves_T5_T5Ideal : Cert.preserves_T5_T5Ideal := trivial

/- conjunct 59 of `Cert.Claim`. -/
theorem algebraic_T5Ideal_RefT5Ideal_pre_buckets_in_range :
    Cert.algebraic_T5Ideal_RefT5Ideal_pre_buckets_in_range := by
  pair_intro
  · run_from Cert.T5Ideal.Gen.run_main m g
  · run_from Cert.RefT5Ideal.Value.run m' g'
    obtain ⟨e0, e1⟩ := hagree c
    refine (Cert.RefT5Ideal.Read.val_main_v6_eq _ _).trans ?_
    refine Eq.trans ?_ (Cert.T5Ideal.Value.final m c
      (Cert.T5Ideal.Value.bucket_of_pre _ _ (hpre c).1 (hpre c).2)).symm
    rw [← e0, ← e1]

/- conjunct 60 of `Cert.Claim`. -/
theorem preserves_Lru_LruIdeal : Cert.preserves_Lru_LruIdeal := trivial

/- conjunct 61 of `Cert.Claim`. -/
set_option maxHeartbeats 4000000 in
theorem algebraic_LruIdeal_RefLruIdeal : Cert.algebraic_LruIdeal_RefLruIdeal := by
  pair_intro
  · run_from Cert.LruIdeal.Gen.run_main m g
  · exact (θ_run _ _ _).mono (fun r h c => ⟨(h c).1.trans (Cert.LruIdeal.Value.final_args m c _ _ _ _ _ _ _ _ (hagree c)), (h c).2⟩) (Cert.RefLruIdeal.Value.run_result m' g')

theorem claim : Cert.Claim :=
  ⟨Cert.Kernel.Gen.facts, Cert.KernelIdeal.Gen.facts, Cert.ReferenceIdeal.Gen.facts, Cert.InEven.Gen.facts, Cert.InEvenIdeal.Gen.facts, Cert.RefInEvenIdeal.Gen.facts, Cert.InOdd.Gen.facts, Cert.InOddIdeal.Gen.facts, Cert.RefInOddIdeal.Gen.facts, Cert.OutEven.Gen.facts, Cert.OutEvenIdeal.Gen.facts, Cert.RefOutEvenIdeal.Gen.facts, Cert.OutOdd.Gen.facts, Cert.OutOddIdeal.Gen.facts, Cert.RefOutOddIdeal.Gen.facts, Cert.OutLast.Gen.facts, Cert.OutLastIdeal.Gen.facts, Cert.RefOutLastIdeal.Gen.facts, Cert.Na.Gen.facts, Cert.NaIdeal.Gen.facts, Cert.RefNaIdeal.Gen.facts, Cert.Ada.Gen.facts, Cert.AdaIdeal.Gen.facts, Cert.RefAdaIdeal.Gen.facts, Cert.Rpb.Gen.facts, Cert.RpbIdeal.Gen.facts, Cert.RefRpbIdeal.Gen.facts, Cert.T5.Gen.facts, Cert.T5Ideal.Gen.facts, Cert.RefT5Ideal.Gen.facts, Cert.Lru.Gen.facts, Cert.LruIdeal.Gen.facts, Cert.RefLruIdeal.Gen.facts, Cert.KernelIdeal.Value.pre_facts, Cert.NaIdeal.Value.pre_facts, Cert.T5Ideal.Value.pre_facts,
   quiescent_Kernel,
   quiescent_KernelIdeal,
   quiescent_KernelIdeal_pre_scores_finite,
   quiescent_ReferenceIdeal,
   quiescent_ReferenceIdeal_pre_scores_finite,
   quiescent_InEven,
   quiescent_InEvenIdeal,
   quiescent_RefInEvenIdeal,
   quiescent_InOdd,
   quiescent_InOddIdeal,
   quiescent_RefInOddIdeal,
   quiescent_OutEven,
   quiescent_OutEvenIdeal,
   quiescent_RefOutEvenIdeal,
   quiescent_OutOdd,
   quiescent_OutOddIdeal,
   quiescent_RefOutOddIdeal,
   quiescent_OutLast,
   quiescent_OutLastIdeal,
   quiescent_RefOutLastIdeal,
   quiescent_Na,
   quiescent_NaIdeal,
   quiescent_NaIdeal_pre_na_scores_finite,
   quiescent_RefNaIdeal,
   quiescent_RefNaIdeal_pre_na_scores_finite,
   quiescent_Ada,
   quiescent_AdaIdeal,
   quiescent_RefAdaIdeal,
   quiescent_Rpb,
   quiescent_RpbIdeal,
   quiescent_RefRpbIdeal,
   quiescent_T5,
   quiescent_T5Ideal,
   quiescent_T5Ideal_pre_buckets_in_range,
   quiescent_RefT5Ideal,
   quiescent_RefT5Ideal_pre_buckets_in_range,
   quiescent_Lru,
   quiescent_LruIdeal,
   quiescent_RefLruIdeal,
   preserves_Kernel_KernelIdeal,
   algebraic_KernelIdeal_ReferenceIdeal_pre_scores_finite,
   preserves_InEven_InEvenIdeal,
   algebraic_InEvenIdeal_RefInEvenIdeal,
   preserves_InOdd_InOddIdeal,
   algebraic_InOddIdeal_RefInOddIdeal,
   preserves_OutEven_OutEvenIdeal,
   algebraic_OutEvenIdeal_RefOutEvenIdeal,
   preserves_OutOdd_OutOddIdeal,
   algebraic_OutOddIdeal_RefOutOddIdeal,
   preserves_OutLast_OutLastIdeal,
   algebraic_OutLastIdeal_RefOutLastIdeal,
   preserves_Na_NaIdeal,
   algebraic_NaIdeal_RefNaIdeal_pre_na_scores_finite,
   preserves_Ada_AdaIdeal,
   algebraic_AdaIdeal_RefAdaIdeal,
   preserves_Rpb_RpbIdeal,
   algebraic_RpbIdeal_RefRpbIdeal,
   preserves_T5_T5Ideal,
   algebraic_T5Ideal_RefT5Ideal_pre_buckets_in_range,
   preserves_Lru_LruIdeal,
   algebraic_LruIdeal_RefLruIdeal⟩

end Cert.Proof

end
